-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_weights [hPre_finite_weights : Cert.Pre_finite_weights.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_weights [hPre_finite_weights : Cert.Pre_finite_weights.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_sample [hPre_finite_sample : Cert.Pre_finite_sample.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_sample.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_sample [hPre_finite_sample : Cert.Pre_finite_sample.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_sample.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_weights [hKernel2Ideal : Cert.Kernel2Ideal.Facts] [hPre_finite_weights : Cert.Pre_finite_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_weights m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_weights [hReference2Ideal : Cert.Reference2Ideal.Facts] [hPre_finite_weights : Cert.Pre_finite_weights.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_weights m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_sample [hKernel4Ideal : Cert.Kernel4Ideal.Facts] [hPre_finite_sample : Cert.Pre_finite_sample.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_sample m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_sample [hReference4Ideal : Cert.Reference4Ideal.Facts] [hPre_finite_sample : Cert.Pre_finite_sample.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_sample m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_weights [hKernel2Ideal : Cert.Kernel2Ideal.Facts] [hReference2Ideal : Cert.Reference2Ideal.Facts] [hPre_finite_weights : Cert.Pre_finite_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_weights m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v11_3)) (v4 : (c : Dev Cert.Kernel2Ideal.nD) → Buf (Elt Ideal) ((c.tc : Thread Cert.Kernel2Ideal.nD Cert.Kernel2Ideal.τ).loc Cert.Kernel2Ideal.main_v11_4)) (v5 : (c : Dev Cert.Kernel2Ideal.nD) → Buf (Elt Ideal) ((c.tc : Thread Cert.Kernel2Ideal.nD Cert.Kernel2Ideal.τ).loc Cert.Kernel2Ideal.main_v11_5)) (v6 : (c : Dev Cert.Kernel2Ideal.nD) → Buf (Elt Ideal) ((c.tc : Thread Cert.Kernel2Ideal.nD Cert.Kernel2Ideal.τ).loc Cert.Kernel2Ideal.main_v11_6)) (v7 : (c : Dev Cert.Kernel2Ideal.nD) → Buf (Elt Ideal) ((c.tc : Thread Cert.Kernel2Ideal.nD Cert.Kernel2Ideal.τ).loc Cert.Kernel2Ideal.main_v20)) (v8 : (c : Dev Cert.Kernel2Ideal.nD) → Buf (Elt Ideal) ((c.tc : Thread Cert.Kernel2Ideal.nD Cert.Kernel2Ideal.τ).loc Cert.Kernel2Ideal.main_v21)) (v9 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v11_3) = v3 c
          ∧ r.2.mem ((c.tc : Thread Cert.Kernel2Ideal.nD Cert.Kernel2Ideal.τ).loc Cert.Kernel2Ideal.main_v11_4) = v4 c
          ∧ r.2.mem ((c.tc : Thread Cert.Kernel2Ideal.nD Cert.Kernel2Ideal.τ).loc Cert.Kernel2Ideal.main_v11_5) = v5 c
          ∧ r.2.mem ((c.tc : Thread Cert.Kernel2Ideal.nD Cert.Kernel2Ideal.τ).loc Cert.Kernel2Ideal.main_v11_6) = v6 c
          ∧ r.2.mem ((c.tc : Thread Cert.Kernel2Ideal.nD Cert.Kernel2Ideal.τ).loc Cert.Kernel2Ideal.main_v20) = v7 c
          ∧ r.2.mem ((c.tc : Thread Cert.Kernel2Ideal.nD Cert.Kernel2Ideal.τ).loc Cert.Kernel2Ideal.main_v21) = v8 c
          ∧ r.2.mem ((c.tc : Thread Cert.Kernel2Ideal.nD Cert.Kernel2Ideal.τ).loc Cert.Kernel2Ideal.main_v22) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_v73) = v2 c
          ∧ r.2.mem ((c.tc : Thread Cert.Reference2Ideal.nD Cert.Reference2Ideal.τ).loc Cert.Reference2Ideal.main_v74) = v3 c
          ∧ r.2.mem ((c.tc : Thread Cert.Reference2Ideal.nD Cert.Reference2Ideal.τ).loc Cert.Reference2Ideal.main_v75) = v4 c
          ∧ r.2.mem ((c.tc : Thread Cert.Reference2Ideal.nD Cert.Reference2Ideal.τ).loc Cert.Reference2Ideal.main_v82) = v5 c
          ∧ r.2.mem ((c.tc : Thread Cert.Reference2Ideal.nD Cert.Reference2Ideal.τ).loc Cert.Reference2Ideal.main_v89) = v6 c
          ∧ r.2.mem ((c.tc : Thread Cert.Reference2Ideal.nD Cert.Reference2Ideal.τ).loc Cert.Reference2Ideal.main_v90) = v7 c
          ∧ r.2.mem ((c.tc : Thread Cert.Reference2Ideal.nD Cert.Reference2Ideal.τ).loc Cert.Reference2Ideal.main_v91) = v8 c
          ∧ r.2.mem ((c.tc : Thread Cert.Reference2Ideal.nD Cert.Reference2Ideal.τ).loc Cert.Reference2Ideal.main_v92) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v40) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  IdealRules.named_const.Statement Cert.Kernel4Ideal.κ "mask" .f32 0xF149F2CA#32 ⊥

def algebraic_Kernel4Ideal_Reference4Ideal_pre_finite_sample [hKernel4Ideal : Cert.Kernel4Ideal.Facts] [hReference4Ideal : Cert.Reference4Ideal.Facts] [hPre_finite_sample : Cert.Pre_finite_sample.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_sample m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v21)) (v1 : (c : Dev Cert.Kernel4Ideal.nD) → Buf (Elt Ideal) ((c.tc : Thread Cert.Kernel4Ideal.nD Cert.Kernel4Ideal.τ).loc Cert.Kernel4Ideal.main_v24)) (v2 : (c : Dev Cert.Kernel4Ideal.nD) → Buf (Elt Ideal) ((c.tc : Thread Cert.Kernel4Ideal.nD Cert.Kernel4Ideal.τ).loc Cert.Kernel4Ideal.main_v25)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21) = v0 c
          ∧ r.2.mem ((c.tc : Thread Cert.Kernel4Ideal.nD Cert.Kernel4Ideal.τ).loc Cert.Kernel4Ideal.main_v24) = v1 c
          ∧ r.2.mem ((c.tc : Thread Cert.Kernel4Ideal.nD Cert.Kernel4Ideal.τ).loc Cert.Kernel4Ideal.main_v25) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v73) = v0 c
          ∧ r.2.mem ((c.tc : Thread Cert.Reference4Ideal.nD Cert.Reference4Ideal.τ).loc Cert.Reference4Ideal.main_v74) = v1 c
          ∧ r.2.mem ((c.tc : Thread Cert.Reference4Ideal.nD Cert.Reference4Ideal.τ).loc Cert.Reference4Ideal.main_v75) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v45_0)) (v1 : (c : Dev Cert.Kernel5Ideal.nD) → Buf (Elt Ideal) ((c.tc : Thread Cert.Kernel5Ideal.nD Cert.Kernel5Ideal.τ).loc Cert.Kernel5Ideal.main_v51)) (v2 : (c : Dev Cert.Kernel5Ideal.nD) → Buf (Elt Ideal) ((c.tc : Thread Cert.Kernel5Ideal.nD Cert.Kernel5Ideal.τ).loc Cert.Kernel5Ideal.main_v52)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v45_0) = v0 c
          ∧ r.2.mem ((c.tc : Thread Cert.Kernel5Ideal.nD Cert.Kernel5Ideal.τ).loc Cert.Kernel5Ideal.main_v51) = v1 c
          ∧ r.2.mem ((c.tc : Thread Cert.Kernel5Ideal.nD Cert.Kernel5Ideal.τ).loc Cert.Kernel5Ideal.main_v52) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v154) = v0 c
          ∧ r.2.mem ((c.tc : Thread Cert.Reference5Ideal.nD Cert.Reference5Ideal.τ).loc Cert.Reference5Ideal.main_v155) = v1 c
          ∧ r.2.mem ((c.tc : Thread Cert.Reference5Ideal.nD Cert.Reference5Ideal.τ).loc Cert.Reference5Ideal.main_v156) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v26_0)) (v1 : (c : Dev Cert.Kernel6Ideal.nD) → Buf (Elt Ideal) ((c.tc : Thread Cert.Kernel6Ideal.nD Cert.Kernel6Ideal.τ).loc Cert.Kernel6Ideal.main_v30)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v26_0) = v0 c
          ∧ r.2.mem ((c.tc : Thread Cert.Kernel6Ideal.nD Cert.Kernel6Ideal.τ).loc Cert.Kernel6Ideal.main_v30) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v372) = v0 c
          ∧ r.2.mem ((c.tc : Thread Cert.Reference6Ideal.nD Cert.Reference6Ideal.τ).loc Cert.Reference6Ideal.main_v373) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_weights : Cert.Pre_finite_weights.Facts) (hPre_finite_sample : Cert.Pre_finite_sample.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_weights (hKernel2Ideal := hKernel2Ideal) (hPre_finite_weights := hPre_finite_weights)
    ∧ quiescent_Reference2Ideal (hReference2Ideal := hReference2Ideal)
    ∧ quiescent_Reference2Ideal_pre_finite_weights (hReference2Ideal := hReference2Ideal) (hPre_finite_weights := hPre_finite_weights)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_sample (hKernel4Ideal := hKernel4Ideal) (hPre_finite_sample := hPre_finite_sample)
    ∧ quiescent_Reference4Ideal (hReference4Ideal := hReference4Ideal)
    ∧ quiescent_Reference4Ideal_pre_finite_sample (hReference4Ideal := hReference4Ideal) (hPre_finite_sample := hPre_finite_sample)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_weights (hKernel2Ideal := hKernel2Ideal) (hReference2Ideal := hReference2Ideal) (hPre_finite_weights := hPre_finite_weights)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_sample (hKernel4Ideal := hKernel4Ideal) (hReference4Ideal := hReference4Ideal) (hPre_finite_sample := hPre_finite_sample)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4x4096x4x4x64 : Shape := ⟨5, ![4, 4096, 4, 4, 64]⟩
abbrev S4x4096x4x64 : Shape := ⟨4, ![4, 4096, 4, 64]⟩
abbrev S16 : Shape := ⟨1, ![16]⟩
abbrev S_ : Shape := ⟨0, ![]⟩

class Facts : Prop where
  bcast_S_S4x4096x4x4x64 : S_.BroadcastsInDim S4x4096x4x4x64 (![] : Fin 0 → Fin S4x4096x4x4x64.rank)
  reducesTo_S4x4096x4x4x64_S_d0_1_2_3_4 : S4x4096x4x4x64.ReducesTo [0, 1, 2, 3, 4] S_
  h_S_ : 0 < S_.numel
  bcast_S_S4x4096x4x64 : S_.BroadcastsInDim S4x4096x4x64 (![] : Fin 0 → Fin S4x4096x4x64.rank)
  reducesTo_S4x4096x4x64_S_d0_1_2_3 : S4x4096x4x64.ReducesTo [0, 1, 2, 3] S_
  bcast_S_S16 : S_.BroadcastsInDim S16 (![] : Fin 0 → Fin S16.rank)
  reducesTo_S16_S_d0 : S16.ReducesTo [0] S_

variable [Facts]

def fn {F : FTy → Type} [FloatOps F] (main_arg0 : FVec F S4x4096x4x4x64 .f32) (main_arg1 : FVec F S4x4096x4x64 .f32) (main_arg2 : FVec F S4x4096x4x64 .f32) (main_arg3 : FVec F S16 .f32) : IVec S_ 1 :=
  let main_v0 : FVec F S4x4096x4x4x64 .f32 := Host.absf main_arg0
  let main_cst : FVec F S_ .f32 := constant S_ .f32 0x7F800000#32
  let main_v1 : FVec F S4x4096x4x4x64 .f32 := broadcastInDim S4x4096x4x4x64 ![] bcast_S_S4x4096x4x4x64 main_cst
  let main_v2 : IVec S4x4096x4x4x64 1 := cmpf .olt main_v0 main_v1
  let main_c : IVec S_ 1 := constantI S_ 1 1#1
  let main_v3 : IVec S_ 1 := (fun x v => Host.reduce IntOp.andi x v reducesTo_S4x4096x4x4x64_S_d0_1_2_3_4 h_S_) main_v2 main_c
  let main_v4 : FVec F S4x4096x4x64 .f32 := Host.absf main_arg1
  let main_cst_0 : FVec F S_ .f32 := constant S_ .f32 0x7F800000#32
  let main_v5 : FVec F S4x4096x4x64 .f32 := broadcastInDim S4x4096x4x64 ![] bcast_S_S4x4096x4x64 main_cst_0
  let main_v6 : IVec S4x4096x4x64 1 := cmpf .olt main_v4 main_v5
  let main_c_1 : IVec S_ 1 := constantI S_ 1 1#1
  let main_v7 : IVec S_ 1 := (fun x v => Host.reduce IntOp.andi x v reducesTo_S4x4096x4x64_S_d0_1_2_3 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Pre_finite_sample.lean ====
abbrev S128x8x4x4x64 : Shape := ⟨5, ![128, 8, 4, 4, 64]⟩
abbrev S128x8x4x64 : Shape := ⟨4, ![128, 8, 4, 64]⟩
abbrev S128x128x4x64 : Shape := ⟨4, ![128, 128, 4, 64]⟩
abbrev S16 : Shape := ⟨1, ![16]⟩
abbrev S_ : Shape := ⟨0, ![]⟩

class Facts : Prop where
  bcast_S_S128x8x4x4x64 : S_.BroadcastsInDim S128x8x4x4x64 (![] : Fin 0 → Fin S128x8x4x4x64.rank)
  reducesTo_S128x8x4x4x64_S_d0_1_2_3_4 : S128x8x4x4x64.ReducesTo [0, 1, 2, 3, 4] S_
  h_S_ : 0 < S_.numel
  bcast_S_S128x8x4x64 : S_.BroadcastsInDim S128x8x4x64 (![] : Fin 0 → Fin S128x8x4x64.rank)
  reducesTo_S128x8x4x64_S_d0_1_2_3 : S128x8x4x64.ReducesTo [0, 1, 2, 3] S_
  bcast_S_S128x128x4x64 : S_.BroadcastsInDim S128x128x4x64 (![] : Fin 0 → Fin S128x128x4x64.rank)
  reducesTo_S128x128x4x64_S_d0_1_2_3 : S128x128x4x64.ReducesTo [0, 1, 2, 3] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S128x8x4x4x64 .f32) (main_arg1 : FVec F S128x8x4x64 .f32) (main_arg2 : FVec F S128x8x4x64 .f32) (main_arg3 : FVec F S128x128x4x64 .f32) (main_arg4 : FVec F S128x128x4x64 .f32) (main_arg5 : FVec F S16 .f32) : IVec S_ 1 :=
  let main_v0 : FVec F S128x8x4x4x64 .f32 := Host.absf main_arg0
  let main_cst : FVec F S_ .f32 := constant S_ .f32 0x7F800000#32
  let main_v1 : FVec F S128x8x4x4x64 .f32 := broadcastInDim S128x8x4x4x64 ![] bcast_S_S128x8x4x4x64 main_cst
  let main_v2 : IVec S128x8x4x4x64 1 := cmpf .olt main_v0 main_v1
  let main_c : IVec S_ 1 := constantI S_ 1 1#1
  let main_v3 : IVec S_ 1 := (fun x v => Host.reduce IntOp.andi x v reducesTo_S128x8x4x4x64_S_d0_1_2_3_4 h_S_) main_v2 main_c
  let main_v4 : FVec F S128x8x4x64 .f32 := Host.absf main_arg1
  let main_cst_0 : FVec F S_ .f32 := constant S_ .f32 0x7F800000#32
  let main_v5 : FVec F S128x8x4x64 .f32 := broadcastInDim S128x8x4x64 ![] bcast_S_S128x8x4x64 main_cst_0
  let main_v6 : IVec S128x8x4x64 1 := cmpf .olt main_v4 main_v5
  let main_c_1 : IVec S_ 1 := constantI S_ 1 1#1
  let main_v7 : IVec S_ 1 := (fun x v => Host.reduce IntOp.andi x v reducesTo_S128x8x4x64_S_d0_1_2_3 h_S_) main_v6 main_c_1
  let main_v8 : IVec S_ 1 := andi main_v3 main_v7
  let main_v9 : FVec F S128x128x4x64 .f32 := Host.absf main_arg3
  let main_cst_2 : FVec F S_ .f32 := constant S_ .f32 0x7F800000#32
  let main_v10 : FVec F S128x128x4x64 .f32 := broadcastInDim S128x128x4x64 ![] bcast_S_S128x128x4x64 main_cst_2
  let main_v11 : IVec S128x128x4x64 1 := cmpf .olt main_v9 main_v10
  let main_c_3 : IVec S_ 1 := constantI S_ 1 1#1
  let main_v12 : IVec S_ 1 := (fun x v => Host.reduce IntOp.andi x v reducesTo_S128x128x4x64_S_d0_1_2_3 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Pre_finite_weights.lean ====
abbrev S4x4096x1024 : Shape := ⟨3, ![4, 4096, 1024]⟩
abbrev S1024 : Shape := ⟨1, ![1024]⟩
abbrev S1024x5632 : Shape := ⟨2, ![1024, 5632]⟩
abbrev S64 : Shape := ⟨1, ![64]⟩
abbrev S1024x1280 : Shape := ⟨2, ![1024, 1280]⟩
abbrev S_ : Shape := ⟨0, ![]⟩

class Facts : Prop where
  slices_S1024x5632_S1024x1280_0_2048 : S1024x5632.Slices ![0, 2048] S1024x1280
  bcast_S_S1024 : S_.BroadcastsInDim S1024 (![] : Fin 0 → Fin S1024.rank)
  reducesTo_S1024_S_d0 : S1024.ReducesTo [0] S_
  h_S_ : 0 < S_.numel
  bcast_S_S1024x1280 : S_.BroadcastsInDim S1024x1280 (![] : Fin 0 → Fin S1024x1280.rank)
  reducesTo_S1024x1280_S_d0_1 : S1024x1280.ReducesTo [0, 1] S_

variable [Facts]

def fn {F : FTy → Type} [FloatOps F] (main_arg0 : FVec F S4x4096x1024 .f32) (main_arg1 : FVec F S1024 .f32) (main_arg2 : FVec F S1024x5632 .f32) (main_arg3 : FVec F S64 .f32) (main_arg4 : FVec F S64 .f32) : IVec S_ 1 :=
  let main_v0 : FVec F S1024x1280 .f32 := (extractStridedSlice S1024x1280 ![0, 2048] · slices_S1024x5632_S1024x1280_0_2048) main_arg2
  let main_v1 : FVec F S1024 .f32 := Host.absf main_arg1
  let main_cst : FVec F S_ .f32 := constant S_ .f32 0x7F800000#32
  let main_v2 : FVec F S1024 .f32 := broadcastInDim S1024 ![] bcast_S_S1024 main_cst
  let main_v3 : IVec S1024 1 := cmpf .olt main_v1 main_v2
  let main_c : IVec S_ 1 := constantI S_ 1 1#1
  let main_v4 : IVec S_ 1 := (fun x v => Host.reduce IntOp.andi x v reducesTo_S1024_S_d0 h_S_) main_v3 main_c
  let main_v5 : FVec F S1024x1280 .f32 := Host.absf main_v0
  let main_cst_0 : FVec F S_ .f32 := constant S_ .f32 0x7F800000#32
  let main_v6 : FVec F S1024x1280 .f32 := broadcastInDim S1024x1280 ![] bcast_S_S1024x1280 main_cst_0
  let main_v7 : IVec S1024x1280 1 := cmpf .olt main_v5 main_v6
  let main_c_1 : IVec S_ 1 := constantI S_ 1 1#1
  let main_v8 : IVec S_ 1 := (fun x v => Host.reduce IntOp.andi x v reducesTo_S1024x1280_S_d0_1 h_S_) main_v7 main_c_1
  let main_v9 : IVec S_ 1 := andi main_v4 main_v8
  main_v9
-- ==== Kernel.lean ====
abbrev S4x4096x4x4x64 : Shape := ⟨5, ![4, 4096, 4, 4, 64]⟩
abbrev S4x4096x4x64 : Shape := ⟨4, ![4, 4096, 4, 64]⟩
abbrev S16 : Shape := ⟨1, ![16]⟩
abbrev S16384x1024 : Shape := ⟨2, ![16384, 1024]⟩
abbrev S_ : Shape := ⟨0, ![]⟩
abbrev S16384x256 : Shape := ⟨2, ![16384, 256]⟩
abbrev S128x1024 : Shape := ⟨2, ![128, 1024]⟩
abbrev S128x256 : Shape := ⟨2, ![128, 256]⟩
abbrev S256x256 : Shape := ⟨2, ![256, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 25
  | .vmem => 12
  | .smem => 2
  | _ => 0

abbrev bufTy : (tb : Table) → Fin (tcTables nBuf tb) → BufTy
  | .hbm, ⟨0, _⟩ => ⟨S4x4096x4x4x64, .f32⟩
  | .hbm, ⟨1, _⟩ => ⟨S4x4096x4x64, .f32⟩
  | .hbm, ⟨2, _⟩ => ⟨S4x4096x4x64, .f32⟩
  | .hbm, ⟨3, _⟩ => ⟨S16, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .bf16⟩
  | .hbm, ⟨9, _⟩ => ⟨S16384x256, .f32⟩
  | .hbm, ⟨10, _⟩ => ⟨S16384x256, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x1024, .bf16⟩
  | .local _ .vmem, ⟨11, _⟩ => ⟨S128x1024, .bf16⟩
  | .local _ .smem, ⟨0, _⟩ => ⟨S16, .f32⟩
  | .local _ .smem, ⟨1, _⟩ => ⟨S16, .f32⟩
  | _, _ => ⟨S4x4096x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x4x4x64 : Shape := ⟨5, ![4, 4096, 4, 4, 64]⟩
abbrev S4x4096x4x64 : Shape := ⟨4, ![4, 4096, 4, 64]⟩
abbrev S16 : Shape := ⟨1, ![16]⟩
abbrev S32 : Shape := ⟨1, ![32]⟩
abbrev S32x1 : Shape := ⟨2, ![32, 1]⟩
abbrev S_ : Shape := ⟨0, ![]⟩
abbrev S128 : Shape := ⟨1, ![128]⟩
abbrev S1x128 : Shape := ⟨2, ![1, 128]⟩
abbrev S32x128 : Shape := ⟨2, ![32, 128]⟩
abbrev S256 : Shape := ⟨1, ![256]⟩
abbrev S1x256 : Shape := ⟨2, ![1, 256]⟩
abbrev S32x256 : Shape := ⟨2, ![32, 256]⟩
abbrev S4x32x128x4x4x64 : Shape := ⟨6, ![4, 32, 128, 4, 4, 64]⟩
abbrev S4x32x128x4x64 : Shape := ⟨5, ![4, 32, 128, 4, 64]⟩
abbrev S4x1x128x4x64 : Shape := ⟨5, ![4, 1, 128, 4, 64]⟩
abbrev S4x31x128x4x64 : Shape := ⟨5, ![4, 31, 128, 4, 64]⟩
abbrev S4x32x256x4x64 : Shape := ⟨5, ![4, 32, 256, 4, 64]⟩
abbrev S4x32x4x256x128x4 : Shape := ⟨6, ![4, 32, 4, 256, 128, 4]⟩
abbrev S4x32x4x4x128x256 : Shape := ⟨6, ![4, 32, 4, 4, 128, 256]⟩
abbrev S32x128x1 : Shape := ⟨3, ![32, 128, 1]⟩
abbrev S32x1x256 : Shape := ⟨3, ![32, 1, 256]⟩
abbrev S32x128x256 : Shape := ⟨3, ![32, 128, 256]⟩
abbrev S4x4 : Shape := ⟨2, ![4, 4]⟩
abbrev S1x1x4x4x1x1 : Shape := ⟨6, ![1, 1, 4, 4, 1, 1]⟩
abbrev S1x32x1x1x128x256 : Shape := ⟨6, ![1, 32, 1, 1, 128, 256]⟩
abbrev S1x32x4x4x128x256 : Shape := ⟨6, ![1, 32, 4, 4, 128, 256]⟩
abbrev S4x32x4x4x128x1 : Shape := ⟨6, ![4, 32, 4, 4, 128, 1]⟩
abbrev S4x32x4x4x128x257 : Shape := ⟨6, ![4, 32, 4, 4, 128, 257]⟩
abbrev S4x32x4x4x128 : Shape := ⟨5, ![4, 32, 4, 4, 128]⟩
abbrev S4x32x4x64x4x128 : Shape := ⟨6, ![4, 32, 4, 64, 4, 128]⟩
abbrev S4x4096x1024 : Shape := ⟨3, ![4, 4096, 1024]⟩
abbrev S16384x1024 : Shape := ⟨2, ![16384, 1024]⟩

abbrev nBuf : Space → Nat
  | .hbm => 111
  | .vmem => 0
  | .smem => 0
  | _ => 0

abbrev bufTy : (tb : Table) → Fin (tcTables nBuf tb) → BufTy
  | .hbm, ⟨0, _⟩ => ⟨S4x4096x4x4x64, .f32⟩
  | .hbm, ⟨1, _⟩ => ⟨S4x4096x4x64, .f32⟩
  | .hbm, ⟨2, _⟩ => ⟨S4x4096x4x64, .f32⟩
  | .hbm, ⟨3, _⟩ => ⟨S16, .f32⟩
  | .hbm, ⟨4, _⟩ => ⟨S32, .i32⟩
  | .hbm, ⟨5, _⟩ => ⟨S32x1, .i32⟩
  | .hbm, ⟨6, _⟩ => ⟨S_, .i32⟩
  | .hbm, ⟨7, _⟩ => ⟨S32x1, .i32⟩
  | .hbm, ⟨8, _⟩ => ⟨S32x1, .i32⟩
  | .hbm, ⟨9, _⟩ => ⟨S128, .i32⟩
  | .hbm, ⟨10, _⟩ => ⟨S1x128, .i32⟩
  | .hbm, ⟨11, _⟩ => ⟨S32x128, .i32⟩
  | .hbm, ⟨12, _⟩ => ⟨S32x128, .i32⟩
  | .hbm, ⟨13, _⟩ => ⟨S32x128, .i32⟩
  | .hbm, ⟨14, _⟩ => ⟨S_, .i32⟩
  | .hbm, ⟨15, _⟩ => ⟨S32x1, .i32⟩
  | .hbm, ⟨16, _⟩ => ⟨S32x1, .i32⟩
  | .hbm, ⟨17, _⟩ => ⟨S256, .i32⟩
  | .hbm, ⟨18, _⟩ => ⟨S1x256, .i32⟩
  | .hbm, ⟨19, _⟩ => ⟨S32x256, .i32⟩
  | .hbm, ⟨20, _⟩ => ⟨S32x256, .i32⟩
  | .hbm, ⟨21, _⟩ => ⟨S32x256, .i32⟩
  | .hbm, ⟨22, _⟩ => ⟨S4x32x128x4x4x64, .f32⟩
  | .hbm, ⟨23, _⟩ => ⟨S4x32x128x4x64, .f32⟩
  | .hbm, ⟨24, _⟩ => ⟨S4x1x128x4x64, .f32⟩
  | .hbm, ⟨25, _⟩ => ⟨S_, .f32⟩
  | .hbm, ⟨26, _⟩ => ⟨S4x1x128x4x64, .f32⟩
  | .hbm, ⟨27, _⟩ => ⟨S4x31x128x4x64, .f32⟩
  | .hbm, ⟨28, _⟩ => ⟨S4x32x128x4x64, .f32⟩
  | .hbm, ⟨29, _⟩ => ⟨S4x32x256x4x64, .f32⟩
  | .hbm, ⟨30, _⟩ => ⟨S4x32x128x4x64, .f32⟩
  | .hbm, ⟨31, _⟩ => ⟨S4x1x128x4x64, .f32⟩
  | .hbm, ⟨32, _⟩ => ⟨S_, .f32⟩
  | .hbm, ⟨33, _⟩ => ⟨S4x1x128x4x64, .f32⟩
  | .hbm, ⟨34, _⟩ => ⟨S4x31x128x4x64, .f32⟩
  | .hbm, ⟨35, _⟩ => ⟨S4x32x128x4x64, .f32⟩
  | .hbm, ⟨36, _⟩ => ⟨S4x32x256x4x64, .f32⟩
  | .hbm, ⟨37, _⟩ => ⟨S4x32x4x256x128x4, .f32⟩
  | .hbm, ⟨38, _⟩ => ⟨S4x32x4x4x128x256, .f32⟩
  | .hbm, ⟨39, _⟩ => ⟨S_, .f32⟩
  | .hbm, ⟨40, _⟩ => ⟨S4x32x4x4x128x256, .f32⟩
  | .hbm, ⟨41, _⟩ => ⟨S4x32x4x4x128x256, .f32⟩
  | .hbm, ⟨42, _⟩ => ⟨S32x128x1, .i32⟩
  | .hbm, ⟨43, _⟩ => ⟨S32x1x256, .i32⟩
  | .hbm, ⟨44, _⟩ => ⟨S32x128x256, .i32⟩
  | .hbm, ⟨45, _⟩ => ⟨S32x128x256, .i32⟩
  | .hbm, ⟨46, _⟩ => ⟨S32x128x256, .i32⟩
  | .hbm, ⟨47, _⟩ => ⟨S_, .i32⟩
  | .hbm, ⟨48, _⟩ => ⟨S32x128x256, .i32⟩
  | .hbm, ⟨49, _⟩ => ⟨S32x128x256, .i1⟩
  | .hbm, ⟨50, _⟩ => ⟨S_, .i32⟩
  | .hbm, ⟨51, _⟩ => ⟨S32x128x256, .i32⟩
  | .hbm, ⟨52, _⟩ => ⟨S32x128x256, .i1⟩
  | .hbm, ⟨53, _⟩ => ⟨S32x128x256, .i1⟩
  | .hbm, ⟨54, _⟩ => ⟨S32x1x256, .i32⟩
  | .hbm, ⟨55, _⟩ => ⟨S_, .i32⟩
  | .hbm, ⟨56, _⟩ => ⟨S32x1x256, .i32⟩
  | .hbm, ⟨57, _⟩ => ⟨S32x1x256, .i1⟩
  | .hbm, ⟨58, _⟩ => ⟨S32x128x256, .i1⟩
  | .hbm, ⟨59, _⟩ => ⟨S32x128x256, .i1⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S4x4, .f32⟩
  | .hbm, ⟨74, _⟩ => ⟨S1x1x4x4x1x1, .f32⟩
  | .hbm, ⟨75, _⟩ => ⟨S32x128x256, .f32⟩
  | .hbm, ⟨76, _⟩ => ⟨S1x32x1x1x128x256, .f32⟩
  | .hbm, ⟨77, _⟩ => ⟨S1x32x4x4x128x256, .f32⟩
  | .hbm, ⟨78, _⟩ => ⟨S1x32x4x4x128x256, .f32⟩
  | .hbm, ⟨79, _⟩ => ⟨S1x32x4x4x128x256, .f32⟩
  | .hbm, ⟨80, _⟩ => ⟨S4x32x4x4x128x256, .f32⟩
  | .hbm, ⟨81, _⟩ => ⟨S4x32x4x4x128x256, .f32⟩
  | .hbm, ⟨82, _⟩ => ⟨S1x32x1x1x128x256, .i1⟩
  | .hbm, ⟨83, _⟩ => ⟨S_, .f32⟩
  | .hbm, ⟨84, _⟩ => ⟨S_, .f32⟩
  | .hbm, ⟨85, _⟩ => ⟨S4x32x4x4x128x256, .i1⟩
  | .hbm, ⟨86, _⟩ => ⟨S4x32x4x4x128x256, .f32⟩
  | .hbm, ⟨87, _⟩ => ⟨S4x32x4x4x128x256, .f32⟩
  | .hbm, ⟨88, _⟩ => ⟨S1x1x4x4x1x1, .f32⟩
  | .hbm, ⟨89, _⟩ => ⟨S4x32x4x4x128x1, .f32⟩
  | .hbm, ⟨90, _⟩ => ⟨S4x32x4x4x128x257, .f32⟩
  | .hbm, ⟨91, _⟩ => ⟨S_, .f32⟩
  | .hbm, ⟨92, _⟩ => ⟨S4x32x4x4x128, .f32⟩
  | .hbm, ⟨93, _⟩ => ⟨S_, .f32⟩
  | .hbm, ⟨94, _⟩ => ⟨S4x32x4x4x128, .f32⟩
  | .hbm, ⟨95, _⟩ => ⟨S4x32x4x4x128, .f32⟩
  | .hbm, ⟨96, _⟩ => ⟨S4x32x4x4x128x1, .f32⟩
  | .hbm, ⟨97, _⟩ => ⟨S4x32x4x4x128x257, .f32⟩
  | .hbm, ⟨98, _⟩ => ⟨S4x32x4x4x128x257, .f32⟩
  | .hbm, ⟨99, _⟩ => ⟨S4x32x4x4x128x257, .f32⟩
  | .hbm, ⟨100, _⟩ => ⟨S_, .f32⟩
  | .hbm, ⟨101, _⟩ => ⟨S4x32x4x4x128, .f32⟩
  | .hbm, ⟨102, _⟩ => ⟨S4x32x4x4x128x1, .f32⟩
  | .hbm, ⟨103, _⟩ => ⟨S4x32x4x4x128x257, .f32⟩
  | .hbm, ⟨104, _⟩ => ⟨S4x32x4x4x128x257, .f32⟩
  | .hbm, ⟨105, _⟩ => ⟨S4x32x4x4x128x256, .f32⟩
  | .hbm, ⟨106, _⟩ => ⟨S4x32x4x64x4x128, .f32⟩
  | .hbm, ⟨107, _⟩ => ⟨S4x32x128x4x4x64, .f32⟩
  | .hbm, ⟨108, _⟩ => ⟨S4x4096x1024, .f32⟩
  | .hbm, ⟨109, _⟩ => ⟨S16384x1024, .f32⟩
  | .hbm, ⟨110, _⟩ => ⟨S16384x1024, .bf16⟩
  | _, _ => ⟨S4x4096x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_3 : Ref sig .tc := ⟨.hbm, 47, rfl⟩
abbrev main_v38 : Ref sig .tc := ⟨.hbm, 48, rfl⟩
abbrev main_v39 : Ref sig .tc := ⟨.hbm, 49, rfl⟩
abbrev main_c_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_13 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S1024x5632 : Shape := ⟨2, ![1024, 5632]⟩
abbrev S64 : Shape := ⟨1, ![64]⟩
abbrev S16384x1024 : Shape := ⟨2, ![16384, 1024]⟩
abbrev S1x1024 : Shape := ⟨2, ![1, 1024]⟩
abbrev S1x64 : Shape := ⟨2, ![1, 64]⟩
abbrev S16x64 : Shape := ⟨2, ![16, 64]⟩
abbrev S4x64 : Shape := ⟨2, ![4, 64]⟩
abbrev S256 : Shape := ⟨1, ![256]⟩
abbrev S1x256 : Shape := ⟨2, ![1, 256]⟩
abbrev S16384x256 : Shape := ⟨2, ![16384, 256]⟩
abbrev S256x1024 : Shape := ⟨2, ![256, 1024]⟩
abbrev S256x256 : Shape := ⟨2, ![256, 256]⟩
abbrev S256x1 : Shape := ⟨2, ![256, 1]⟩
abbrev S1024x1024 : Shape := ⟨2, ![1024, 1024]⟩
abbrev S1024x128 : Shape := ⟨2, ![1024, 128]⟩
abbrev S128x1024 : Shape := ⟨2, ![128, 1024]⟩
abbrev S256x128 : Shape := ⟨2, ![256, 128]⟩
abbrev S1024x256 : Shape := ⟨2, ![1024, 256]⟩
abbrev S128x256 : Shape := ⟨2, ![128, 256]⟩
abbrev S4x3x1024 : Shape := ⟨3, ![4, 3, 1024]⟩
abbrev S4x4096x256 : Shape := ⟨3, ![4, 4096, 256]⟩
abbrev S4x128x256 : Shape := ⟨3, ![4, 128, 256]⟩
abbrev S4x128x4x64 : Shape := ⟨4, ![4, 128, 4, 64]⟩
abbrev S1x4x3x1024 : Shape := ⟨4, ![1, 4, 3, 1024]⟩
abbrev S1x4x128x4x64 : Shape := ⟨5, ![1, 4, 128, 4, 64]⟩

abbrev nBuf : Space → Nat
  | .hbm => 34
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S1024x5632, .bf16⟩
  | .hbm, ⟨7, _⟩ => ⟨S1x1024, .f32⟩
  | .hbm, ⟨8, _⟩ => ⟨S1x64, .f32⟩
  | .hbm, ⟨9, _⟩ => ⟨S16x64, .f32⟩
  | .hbm, ⟨10, _⟩ => ⟨S1024, .f32⟩
  | .hbm, ⟨11, _⟩ => ⟨S1x1024, .f32⟩
  | .hbm, ⟨12, _⟩ => ⟨S1x64, .f32⟩
  | .hbm, ⟨13, _⟩ => ⟨S4x64, .f32⟩
  | .hbm, ⟨14, _⟩ => ⟨S256, .f32⟩
  | .hbm, ⟨15, _⟩ => ⟨S1x256, .f32⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S16384x256, .f32⟩
  | .hbm, ⟨20, _⟩ => ⟨S16384x256, .f32⟩
  | .hbm, ⟨21, _⟩ => ⟨S16384x1024, .f32⟩
  | .hbm, ⟨22, _⟩ => ⟨S16384x1024, .f32⟩
  | .hbm, ⟨23, _⟩ => ⟨S4x4096x1024, .f32⟩
  | .hbm, ⟨24, _⟩ => ⟨S4x3x1024, .f32⟩
  | .hbm, ⟨25, _⟩ => ⟨S4x4096x256, .f32⟩
  | .hbm, ⟨26, _⟩ => ⟨S4x128x256, .f32⟩
  | .hbm, ⟨27, _⟩ => ⟨S4x128x4x64, .f32⟩
  | .hbm, ⟨28, _⟩ => ⟨S4x4096x256, .f32⟩
  | .hbm, ⟨29, _⟩ => ⟨S4x128x256, .f32⟩
  | .hbm, ⟨30, _⟩ => ⟨S4x128x4x64, .f32⟩
  | .hbm, ⟨31, _⟩ => ⟨S1x4x3x1024, .f32⟩
  | .hbm, ⟨32, _⟩ => ⟨S1x4x128x4x64, .f32⟩
  | .hbm, ⟨33, _⟩ => ⟨S1x4x128x4x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S1x1024, .f32⟩
  | .local _ .vmem, ⟨5, _⟩ => ⟨S1x256, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev main_v11_5 : Ref sig .tc := ⟨.hbm, 21, rfl⟩
abbrev main_v11_6 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4x4096x1024 : Shape := ⟨3, ![4, 4096, 1024]⟩
abbrev S1024 : Shape := ⟨1, ![1024]⟩
abbrev S1024x5632 : Shape := ⟨2, ![1024, 5632]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x256 : Shape := ⟨3, ![4, 4096, 256]⟩
abbrev S4x4096x4x4x64 : Shape := ⟨5, ![4, 4096, 4, 4, 64]⟩
abbrev S4x4096x4x4 : Shape := ⟨4, ![4, 4096, 4, 4]⟩
abbrev S4x4096x4x4x1 : Shape := ⟨5, ![4, 4096, 4, 4, 1]⟩
abbrev S1x1x1x1x64 : Shape := ⟨5, ![1, 1, 1, 1, 64]⟩
abbrev S4x4096x4x64 : Shape := ⟨4, ![4, 4096, 4, 64]⟩
abbrev S4x4096x4 : Shape := ⟨3, ![4, 4096, 4]⟩
abbrev S4x4096x4x1 : Shape := ⟨4, ![4, 4096, 4, 1]⟩
abbrev S1x1x1x64 : Shape := ⟨4, ![1, 1, 1, 64]⟩
abbrev S4x3x1024 : Shape := ⟨3, ![4, 3, 1024]⟩
abbrev S4x4099x1024 : Shape := ⟨3, ![4, 4099, 1024]⟩
abbrev S4x128x4x64 : Shape := ⟨4, ![4, 128, 4, 64]⟩
abbrev S16384x1024 : Shape := ⟨2, ![16384, 1024]⟩
abbrev S16384x256 : Shape := ⟨2, ![16384, 256]⟩
abbrev S1x4x3x1024 : Shape := ⟨4, ![1, 4, 3, 1024]⟩
abbrev S1x4x128x4x64 : Shape := ⟨5, ![1, 4, 128, 4, 64]⟩

abbrev nBuf : Space → Nat
  | .hbm => 117
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S64, .f32⟩
  | .hbm, ⟨4, _⟩ => ⟨S64, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x5632, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x256, .f32⟩
  | .hbm, ⟨26, _⟩ => ⟨S4x4096x256, .f32⟩
  | .hbm, ⟨27, _⟩ => ⟨S4x4096x1024, .f32⟩
  | .hbm, ⟨28, _⟩ => ⟨S4x4096x1024, .f32⟩
  | .hbm, ⟨29, _⟩ => ⟨S4x4096x4x4x64, .f32⟩
  | .hbm, ⟨30, _⟩ => ⟨S4x4096x4x4x64, .f32⟩
  | .hbm, ⟨31, _⟩ => ⟨S_, .f32⟩
  | .hbm, ⟨32, _⟩ => ⟨S4x4096x4x4, .f32⟩
  | .hbm, ⟨33, _⟩ => ⟨S4x4096x4x4x1, .f32⟩
  | .hbm, ⟨34, _⟩ => ⟨S_, .f32⟩
  | .hbm, ⟨35, _⟩ => ⟨S4x4096x4x4x1, .f32⟩
  | .hbm, ⟨36, _⟩ => ⟨S4x4096x4x4x1, .f32⟩
  | .hbm, ⟨37, _⟩ => ⟨S_, .f32⟩
  | .hbm, ⟨38, _⟩ => ⟨S4x4096x4x4x1, .f32⟩
  | .hbm, ⟨39, _⟩ => ⟨S4x4096x4x4x1, .f32⟩
  | .hbm, ⟨40, _⟩ => ⟨S4x4096x4x4x1, .f32⟩
  | .hbm, ⟨41, _⟩ => ⟨S4x4096x4x4x64, .f32⟩
  | .hbm, ⟨42, _⟩ => ⟨S4x4096x4x4x64, .f32⟩
  | .hbm, ⟨43, _⟩ => ⟨S1x1x1x1x64, .f32⟩
  | .hbm, ⟨44, _⟩ => ⟨S4x4096x4x4x64, .f32⟩
  | .hbm, ⟨45, _⟩ => ⟨S4x4096x4x4x64, .f32⟩
  | .hbm, ⟨46, _⟩ => ⟨S4x4096x4x64, .f32⟩
  | .hbm, ⟨47, _⟩ => ⟨S4x4096x4x64, .f32⟩
  | .hbm, ⟨48, _⟩ => ⟨S_, .f32⟩
  | .hbm, ⟨49, _⟩ => ⟨S4x4096x4, .f32⟩
  | .hbm, ⟨50, _⟩ => ⟨S4x4096x4x1, .f32⟩
  | .hbm, ⟨51, _⟩ => ⟨S_, .f32⟩
  | .hbm, ⟨52, _⟩ => ⟨S4x4096x4x1, .f32⟩
  | .hbm, ⟨53, _⟩ => ⟨S4x4096x4x1, .f32⟩
  | .hbm, ⟨54, _⟩ => ⟨S_, .f32⟩
  | .hbm, ⟨55, _⟩ => ⟨S4x4096x4x1, .f32⟩
  | .hbm, ⟨56, _⟩ => ⟨S4x4096x4x1, .f32⟩
  | .hbm, ⟨57, _⟩ => ⟨S4x4096x4x1, .f32⟩
  | .hbm, ⟨58, _⟩ => ⟨S4x4096x4x64, .f32⟩
  | .hbm, ⟨59, _⟩ => ⟨S4x4096x4x64, .f32⟩
  | .hbm, ⟨60, _⟩ => ⟨S1x1x1x64, .f32⟩
  | .hbm, ⟨61, _⟩ => ⟨S4x4096x4x64, .f32⟩
  | .hbm, ⟨62, _⟩ => ⟨S4x4096x4x64, .f32⟩
  | .hbm, ⟨63, _⟩ => ⟨S4x4096x4x64, .f32⟩
  | .hbm, ⟨64, _⟩ => ⟨S_, .f32⟩
  | .hbm, ⟨65, _⟩ => ⟨S4x3x1024, .f32⟩
  | .hbm, ⟨66, _⟩ => ⟨S4x4099x1024, .f32⟩
  | .hbm, ⟨67, _⟩ => ⟨S4x3x1024, .f32⟩
  | .hbm, ⟨68, _⟩ => ⟨S4x128x4x64, .f32⟩
  | .hbm, ⟨69, _⟩ => ⟨S4x128x4x64, .f32⟩
  | .hbm, ⟨70, _⟩ => ⟨S16384x1024, .f32⟩
  | .hbm, ⟨71, _⟩ => ⟨S4x4096x1024, .f32⟩
  | .hbm, ⟨72, _⟩ => ⟨S4x4096x1024, .f32⟩
  | .hbm, ⟨73, _⟩ => ⟨S_, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S_, .f32⟩
  | .hbm, ⟨78, _⟩ => ⟨S4x4096x1024, .f32⟩
  | .hbm, ⟨79, _⟩ => ⟨S4x4096x1024, .f32⟩
  | .hbm, ⟨80, _⟩ => ⟨S4x4096x1024, .f32⟩
  | .hbm, ⟨81, _⟩ => ⟨S_, .f32⟩
  | .hbm, ⟨82, _⟩ => ⟨S4x4096x1024, .f32⟩
  | .hbm, ⟨83, _⟩ => ⟨S4x4096x1024, .f32⟩
  | .hbm, ⟨84, _⟩ => ⟨S_, .f32⟩
  | .hbm, ⟨85, _⟩ => ⟨S4x4096x1024, .f32⟩
  | .hbm, ⟨86, _⟩ => ⟨S4x4096x1024, .f32⟩
  | .hbm, ⟨87, _⟩ => ⟨S4x4096x1024, .f32⟩
  | .hbm, ⟨88, _⟩ => ⟨S16384x1024, .f32⟩
  | .hbm, ⟨89, _⟩ => ⟨S_, .f32⟩
  | .hbm, ⟨90, _⟩ => ⟨S4x4096x4x4x64, .f32⟩
  | .hbm, ⟨91, _⟩ => ⟨S4x4096x4x4x64, .f32⟩
  | .hbm, ⟨92, _⟩ => ⟨S4x4096x4x4x64, .bf16⟩
  | .hbm, ⟨93, _⟩ => ⟨S16384x1024, .bf16⟩
  | .hbm, ⟨94, _⟩ => ⟨S16384x256, .f32⟩
  | .hbm, ⟨95, _⟩ => ⟨S16384x256, .f32⟩
  | .hbm, ⟨96, _⟩ => ⟨S4x4096x1024, .f32⟩
  | .hbm, ⟨97, _⟩ => ⟨S4x4096x1024, .f32⟩
  | .hbm, ⟨98, _⟩ => ⟨S_, .f32⟩
  | .hbm, ⟨99, _⟩ => ⟨S4x4096x1024, .f32⟩
  | .hbm, ⟨100, _⟩ => ⟨S4x4096x1024, .f32⟩
  | .hbm, ⟨101, _⟩ => ⟨S_, .f32⟩
  | .hbm, ⟨102, _⟩ => ⟨S4x4096x1024, .f32⟩
  | .hbm, ⟨103, _⟩ => ⟨S4x4096x1024, .f32⟩
  | .hbm, ⟨104, _⟩ => ⟨S16384x1024, .f32⟩
  | .hbm, ⟨105, _⟩ => ⟨S4x4096x1024, .f32⟩
  | .hbm, ⟨106, _⟩ => ⟨S4x4096x1024, .f32⟩
  | .hbm, ⟨107, _⟩ => ⟨S_, .f32⟩
  | .hbm, ⟨108, _⟩ => ⟨S4x4096x1024, .f32⟩
  | .hbm, ⟨109, _⟩ => ⟨S4x4096x1024, .f32⟩
  | .hbm, ⟨110, _⟩ => ⟨S_, .f32⟩
  | .hbm, ⟨111, _⟩ => ⟨S4x4096x1024, .f32⟩
  | .hbm, ⟨112, _⟩ => ⟨S4x4096x1024, .f32⟩
  | .hbm, ⟨113, _⟩ => ⟨S16384x1024, .f32⟩
  | .hbm, ⟨114, _⟩ => ⟨S1x4x3x1024, .f32⟩
  | .hbm, ⟨115, _⟩ => ⟨S1x4x128x4x64, .f32⟩
  | .hbm, ⟨116, _⟩ => ⟨S1x4x128x4x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_11 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_13 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_14 : Ref sig .tc := ⟨.hbm, 98, rfl⟩
abbrev main_v78 : Ref sig .tc := ⟨.hbm, 99, rfl⟩
abbrev main_v79 : Ref sig .tc := ⟨.hbm, 100, rfl⟩
abbrev main_cst_15 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_16 : Ref sig .tc := ⟨.hbm, 107, rfl⟩
abbrev main_v85 : Ref sig .tc := ⟨.hbm, 108, rfl⟩
abbrev main_v86 : Ref sig .tc := ⟨.hbm, 109, rfl⟩
abbrev main_cst_17 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩

abbrev nD : Nat := 1
abbrev τ : Topo := Topo.v7x

variable {F : FTy → Type} [FloatOps F]
-- ==== Kernel3.lean ====
abbrev S4x4096x1024 : Shape := ⟨3, ![4, 4096, 1024]⟩
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S16384x8x128 : Shape := ⟨3, ![16384, 8, 128]⟩
abbrev S256x1024 : Shape := ⟨2, ![256, 1024]⟩
abbrev S256x8x128 : Shape := ⟨3, ![256, 8, 128]⟩
abbrev S256 : Shape := ⟨1, ![256]⟩
abbrev S256x1 : Shape := ⟨2, ![256, 1]⟩
abbrev S256x128 : Shape := ⟨2, ![256, 128]⟩
abbrev S256x1x128 : Shape := ⟨3, ![256, 1, 128]⟩

abbrev nBuf : Space → Nat
  | .hbm => 17
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S16384x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S16384x1024, .f32⟩
  | .hbm, ⟨15, _⟩ => ⟨S16384x1024, .bf16⟩
  | .hbm, ⟨16, _⟩ => ⟨S16384x8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x8x128, .f32⟩
  | .local _ .vmem, ⟨19, _⟩ => ⟨S256x8x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4x4096x1024 : Shape := ⟨3, ![4, 4096, 1024]⟩
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x128 : Shape := ⟨2, ![16384, 128]⟩
abbrev S16384x1x128 : Shape := ⟨3, ![16384, 1, 128]⟩
abbrev S16384x8x128 : Shape := ⟨3, ![16384, 8, 128]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S16384x1024, .bf16⟩
  | .hbm, ⟨44, _⟩ => ⟨S16384x1x128, .f32⟩
  | .hbm, ⟨45, _⟩ => ⟨S16384x1x128, .f32⟩
  | .hbm, ⟨46, _⟩ => ⟨S16384x1x128, .f32⟩
  | .hbm, ⟨47, _⟩ => ⟨S16384x1x128, .f32⟩
  | .hbm, ⟨48, _⟩ => ⟨S16384x1x128, .f32⟩
  | .hbm, ⟨49, _⟩ => ⟨S16384x1x128, .f32⟩
  | .hbm, ⟨50, _⟩ => ⟨S16384x1x128, .f32⟩
  | .hbm, ⟨51, _⟩ => ⟨S16384x1x128, .f32⟩
  | .hbm, ⟨52, _⟩ => ⟨S16384x8x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel4.lean ====
abbrev S128x8x4x4x64 : Shape := ⟨5, ![128, 8, 4, 4, 64]⟩
abbrev S128x8x4x64 : Shape := ⟨4, ![128, 8, 4, 64]⟩
abbrev S128x128x4x64 : Shape := ⟨4, ![128, 128, 4, 64]⟩
abbrev S16 : Shape := ⟨1, ![16]⟩
abbrev S1024x1024 : Shape := ⟨2, ![1024, 1024]⟩
abbrev S_ : Shape := ⟨0, ![]⟩
abbrev S1024x256 : Shape := ⟨2, ![1024, 256]⟩
abbrev S128x128x256 : Shape := ⟨3, ![128, 128, 256]⟩
abbrev S128x8x1024 : Shape := ⟨3, ![128, 8, 1024]⟩
abbrev S128x8x256 : Shape := ⟨3, ![128, 8, 256]⟩
abbrev S8x8x1024 : Shape := ⟨3, ![8, 8, 1024]⟩
abbrev S8x8x256 : Shape := ⟨3, ![8, 8, 256]⟩
abbrev S8x128x256 : Shape := ⟨3, ![8, 128, 256]⟩
abbrev S8x136 : Shape := ⟨2, ![8, 136]⟩
abbrev S1x8x256 : Shape := ⟨3, ![1, 8, 256]⟩
abbrev S8x256 : Shape := ⟨2, ![8, 256]⟩
abbrev S1x128x256 : Shape := ⟨3, ![1, 128, 256]⟩
abbrev S128x256 : Shape := ⟨2, ![128, 256]⟩
abbrev S136x256 : Shape := ⟨2, ![136, 256]⟩
abbrev S1x8x1024 : Shape := ⟨3, ![1, 8, 1024]⟩
abbrev S8x1024 : Shape := ⟨2, ![8, 1024]⟩
abbrev S8x64 : Shape := ⟨2, ![8, 64]⟩
abbrev S136x64 : Shape := ⟨2, ![136, 64]⟩
abbrev S1 : Shape := ⟨1, ![1]⟩
abbrev S8 : Shape := ⟨1, ![8]⟩
abbrev S8x1 : Shape := ⟨2, ![8, 1]⟩
abbrev S1x128x128x4x64 : Shape := ⟨5, ![1, 128, 128, 4, 64]⟩

abbrev nBuf : Space → Nat
  | .hbm => 39
  | .vmem => 16
  | .smem => 2
  | _ => 0

abbrev bufTy : (tb : Table) → Fin (tcTables nBuf tb) → BufTy
  | .hbm, ⟨0, _⟩ => ⟨S128x8x4x4x64, .f32⟩
  | .hbm, ⟨1, _⟩ => ⟨S128x8x4x64, .f32⟩
  | .hbm, ⟨2, _⟩ => ⟨S128x8x4x64, .f32⟩
  | .hbm, ⟨3, _⟩ => ⟨S128x128x4x64, .f32⟩
  | .hbm, ⟨4, _⟩ => ⟨S128x128x4x64, .f32⟩
  | .hbm, ⟨5, _⟩ => ⟨S16, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x256, .f32⟩
  | .hbm, ⟨12, _⟩ => ⟨S1024x256, .f32⟩
  | .hbm, ⟨13, _⟩ => ⟨S128x128x256, .f32⟩
  | .hbm, ⟨14, _⟩ => ⟨S128x128x256, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S128x8x1024, .bf16⟩
  | .hbm, ⟨29, _⟩ => ⟨S128x8x256, .f32⟩
  | .hbm, ⟨30, _⟩ => ⟨S128x8x256, .f32⟩
  | .hbm, ⟨31, _⟩ => ⟨S128x8x1024, .bf16⟩
  | .hbm, ⟨32, _⟩ => ⟨S128x128x256, .f32⟩
  | .hbm, ⟨33, _⟩ => ⟨S128x128x256, .f32⟩
  | .hbm, ⟨34, _⟩ => ⟨S1024x1024, .bf16⟩
  | .hbm, ⟨35, _⟩ => ⟨S128x128x4x64, .f32⟩
  | .hbm, ⟨36, _⟩ => ⟨S128x128x4x64, .f32⟩
  | .hbm, ⟨37, _⟩ => ⟨S1x128x128x4x64, .f32⟩
  | .hbm, ⟨38, _⟩ => ⟨S1x128x128x4x64, .f32⟩
  | .local _ .vmem, ⟨0, _⟩ => ⟨S8x8x1024, .bf16⟩
  | .local _ .vmem, ⟨1, _⟩ => ⟨S8x8x1024, .bf16⟩
  | .local _ .vmem, ⟨2, _⟩ => ⟨S8x8x256, .f32⟩
  | .local _ .vmem, ⟨3, _⟩ => ⟨S8x8x256, .f32⟩
  | .local _ .vmem, ⟨4, _⟩ => ⟨S8x8x256, .f32⟩
  | .local _ .vmem, ⟨5, _⟩ => ⟨S8x8x256, .f32⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S8x8x1024, .bf16⟩
  | .local _ .vmem, ⟨11, _⟩ => ⟨S8x8x1024, .bf16⟩
  | .local _ .vmem, ⟨12, _⟩ => ⟨S8x128x256, .f32⟩
  | .local _ .vmem, ⟨13, _⟩ => ⟨S8x128x256, .f32⟩
  | .local _ .vmem, ⟨14, _⟩ => ⟨S8x128x256, .f32⟩
  | .local _ .vmem, ⟨15, _⟩ => ⟨S8x128x256, .f32⟩
  | .local _ .smem, ⟨0, _⟩ => ⟨S16, .f32⟩
  | .local _ .smem, ⟨1, _⟩ => ⟨S16, .f32⟩
  | _, _ => ⟨S128x8x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c8_i32 : BitVec 32 := 8#32
  let v11 : BitVec 32 := Scalar.addi c0_i32_1 c8_i32
  let c1_i32 : BitVec 32 := 1#32
  ⟨c0_i32_1, v11, c1_i32⟩
def k0_off1 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v12 : Index := Scalar.indexCast arg11
  let c0 : Index := 0#32
  let c0_3 : Index := 0#32
  ![v12.toNat, 0, 0]
def k0_off2 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v18 : Index := Scalar.indexCast arg11
  let c0_6 : Index := 0#32
  let c0_7 : Index := 0#32
  ![v18.toNat, 0, 0]
def k0_off3 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v38 : Index := Scalar.indexCast arg11
  let c0_14 : Index := 0#32
  let c0_15 : Index := 0#32
  ![v38.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x8x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel4Ideal.lean ====
variable {F : FTy → Type} [FloatOps F] [Named F]
def κ : String → Option EReal := fun
  | "mask" => some ⊥
  | _ => none
-- ==== Reference4Ideal.lean ====
abbrev S128x8x4x4x64 : Shape := ⟨5, ![128, 8, 4, 4, 64]⟩
abbrev S128x8x4x64 : Shape := ⟨4, ![128, 8, 4, 64]⟩
abbrev S128x128x4x64 : Shape := ⟨4, ![128, 128, 4, 64]⟩
abbrev S16 : Shape := ⟨1, ![16]⟩
abbrev S128x136x4x64 : Shape := ⟨4, ![128, 136, 4, 64]⟩
abbrev S8 : Shape := ⟨1, ![8]⟩
abbrev S_ : Shape := ⟨0, ![]⟩
abbrev S1x8 : Shape := ⟨2, ![1, 8]⟩
abbrev S136 : Shape := ⟨1, ![136]⟩
abbrev S1x136 : Shape := ⟨2, ![1, 136]⟩
abbrev S128x1x8x4x4x64 : Shape := ⟨6, ![128, 1, 8, 4, 4, 64]⟩
abbrev S128x1x136x4x64 : Shape := ⟨5, ![128, 1, 136, 4, 64]⟩
abbrev S128x1x4x136x8x4 : Shape := ⟨6, ![128, 1, 4, 136, 8, 4]⟩
abbrev S128x1x4x4x8x136 : Shape := ⟨6, ![128, 1, 4, 4, 8, 136]⟩
abbrev S1x8x1 : Shape := ⟨3, ![1, 8, 1]⟩
abbrev S1x1x136 : Shape := ⟨3, ![1, 1, 136]⟩
abbrev S1x8x136 : Shape := ⟨3, ![1, 8, 136]⟩
abbrev S4x4 : Shape := ⟨2, ![4, 4]⟩
abbrev S1x1x4x4x1x1 : Shape := ⟨6, ![1, 1, 4, 4, 1, 1]⟩
abbrev S1x1x1x1x8x136 : Shape := ⟨6, ![1, 1, 1, 1, 8, 136]⟩
abbrev S1x1x4x4x8x136 : Shape := ⟨6, ![1, 1, 4, 4, 8, 136]⟩
abbrev S128x1x4x4x8x1 : Shape := ⟨6, ![128, 1, 4, 4, 8, 1]⟩
abbrev S128x1x4x4x8x137 : Shape := ⟨6, ![128, 1, 4, 4, 8, 137]⟩
abbrev S128x1x4x4x8 : Shape := ⟨5, ![128, 1, 4, 4, 8]⟩
abbrev S128x1x4x64x4x8 : Shape := ⟨6, ![128, 1, 4, 64, 4, 8]⟩
abbrev S128x8x1024 : Shape := ⟨3, ![128, 8, 1024]⟩
abbrev S1024x1024 : Shape := ⟨2, ![1024, 1024]⟩
abbrev S1x128x128x4x64 : Shape := ⟨5, ![1, 128, 128, 4, 64]⟩

abbrev nBuf : Space → Nat
  | .hbm => 99
  | .vmem => 0
  | .smem => 0
  | _ => 0

abbrev bufTy : (tb : Table) → Fin (tcTables nBuf tb) → BufTy
  | .hbm, ⟨0, _⟩ => ⟨S128x8x4x4x64, .f32⟩
  | .hbm, ⟨1, _⟩ => ⟨S128x8x4x64, .f32⟩
  | .hbm, ⟨2, _⟩ => ⟨S128x8x4x64, .f32⟩
  | .hbm, ⟨3, _⟩ => ⟨S128x128x4x64, .f32⟩
  | .hbm, ⟨4, _⟩ => ⟨S128x128x4x64, .f32⟩
  | .hbm, ⟨5, _⟩ => ⟨S16, .f32⟩
  | .hbm, ⟨6, _⟩ => ⟨S128x136x4x64, .f32⟩
  | .hbm, ⟨7, _⟩ => ⟨S128x136x4x64, .f32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S1x8, .i32⟩
  | .hbm, ⟨13, _⟩ => ⟨S136, .i32⟩
  | .hbm, ⟨14, _⟩ => ⟨S_, .i32⟩
  | .hbm, ⟨15, _⟩ => ⟨S136, .i32⟩
  | .hbm, ⟨16, _⟩ => ⟨S136, .i32⟩
  | .hbm, ⟨17, _⟩ => ⟨S1x136, .i32⟩
  | .hbm, ⟨18, _⟩ => ⟨S128x1x8x4x4x64, .f32⟩
  | .hbm, ⟨19, _⟩ => ⟨S128x1x136x4x64, .f32⟩
  | .hbm, ⟨20, _⟩ => ⟨S128x1x136x4x64, .f32⟩
  | .hbm, ⟨21, _⟩ => ⟨S128x1x4x136x8x4, .f32⟩
  | .hbm, ⟨22, _⟩ => ⟨S128x1x4x4x8x136, .f32⟩
  | .hbm, ⟨23, _⟩ => ⟨S_, .f32⟩
  | .hbm, ⟨24, _⟩ => ⟨S128x1x4x4x8x136, .f32⟩
  | .hbm, ⟨25, _⟩ => ⟨S128x1x4x4x8x136, .f32⟩
  | .hbm, ⟨26, _⟩ => ⟨S1x8x1, .i32⟩
  | .hbm, ⟨27, _⟩ => ⟨S1x1x136, .i32⟩
  | .hbm, ⟨28, _⟩ => ⟨S1x8x136, .i32⟩
  | .hbm, ⟨29, _⟩ => ⟨S1x8x136, .i32⟩
  | .hbm, ⟨30, _⟩ => ⟨S1x8x136, .i32⟩
  | .hbm, ⟨31, _⟩ => ⟨S_, .i32⟩
  | .hbm, ⟨32, _⟩ => ⟨S1x8x136, .i32⟩
  | .hbm, ⟨33, _⟩ => ⟨S1x8x136, .i1⟩
  | .hbm, ⟨34, _⟩ => ⟨S_, .i32⟩
  | .hbm, ⟨35, _⟩ => ⟨S1x8x136, .i32⟩
  | .hbm, ⟨36, _⟩ => ⟨S1x8x136, .i1⟩
  | .hbm, ⟨37, _⟩ => ⟨S1x8x136, .i1⟩
  | .hbm, ⟨38, _⟩ => ⟨S1x1x136, .i32⟩
  | .hbm, ⟨39, _⟩ => ⟨S_, .i32⟩
  | .hbm, ⟨40, _⟩ => ⟨S1x1x136, .i32⟩
  | .hbm, ⟨41, _⟩ => ⟨S1x1x136, .i1⟩
  | .hbm, ⟨42, _⟩ => ⟨S1x8x136, .i1⟩
  | .hbm, ⟨43, _⟩ => ⟨S1x8x136, .i1⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S4x4, .f32⟩
  | .hbm, ⟨58, _⟩ => ⟨S1x1x4x4x1x1, .f32⟩
  | .hbm, ⟨59, _⟩ => ⟨S1x8x136, .f32⟩
  | .hbm, ⟨60, _⟩ => ⟨S1x1x1x1x8x136, .f32⟩
  | .hbm, ⟨61, _⟩ => ⟨S1x1x4x4x8x136, .f32⟩
  | .hbm, ⟨62, _⟩ => ⟨S1x1x4x4x8x136, .f32⟩
  | .hbm, ⟨63, _⟩ => ⟨S1x1x4x4x8x136, .f32⟩
  | .hbm, ⟨64, _⟩ => ⟨S128x1x4x4x8x136, .f32⟩
  | .hbm, ⟨65, _⟩ => ⟨S128x1x4x4x8x136, .f32⟩
  | .hbm, ⟨66, _⟩ => ⟨S1x1x1x1x8x136, .i1⟩
  | .hbm, ⟨67, _⟩ => ⟨S_, .f32⟩
  | .hbm, ⟨68, _⟩ => ⟨S_, .f32⟩
  | .hbm, ⟨69, _⟩ => ⟨S128x1x4x4x8x136, .i1⟩
  | .hbm, ⟨70, _⟩ => ⟨S128x1x4x4x8x136, .f32⟩
  | .hbm, ⟨71, _⟩ => ⟨S128x1x4x4x8x136, .f32⟩
  | .hbm, ⟨72, _⟩ => ⟨S1x1x4x4x1x1, .f32⟩
  | .hbm, ⟨73, _⟩ => ⟨S128x1x4x4x8x1, .f32⟩
  | .hbm, ⟨74, _⟩ => ⟨S128x1x4x4x8x137, .f32⟩
  | .hbm, ⟨75, _⟩ => ⟨S_, .f32⟩
  | .hbm, ⟨76, _⟩ => ⟨S128x1x4x4x8, .f32⟩
  | .hbm, ⟨77, _⟩ => ⟨S_, .f32⟩
  | .hbm, ⟨78, _⟩ => ⟨S128x1x4x4x8, .f32⟩
  | .hbm, ⟨79, _⟩ => ⟨S128x1x4x4x8, .f32⟩
  | .hbm, ⟨80, _⟩ => ⟨S128x1x4x4x8x1, .f32⟩
  | .hbm, ⟨81, _⟩ => ⟨S128x1x4x4x8x137, .f32⟩
  | .hbm, ⟨82, _⟩ => ⟨S128x1x4x4x8x137, .f32⟩
  | .hbm, ⟨83, _⟩ => ⟨S128x1x4x4x8x137, .f32⟩
  | .hbm, ⟨84, _⟩ => ⟨S_, .f32⟩
  | .hbm, ⟨85, _⟩ => ⟨S128x1x4x4x8, .f32⟩
  | .hbm, ⟨86, _⟩ => ⟨S128x1x4x4x8x1, .f32⟩
  | .hbm, ⟨87, _⟩ => ⟨S128x1x4x4x8x137, .f32⟩
  | .hbm, ⟨88, _⟩ => ⟨S128x1x4x4x8x137, .f32⟩
  | .hbm, ⟨89, _⟩ => ⟨S128x1x4x4x8x136, .f32⟩
  | .hbm, ⟨90, _⟩ => ⟨S128x1x4x64x4x8, .f32⟩
  | .hbm, ⟨91, _⟩ => ⟨S128x1x8x4x4x64, .f32⟩
  | .hbm, ⟨92, _⟩ => ⟨S128x8x1024, .f32⟩
  | .hbm, ⟨93, _⟩ => ⟨S128x128x4x64, .f32⟩
  | .hbm, ⟨94, _⟩ => ⟨S128x128x4x64, .f32⟩
  | .hbm, ⟨95, _⟩ => ⟨S1024x1024, .f32⟩
  | .hbm, ⟨96, _⟩ => ⟨S1024x1024, .bf16⟩
  | .hbm, ⟨97, _⟩ => ⟨S1x128x128x4x64, .f32⟩
  | .hbm, ⟨98, _⟩ => ⟨S1x128x128x4x64, .f32⟩
  | _, _ => ⟨S128x8x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Kernel5.lean ====
abbrev S128x8x1024 : Shape := ⟨3, ![128, 8, 1024]⟩
abbrev S128x3x1024 : Shape := ⟨3, ![128, 3, 1024]⟩
abbrev S128x1024 : Shape := ⟨2, ![128, 1024]⟩
abbrev S4x1024 : Shape := ⟨2, ![4, 1024]⟩
abbrev S1024 : Shape := ⟨1, ![1024]⟩
abbrev S16x64x64 : Shape := ⟨3, ![16, 64, 64]⟩
abbrev S16x16 : Shape := ⟨2, ![16, 16]⟩
abbrev S_ : Shape := ⟨0, ![]⟩
abbrev S16x64x1x64 : Shape := ⟨4, ![16, 64, 1, 64]⟩
abbrev S16x1x16x1 : Shape := ⟨4, ![16, 1, 16, 1]⟩
abbrev S16x64x16x64 : Shape := ⟨4, ![16, 64, 16, 64]⟩
abbrev S1024x1024 : Shape := ⟨2, ![1024, 1024]⟩
abbrev S1024x2048 : Shape := ⟨2, ![1024, 2048]⟩
abbrev S1x1024 : Shape := ⟨2, ![1, 1024]⟩
abbrev S128x1x1024 : Shape := ⟨3, ![128, 1, 1024]⟩
abbrev S128x7x1024 : Shape := ⟨3, ![128, 7, 1024]⟩
abbrev S128x2x1024 : Shape := ⟨3, ![128, 2, 1024]⟩
abbrev S128x6x1024 : Shape := ⟨3, ![128, 6, 1024]⟩
abbrev S128x5x1024 : Shape := ⟨3, ![128, 5, 1024]⟩
abbrev S1x1024x1024 : Shape := ⟨3, ![1, 1024, 1024]⟩
abbrev S3x1024x1024 : Shape := ⟨3, ![3, 1024, 1024]⟩
abbrev S256x1024 : Shape := ⟨2, ![256, 1024]⟩
abbrev S3x256x1024 : Shape := ⟨3, ![3, 256, 1024]⟩
abbrev S1x256x1024 : Shape := ⟨3, ![1, 256, 1024]⟩
abbrev S256x2048 : Shape := ⟨2, ![256, 2048]⟩
abbrev S32x8x1024 : Shape := ⟨3, ![32, 8, 1024]⟩
abbrev S128x11x1024 : Shape := ⟨3, ![128, 11, 1024]⟩
abbrev S1x128x3x1024 : Shape := ⟨4, ![1, 128, 3, 1024]⟩
abbrev S1x128x1024 : Shape := ⟨3, ![1, 128, 1024]⟩

abbrev nBuf : Space → Nat
  | .hbm => 70
  | .vmem => 18
  | .smem => 0
  | _ => 0

abbrev bufTy : (tb : Table) → Fin (tcTables nBuf tb) → BufTy
  | .hbm, ⟨0, _⟩ => ⟨S128x8x1024, .f32⟩
  | .hbm, ⟨1, _⟩ => ⟨S128x8x1024, .f32⟩
  | .hbm, ⟨2, _⟩ => ⟨S128x3x1024, .f32⟩
  | .hbm, ⟨3, _⟩ => ⟨S128x1024, .f32⟩
  | .hbm, ⟨4, _⟩ => ⟨S4x1024, .f32⟩
  | .hbm, ⟨5, _⟩ => ⟨S1024, .f32⟩
  | .hbm, ⟨6, _⟩ => ⟨S16x64x64, .f32⟩
  | .hbm, ⟨7, _⟩ => ⟨S1024, .f32⟩
  | .hbm, ⟨8, _⟩ => ⟨S16x64x64, .f32⟩
  | .hbm, ⟨9, _⟩ => ⟨S1024, .f32⟩
  | .hbm, ⟨10, _⟩ => ⟨S1024, .f32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S16x16, .f32⟩
  | .hbm, ⟨18, _⟩ => ⟨S16x64x1x64, .f32⟩
  | .hbm, ⟨19, _⟩ => ⟨S16x1x16x1, .f32⟩
  | .hbm, ⟨20, _⟩ => ⟨S16x64x16x64, .f32⟩
  | .hbm, ⟨21, _⟩ => ⟨S16x64x16x64, .f32⟩
  | .hbm, ⟨22, _⟩ => ⟨S16x64x16x64, .f32⟩
  | .hbm, ⟨23, _⟩ => ⟨S1024x1024, .f32⟩
  | .hbm, ⟨24, _⟩ => ⟨S16x64x1x64, .f32⟩
  | .hbm, ⟨25, _⟩ => ⟨S16x1x16x1, .f32⟩
  | .hbm, ⟨26, _⟩ => ⟨S16x64x16x64, .f32⟩
  | .hbm, ⟨27, _⟩ => ⟨S16x64x16x64, .f32⟩
  | .hbm, ⟨28, _⟩ => ⟨S16x64x16x64, .f32⟩
  | .hbm, ⟨29, _⟩ => ⟨S1024x1024, .f32⟩
  | .hbm, ⟨30, _⟩ => ⟨S1024x2048, .f32⟩
  | .hbm, ⟨31, _⟩ => ⟨S1024x2048, .bf16⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1024x1024, .f32⟩
  | .hbm, ⟨37, _⟩ => ⟨S1024x1024, .f32⟩
  | .hbm, ⟨38, _⟩ => ⟨S128x1x1024, .f32⟩
  | .hbm, ⟨39, _⟩ => ⟨S_, .f32⟩
  | .hbm, ⟨40, _⟩ => ⟨S128x7x1024, .f32⟩
  | .hbm, ⟨41, _⟩ => ⟨S128x8x1024, .f32⟩
  | .hbm, ⟨42, _⟩ => ⟨S1024x1024, .f32⟩
  | .hbm, ⟨43, _⟩ => ⟨S128x2x1024, .f32⟩
  | .hbm, ⟨44, _⟩ => ⟨S_, .f32⟩
  | .hbm, ⟨45, _⟩ => ⟨S128x6x1024, .f32⟩
  | .hbm, ⟨46, _⟩ => ⟨S128x8x1024, .f32⟩
  | .hbm, ⟨47, _⟩ => ⟨S1024x1024, .f32⟩
  | .hbm, ⟨48, _⟩ => ⟨S_, .f32⟩
  | .hbm, ⟨49, _⟩ => ⟨S128x5x1024, .f32⟩
  | .hbm, ⟨50, _⟩ => ⟨S128x8x1024, .f32⟩
  | .hbm, ⟨51, _⟩ => ⟨S1024x1024, .f32⟩
  | .hbm, ⟨52, _⟩ => ⟨S1x1024x1024, .f32⟩
  | .hbm, ⟨53, _⟩ => ⟨S1x1024x1024, .f32⟩
  | .hbm, ⟨54, _⟩ => ⟨S1x1024x1024, .f32⟩
  | .hbm, ⟨55, _⟩ => ⟨S3x1024x1024, .f32⟩
  | .hbm, ⟨56, _⟩ => ⟨S128x1x1024, .f32⟩
  | .hbm, ⟨57, _⟩ => ⟨S_, .f32⟩
  | .hbm, ⟨58, _⟩ => ⟨S128x7x1024, .f32⟩
  | .hbm, ⟨59, _⟩ => ⟨S128x8x1024, .f32⟩
  | .hbm, ⟨60, _⟩ => ⟨S1024x1024, .f32⟩
  | .hbm, ⟨61, _⟩ => ⟨S1024x1024, .bf16⟩
  | .hbm, ⟨62, _⟩ => ⟨S1024x1024, .f32⟩
  | .hbm, ⟨63, _⟩ => ⟨S128x8x1024, .f32⟩
  | .hbm, ⟨64, _⟩ => ⟨S128x1x1024, .f32⟩
  | .hbm, ⟨65, _⟩ => ⟨S128x1024, .f32⟩
  | .hbm, ⟨66, _⟩ => ⟨S128x11x1024, .f32⟩
  | .hbm, ⟨67, _⟩ => ⟨S128x3x1024, .f32⟩
  | .hbm, ⟨68, _⟩ => ⟨S1x128x3x1024, .f32⟩
  | .hbm, ⟨69, _⟩ => ⟨S1x128x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S3x256x1024, .f32⟩
  | .local _ .vmem, ⟨5, _⟩ => ⟨S3x256x1024, .f32⟩
  | .local _ .vmem, ⟨6, _⟩ => ⟨S256x1024, .f32⟩
  | .local _ .vmem, ⟨7, _⟩ => ⟨S256x1024, .f32⟩
  | .local _ .vmem, ⟨8, _⟩ => ⟨S4x1024, .f32⟩
  | .local _ .vmem, ⟨9, _⟩ => ⟨S1x1024, .f32⟩
  | .local _ .vmem, ⟨10, _⟩ => ⟨S1024x2048, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_2 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45_0 : Ref sig .tc := ⟨.hbm, 61, rfl⟩
abbrev main_v45_1 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S128x8x1024 : Shape := ⟨3, ![128, 8, 1024]⟩
abbrev S128x3x1024 : Shape := ⟨3, ![128, 3, 1024]⟩
abbrev S128x1024 : Shape := ⟨2, ![128, 1024]⟩
abbrev S4x1024 : Shape := ⟨2, ![4, 1024]⟩
abbrev S1024 : Shape := ⟨1, ![1024]⟩
abbrev S16x64x64 : Shape := ⟨3, ![16, 64, 64]⟩
abbrev S128x11x1024 : Shape := ⟨3, ![128, 11, 1024]⟩
abbrev S1x1024 : Shape := ⟨2, ![1, 1024]⟩
abbrev S1x1x1024 : Shape := ⟨3, ![1, 1, 1024]⟩
abbrev S_ : Shape := ⟨0, ![]⟩
abbrev S128x8x16x64 : Shape := ⟨4, ![128, 8, 16, 64]⟩
abbrev S16x64x128x8 : Shape := ⟨4, ![16, 64, 128, 8]⟩
abbrev S128x1x1024 : Shape := ⟨3, ![128, 1, 1024]⟩
abbrev S1 : Shape := ⟨1, ![1]⟩
abbrev S128x4x1024 : Shape := ⟨3, ![128, 4, 1024]⟩
abbrev S128x2x1024 : Shape := ⟨3, ![128, 2, 1024]⟩
abbrev S128x0x1024 : Shape := ⟨3, ![128, 0, 1024]⟩
abbrev S1024x1024 : Shape := ⟨2, ![1024, 1024]⟩
abbrev S1x128x3x1024 : Shape := ⟨4, ![1, 128, 3, 1024]⟩
abbrev S1x128x1024 : Shape := ⟨3, ![1, 128, 1024]⟩

abbrev nBuf : Space → Nat
  | .hbm => 203
  | .vmem => 0
  | .smem => 0
  | _ => 0

abbrev hbmTy0_0 (i : Nat) : BufTy := match i % 128 with
  | 0 => ⟨S128x8x1024, .f32⟩
  | 1 => ⟨S128x8x1024, .f32⟩
  | 2 => ⟨S128x3x1024, .f32⟩
  | 3 => ⟨S128x1024, .f32⟩
  | 4 => ⟨S4x1024, .f32⟩
  | 5 => ⟨S1024, .f32⟩
  | 6 => ⟨S16x64x64, .f32⟩
  | 7 => ⟨S1024, .f32⟩
  | 8 => ⟨S16x64x64, .f32⟩
  | 9 => ⟨S1024, .f32⟩
  | 10 => ⟨S1024, .f32⟩
  | 11 => ⟨S128x11x1024, .f32⟩
  | 12 => ⟨S128x8x1024, .f32⟩
  | 13 => ⟨S1x1024, .f32⟩
  | 14 => ⟨S1024, .f32⟩
  | 15 => ⟨S1x1x1024, .f32⟩
  | 16 => ⟨S128x8x1024, .f32⟩
  | 17 => ⟨S128x8x1024, .f32⟩
  | 18 => ⟨S_, .f32⟩
  | 19 => ⟨S128x8x1024, .f32⟩
  | 20 => ⟨S128x8x1024, .f32⟩
  | 21 => ⟨S128x8x1024, .f32⟩
  | 22 => ⟨S1x1024, .f32⟩
  | 23 => ⟨S1024, .f32⟩
  | 24 => ⟨S1x1x1024, .f32⟩
  | 25 => ⟨S128x8x1024, .f32⟩
  | 26 => ⟨S128x8x1024, .f32⟩
  | 27 => ⟨S128x8x1024, .f32⟩
  | 28 => ⟨S128x8x1024, .f32⟩
  | 29 => ⟨S1x1024, .f32⟩
  | 30 => ⟨S1024, .f32⟩
  | 31 => ⟨S1x1x1024, .f32⟩
  | 32 => ⟨S128x8x1024, .f32⟩
  | 33 => ⟨S128x8x1024, .f32⟩
  | 34 => ⟨S128x8x1024, .f32⟩
  | 35 => ⟨S128x8x1024, .f32⟩
  | 36 => ⟨S1x1024, .f32⟩
  | 37 => ⟨S1024, .f32⟩
  | 38 => ⟨S1x1x1024, .f32⟩
  | 39 => ⟨S128x8x1024, .f32⟩
  | 40 => ⟨S128x8x1024, .f32⟩
  | 41 => ⟨S128x8x1024, .f32⟩
  | 42 => ⟨S1x1x1024, .f32⟩
  | 43 => ⟨S128x8x1024, .f32⟩
  | 44 => ⟨S128x8x1024, .f32⟩
  | 45 => ⟨S128x3x1024, .f32⟩
  | 46 => ⟨S128x8x16x64, .f32⟩
  | 47 => ⟨S16x64x128x8, .f32⟩
  | 48 => ⟨S128x8x16x64, .f32⟩
  | 49 => ⟨S128x8x1024, .f32⟩
  | 50 => ⟨S1x1x1024, .f32⟩
  | 51 => ⟨S128x8x1024, .f32⟩
  | 52 => ⟨S128x8x1024, .f32⟩
  | 53 => ⟨S128x8x1024, .f32⟩
  | 54 => ⟨S128x8x1024, .f32⟩
  | 55 => ⟨S_, .f32⟩
  | 56 => ⟨S128x8x1024, .f32⟩
  | 57 => ⟨S128x8x1024, .f32⟩
  | 58 => ⟨S_, .f32⟩
  | 59 => ⟨S128x8x1024, .f32⟩
  | 60 => ⟨S128x8x1024, .f32⟩
  | 61 => ⟨S16x64x128x8, .f32⟩
  | 62 => ⟨S128x8x16x64, .f32⟩
  | 63 => ⟨S128x8x1024, .f32⟩
  | 64 => ⟨S1x1x1024, .f32⟩
  | 65 => ⟨S128x8x1024, .f32⟩
  | 66 => ⟨S128x8x1024, .f32⟩
  | 67 => ⟨S128x8x1024, .f32⟩
  | 68 => ⟨S128x8x1024, .f32⟩
  | 69 => ⟨S_, .f32⟩
  | 70 => ⟨S128x8x1024, .f32⟩
  | 71 => ⟨S128x8x1024, .f32⟩
  | 72 => ⟨S_, .f32⟩
  | 73 => ⟨S128x8x1024, .f32⟩
  | 74 => ⟨S128x8x1024, .f32⟩
  | 75 => ⟨S_, .f32⟩
  | 76 => ⟨S128x8x1024, .f32⟩
  | 77 => ⟨S128x8x1024, .f32⟩
  | 78 => ⟨S1024, .f32⟩
  | 79 => ⟨S_, .f32⟩
  | 80 => ⟨S1024, .f32⟩
  | 81 => ⟨S1024, .f32⟩
  | 82 => ⟨S1024, .f32⟩
  | 83 => ⟨S1024, .f32⟩
  | 84 => ⟨S1024, .i1⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1x1x1024, .f32⟩
  | 95 => ⟨S128x8x1024, .f32⟩
  | 96 => ⟨S128x8x1024, .f32⟩
  | 97 => ⟨S128x8x1024, .f32⟩
  | 98 => ⟨S_, .f32⟩
  | 99 => ⟨S128x8x1024, .f32⟩
  | 100 => ⟨S128x8x1024, .f32⟩
  | 101 => ⟨S128x8x1024, .f32⟩
  | 102 => ⟨S128x8x1024, .f32⟩
  | 103 => ⟨S128x8x1024, .f32⟩
  | 104 => ⟨S128x8x1024, .f32⟩
  | 105 => ⟨S128x8x1024, .f32⟩
  | 106 => ⟨S128x1x1024, .f32⟩
  | 107 => ⟨S128x1024, .f32⟩
  | 108 => ⟨S128x1024, .f32⟩
  | 109 => ⟨S_, .i32⟩
  | 110 => ⟨S1, .i32⟩
  | 111 => ⟨S128x8x1024, .f32⟩
  | 112 => ⟨S128x4x1024, .f32⟩
  | 113 => ⟨S128x4x1024, .f32⟩
  | 114 => ⟨S128x4x1024, .f32⟩
  | 115 => ⟨S128x4x1024, .f32⟩
  | 116 => ⟨S128x4x1024, .f32⟩
  | 117 => ⟨S128x4x1024, .f32⟩
  | 118 => ⟨S128x4x1024, .f32⟩
  | 119 => ⟨S128x2x1024, .f32⟩
  | 120 => ⟨S128x2x1024, .f32⟩
  | 121 => ⟨S128x2x1024, .f32⟩
  | 122 => ⟨S128x2x1024, .f32⟩
  | 123 => ⟨S128x2x1024, .f32⟩
  | 124 => ⟨S128x2x1024, .f32⟩
  | 125 => ⟨S128x2x1024, .f32⟩
  | 126 => ⟨S128x1x1024, .f32⟩
  | 127 => ⟨S128x1x1024, .f32⟩
  | _ => ⟨S128x8x1024, .f32⟩

abbrev hbmTy0_1 (i : Nat) : BufTy := match i % 128 with
  | 0 => ⟨S128x1x1024, .f32⟩
  | 1 => ⟨S128x1x1024, .f32⟩
  | 2 => ⟨S128x1x1024, .f32⟩
  | 3 => ⟨S128x1x1024, .f32⟩
  | 4 => ⟨S128x1x1024, .f32⟩
  | 5 => ⟨S128x0x1024, .f32⟩
  | 6 => ⟨S128x0x1024, .f32⟩
  | 7 => ⟨S128x0x1024, .f32⟩
  | 8 => ⟨S128x0x1024, .f32⟩
  | 9 => ⟨S128x0x1024, .f32⟩
  | 10 => ⟨S128x0x1024, .f32⟩
  | 11 => ⟨S128x0x1024, .f32⟩
  | 12 => ⟨S128x1x1024, .f32⟩
  | 13 => ⟨S128x1x1024, .f32⟩
  | 14 => ⟨S128x1x1024, .f32⟩
  | 15 => ⟨S128x1x1024, .f32⟩
  | 16 => ⟨S_, .f32⟩
  | 17 => ⟨S128x2x1024, .f32⟩
  | 18 => ⟨S_, .f32⟩
  | 19 => ⟨S128x2x1024, .f32⟩
  | 20 => ⟨S128x2x1024, .f32⟩
  | 21 => ⟨S_, .f32⟩
  | 22 => ⟨S128x2x1024, .f32⟩
  | 23 => ⟨S_, .f32⟩
  | 24 => ⟨S128x2x1024, .f32⟩
  | 25 => ⟨S128x2x1024, .f32⟩
  | 26 => ⟨S128x1x1024, .f32⟩
  | 27 => ⟨S128x1x1024, .f32⟩
  | 28 => ⟨S128x1x1024, .f32⟩
  | 29 => ⟨S128x1x1024, .f32⟩
  | 30 => ⟨S128x1x1024, .f32⟩
  | 31 => ⟨S128x1x1024, .f32⟩
  | 32 => ⟨S128x1x1024, .f32⟩
  | 33 => ⟨S128x1x1024, .f32⟩
  | 34 => ⟨S128x2x1024, .f32⟩
  | 35 => ⟨S128x1x1024, .f32⟩
  | 36 => ⟨S128x2x1024, .f32⟩
  | 37 => ⟨S_, .f32⟩
  | 38 => ⟨S128x4x1024, .f32⟩
  | 39 => ⟨S_, .f32⟩
  | 40 => ⟨S128x4x1024, .f32⟩
  | 41 => ⟨S128x4x1024, .f32⟩
  | 42 => ⟨S_, .f32⟩
  | 43 => ⟨S128x4x1024, .f32⟩
  | 44 => ⟨S_, .f32⟩
  | 45 => ⟨S128x4x1024, .f32⟩
  | 46 => ⟨S128x4x1024, .f32⟩
  | 47 => ⟨S128x3x1024, .f32⟩
  | 48 => ⟨S128x3x1024, .f32⟩
  | 49 => ⟨S128x3x1024, .f32⟩
  | 50 => ⟨S128x3x1024, .f32⟩
  | 51 => ⟨S128x3x1024, .f32⟩
  | 52 => ⟨S128x3x1024, .f32⟩
  | 53 => ⟨S128x3x1024, .f32⟩
  | 54 => ⟨S128x1x1024, .f32⟩
  | 55 => ⟨S128x4x1024, .f32⟩
  | 56 => ⟨S128x1x1024, .f32⟩
  | 57 => ⟨S128x4x1024, .f32⟩
  | 58 => ⟨S_, .f32⟩
  | 59 => ⟨S128x8x1024, .f32⟩
  | 60 => ⟨S_, .f32⟩
  | 61 => ⟨S128x8x1024, .f32⟩
  | 62 => ⟨S128x8x1024, .f32⟩
  | 63 => ⟨S_, .f32⟩
  | 64 => ⟨S128x8x1024, .f32⟩
  | 65 => ⟨S_, .f32⟩
  | 66 => ⟨S128x8x1024, .f32⟩
  | 67 => ⟨S128x8x1024, .f32⟩
  | 68 => ⟨S128x1x1024, .f32⟩
  | 69 => ⟨S128x1024, .f32⟩
  | 70 => ⟨S128x8x1024, .f32⟩
  | 71 => ⟨S128x8x1024, .bf16⟩
  | 72 => ⟨S1024x1024, .bf16⟩
  | 73 => ⟨S1x128x3x1024, .f32⟩
  | 74 => ⟨S1x128x1024, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_0 : Ref sig .tc := ⟨.hbm, 55, rfl⟩
abbrev main_v43 : Ref sig .tc := ⟨.hbm, 56, rfl⟩
abbrev main_v44 : Ref sig .tc := ⟨.hbm, 57, rfl⟩
abbrev main_cst_1 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_2 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_call0_v0 : Ref sig .tc := ⟨.hbm, 78, rfl⟩
abbrev main_call0_call0_cst : Ref sig .tc := ⟨.hbm, 79, rfl⟩
abbrev main_call0_call0_v0 : Ref sig .tc := ⟨.hbm, 80, rfl⟩
abbrev main_call0_call0_v1 : Ref sig .tc := ⟨.hbm, 81, rfl⟩
abbrev main_call0_call0_v2 : Ref sig .tc := ⟨.hbm, 82, rfl⟩
abbrev main_call0_call0_v3 : Ref sig .tc := ⟨.hbm, 83, rfl⟩
abbrev main_call0_call0_v4 : Ref sig .tc := ⟨.hbm, 84, rfl⟩
abbrev main_call0_call0_v5 : Ref sig .tc := ⟨.hbm, 85, rfl⟩
abbrev main_call0_call0_v6 : Ref sig .tc := ⟨.hbm, 86, rfl⟩
abbrev main_call0_call0_v7 : Ref sig .tc := ⟨.hbm, 87, rfl⟩
abbrev main_call0_call0_v8 : Ref sig .tc := ⟨.hbm, 88, rfl⟩
abbrev main_call0_call0_v9 : Ref sig .tc := ⟨.hbm, 89, rfl⟩
abbrev main_call0_call0_v10 : Ref sig .tc := ⟨.hbm, 90, rfl⟩
abbrev main_call0_call0_v11 : Ref sig .tc := ⟨.hbm, 91, rfl⟩
abbrev main_call0_v1 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_5 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_6 : Ref sig .tc := ⟨.hbm, 144, rfl⟩
abbrev main_v110 : Ref sig .tc := ⟨.hbm, 145, rfl⟩
abbrev main_cst_7 : Ref sig .tc := ⟨.hbm, 146, rfl⟩
abbrev main_v111 : Ref sig .tc := ⟨.hbm, 147, rfl⟩
abbrev main_v112 : Ref sig .tc := ⟨.hbm, 148, rfl⟩
abbrev main_cst_8 : Ref sig .tc := ⟨.hbm, 149, rfl⟩
abbrev main_v113 : Ref sig .tc := ⟨.hbm, 150, rfl⟩
abbrev main_cst_9 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_10 : Ref sig .tc := ⟨.hbm, 165, rfl⟩
abbrev main_v127 : Ref sig .tc := ⟨.hbm, 166, rfl⟩
abbrev main_cst_11 : Ref sig .tc := ⟨.hbm, 167, rfl⟩
abbrev main_v128 : Ref sig .tc := ⟨.hbm, 168, rfl⟩
abbrev main_v129 : Ref sig .tc := ⟨.hbm, 169, rfl⟩
abbrev main_cst_12 : Ref sig .tc := ⟨.hbm, 170, rfl⟩
abbrev main_v130 : Ref sig .tc := ⟨.hbm, 171, rfl⟩
abbrev main_cst_13 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_14 : Ref sig .tc := ⟨.hbm, 186, rfl⟩
abbrev main_v144 : Ref sig .tc := ⟨.hbm, 187, rfl⟩
abbrev main_cst_15 : Ref sig .tc := ⟨.hbm, 188, rfl⟩
abbrev main_v145 : Ref sig .tc := ⟨.hbm, 189, rfl⟩
abbrev main_v146 : Ref sig .tc := ⟨.hbm, 190, rfl⟩
abbrev main_cst_16 : Ref sig .tc := ⟨.hbm, 191, rfl⟩
abbrev main_v147 : Ref sig .tc := ⟨.hbm, 192, rfl⟩
abbrev main_cst_17 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩

abbrev nD : Nat := 1
abbrev τ : Topo := Topo.v7x

variable {F : FTy → Type} [FloatOps F]
-- ==== Kernel6.lean ====
abbrev S4x4096x1024 : Shape := ⟨3, ![4, 4096, 1024]⟩
abbrev S4x1024 : Shape := ⟨2, ![4, 1024]⟩
abbrev S1024 : Shape := ⟨1, ![1024]⟩
abbrev S16x64x64 : Shape := ⟨3, ![16, 64, 64]⟩
abbrev S16x16 : Shape := ⟨2, ![16, 16]⟩
abbrev S_ : Shape := ⟨0, ![]⟩
abbrev S16x64x1x64 : Shape := ⟨4, ![16, 64, 1, 64]⟩
abbrev S16x1x16x1 : Shape := ⟨4, ![16, 1, 16, 1]⟩
abbrev S16x64x16x64 : Shape := ⟨4, ![16, 64, 16, 64]⟩
abbrev S1024x1024 : Shape := ⟨2, ![1024, 1024]⟩
abbrev S1024x2048 : Shape := ⟨2, ![1024, 2048]⟩
abbrev S1x1024 : Shape := ⟨2, ![1, 1024]⟩
abbrev S16384x1024 : Shape := ⟨2, ![16384, 1024]⟩
abbrev S32x1024 : Shape := ⟨2, ![32, 1024]⟩
abbrev S256x1024 : Shape := ⟨2, ![256, 1024]⟩
abbrev S8x1024 : Shape := ⟨2, ![8, 1024]⟩
abbrev S248x1024 : Shape := ⟨2, ![248, 1024]⟩
abbrev S256x2048 : Shape := ⟨2, ![256, 2048]⟩
abbrev S32x8x1024 : Shape := ⟨3, ![32, 8, 1024]⟩
abbrev S4x8x1024 : Shape := ⟨3, ![4, 8, 1024]⟩
abbrev S4x1x1024 : Shape := ⟨3, ![4, 1, 1024]⟩
abbrev S1x4x1024 : Shape := ⟨3, ![1, 4, 1024]⟩

abbrev nBuf : Space → Nat
  | .hbm => 42
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x1024, .f32⟩
  | .hbm, ⟨3, _⟩ => ⟨S1024, .f32⟩
  | .hbm, ⟨4, _⟩ => ⟨S16x64x64, .f32⟩
  | .hbm, ⟨5, _⟩ => ⟨S1024, .f32⟩
  | .hbm, ⟨6, _⟩ => ⟨S16x64x64, .f32⟩
  | .hbm, ⟨7, _⟩ => ⟨S1024, .f32⟩
  | .hbm, ⟨8, _⟩ => ⟨S1024, .f32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S16x16, .i1⟩
  | .hbm, ⟨15, _⟩ => ⟨S16x16, .f32⟩
  | .hbm, ⟨16, _⟩ => ⟨S16x64x1x64, .f32⟩
  | .hbm, ⟨17, _⟩ => ⟨S16x1x16x1, .f32⟩
  | .hbm, ⟨18, _⟩ => ⟨S16x64x16x64, .f32⟩
  | .hbm, ⟨19, _⟩ => ⟨S16x64x16x64, .f32⟩
  | .hbm, ⟨20, _⟩ => ⟨S16x64x16x64, .f32⟩
  | .hbm, ⟨21, _⟩ => ⟨S1024x1024, .f32⟩
  | .hbm, ⟨22, _⟩ => ⟨S16x64x1x64, .f32⟩
  | .hbm, ⟨23, _⟩ => ⟨S16x1x16x1, .f32⟩
  | .hbm, ⟨24, _⟩ => ⟨S16x64x16x64, .f32⟩
  | .hbm, ⟨25, _⟩ => ⟨S16x64x16x64, .f32⟩
  | .hbm, ⟨26, _⟩ => ⟨S16x64x16x64, .f32⟩
  | .hbm, ⟨27, _⟩ => ⟨S1024x1024, .f32⟩
  | .hbm, ⟨28, _⟩ => ⟨S1024x2048, .f32⟩
  | .hbm, ⟨29, _⟩ => ⟨S1024x2048, .bf16⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .bf16⟩
  | .hbm, ⟨37, _⟩ => ⟨S32x1024, .f32⟩
  | .hbm, ⟨38, _⟩ => ⟨S4x8x1024, .f32⟩
  | .hbm, ⟨39, _⟩ => ⟨S4x1x1024, .f32⟩
  | .hbm, ⟨40, _⟩ => ⟨S4x1024, .f32⟩
  | .hbm, ⟨41, _⟩ => ⟨S1x4x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x1024, .f32⟩
  | .local _ .vmem, ⟨5, _⟩ => ⟨S1x1024, .f32⟩
  | .local _ .vmem, ⟨6, _⟩ => ⟨S1024x2048, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference6Ideal.lean ====
abbrev S4x4096x1024 : Shape := ⟨3, ![4, 4096, 1024]⟩
abbrev S4x1024 : Shape := ⟨2, ![4, 1024]⟩
abbrev S1024 : Shape := ⟨1, ![1024]⟩
abbrev S16x64x64 : Shape := ⟨3, ![16, 64, 64]⟩
abbrev S_ : Shape := ⟨0, ![]⟩
abbrev S4x3x1024 : Shape := ⟨3, ![4, 3, 1024]⟩
abbrev S4x4099x1024 : Shape := ⟨3, ![4, 4099, 1024]⟩
abbrev S1x1024 : Shape := ⟨2, ![1, 1024]⟩
abbrev S1x1x1024 : Shape := ⟨3, ![1, 1, 1024]⟩
abbrev S4x4096x16x64 : Shape := ⟨4, ![4, 4096, 16, 64]⟩
abbrev S16x64x4x4096 : Shape := ⟨4, ![16, 64, 4, 4096]⟩
abbrev S4x1x1024 : Shape := ⟨3, ![4, 1, 1024]⟩
abbrev S1 : Shape := ⟨1, ![1]⟩
abbrev S4x2048x1024 : Shape := ⟨3, ![4, 2048, 1024]⟩
abbrev S4x1024x1024 : Shape := ⟨3, ![4, 1024, 1024]⟩
abbrev S4x512x1024 : Shape := ⟨3, ![4, 512, 1024]⟩
abbrev S4x256x1024 : Shape := ⟨3, ![4, 256, 1024]⟩
abbrev S4x128x1024 : Shape := ⟨3, ![4, 128, 1024]⟩
abbrev S4x64x1024 : Shape := ⟨3, ![4, 64, 1024]⟩
abbrev S4x32x1024 : Shape := ⟨3, ![4, 32, 1024]⟩
abbrev S4x16x1024 : Shape := ⟨3, ![4, 16, 1024]⟩
abbrev S4x8x1024 : Shape := ⟨3, ![4, 8, 1024]⟩
abbrev S4x4x1024 : Shape := ⟨3, ![4, 4, 1024]⟩
abbrev S4x2x1024 : Shape := ⟨3, ![4, 2, 1024]⟩
abbrev S4x0x1024 : Shape := ⟨3, ![4, 0, 1024]⟩
abbrev S4x7x1024 : Shape := ⟨3, ![4, 7, 1024]⟩
abbrev S4x15x1024 : Shape := ⟨3, ![4, 15, 1024]⟩
abbrev S4x31x1024 : Shape := ⟨3, ![4, 31, 1024]⟩
abbrev S4x63x1024 : Shape := ⟨3, ![4, 63, 1024]⟩
abbrev S4x127x1024 : Shape := ⟨3, ![4, 127, 1024]⟩
abbrev S4x255x1024 : Shape := ⟨3, ![4, 255, 1024]⟩
abbrev S4x511x1024 : Shape := ⟨3, ![4, 511, 1024]⟩
abbrev S4x1023x1024 : Shape := ⟨3, ![4, 1023, 1024]⟩
abbrev S4x2047x1024 : Shape := ⟨3, ![4, 2047, 1024]⟩
abbrev S16384x1024 : Shape := ⟨2, ![16384, 1024]⟩
abbrev S1x4x1024 : Shape := ⟨3, ![1, 4, 1024]⟩

abbrev nBuf : Space → Nat
  | .hbm => 456
  | .vmem => 0
  | .smem => 0
  | _ => 0

abbrev hbmTy0_0 (i : Nat) : BufTy := match i % 128 with
  | 0 => ⟨S4x4096x1024, .f32⟩
  | 1 => ⟨S4x4096x1024, .f32⟩
  | 2 => ⟨S4x1024, .f32⟩
  | 3 => ⟨S1024, .f32⟩
  | 4 => ⟨S16x64x64, .f32⟩
  | 5 => ⟨S1024, .f32⟩
  | 6 => ⟨S16x64x64, .f32⟩
  | 7 => ⟨S1024, .f32⟩
  | 8 => ⟨S1024, .f32⟩
  | 9 => ⟨S_, .f32⟩
  | 10 => ⟨S4x3x1024, .f32⟩
  | 11 => ⟨S_, .f32⟩
  | 12 => ⟨S4x1024, .f32⟩
  | 13 => ⟨S4x4099x1024, .f32⟩
  | 14 => ⟨S4x4096x1024, .f32⟩
  | 15 => ⟨S1x1024, .f32⟩
  | 16 => ⟨S1024, .f32⟩
  | 17 => ⟨S1x1x1024, .f32⟩
  | 18 => ⟨S4x4096x1024, .f32⟩
  | 19 => ⟨S4x4096x1024, .f32⟩
  | 20 => ⟨S_, .f32⟩
  | 21 => ⟨S4x4096x1024, .f32⟩
  | 22 => ⟨S4x4096x1024, .f32⟩
  | 23 => ⟨S4x4096x1024, .f32⟩
  | 24 => ⟨S1x1024, .f32⟩
  | 25 => ⟨S1024, .f32⟩
  | 26 => ⟨S1x1x1024, .f32⟩
  | 27 => ⟨S4x4096x1024, .f32⟩
  | 28 => ⟨S4x4096x1024, .f32⟩
  | 29 => ⟨S4x4096x1024, .f32⟩
  | 30 => ⟨S4x4096x1024, .f32⟩
  | 31 => ⟨S1x1024, .f32⟩
  | 32 => ⟨S1024, .f32⟩
  | 33 => ⟨S1x1x1024, .f32⟩
  | 34 => ⟨S4x4096x1024, .f32⟩
  | 35 => ⟨S4x4096x1024, .f32⟩
  | 36 => ⟨S4x4096x1024, .f32⟩
  | 37 => ⟨S4x4096x1024, .f32⟩
  | 38 => ⟨S1x1024, .f32⟩
  | 39 => ⟨S1024, .f32⟩
  | 40 => ⟨S1x1x1024, .f32⟩
  | 41 => ⟨S4x4096x1024, .f32⟩
  | 42 => ⟨S4x4096x1024, .f32⟩
  | 43 => ⟨S4x4096x1024, .f32⟩
  | 44 => ⟨S1x1x1024, .f32⟩
  | 45 => ⟨S4x4096x1024, .f32⟩
  | 46 => ⟨S4x4096x1024, .f32⟩
  | 47 => ⟨S4x3x1024, .f32⟩
  | 48 => ⟨S4x4096x16x64, .f32⟩
  | 49 => ⟨S16x64x4x4096, .f32⟩
  | 50 => ⟨S4x4096x16x64, .f32⟩
  | 51 => ⟨S4x4096x1024, .f32⟩
  | 52 => ⟨S1x1x1024, .f32⟩
  | 53 => ⟨S4x4096x1024, .f32⟩
  | 54 => ⟨S4x4096x1024, .f32⟩
  | 55 => ⟨S4x4096x1024, .f32⟩
  | 56 => ⟨S4x4096x1024, .f32⟩
  | 57 => ⟨S_, .f32⟩
  | 58 => ⟨S4x4096x1024, .f32⟩
  | 59 => ⟨S4x4096x1024, .f32⟩
  | 60 => ⟨S_, .f32⟩
  | 61 => ⟨S4x4096x1024, .f32⟩
  | 62 => ⟨S4x4096x1024, .f32⟩
  | 63 => ⟨S16x64x4x4096, .f32⟩
  | 64 => ⟨S4x4096x16x64, .f32⟩
  | 65 => ⟨S4x4096x1024, .f32⟩
  | 66 => ⟨S1x1x1024, .f32⟩
  | 67 => ⟨S4x4096x1024, .f32⟩
  | 68 => ⟨S4x4096x1024, .f32⟩
  | 69 => ⟨S4x4096x1024, .f32⟩
  | 70 => ⟨S4x4096x1024, .f32⟩
  | 71 => ⟨S_, .f32⟩
  | 72 => ⟨S4x4096x1024, .f32⟩
  | 73 => ⟨S4x4096x1024, .f32⟩
  | 74 => ⟨S_, .f32⟩
  | 75 => ⟨S4x4096x1024, .f32⟩
  | 76 => ⟨S4x4096x1024, .f32⟩
  | 77 => ⟨S_, .f32⟩
  | 78 => ⟨S4x4096x1024, .f32⟩
  | 79 => ⟨S4x4096x1024, .f32⟩
  | 80 => ⟨S1024, .f32⟩
  | 81 => ⟨S_, .f32⟩
  | 82 => ⟨S1024, .f32⟩
  | 83 => ⟨S1024, .f32⟩
  | 84 => ⟨S1024, .f32⟩
  | 85 => ⟨S1024, .f32⟩
  | 86 => ⟨S1024, .i1⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1x1x1024, .f32⟩
  | 97 => ⟨S4x4096x1024, .f32⟩
  | 98 => ⟨S4x4096x1024, .f32⟩
  | 99 => ⟨S4x4096x1024, .f32⟩
  | 100 => ⟨S_, .f32⟩
  | 101 => ⟨S4x4096x1024, .f32⟩
  | 102 => ⟨S4x4096x1024, .f32⟩
  | 103 => ⟨S4x4096x1024, .f32⟩
  | 104 => ⟨S4x4096x1024, .f32⟩
  | 105 => ⟨S4x4096x1024, .f32⟩
  | 106 => ⟨S4x4096x1024, .f32⟩
  | 107 => ⟨S4x4096x1024, .f32⟩
  | 108 => ⟨S4x1x1024, .f32⟩
  | 109 => ⟨S4x1024, .f32⟩
  | 110 => ⟨S4x1024, .f32⟩
  | 111 => ⟨S_, .i32⟩
  | 112 => ⟨S1, .i32⟩
  | 113 => ⟨S4x4096x1024, .f32⟩
  | 114 => ⟨S4x2048x1024, .f32⟩
  | 115 => ⟨S4x2048x1024, .f32⟩
  | 116 => ⟨S4x2048x1024, .f32⟩
  | 117 => ⟨S4x2048x1024, .f32⟩
  | 118 => ⟨S4x2048x1024, .f32⟩
  | 119 => ⟨S4x2048x1024, .f32⟩
  | 120 => ⟨S4x2048x1024, .f32⟩
  | 121 => ⟨S4x1024x1024, .f32⟩
  | 122 => ⟨S4x1024x1024, .f32⟩
  | 123 => ⟨S4x1024x1024, .f32⟩
  | 124 => ⟨S4x1024x1024, .f32⟩
  | 125 => ⟨S4x1024x1024, .f32⟩
  | 126 => ⟨S4x1024x1024, .f32⟩
  | 127 => ⟨S4x1024x1024, .f32⟩
  | _ => ⟨S4x4096x1024, .f32⟩

abbrev hbmTy0_1 (i : Nat) : BufTy := match i % 128 with
  | 0 => ⟨S4x512x1024, .f32⟩
  | 1 => ⟨S4x512x1024, .f32⟩
  | 2 => ⟨S4x512x1024, .f32⟩
  | 3 => ⟨S4x512x1024, .f32⟩
  | 4 => ⟨S4x512x1024, .f32⟩
  | 5 => ⟨S4x512x1024, .f32⟩
  | 6 => ⟨S4x512x1024, .f32⟩
  | 7 => ⟨S4x256x1024, .f32⟩
  | 8 => ⟨S4x256x1024, .f32⟩
  | 9 => ⟨S4x256x1024, .f32⟩
  | 10 => ⟨S4x256x1024, .f32⟩
  | 11 => ⟨S4x256x1024, .f32⟩
  | 12 => ⟨S4x256x1024, .f32⟩
  | 13 => ⟨S4x256x1024, .f32⟩
  | 14 => ⟨S4x128x1024, .f32⟩
  | 15 => ⟨S4x128x1024, .f32⟩
  | 16 => ⟨S4x128x1024, .f32⟩
  | 17 => ⟨S4x128x1024, .f32⟩
  | 18 => ⟨S4x128x1024, .f32⟩
  | 19 => ⟨S4x128x1024, .f32⟩
  | 20 => ⟨S4x128x1024, .f32⟩
  | 21 => ⟨S4x64x1024, .f32⟩
  | 22 => ⟨S4x64x1024, .f32⟩
  | 23 => ⟨S4x64x1024, .f32⟩
  | 24 => ⟨S4x64x1024, .f32⟩
  | 25 => ⟨S4x64x1024, .f32⟩
  | 26 => ⟨S4x64x1024, .f32⟩
  | 27 => ⟨S4x64x1024, .f32⟩
  | 28 => ⟨S4x32x1024, .f32⟩
  | 29 => ⟨S4x32x1024, .f32⟩
  | 30 => ⟨S4x32x1024, .f32⟩
  | 31 => ⟨S4x32x1024, .f32⟩
  | 32 => ⟨S4x32x1024, .f32⟩
  | 33 => ⟨S4x32x1024, .f32⟩
  | 34 => ⟨S4x32x1024, .f32⟩
  | 35 => ⟨S4x16x1024, .f32⟩
  | 36 => ⟨S4x16x1024, .f32⟩
  | 37 => ⟨S4x16x1024, .f32⟩
  | 38 => ⟨S4x16x1024, .f32⟩
  | 39 => ⟨S4x16x1024, .f32⟩
  | 40 => ⟨S4x16x1024, .f32⟩
  | 41 => ⟨S4x16x1024, .f32⟩
  | 42 => ⟨S4x8x1024, .f32⟩
  | 43 => ⟨S4x8x1024, .f32⟩
  | 44 => ⟨S4x8x1024, .f32⟩
  | 45 => ⟨S4x8x1024, .f32⟩
  | 46 => ⟨S4x8x1024, .f32⟩
  | 47 => ⟨S4x8x1024, .f32⟩
  | 48 => ⟨S4x8x1024, .f32⟩
  | 49 => ⟨S4x4x1024, .f32⟩
  | 50 => ⟨S4x4x1024, .f32⟩
  | 51 => ⟨S4x4x1024, .f32⟩
  | 52 => ⟨S4x4x1024, .f32⟩
  | 53 => ⟨S4x4x1024, .f32⟩
  | 54 => ⟨S4x4x1024, .f32⟩
  | 55 => ⟨S4x4x1024, .f32⟩
  | 56 => ⟨S4x2x1024, .f32⟩
  | 57 => ⟨S4x2x1024, .f32⟩
  | 58 => ⟨S4x2x1024, .f32⟩
  | 59 => ⟨S4x2x1024, .f32⟩
  | 60 => ⟨S4x2x1024, .f32⟩
  | 61 => ⟨S4x2x1024, .f32⟩
  | 62 => ⟨S4x2x1024, .f32⟩
  | 63 => ⟨S4x1x1024, .f32⟩
  | 64 => ⟨S4x1x1024, .f32⟩
  | 65 => ⟨S4x1x1024, .f32⟩
  | 66 => ⟨S4x1x1024, .f32⟩
  | 67 => ⟨S4x1x1024, .f32⟩
  | 68 => ⟨S4x1x1024, .f32⟩
  | 69 => ⟨S4x1x1024, .f32⟩
  | 70 => ⟨S4x0x1024, .f32⟩
  | 71 => ⟨S4x0x1024, .f32⟩
  | 72 => ⟨S4x0x1024, .f32⟩
  | 73 => ⟨S4x0x1024, .f32⟩
  | 74 => ⟨S4x0x1024, .f32⟩
  | 75 => ⟨S4x0x1024, .f32⟩
  | 76 => ⟨S4x0x1024, .f32⟩
  | 77 => ⟨S4x1x1024, .f32⟩
  | 78 => ⟨S4x1x1024, .f32⟩
  | 79 => ⟨S4x1x1024, .f32⟩
  | 80 => ⟨S4x1x1024, .f32⟩
  | 81 => ⟨S_, .f32⟩
  | 82 => ⟨S4x2x1024, .f32⟩
  | 83 => ⟨S_, .f32⟩
  | 84 => ⟨S4x2x1024, .f32⟩
  | 85 => ⟨S4x2x1024, .f32⟩
  | 86 => ⟨S_, .f32⟩
  | 87 => ⟨S4x2x1024, .f32⟩
  | 88 => ⟨S_, .f32⟩
  | 89 => ⟨S4x2x1024, .f32⟩
  | 90 => ⟨S4x2x1024, .f32⟩
  | 91 => ⟨S4x1x1024, .f32⟩
  | 92 => ⟨S4x1x1024, .f32⟩
  | 93 => ⟨S4x1x1024, .f32⟩
  | 94 => ⟨S4x1x1024, .f32⟩
  | 95 => ⟨S4x1x1024, .f32⟩
  | 96 => ⟨S4x1x1024, .f32⟩
  | 97 => ⟨S4x1x1024, .f32⟩
  | 98 => ⟨S4x1x1024, .f32⟩
  | 99 => ⟨S4x2x1024, .f32⟩
  | 100 => ⟨S4x1x1024, .f32⟩
  | 101 => ⟨S4x2x1024, .f32⟩
  | 102 => ⟨S_, .f32⟩
  | 103 => ⟨S4x4x1024, .f32⟩
  | 104 => ⟨S_, .f32⟩
  | 105 => ⟨S4x4x1024, .f32⟩
  | 106 => ⟨S4x4x1024, .f32⟩
  | 107 => ⟨S_, .f32⟩
  | 108 => ⟨S4x4x1024, .f32⟩
  | 109 => ⟨S_, .f32⟩
  | 110 => ⟨S4x4x1024, .f32⟩
  | 111 => ⟨S4x4x1024, .f32⟩
  | 112 => ⟨S4x3x1024, .f32⟩
  | 113 => ⟨S4x3x1024, .f32⟩
  | 114 => ⟨S4x3x1024, .f32⟩
  | 115 => ⟨S4x3x1024, .f32⟩
  | 116 => ⟨S4x3x1024, .f32⟩
  | 117 => ⟨S4x3x1024, .f32⟩
  | 118 => ⟨S4x3x1024, .f32⟩
  | 119 => ⟨S4x1x1024, .f32⟩
  | 120 => ⟨S4x4x1024, .f32⟩
  | 121 => ⟨S4x1x1024, .f32⟩
  | 122 => ⟨S4x4x1024, .f32⟩
  | 123 => ⟨S_, .f32⟩
  | 124 => ⟨S4x8x1024, .f32⟩
  | 125 => ⟨S_, .f32⟩
  | 126 => ⟨S4x8x1024, .f32⟩
  | 127 => ⟨S4x8x1024, .f32⟩
  | _ => ⟨S4x4096x1024, .f32⟩

abbrev hbmTy0_2 (i : Nat) : BufTy := match i % 128 with
  | 0 => ⟨S_, .f32⟩
  | 1 => ⟨S4x8x1024, .f32⟩
  | 2 => ⟨S_, .f32⟩
  | 3 => ⟨S4x8x1024, .f32⟩
  | 4 => ⟨S4x8x1024, .f32⟩
  | 5 => ⟨S4x7x1024, .f32⟩
  | 6 => ⟨S4x7x1024, .f32⟩
  | 7 => ⟨S4x7x1024, .f32⟩
  | 8 => ⟨S4x7x1024, .f32⟩
  | 9 => ⟨S4x7x1024, .f32⟩
  | 10 => ⟨S4x7x1024, .f32⟩
  | 11 => ⟨S4x7x1024, .f32⟩
  | 12 => ⟨S4x1x1024, .f32⟩
  | 13 => ⟨S4x8x1024, .f32⟩
  | 14 => ⟨S4x1x1024, .f32⟩
  | 15 => ⟨S4x8x1024, .f32⟩
  | 16 => ⟨S_, .f32⟩
  | 17 => ⟨S4x16x1024, .f32⟩
  | 18 => ⟨S_, .f32⟩
  | 19 => ⟨S4x16x1024, .f32⟩
  | 20 => ⟨S4x16x1024, .f32⟩
  | 21 => ⟨S_, .f32⟩
  | 22 => ⟨S4x16x1024, .f32⟩
  | 23 => ⟨S_, .f32⟩
  | 24 => ⟨S4x16x1024, .f32⟩
  | 25 => ⟨S4x16x1024, .f32⟩
  | 26 => ⟨S4x15x1024, .f32⟩
  | 27 => ⟨S4x15x1024, .f32⟩
  | 28 => ⟨S4x15x1024, .f32⟩
  | 29 => ⟨S4x15x1024, .f32⟩
  | 30 => ⟨S4x15x1024, .f32⟩
  | 31 => ⟨S4x15x1024, .f32⟩
  | 32 => ⟨S4x15x1024, .f32⟩
  | 33 => ⟨S4x1x1024, .f32⟩
  | 34 => ⟨S4x16x1024, .f32⟩
  | 35 => ⟨S4x1x1024, .f32⟩
  | 36 => ⟨S4x16x1024, .f32⟩
  | 37 => ⟨S_, .f32⟩
  | 38 => ⟨S4x32x1024, .f32⟩
  | 39 => ⟨S_, .f32⟩
  | 40 => ⟨S4x32x1024, .f32⟩
  | 41 => ⟨S4x32x1024, .f32⟩
  | 42 => ⟨S_, .f32⟩
  | 43 => ⟨S4x32x1024, .f32⟩
  | 44 => ⟨S_, .f32⟩
  | 45 => ⟨S4x32x1024, .f32⟩
  | 46 => ⟨S4x32x1024, .f32⟩
  | 47 => ⟨S4x31x1024, .f32⟩
  | 48 => ⟨S4x31x1024, .f32⟩
  | 49 => ⟨S4x31x1024, .f32⟩
  | 50 => ⟨S4x31x1024, .f32⟩
  | 51 => ⟨S4x31x1024, .f32⟩
  | 52 => ⟨S4x31x1024, .f32⟩
  | 53 => ⟨S4x31x1024, .f32⟩
  | 54 => ⟨S4x1x1024, .f32⟩
  | 55 => ⟨S4x32x1024, .f32⟩
  | 56 => ⟨S4x1x1024, .f32⟩
  | 57 => ⟨S4x32x1024, .f32⟩
  | 58 => ⟨S_, .f32⟩
  | 59 => ⟨S4x64x1024, .f32⟩
  | 60 => ⟨S_, .f32⟩
  | 61 => ⟨S4x64x1024, .f32⟩
  | 62 => ⟨S4x64x1024, .f32⟩
  | 63 => ⟨S_, .f32⟩
  | 64 => ⟨S4x64x1024, .f32⟩
  | 65 => ⟨S_, .f32⟩
  | 66 => ⟨S4x64x1024, .f32⟩
  | 67 => ⟨S4x64x1024, .f32⟩
  | 68 => ⟨S4x63x1024, .f32⟩
  | 69 => ⟨S4x63x1024, .f32⟩
  | 70 => ⟨S4x63x1024, .f32⟩
  | 71 => ⟨S4x63x1024, .f32⟩
  | 72 => ⟨S4x63x1024, .f32⟩
  | 73 => ⟨S4x63x1024, .f32⟩
  | 74 => ⟨S4x63x1024, .f32⟩
  | 75 => ⟨S4x1x1024, .f32⟩
  | 76 => ⟨S4x64x1024, .f32⟩
  | 77 => ⟨S4x1x1024, .f32⟩
  | 78 => ⟨S4x64x1024, .f32⟩
  | 79 => ⟨S_, .f32⟩
  | 80 => ⟨S4x128x1024, .f32⟩
  | 81 => ⟨S_, .f32⟩
  | 82 => ⟨S4x128x1024, .f32⟩
  | 83 => ⟨S4x128x1024, .f32⟩
  | 84 => ⟨S_, .f32⟩
  | 85 => ⟨S4x128x1024, .f32⟩
  | 86 => ⟨S_, .f32⟩
  | 87 => ⟨S4x128x1024, .f32⟩
  | 88 => ⟨S4x128x1024, .f32⟩
  | 89 => ⟨S4x127x1024, .f32⟩
  | 90 => ⟨S4x127x1024, .f32⟩
  | 91 => ⟨S4x127x1024, .f32⟩
  | 92 => ⟨S4x127x1024, .f32⟩
  | 93 => ⟨S4x127x1024, .f32⟩
  | 94 => ⟨S4x127x1024, .f32⟩
  | 95 => ⟨S4x127x1024, .f32⟩
  | 96 => ⟨S4x1x1024, .f32⟩
  | 97 => ⟨S4x128x1024, .f32⟩
  | 98 => ⟨S4x1x1024, .f32⟩
  | 99 => ⟨S4x128x1024, .f32⟩
  | 100 => ⟨S_, .f32⟩
  | 101 => ⟨S4x256x1024, .f32⟩
  | 102 => ⟨S_, .f32⟩
  | 103 => ⟨S4x256x1024, .f32⟩
  | 104 => ⟨S4x256x1024, .f32⟩
  | 105 => ⟨S_, .f32⟩
  | 106 => ⟨S4x256x1024, .f32⟩
  | 107 => ⟨S_, .f32⟩
  | 108 => ⟨S4x256x1024, .f32⟩
  | 109 => ⟨S4x256x1024, .f32⟩
  | 110 => ⟨S4x255x1024, .f32⟩
  | 111 => ⟨S4x255x1024, .f32⟩
  | 112 => ⟨S4x255x1024, .f32⟩
  | 113 => ⟨S4x255x1024, .f32⟩
  | 114 => ⟨S4x255x1024, .f32⟩
  | 115 => ⟨S4x255x1024, .f32⟩
  | 116 => ⟨S4x255x1024, .f32⟩
  | 117 => ⟨S4x1x1024, .f32⟩
  | 118 => ⟨S4x256x1024, .f32⟩
  | 119 => ⟨S4x1x1024, .f32⟩
  | 120 => ⟨S4x256x1024, .f32⟩
  | 121 => ⟨S_, .f32⟩
  | 122 => ⟨S4x512x1024, .f32⟩
  | 123 => ⟨S_, .f32⟩
  | 124 => ⟨S4x512x1024, .f32⟩
  | 125 => ⟨S4x512x1024, .f32⟩
  | 126 => ⟨S_, .f32⟩
  | 127 => ⟨S4x512x1024, .f32⟩
  | _ => ⟨S4x4096x1024, .f32⟩

abbrev hbmTy0_3 (i : Nat) : BufTy := match i % 128 with
  | 0 => ⟨S_, .f32⟩
  | 1 => ⟨S4x512x1024, .f32⟩
  | 2 => ⟨S4x512x1024, .f32⟩
  | 3 => ⟨S4x511x1024, .f32⟩
  | 4 => ⟨S4x511x1024, .f32⟩
  | 5 => ⟨S4x511x1024, .f32⟩
  | 6 => ⟨S4x511x1024, .f32⟩
  | 7 => ⟨S4x511x1024, .f32⟩
  | 8 => ⟨S4x511x1024, .f32⟩
  | 9 => ⟨S4x511x1024, .f32⟩
  | 10 => ⟨S4x1x1024, .f32⟩
  | 11 => ⟨S4x512x1024, .f32⟩
  | 12 => ⟨S4x1x1024, .f32⟩
  | 13 => ⟨S4x512x1024, .f32⟩
  | 14 => ⟨S_, .f32⟩
  | 15 => ⟨S4x1024x1024, .f32⟩
  | 16 => ⟨S_, .f32⟩
  | 17 => ⟨S4x1024x1024, .f32⟩
  | 18 => ⟨S4x1024x1024, .f32⟩
  | 19 => ⟨S_, .f32⟩
  | 20 => ⟨S4x1024x1024, .f32⟩
  | 21 => ⟨S_, .f32⟩
  | 22 => ⟨S4x1024x1024, .f32⟩
  | 23 => ⟨S4x1024x1024, .f32⟩
  | 24 => ⟨S4x1023x1024, .f32⟩
  | 25 => ⟨S4x1023x1024, .f32⟩
  | 26 => ⟨S4x1023x1024, .f32⟩
  | 27 => ⟨S4x1023x1024, .f32⟩
  | 28 => ⟨S4x1023x1024, .f32⟩
  | 29 => ⟨S4x1023x1024, .f32⟩
  | 30 => ⟨S4x1023x1024, .f32⟩
  | 31 => ⟨S4x1x1024, .f32⟩
  | 32 => ⟨S4x1024x1024, .f32⟩
  | 33 => ⟨S4x1x1024, .f32⟩
  | 34 => ⟨S4x1024x1024, .f32⟩
  | 35 => ⟨S_, .f32⟩
  | 36 => ⟨S4x2048x1024, .f32⟩
  | 37 => ⟨S_, .f32⟩
  | 38 => ⟨S4x2048x1024, .f32⟩
  | 39 => ⟨S4x2048x1024, .f32⟩
  | 40 => ⟨S_, .f32⟩
  | 41 => ⟨S4x2048x1024, .f32⟩
  | 42 => ⟨S_, .f32⟩
  | 43 => ⟨S4x2048x1024, .f32⟩
  | 44 => ⟨S4x2048x1024, .f32⟩
  | 45 => ⟨S4x2047x1024, .f32⟩
  | 46 => ⟨S4x2047x1024, .f32⟩
  | 47 => ⟨S4x2047x1024, .f32⟩
  | 48 => ⟨S4x2047x1024, .f32⟩
  | 49 => ⟨S4x2047x1024, .f32⟩
  | 50 => ⟨S4x2047x1024, .f32⟩
  | 51 => ⟨S4x2047x1024, .f32⟩
  | 52 => ⟨S4x1x1024, .f32⟩
  | 53 => ⟨S4x2048x1024, .f32⟩
  | 54 => ⟨S4x1x1024, .f32⟩
  | 55 => ⟨S4x2048x1024, .f32⟩
  | 56 => ⟨S_, .f32⟩
  | 57 => ⟨S4x4096x1024, .f32⟩
  | 58 => ⟨S_, .f32⟩
  | 59 => ⟨S4x4096x1024, .f32⟩
  | 60 => ⟨S4x4096x1024, .f32⟩
  | 61 => ⟨S_, .f32⟩
  | 62 => ⟨S4x4096x1024, .f32⟩
  | 63 => ⟨S_, .f32⟩
  | 64 => ⟨S4x4096x1024, .f32⟩
  | 65 => ⟨S4x4096x1024, .f32⟩
  | 66 => ⟨S4x1x1024, .f32⟩
  | 67 => ⟨S4x1024, .f32⟩
  | 68 => ⟨S4x4096x1024, .f32⟩
  | 69 => ⟨S4x4096x1024, .bf16⟩
  | 70 => ⟨S16384x1024, .bf16⟩
  | 71 => ⟨S1x4x1024, .f32⟩
  | _ => ⟨S4x4096x1024, .f32⟩

abbrev hbmTy (i : Nat) : BufTy := match i / 128 with
  | 0 => hbmTy0_0 i
  | 1 => hbmTy0_1 i
  | 2 => hbmTy0_2 i
  | 3 => hbmTy0_3 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_2 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_call0_v0 : Ref sig .tc := ⟨.hbm, 80, rfl⟩
abbrev main_call0_call0_cst : Ref sig .tc := ⟨.hbm, 81, rfl⟩
abbrev main_call0_call0_v0 : Ref sig .tc := ⟨.hbm, 82, rfl⟩
abbrev main_call0_call0_v1 : Ref sig .tc := ⟨.hbm, 83, rfl⟩
abbrev main_call0_call0_v2 : Ref sig .tc := ⟨.hbm, 84, rfl⟩
abbrev main_call0_call0_v3 : Ref sig .tc := ⟨.hbm, 85, rfl⟩
abbrev main_call0_call0_v4 : Ref sig .tc := ⟨.hbm, 86, rfl⟩
abbrev main_call0_call0_v5 : Ref sig .tc := ⟨.hbm, 87, rfl⟩
abbrev main_call0_call0_v6 : Ref sig .tc := ⟨.hbm, 88, rfl⟩
abbrev main_call0_call0_v7 : Ref sig .tc := ⟨.hbm, 89, rfl⟩
abbrev main_call0_call0_v8 : Ref sig .tc := ⟨.hbm, 90, rfl⟩
abbrev main_call0_call0_v9 : Ref sig .tc := ⟨.hbm, 91, rfl⟩
abbrev main_call0_call0_v10 : Ref sig .tc := ⟨.hbm, 92, rfl⟩
abbrev main_call0_call0_v11 : Ref sig .tc := ⟨.hbm, 93, rfl⟩
abbrev main_call0_v1 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_7 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_cst_8 : Ref sig .tc := ⟨.hbm, 209, rfl⟩
abbrev main_v175 : Ref sig .tc := ⟨.hbm, 210, rfl⟩
abbrev main_cst_9 : Ref sig .tc := ⟨.hbm, 211, rfl⟩
abbrev main_v176 : Ref sig .tc := ⟨.hbm, 212, rfl⟩
abbrev main_v177 : Ref sig .tc := ⟨.hbm, 213, rfl⟩
abbrev main_cst_10 : Ref sig .tc := ⟨.hbm, 214, rfl⟩
abbrev main_v178 : Ref sig .tc := ⟨.hbm, 215, rfl⟩
abbrev main_cst_11 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_cst_12 : Ref sig .tc := ⟨.hbm, 230, rfl⟩
abbrev main_v192 : Ref sig .tc := ⟨.hbm, 231, rfl⟩
abbrev main_cst_13 : Ref sig .tc := ⟨.hbm, 232, rfl⟩
abbrev main_v193 : Ref sig .tc := ⟨.hbm, 233, rfl⟩
abbrev main_v194 : Ref sig .tc := ⟨.hbm, 234, rfl⟩
abbrev main_cst_14 : Ref sig .tc := ⟨.hbm, 235, rfl⟩
abbrev main_v195 : Ref sig .tc := ⟨.hbm, 236, rfl⟩
abbrev main_cst_15 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_cst_16 : Ref sig .tc := ⟨.hbm, 251, rfl⟩
abbrev main_v209 : Ref sig .tc := ⟨.hbm, 252, rfl⟩
abbrev main_cst_17 : Ref sig .tc := ⟨.hbm, 253, rfl⟩
abbrev main_v210 : Ref sig .tc := ⟨.hbm, 254, rfl⟩
abbrev main_v211 : Ref sig .tc := ⟨.hbm, 255, rfl⟩
abbrev main_cst_18 : Ref sig .tc := ⟨.hbm, 256, rfl⟩
abbrev main_v212 : Ref sig .tc := ⟨.hbm, 257, rfl⟩
abbrev main_cst_19 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_cst_20 : Ref sig .tc := ⟨.hbm, 272, rfl⟩
abbrev main_v226 : Ref sig .tc := ⟨.hbm, 273, rfl⟩
abbrev main_cst_21 : Ref sig .tc := ⟨.hbm, 274, rfl⟩
abbrev main_v227 : Ref sig .tc := ⟨.hbm, 275, rfl⟩
abbrev main_v228 : Ref sig .tc := ⟨.hbm, 276, rfl⟩
abbrev main_cst_22 : Ref sig .tc := ⟨.hbm, 277, rfl⟩
abbrev main_v229 : Ref sig .tc := ⟨.hbm, 278, rfl⟩
abbrev main_cst_23 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_cst_24 : Ref sig .tc := ⟨.hbm, 293, rfl⟩
abbrev main_v243 : Ref sig .tc := ⟨.hbm, 294, rfl⟩
abbrev main_cst_25 : Ref sig .tc := ⟨.hbm, 295, rfl⟩
abbrev main_v244 : Ref sig .tc := ⟨.hbm, 296, rfl⟩
abbrev main_v245 : Ref sig .tc := ⟨.hbm, 297, rfl⟩
abbrev main_cst_26 : Ref sig .tc := ⟨.hbm, 298, rfl⟩
abbrev main_v246 : Ref sig .tc := ⟨.hbm, 299, rfl⟩
abbrev main_cst_27 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_cst_28 : Ref sig .tc := ⟨.hbm, 314, rfl⟩
abbrev main_v260 : Ref sig .tc := ⟨.hbm, 315, rfl⟩
abbrev main_cst_29 : Ref sig .tc := ⟨.hbm, 316, rfl⟩
abbrev main_v261 : Ref sig .tc := ⟨.hbm, 317, rfl⟩
abbrev main_v262 : Ref sig .tc := ⟨.hbm, 318, rfl⟩
abbrev main_cst_30 : Ref sig .tc := ⟨.hbm, 319, rfl⟩
abbrev main_v263 : Ref sig .tc := ⟨.hbm, 320, rfl⟩
abbrev main_cst_31 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_cst_32 : Ref sig .tc := ⟨.hbm, 335, rfl⟩
abbrev main_v277 : Ref sig .tc := ⟨.hbm, 336, rfl⟩
abbrev main_cst_33 : Ref sig .tc := ⟨.hbm, 337, rfl⟩
abbrev main_v278 : Ref sig .tc := ⟨.hbm, 338, rfl⟩
abbrev main_v279 : Ref sig .tc := ⟨.hbm, 339, rfl⟩
abbrev main_cst_34 : Ref sig .tc := ⟨.hbm, 340, rfl⟩
abbrev main_v280 : Ref sig .tc := ⟨.hbm, 341, rfl⟩
abbrev main_cst_35 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_cst_36 : Ref sig .tc := ⟨.hbm, 356, rfl⟩
abbrev main_v294 : Ref sig .tc := ⟨.hbm, 357, rfl⟩
abbrev main_cst_37 : Ref sig .tc := ⟨.hbm, 358, rfl⟩
abbrev main_v295 : Ref sig .tc := ⟨.hbm, 359, rfl⟩
abbrev main_v296 : Ref sig .tc := ⟨.hbm, 360, rfl⟩
abbrev main_cst_38 : Ref sig .tc := ⟨.hbm, 361, rfl⟩
abbrev main_v297 : Ref sig .tc := ⟨.hbm, 362, rfl⟩
abbrev main_cst_39 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev main_v307 : Ref sig .tc := ⟨.hbm, 373, rfl⟩
abbrev main_v308 : Ref sig .tc := ⟨.hbm, 374, rfl⟩
abbrev main_v309 : Ref sig .tc := ⟨.hbm, 375, rfl⟩
abbrev main_v310 : Ref sig .tc := ⟨.hbm, 376, rfl⟩
abbrev main_cst_40 : Ref sig .tc := ⟨.hbm, 377, rfl⟩
abbrev main_v311 : Ref sig .tc := ⟨.hbm, 378, rfl⟩
abbrev main_cst_41 : Ref sig .tc := ⟨.hbm, 379, rfl⟩
abbrev main_v312 : Ref sig .tc := ⟨.hbm, 380, rfl⟩
abbrev main_v313 : Ref sig .tc := ⟨.hbm, 381, rfl⟩
abbrev main_cst_42 : Ref sig .tc := ⟨.hbm, 382, rfl⟩
abbrev main_v314 : Ref sig .tc := ⟨.hbm, 383, rfl⟩
abbrev main_cst_43 : Ref sig .tc := ⟨.hbm, 384, rfl⟩
abbrev main_v315 : Ref sig .tc := ⟨.hbm, 385, rfl⟩
abbrev main_v316 : Ref sig .tc := ⟨.hbm, 386, rfl⟩
abbrev main_v317 : Ref sig .tc := ⟨.hbm, 387, rfl⟩
abbrev main_v318 : Ref sig .tc := ⟨.hbm, 388, rfl⟩
abbrev main_v319 : Ref sig .tc := ⟨.hbm, 389, rfl⟩
abbrev main_v320 : Ref sig .tc := ⟨.hbm, 390, rfl⟩
abbrev main_v321 : Ref sig .tc := ⟨.hbm, 391, rfl⟩
abbrev main_v322 : Ref sig .tc := ⟨.hbm, 392, rfl⟩
abbrev main_v323 : Ref sig .tc := ⟨.hbm, 393, rfl⟩
abbrev main_v324 : Ref sig .tc := ⟨.hbm, 394, rfl⟩
abbrev main_v325 : Ref sig .tc := ⟨.hbm, 395, rfl⟩
abbrev main_v326 : Ref sig .tc := ⟨.hbm, 396, rfl⟩
abbrev main_v327 : Ref sig .tc := ⟨.hbm, 397, rfl⟩
abbrev main_cst_44 : Ref sig .tc := ⟨.hbm, 398, rfl⟩
abbrev main_v328 : Ref sig .tc := ⟨.hbm, 399, rfl⟩
abbrev main_cst_45 : Ref sig .tc := ⟨.hbm, 400, rfl⟩
abbrev main_v329 : Ref sig .tc := ⟨.hbm, 401, rfl⟩
abbrev main_v330 : Ref sig .tc := ⟨.hbm, 402, rfl⟩
abbrev main_cst_46 : Ref sig .tc := ⟨.hbm, 403, rfl⟩
abbrev main_v331 : Ref sig .tc := ⟨.hbm, 404, rfl⟩
abbrev main_cst_47 : Ref sig .tc := ⟨.hbm, 405, rfl⟩
abbrev main_v332 : Ref sig .tc := ⟨.hbm, 406, rfl⟩
abbrev main_v333 : Ref sig .tc := ⟨.hbm, 407, rfl⟩
abbrev main_v334 : Ref sig .tc := ⟨.hbm, 408, rfl⟩
abbrev main_v335 : Ref sig .tc := ⟨.hbm, 409, rfl⟩
abbrev main_v336 : Ref sig .tc := ⟨.hbm, 410, rfl⟩
abbrev main_v337 : Ref sig .tc := ⟨.hbm, 411, rfl⟩
abbrev main_v338 : Ref sig .tc := ⟨.hbm, 412, rfl⟩
abbrev main_v339 : Ref sig .tc := ⟨.hbm, 413, rfl⟩
abbrev main_v340 : Ref sig .tc := ⟨.hbm, 414, rfl⟩
abbrev main_v341 : Ref sig .tc := ⟨.hbm, 415, rfl⟩
abbrev main_v342 : Ref sig .tc := ⟨.hbm, 416, rfl⟩
abbrev main_v343 : Ref sig .tc := ⟨.hbm, 417, rfl⟩
abbrev main_v344 : Ref sig .tc := ⟨.hbm, 418, rfl⟩
abbrev main_cst_48 : Ref sig .tc := ⟨.hbm, 419, rfl⟩
abbrev main_v345 : Ref sig .tc := ⟨.hbm, 420, rfl⟩
abbrev main_cst_49 : Ref sig .tc := ⟨.hbm, 421, rfl⟩
abbrev main_v346 : Ref sig .tc := ⟨.hbm, 422, rfl⟩
abbrev main_v347 : Ref sig .tc := ⟨.hbm, 423, rfl⟩
abbrev main_cst_50 : Ref sig .tc := ⟨.hbm, 424, rfl⟩
abbrev main_v348 : Ref sig .tc := ⟨.hbm, 425, rfl⟩
abbrev main_cst_51 : Ref sig .tc := ⟨.hbm, 426, rfl⟩
abbrev main_v349 : Ref sig .tc := ⟨.hbm, 427, rfl⟩
abbrev main_v350 : Ref sig .tc := ⟨.hbm, 428, rfl⟩
abbrev main_v351 : Ref sig .tc := ⟨.hbm, 429, rfl⟩
abbrev main_v352 : Ref sig .tc := ⟨.hbm, 430, rfl⟩
abbrev main_v353 : Ref sig .tc := ⟨.hbm, 431, rfl⟩
abbrev main_v354 : Ref sig .tc := ⟨.hbm, 432, rfl⟩
abbrev main_v355 : Ref sig .tc := ⟨.hbm, 433, rfl⟩
abbrev main_v356 : Ref sig .tc := ⟨.hbm, 434, rfl⟩
abbrev main_v357 : Ref sig .tc := ⟨.hbm, 435, rfl⟩
abbrev main_v358 : Ref sig .tc := ⟨.hbm, 436, rfl⟩
abbrev main_v359 : Ref sig .tc := ⟨.hbm, 437, rfl⟩
abbrev main_v360 : Ref sig .tc := ⟨.hbm, 438, rfl⟩
abbrev main_v361 : Ref sig .tc := ⟨.hbm, 439, rfl⟩
abbrev main_cst_52 : Ref sig .tc := ⟨.hbm, 440, rfl⟩
abbrev main_v362 : Ref sig .tc := ⟨.hbm, 441, rfl⟩
abbrev main_cst_53 : Ref sig .tc := ⟨.hbm, 442, rfl⟩
abbrev main_v363 : Ref sig .tc := ⟨.hbm, 443, rfl⟩
abbrev main_v364 : Ref sig .tc := ⟨.hbm, 444, rfl⟩
abbrev main_cst_54 : Ref sig .tc := ⟨.hbm, 445, rfl⟩
abbrev main_v365 : Ref sig .tc := ⟨.hbm, 446, rfl⟩
abbrev main_cst_55 : Ref sig .tc := ⟨.hbm, 447, rfl⟩
abbrev main_v366 : Ref sig .tc := ⟨.hbm, 448, rfl⟩
abbrev main_v367 : Ref sig .tc := ⟨.hbm, 449, rfl⟩
abbrev main_v368 : Ref sig .tc := ⟨.hbm, 450, rfl⟩
abbrev main_v369 : Ref sig .tc := ⟨.hbm, 451, rfl⟩
abbrev main_v370 : Ref sig .tc := ⟨.hbm, 452, rfl⟩
abbrev main_v371 : Ref sig .tc := ⟨.hbm, 453, rfl⟩
abbrev main_v372 : Ref sig .tc := ⟨.hbm, 454, rfl⟩
abbrev main_v373 : Ref sig .tc := ⟨.hbm, 455, rfl⟩

abbrev nD : Nat := 1
abbrev τ : Topo := Topo.v7x

variable {F : FTy → Type} [FloatOps F]
-- ==== Proof.Softmax.lean ====
/- One row of the attention, as an equation over the extended reals. The kernel forms the weighted sum of the values with
   the unnormalised weights and divides once; the reference divides every weight by the denominator and then sums. The
   sink is one more logit without a value: the kernel adds it to the maximum and to the denominator by hand, the reference
   puts it at the end of the row. -/
module

public import Idealize.ShloMosaic.Lib.Pointwise

@[expose] public section

noncomputable section

namespace Cert.Softmax

open Idealize.ShloMosaic

/-- The kernel's row: the maximum of the logits `s` and the sink `z`. -/
def top {n : ℕ} (s : Fin n → EReal) (z : EReal) : EReal := max (Finset.univ.fold max ⊥ s) z

/-- The kernel's row: the weights' sum, the sink's weight included. -/
def den {n : ℕ} (s : Fin n → EReal) (z : EReal) : EReal :=
  (∑ j, Ideal.exp (s j - top s z)) + Ideal.exp (z - top s z)

/-- The kernel's row: one entry of the output, from the logits, the sink and the values. -/
def row {n : ℕ} (s : Fin n → EReal) (z : EReal) (v : Fin n → EReal) : EReal :=
  Ideal.div (∑ j, Ideal.exp (s j - top s z) * v j) (den s z)

theorem exp_nonneg (x : EReal) : 0 ≤ Ideal.exp x := by
  induction x using EReal.rec with
  | bot => exact le_refl _
  | top => exact le_top
  | coe r => exact EReal.coe_nonneg.2 (Real.exp_pos r).le

/-- A sum times a factor that is neither negative nor infinite, term by term. -/
theorem sum_mul_right {ι : Type*} (u : Finset ι) (f : ι → EReal) {c : EReal} (h0 : 0 ≤ c) (ht : c ≠ ⊤) :
    (∑ j ∈ u, f j) * c = ∑ j ∈ u, f j * c := by
  classical
  induction u using Finset.induction with
  | empty => simp
  | insert a u ha ih =>
    rw [Finset.sum_insert ha, Finset.sum_insert ha, EReal.right_distrib_of_nonneg_of_ne_top h0 ht, ih]

theorem inv_nonneg {d : EReal} (h : 0 ≤ d) : 0 ≤ d⁻¹ := EReal.inv_nonneg_of_nonneg h

theorem inv_ne_top {d : EReal} (h : 0 ≤ d) : d⁻¹ ≠ ⊤ := by
  induction d using EReal.rec with
  | bot => simp
  | top => simp
  | coe r => rw [← EReal.coe_inv]; exact EReal.coe_ne_top _

theorem fold_ne_top {n : ℕ} (s : Fin n → EReal) (hs : ∀ j, s j ≠ ⊤) : Finset.univ.fold max ⊥ s ≠ ⊤ := by
  have : Finset.univ.sup s < ⊤ := (Finset.sup_lt_iff bot_lt_top).2 fun j _ => lt_top_iff_ne_top.2 (hs j)
  exact this.ne

/-- The row's maximum is a real number where no logit is `⊤` and the sink is real. -/
theorem top_real {n : ℕ} (s : Fin n → EReal) (hs : ∀ j, s j ≠ ⊤) (z : ℝ) : ∃ r : ℝ, top s z = r := by
  have h1 : top s z ≠ ⊤ := by
    rcases max_choice (Finset.univ.fold max ⊥ s) (z : EReal) with h | h
    · rw [top, h]; exact fold_ne_top s hs
    · rw [top, h]; exact EReal.coe_ne_top z
  have h2 : top s z ≠ ⊥ := fun h => EReal.coe_ne_bot z (le_bot_iff.1 (h ▸ le_max_right _ _))
  exact ⟨(top s z).toReal, (EReal.coe_toReal h1 h2).symm⟩

/-- The denominator is positive: the sink's own weight is. -/
theorem den_pos {n : ℕ} (s : Fin n → EReal) (hs : ∀ j, s j ≠ ⊤) (z : ℝ) : 0 < den s z := by
  obtain ⟨r, hr⟩ := top_real s hs z
  have h : 0 < Ideal.exp ((z : EReal) - top s z) := by
    rw [hr, ← EReal.coe_sub]
    exact EReal.coe_pos.2 (Real.exp_pos _)
  exact lt_of_lt_of_le h (le_add_of_nonneg_left (Finset.sum_nonneg fun j _ => exp_nonneg _))

/-- THE ROW: dividing the weighted sum is summing the divided weights; where a logit is `⊥` the weight is zero, so that
    the value there does not matter. -/
theorem row_eq {n : ℕ} (s : Fin n → EReal) (hs : ∀ j, s j ≠ ⊤) (z : ℝ) (v v' : Fin n → EReal)
    (hv : ∀ j, s j = ⊥ ∨ v j = v' j) :
    row s z v = ∑ j, v' j * Ideal.div (Ideal.exp (s j - top s z)) (den s z) := by
  have hd := den_pos s hs z
  simp only [row, Ideal.div, if_neg hd.ne']
  rw [sum_mul_right _ _ (inv_nonneg hd.le) (inv_ne_top hd.le)]
  refine Finset.sum_congr rfl fun j _ => ?_
  rcases hv j with h | h
  · rw [h, EReal.bot_sub]
    show (0 : EReal) * _ * _ = _ * (0 * _)
    rw [zero_mul, zero_mul, mul_zero]
  · rw [h, mul_assoc, mul_comm, mul_assoc]
    congr 1
    rw [mul_comm]

/-- The maximum of a row with the sink put at its end. -/
theorem fold_snoc {n : ℕ} (t : Fin (n + 1) → EReal) :
    Finset.univ.fold max ⊥ t = top (fun j : Fin n => t j.castSucc) (t (Fin.last n)) := by
  show Finset.univ.sup t = max (Finset.univ.sup fun j : Fin n => t j.castSucc) (t (Fin.last n))
  apply le_antisymm
  · refine Finset.sup_le fun j _ => ?_
    induction j using Fin.lastCases with
    | last => exact le_max_right _ _
    | cast j => exact le_max_of_le_left (Finset.le_sup (f := fun j : Fin n => t j.castSucc) (Finset.mem_univ j))
  · exact max_le (Finset.sup_le fun j _ => Finset.le_sup (Finset.mem_univ _)) (Finset.le_sup (Finset.mem_univ _))

/-- The denominator of a row with the sink put at its end. -/
theorem den_snoc {n : ℕ} (t : Fin (n + 1) → EReal) :
    ∑ k, Ideal.exp (t k - Finset.univ.fold max ⊥ t) = den (fun j : Fin n => t j.castSucc) (t (Fin.last n)) := by
  rw [fold_snoc, Fin.sum_univ_castSucc, den]

end Cert.Softmax

end
-- ==== Proof.Head.lean ====
/- One head of the kernel's body: the body computes its sixteen heads by the same lines, at sixteen column offsets of the
   queries and four of the keys and values; here they are written once, at any offset, and read at an index. -/
module

public import proofs.«01_k».proof.Proof.Gen.KernelIdeal.Value
public import proofs.«01_k».proof.Proof.Softmax
public import Idealize.ShloMosaic.Lib.Pointwise
public import Idealize.ShloMosaic.Lib.Pipeline.ValueKit

@[expose] public section

set_option maxRecDepth 16384

noncomputable section

namespace Cert.KernelIdeal.Head
open Cert.KernelIdeal Cert.KernelIdeal.Gen
open Idealize.ShloMosaic Idealize.ShloMosaic.TcCoe Idealize.SL.Sem Idealize.ShloMosaic.Pointwise

/-- A head's logits: the queries' columns from `oq`, the keys' from `ok`, the slope `sl`, under the mask. -/
def score (i : grid0.Coords) (k0 k1 : FVec Ideal S128x256 .f32) (q : FVec Ideal S128x1024 .bf16) (sl : EReal) (oq ok : ℕ)
    (hq : S128x1024.Slices ![0, oq] S128x64) (hk : S256x256.Slices ![0, ok] S256x64) : FVec Ideal S128x256 .f32 :=
  select (k0_pay10 i)
    (subf (matmul dot_S128x64_S256x64_S128x256_1_1_0_0_n_n none
        (extractStridedSlice S128x64 ![0, oq] (k0_pay14 (F := Ideal) q) hq : FVec Ideal S128x64 .bf16)
        (extractStridedSlice S256x64 ![0, ok] (k0_pay12 (F := Ideal) k0 k1) hk : FVec Ideal S256x64 .bf16)
        (constant S128x256 .f32 0x00000000#32))
      (mulf (broadcast S128x256 sl) (k0_pay11 (F := Ideal))))
    (broadcast S128x256 (Named.named (F := Ideal) κ "mask" 0xF149F2CA#32))

/-- A head's row maxima, the sink `z` included. -/
def mx (s : FVec Ideal S128x256 .f32) (z : EReal) : FVec Ideal S128x1 .f32 :=
  maximumf (shapeCast S128x1 (multiReduction .maximumf [1] S128 s 0xFF800000#32 reduces_S128x256_S128 (.inl rfl) rfl)
    shapeCasts_S128_S128x1) (broadcast S128x1 z)

/-- A head's weights, not yet divided. -/
def wt (s : FVec Ideal S128x256 .f32) (m : FVec Ideal S128x1 .f32) : FVec Ideal S128x256 .f32 :=
  exp (subf s (broadcastTo S128x256 m broadcasts_S128x1_S128x256))

/-- A head's denominators. -/
def dn (m : FVec Ideal S128x1 .f32) (p : FVec Ideal S128x256 .f32) (z : EReal) : FVec Ideal S128x1 .f32 :=
  addf (shapeCast S128x1 (multiReduction .add [1] S128 p 0x00000000#32 reduces_S128x256_S128 (.inl rfl) rfl)
    shapeCasts_S128_S128x1) (exp (subf (broadcast S128x1 z) m))

/-- A head's output: the weighted sums of the values' columns from `ok`, divided by the denominators. -/
def outv (v0 v1 : FVec Ideal S128x256 .f32) (p : FVec Ideal S128x256 .f32) (d : FVec Ideal S128x1 .f32) (ok : ℕ)
    (hk : S256x256.Slices ![0, ok] S256x64) : FVec Ideal S128x64 .f32 :=
  divf (matmul dot_S128x256_S256x64_S128x64_1_0_0_1_n_n none (truncf .bf16 p bitsLt_bf16_f32)
      (extractStridedSlice S256x64 ![0, ok] (k0_pay13 (F := Ideal) v0 v1) hk : FVec Ideal S256x64 .bf16)
      (constant S128x64 .f32 0x00000000#32))
    (broadcastTo S128x64 d broadcasts_S128x1_S128x64)

/-- A head, from its blocks. -/
def head (i : grid0.Coords) (k0 k1 v0 v1 : FVec Ideal S128x256 .f32) (q : FVec Ideal S128x1024 .bf16) (sl z : EReal)
    (oq ok : ℕ) (hq : S128x1024.Slices ![0, oq] S128x64) (hk : S256x256.Slices ![0, ok] S256x64) : FVec Ideal S128x64 .f32 :=
  outv v0 v1 (wt (score i k0 k1 q sl oq ok hq hk) (mx (score i k0 k1 q sl oq ok hq hk) z))
    (dn (mx (score i k0 k1 q sl oq ok hq hk) z) (wt (score i k0 k1 q sl oq ok hq hk) (mx (score i k0 k1 q sl oq ok hq hk) z)) z)
    ok hk

theorem slices_q (h : Fin 16) : S128x1024.Slices ![0, 64 * h.val] S128x64 := by
  revert h; decide
theorem slices_k (h : Fin 16) : S256x256.Slices ![0, 64 * (h.val / 4)] S256x64 := by
  revert h; decide

/-- Head `h` of the sixteen: its queries' columns from `64 h`, its keys' and values' from `64 (h / 4)`. -/
def headAt (i : grid0.Coords) (k0 k1 v0 v1 : FVec Ideal S128x256 .f32) (q : FVec Ideal S128x1024 .bf16)
    (sl z : FVec Ideal S16 .f32) (h : Fin 16) : FVec Ideal S128x64 .f32 :=
  head i k0 k1 v0 v1 q (sl (ix1 h)) (z (ix1 h)) (64 * h.val) (64 * (h.val / 4)) (slices_q h) (slices_k h)

/-- A scalar read from one of the two tables of sixteen. -/
theorem ld_scalar (x : FVec Ideal S16 .f32) (h : ℕ) (hi) (hp) :
    View.ld (Val := Elt Ideal) (e' := .f32) x (Rect.unit (s := S16) ![h] ![1] hi) (Shape.Idx.first hp)
      = x (ix1 ⟨h, by have := hi 0; change h + 1 ≤ 16 at this; omega⟩) :=
  View.ld_unit_apply_of _ _ _ _ _ _ fun a => by
    have := Fin.fin_one_eq_zero a; subst this; rfl

/-- The sixteen heads side by side, at an index. -/
theorem pay8_apply (f : Fin 16 → FVec Ideal S128x64 .f32) (y : S128x1024.Idx) :
    k0_pay8 (F := Ideal) (f 0) (f 1) (f 2) (f 3) (f 4) (f 5) (f 6) (f 7) (f 8) (f 9) (f 10) (f 11) (f 12) (f 13) (f 14) (f 15) y
      = f ⟨(y 1).val / 64, by have := (y 1).isLt; change _ < 1024 at this; omega⟩
          (ix2 (y 0) ⟨(y 1).val % 64, Nat.mod_lt _ (by norm_num)⟩) :=
  concatenate_ofFn_apply (s₁ := S128x64) (t := S128x1024) 1 f
    concatenates_S128x64_S128x64_S128x64_S128x64_S128x64_S128x64_S128x64_S128x64_S128x64_S128x64_S128x64_S128x64_S128x64_S128x64_S128x64_S128x64_S128x1024_d1
    rfl 64 rfl y _ rfl _ rfl fun b hb => by
      match b with
      | ⟨0, _⟩ => rfl
      | ⟨1, _⟩ => exact absurd rfl hb

variable (m : (ℓ : Loc nD τ sig) → Buf (Elt Ideal) ℓ)

theorem inb (h : Fin 16) : ∀ a : Fin S16.rank, (![h.val] : Fin 1 → ℕ) a + (![1] : Fin 1 → ℕ) a ≤ S16.size a := by
  revert h; decide

/-- The heads of grid point `t`, from the input blocks there. -/
def hd (c : Dev nD) (t : Fin cfg0.N) (h : Fin 16) : FVec Ideal S128x64 .f32 :=
  head (grid0.coords t) (iblk m c 3 t) (iblk m c 4 t) (iblk m c 5 t) (iblk m c 6 t) (iblk m c 2 t)
    (View.ld (Val := Elt Ideal) (e' := .f32) (S := S16) (iblk m c 0 t) (Rect.unit (s := S16) ![h.val] ![1] (inb h)) (Shape.Idx.first (by decide +revert)))
    (View.ld (Val := Elt Ideal) (e' := .f32) (S := S16) (iblk m c 1 t) (Rect.unit (s := S16) ![h.val] ![1] (inb h)) (Shape.Idx.first (by decide +revert)))
    (64 * h.val) (64 * (h.val / 4)) (slices_q h) (slices_k h)

theorem hd_eq (c : Dev nD) (t : Fin cfg0.N) (h : Fin 16) : hd m c t h
    = headAt (grid0.coords t) (iblk m c 3 t) (iblk m c 4 t) (iblk m c 5 t) (iblk m c 6 t) (iblk m c 2 t) (iblk m c 0 t) (iblk m c 1 t) h := by
  unfold hd headAt
  rw [ld_scalar, ld_scalar]

/-- What the body leaves at point `t`: the sixteen heads side by side. -/
theorem outs_eq (c : Dev nD) (t : Fin cfg0.N) (y : S128x1024.Idx) :
    outsAt0 m c t y = headAt (grid0.coords t) (iblk m c 3 t) (iblk m c 4 t) (iblk m c 5 t) (iblk m c 6 t) (iblk m c 2 t)
        (iblk m c 0 t) (iblk m c 1 t) ⟨(y 1).val / 64, by have := (y 1).isLt; change _ < 1024 at this; omega⟩
          (ix2 (y 0) ⟨(y 1).val % 64, Nat.mod_lt _ (by norm_num)⟩) := by
  rw [← hd_eq]
  refine Eq.trans ?_ (pay8_apply (hd m c t) y)
  unfold outsAt0; frame_out
  rfl

end Cert.KernelIdeal.Head

end
-- ==== Proof.HeadAt.lean ====
/- A head of the kernel's body read at an index: the row of `Softmax.row` over its logits. -/
module

public import proofs.«01_k».proof.Proof.Head

@[expose] public section

set_option maxRecDepth 16384

noncomputable section

namespace Cert.KernelIdeal.Head
open Cert.KernelIdeal Cert.KernelIdeal.Gen
open Idealize.ShloMosaic Idealize.ShloMosaic.TcCoe Idealize.SL.Sem Idealize.ShloMosaic.Pointwise

/-- The two blocks of keys (or values) one above the other, read at a row and a column. -/
def two (x0 x1 : FVec Ideal S128x256 .f32) (j : Fin 256) (e : Fin 256) : EReal :=
  if h : j.val < 128 then x0 (ix2 ⟨j.val, h⟩ e) else x1 (ix2 ⟨j.val - 128, by omega⟩ e)

/-- The distance word from query `r` to key `j`. -/
def dword (r : Fin 128) (j : Fin 256) : BitVec 32 :=
  IntOp.subi (IntOp.addi (128#32) (BitVec.ofNat 32 r.val)) (BitVec.ofNat 32 j.val)

/-- The mask word of query `r` and key `j` of block `n` of a sequence. -/
def mword (n : ℕ) (r : Fin 128) (j : Fin 256) : BitVec 1 :=
  IntOp.andi (IntOp.andi (IntOp.cmpi CmpIPredicate.sge (dword r j) 0#32) (IntOp.cmpi CmpIPredicate.sle (dword r j) 128#32))
    (IntOp.ori (IntOp.cmpi CmpIPredicate.sge (BitVec.ofNat 32 j.val) 128#32)
      (Scalar.cmpi CmpIPredicate.sgt (BitVec.ofNat 32 n) 0#32))

theorem named_mask : Named.named (F := Ideal) (φ := .f32) κ "mask" 0xF149F2CA#32 = (⊥ : EReal) :=
  IdealRules.named_const.ideal_named_scalar _ _ _ _ rfl

theorem ninf : Ideal.ofBits .f32 0xFF800000#32 = ⊥ := by
  simp [Ideal.ofBits, Ideal.ieee]

/-- A logit: the product of a query and a key less the slope times the distance, or `⊥` under the mask. -/
theorem score_apply (i : grid0.Coords) (k0 k1 : FVec Ideal S128x256 .f32) (q : FVec Ideal S128x1024 .bf16) (sl : EReal) (oq ok : ℕ)
    (hq : S128x1024.Slices ![0, oq] S128x64) (hk : S256x256.Slices ![0, ok] S256x64) (h1 : oq + 64 ≤ 1024) (h2 : ok + 64 ≤ 256)
    (r : Fin 128) (j : Fin 256) :
    score i k0 k1 q sl oq ok hq hk (ix2 r j)
      = Scalar.select (mword (i 1).val r j)
          ((∑ x : Fin 64, q (ix2 r ⟨oq + x.val, by omega⟩) * two k0 k1 j ⟨ok + x.val, by omega⟩)
            - sl * FloatOps.sitofp (F := Ideal) FTy.f32 (dword r j)) (⊥ : EReal) := by
  rw [← named_mask]
  pointwise [score, k0_pay14, k0_pay12, k0_pay11, k0_pay9, k0_pay10, mword, dword, two]

theorem mx_apply (s : FVec Ideal S128x256 .f32) (z : EReal) (r : Fin 128) :
    mx s z (ix2 r 0) = Softmax.top (fun j : Fin 256 => s (ix2 r j)) z := by
  rw [Softmax.top, ← ninf]
  pointwise [mx]

theorem dn_apply (p : FVec Ideal S128x256 .f32) (m : FVec Ideal S128x1 .f32) (z : EReal) (r : Fin 128) :
    dn m p z (ix2 r 0) = (∑ j : Fin 256, p (ix2 r j)) + Ideal.exp (z - m (ix2 r 0)) := by
  pointwise [dn]

theorem wt_apply (s : FVec Ideal S128x256 .f32) (m : FVec Ideal S128x1 .f32) (r : Fin 128) (j : Fin 256) :
    wt s m (ix2 r j) = Ideal.exp (s (ix2 r j) - m (ix2 r 0)) := by
  pointwise [wt]

theorem outv_apply (v0 v1 : FVec Ideal S128x256 .f32) (p : FVec Ideal S128x256 .f32) (d : FVec Ideal S128x1 .f32) (ok : ℕ)
    (hk : S256x256.Slices ![0, ok] S256x64) (h2 : ok + 64 ≤ 256) (r : Fin 128) (e : Fin 64) :
    outv v0 v1 p d ok hk (ix2 r e)
      = Ideal.div (∑ j : Fin 256, p (ix2 r j) * two v0 v1 j ⟨ok + e.val, by omega⟩) (d (ix2 r 0)) := by
  pointwise [outv, k0_pay13, two]

/-- A head at an index: the row of its logits, its sink and its values. -/
theorem head_apply (i : grid0.Coords) (k0 k1 v0 v1 : FVec Ideal S128x256 .f32) (q : FVec Ideal S128x1024 .bf16) (sl z : EReal)
    (oq ok : ℕ) (hq : S128x1024.Slices ![0, oq] S128x64) (hk : S256x256.Slices ![0, ok] S256x64) (h1 : oq + 64 ≤ 1024) (h2 : ok + 64 ≤ 256)
    (r : Fin 128) (e : Fin 64) :
    head i k0 k1 v0 v1 q sl z oq ok hq hk (ix2 r e)
      = Softmax.row (fun j : Fin 256 => Scalar.select (mword (i 1).val r j)
          ((∑ x : Fin 64, q (ix2 r ⟨oq + x.val, by omega⟩) * two k0 k1 j ⟨ok + x.val, by omega⟩)
            - sl * FloatOps.sitofp (F := Ideal) FTy.f32 (dword r j)) (⊥ : EReal)) z
          (fun j => two v0 v1 j ⟨ok + e.val, by omega⟩) := by
  simp only [head, outv_apply _ _ _ _ _ _ h2, dn_apply, wt_apply, mx_apply, score_apply _ _ _ _ _ _ _ _ _ h1 h2,
    Softmax.row, Softmax.den]

end Cert.KernelIdeal.Head

end
-- ==== Proof.KernAt.lean ====
/- The kernel's input blocks, read off its arguments. -/
module

public import proofs.«01_k».proof.Proof.HeadAt

@[expose] public section

set_option maxRecDepth 16384

noncomputable section

namespace Cert.KernelIdeal.Head
open Cert.KernelIdeal Cert.KernelIdeal.Gen
open Idealize.ShloMosaic Idealize.ShloMosaic.TcCoe Idealize.SL.Sem Idealize.ShloMosaic.Pointwise

variable (m : (ℓ : Loc nD τ sig) → Buf (Elt Ideal) ℓ)

theorem idx : ∀ t : Fin cfg0.N, win0_0.index t = ![0] ∧ win0_1.index t = ![0] ∧ win0_2.index t = ![t.val, 0]
    ∧ win0_3.index t = ![32 * (t.val / 32) + (t.val % 32 - 1), 0] ∧ win0_4.index t = ![t.val, 0]
    ∧ win0_5.index t = ![32 * (t.val / 32) + (t.val % 32 - 1), 0] ∧ win0_6.index t = ![t.val, 0] ∧ win0_7.index t = ![t.val, 0]
    ∧ (grid0.coords t 1).val = t.val % 32 :=
  (by decide +kernel : ∀ t : Fin grid0.N, _)

/-- The grid has 128 points. -/
theorem tlt (t : Fin cfg0.N) : t.val < 128 := lt_of_lt_of_eq t.isLt N_0

/-- The block of queries: the argument's, scaled by 1/8. -/
theorem q_blk (c : Dev nD) (t : Fin cfg0.N) (r : Fin 128) (h : Fin 16) (x : Fin 64) :
    (iblk m c 2 t : FVec Ideal S128x1024 .bf16) (ix2 r ⟨64 * h.val + x.val, by omega⟩)
      = @HMul.hMul EReal EReal EReal _ ((m ((c : Thread nD τ).loc main_arg0) : FVec Ideal S4x4096x4x4x64 .f32) (ix5 ⟨t.val / 32, by have := tlt t; omega⟩ ⟨t.val % 32 * 128 + r.val, by omega⟩
          ⟨h.val / 4, by omega⟩ ⟨h.val % 4, by omega⟩ x)) (Ideal.ofBits .f32 0x3E000000#32) := by
  have ht := tlt t
  refine Eq.trans (b := @HMul.hMul EReal EReal EReal _ ((m ((c : Thread nD τ).loc main_arg0) : FVec Ideal S4x4096x4x4x64 .f32)
    (ix5 ⟨(t.val * 128 + r.val) / 4096, by omega⟩ ⟨(t.val * 128 + r.val) % 4096, by omega⟩ ⟨(64 * h.val + x.val) / 256, by omega⟩
      ⟨(64 * h.val + x.val) / 64 % 4, by omega⟩ ⟨(64 * h.val + x.val) % 64, by omega⟩)) (Ideal.ofBits .f32 0x3E000000#32)) ?_ ?_
  · blk_point [iblk, V, idx t]
  · congr 3 <;> simp only [Fin.ext_iff, Fin.val_mk] <;> omega

theorem kp_blk (c : Dev nD) (t : Fin cfg0.N) (r : Fin 128) (g : Fin 4) (x : Fin 64) :
    (iblk m c 3 t : FVec Ideal S128x256 .f32) (ix2 r ⟨64 * g.val + x.val, by omega⟩)
      = (m ((c : Thread nD τ).loc main_arg1) : FVec Ideal S4x4096x4x64 .f32)
          (ix4 ⟨t.val / 32, by have := tlt t; omega⟩ ⟨(t.val % 32 - 1) * 128 + r.val, by omega⟩ g x) := by
  blk_point [iblk, V, idx t]
theorem kc_blk (c : Dev nD) (t : Fin cfg0.N) (r : Fin 128) (g : Fin 4) (x : Fin 64) :
    (iblk m c 4 t : FVec Ideal S128x256 .f32) (ix2 r ⟨64 * g.val + x.val, by omega⟩)
      = (m ((c : Thread nD τ).loc main_arg1) : FVec Ideal S4x4096x4x64 .f32)
          (ix4 ⟨t.val / 32, by have := tlt t; omega⟩ ⟨t.val % 32 * 128 + r.val, by omega⟩ g x) := by
  blk_point [iblk, V, idx t]
theorem vp_blk (c : Dev nD) (t : Fin cfg0.N) (r : Fin 128) (g : Fin 4) (x : Fin 64) :
    (iblk m c 5 t : FVec Ideal S128x256 .f32) (ix2 r ⟨64 * g.val + x.val, by omega⟩)
      = (m ((c : Thread nD τ).loc main_arg2) : FVec Ideal S4x4096x4x64 .f32)
          (ix4 ⟨t.val / 32, by have := tlt t; omega⟩ ⟨(t.val % 32 - 1) * 128 + r.val, by omega⟩ g x) := by
  blk_point [iblk, V, idx t]
theorem vc_blk (c : Dev nD) (t : Fin cfg0.N) (r : Fin 128) (g : Fin 4) (x : Fin 64) :
    (iblk m c 6 t : FVec Ideal S128x256 .f32) (ix2 r ⟨64 * g.val + x.val, by omega⟩)
      = (m ((c : Thread nD τ).loc main_arg2) : FVec Ideal S4x4096x4x64 .f32)
          (ix4 ⟨t.val / 32, by have := tlt t; omega⟩ ⟨t.val % 32 * 128 + r.val, by omega⟩ g x) := by
  blk_point [iblk, V, idx t]
theorem z_blk (c : Dev nD) (t : Fin cfg0.N) (h : Fin 16) :
    (iblk m c 1 t : FVec Ideal S16 .f32) (ix1 h) = (m ((c : Thread nD τ).loc main_arg3) : FVec Ideal S16 .f32) (ix1 h) := by
  blk_point [iblk, V, idx t]
theorem s_blk (c : Dev nD) (t : Fin cfg0.N) (h : Fin 16) :
    (iblk m c 0 t : FVec Ideal S16 .f32) (ix1 h)
      = Ideal.pow (Ideal.ofBits .f32 0x40000000#32)
          (Ideal.div (Ideal.ofBits .f32 0xC1000000#32 * (1 + FloatOps.sitofp (F := Ideal) FTy.f32 (BitVec.ofNat 32 h.val)))
            (Ideal.ofBits .f32 0x41800000#32)) := by
  blk_point [iblk, V, idx t]

end Cert.KernelIdeal.Head

end
-- ==== Proof.RefAt.lean ====
/- The reference's result in parts, each read at an index. -/
module

public import proofs.«01_k».proof.Proof.Gen.ReferenceIdeal.Run
public import proofs.«01_k».proof.Proof.Softmax
public import Idealize.ShloMosaic.Lib.Pointwise
public import Idealize.ShloMosaic.Lib.Pipeline.ValueKit

@[expose] public section

set_option maxRecDepth 16384

noncomputable section

namespace Cert.ReferenceIdeal.RefAt
open Cert.ReferenceIdeal Cert.ReferenceIdeal.Gen Cert.ReferenceIdeal.Value
open Idealize.ShloMosaic Idealize.ShloMosaic.TcCoe Idealize.SL.Sem Idealize.ShloMosaic.Pointwise

/-- Each block of keys (or values) behind the block before it; zeros before the first. -/
def band (t : FVec Ideal S4x4096x4x64 .f32) : FVec Ideal S4x32x256x4x64 .f32 :=
  concatenate S4x32x256x4x64 2
    [⟨S4x32x128x4x64, (concatenate S4x32x128x4x64 1
      [⟨S4x1x128x4x64, (broadcastInDim S4x1x128x4x64 ![] bcast_S_S4x1x128x4x64 (constant S_ .f32 0x00000000#32) : FVec Ideal S4x1x128x4x64 .f32)⟩,
       ⟨S4x31x128x4x64, extractStridedSlice S4x31x128x4x64 ![0, 0, 0, 0, 0]
          (shapeCast S4x32x128x4x64 t shapeCasts_S4x4096x4x64_S4x32x128x4x64) slices_S4x32x128x4x64_S4x31x128x4x64_0_0_0_0_0⟩]
      concatenates_S4x1x128x4x64_S4x31x128x4x64_S4x32x128x4x64_d1)⟩,
     ⟨S4x32x128x4x64, shapeCast S4x32x128x4x64 t shapeCasts_S4x4096x4x64_S4x32x128x4x64⟩]
    concatenates_S4x32x128x4x64_S4x32x128x4x64_S4x32x256x4x64_d2

/-- The blocks' first positions. -/
def start : IVec S32x1 32 := muli (broadcastInDim S32x1 ![0] bcast_S32_S32x1_0 (iotaInDim S32 32 0)) (broadcastInDim S32x1 ![] bcast_S_S32x1 (constantI S_ 32 128#32))

/-- The queries' positions. -/
def qpos : IVec S32x128 32 :=
  addi (broadcastInDim S32x128 ![0, 1] bcast_S32x1_S32x128_0_1 start)
    (broadcastInDim S32x128 ![0, 1] bcast_S1x128_S32x128_0_1 (broadcastInDim S1x128 ![1] bcast_S128_S1x128_1 (iotaInDim S128 32 0)))

/-- The keys' positions. -/
def kpos : IVec S32x256 32 :=
  addi (broadcastInDim S32x256 ![0, 1] bcast_S32x1_S32x256_0_1 (subi start (broadcastInDim S32x1 ![] bcast_S_S32x1 (constantI S_ 32 128#32))))
    (broadcastInDim S32x256 ![0, 1] bcast_S1x256_S32x256_0_1 (broadcastInDim S1x256 ![1] bcast_S256_S1x256_1 (iotaInDim S256 32 0)))

/-- The distance from each query to each key. -/
def dist : IVec S32x128x256 32 :=
  subi (broadcastInDim S32x128x256 ![0, 1, 2] bcast_S32x128x1_S32x128x256_0_1_2 (broadcastInDim S32x128x1 ![0, 1] bcast_S32x128_S32x128x1_0_1 qpos))
    (broadcastInDim S32x128x256 ![0, 1, 2] bcast_S32x1x256_S32x128x256_0_1_2 (broadcastInDim S32x1x256 ![0, 2] bcast_S32x256_S32x1x256_0_2 kpos))

/-- The mask: the window, and no key before the sequence. -/
def mask : IVec S32x128x256 1 :=
  andi (andi (cmpi .sge dist (broadcastInDim S32x128x256 ![] bcast_S_S32x128x256 (constantI S_ 32 0#32)))
      (cmpi .sle dist (broadcastInDim S32x128x256 ![] bcast_S_S32x128x256 (constantI S_ 32 128#32))))
    (broadcastInDim S32x128x256 ![0, 1, 2] bcast_S32x1x256_S32x128x256_0_1_2
      (cmpi .sge (broadcastInDim S32x1x256 ![0, 2] bcast_S32x256_S32x1x256_0_2 kpos) (broadcastInDim S32x1x256 ![] bcast_S_S32x1x256 (constantI S_ 32 0#32))))

/-- The slopes of the sixteen heads. -/
def slopes : FVec Ideal S16 .f32 :=
  Host.powf (broadcastInDim S16 ![] bcast_S_S16 (constant S_ .f32 0x40000000#32))
    (Host.divf (mulf (broadcastInDim S16 ![] bcast_S_S16 (constant S_ .f32 0xC1000000#32))
      (addf (broadcastInDim S16 ![] bcast_S_S16 (constant S_ .f32 0x3F800000#32)) (sitofp .f32 (iotaInDim S16 32 0))))
      (broadcastInDim S16 ![] bcast_S_S16 (constant S_ .f32 0x41800000#32)))

/-- The scaled products of queries and keys. -/
def prods (q : FVec Ideal S4x4096x4x4x64 .f32) (k : FVec Ideal S4x4096x4x64 .f32) : FVec Ideal S4x32x4x4x128x256 .f32 :=
  mulf (transpose S4x32x4x4x128x256 [0, 1, 2, 5, 4, 3]
      (Host.dotGeneral dot_S4x32x256x4x64_S4x32x128x4x4x64_S4x32x4x256x128x4_4_5_2_24_013_013 none (band k)
        (shapeCast S4x32x128x4x4x64 q shapeCasts_S4x4096x4x4x64_S4x32x128x4x4x64 : FVec Ideal S4x32x128x4x4x64 .f32) : FVec Ideal S4x32x4x256x128x4 .f32)
      transposes_S4x32x4x256x128x4_S4x32x4x4x128x256_0_1_2_5_4_3)
    (broadcastInDim S4x32x4x4x128x256 ![] bcast_S_S4x32x4x4x128x256 (constant S_ .f32 0x3E000000#32))

/-- The logits, the mask applied. -/
def logits (q : FVec Ideal S4x4096x4x4x64 .f32) (k : FVec Ideal S4x4096x4x64 .f32) : FVec Ideal S4x32x4x4x128x256 .f32 :=
  select (broadcastInDim S4x32x4x4x128x256 ![0, 1, 2, 3, 4, 5] bcast_S1x32x1x1x128x256_S4x32x4x4x128x256_0_1_2_3_4_5
      (broadcastInDim S1x32x1x1x128x256 ![1, 4, 5] bcast_S32x128x256_S1x32x1x1x128x256_1_4_5 mask))
    (subf (prods q k) (broadcastInDim S4x32x4x4x128x256 ![0, 1, 2, 3, 4, 5] bcast_S1x32x4x4x128x256_S4x32x4x4x128x256_0_1_2_3_4_5
      (mulf (broadcastInDim S1x32x4x4x128x256 ![0, 1, 2, 3, 4, 5] bcast_S1x1x4x4x1x1_S1x32x4x4x128x256_0_1_2_3_4_5
          (broadcastInDim S1x1x4x4x1x1 ![2, 3] bcast_S4x4_S1x1x4x4x1x1_2_3 (shapeCast S4x4 slopes shapeCasts_S16_S4x4)))
        (broadcastInDim S1x32x4x4x128x256 ![0, 1, 2, 3, 4, 5] bcast_S1x32x1x1x128x256_S1x32x4x4x128x256_0_1_2_3_4_5
          (broadcastInDim S1x32x1x1x128x256 ![1, 4, 5] bcast_S32x128x256_S1x32x1x1x128x256_1_4_5 (sitofp .f32 dist : FVec Ideal S32x128x256 .f32))))))
    (broadcastInDim S4x32x4x4x128x256 ![] bcast_S_S4x32x4x4x128x256 (id (constant S_ .f32 0xFF800000#32)))

/-- The rows the softmax is taken of: the logits, and the sink at the end. -/
def rows (s : FVec Ideal S4x32x4x4x128x256 .f32) (z : FVec Ideal S16 .f32) : FVec Ideal S4x32x4x4x128x257 .f32 :=
  concatenate S4x32x4x4x128x257 5
    [⟨S4x32x4x4x128x256, s⟩,
     ⟨S4x32x4x4x128x1, broadcastInDim S4x32x4x4x128x1 ![0, 1, 2, 3, 4, 5] bcast_S1x1x4x4x1x1_S4x32x4x4x128x1_0_1_2_3_4_5
        (shapeCast S1x1x4x4x1x1 z shapeCasts_S16_S1x1x4x4x1x1)⟩]
    concatenates_S4x32x4x4x128x256_S4x32x4x4x128x1_S4x32x4x4x128x257_d5

/-- The rows' maxima. -/
def maxima (t : FVec Ideal S4x32x4x4x128x257 .f32) : FVec Ideal S4x32x4x4x128 .f32 :=
  Host.reduce FloatOps.maximumf t (constant S_ .f32 0xFF800000#32) reducesTo_S4x32x4x4x128x257_S4x32x4x4x128_d5 h_S_

/-- The rows' sums. -/
def sums (t : FVec Ideal S4x32x4x4x128x257 .f32) : FVec Ideal S4x32x4x4x128 .f32 :=
  Host.reduceAdd t (constant S_ .f32 0x00000000#32) reducesTo_S4x32x4x4x128x257_S4x32x4x4x128_d5 h_S_

/-- The exponentials of the rows less their maxima `x`. -/
def expo (t : FVec Ideal S4x32x4x4x128x257 .f32) (x : FVec Ideal S4x32x4x4x128 .f32) : FVec Ideal S4x32x4x4x128x257 .f32 :=
  Host.exp (subf t (broadcastInDim S4x32x4x4x128x257 ![0, 1, 2, 3, 4, 5] bcast_S4x32x4x4x128x1_S4x32x4x4x128x257_0_1_2_3_4_5
    (broadcastInDim S4x32x4x4x128x1 ![0, 1, 2, 3, 4] bcast_S4x32x4x4x128_S4x32x4x4x128x1_0_1_2_3_4
      (maximumf (broadcastInDim S4x32x4x4x128 ![] bcast_S_S4x32x4x4x128 (constant S_ .f32 0xFF800000#32)) x))))

/-- The weights: the exponentials divided by their sums `d`. -/
def weights (x : FVec Ideal S4x32x4x4x128x257 .f32) (d : FVec Ideal S4x32x4x4x128 .f32) : FVec Ideal S4x32x4x4x128x257 .f32 :=
  Host.divf x (broadcastInDim S4x32x4x4x128x257 ![0, 1, 2, 3, 4, 5] bcast_S4x32x4x4x128x1_S4x32x4x4x128x257_0_1_2_3_4_5
    (broadcastInDim S4x32x4x4x128x1 ![0, 1, 2, 3, 4] bcast_S4x32x4x4x128_S4x32x4x4x128x1_0_1_2_3_4 d))

/-- The values, weighed and summed, in the result's layout. -/
def outp (w : FVec Ideal S4x32x4x4x128x257 .f32) (v : FVec Ideal S4x4096x4x64 .f32) : FVec Ideal S16384x1024 .bf16 :=
  truncf .bf16 (shapeCast S16384x1024 (shapeCast S4x4096x1024 (transpose S4x32x128x4x4x64 [0, 1, 5, 2, 4, 3]
    (Host.dotGeneral dot_S4x32x256x4x64_S4x32x4x4x128x256_S4x32x4x64x4x128_2_5_4_34_013_012 none (band v)
      (extractStridedSlice S4x32x4x4x128x256 ![0, 0, 0, 0, 0, 0] w slices_S4x32x4x4x128x257_S4x32x4x4x128x256_0_0_0_0_0_0 : FVec Ideal S4x32x4x4x128x256 .f32) : FVec Ideal S4x32x4x64x4x128 .f32)
    transposes_S4x32x4x64x4x128_S4x32x128x4x4x64_0_1_5_2_4_3) shapeCasts_S4x32x128x4x4x64_S4x4096x1024) shapeCasts_S4x4096x1024_S16384x1024) bitsLt_bf16_f32

variable (m : (ℓ : Loc nD τ sig) → Buf (Elt Ideal) ℓ)

/-- The softmax of the rows. -/
def soft (t : FVec Ideal S4x32x4x4x128x257 .f32) : FVec Ideal S4x32x4x4x128x257 .f32 :=
  weights (expo t (maxima t)) (sums (expo t (maxima t)))

set_option maxHeartbeats 2000000 in
/-- The reference's result is these parts put together. -/
theorem res_eq (c : Dev nD) : res_main_v87 m c
    = outp (soft (rows (logits (m ((c.tc : Thread nD τ).loc main_arg0)) (m ((c.tc : Thread nD τ).loc main_arg1)))
        (m ((c.tc : Thread nD τ).loc main_arg3)))) (m ((c.tc : Thread nD τ).loc main_arg2)) := by
  unfold res_main_v87
  rfl

theorem reduces : Shape.Reduces S4x32x4x4x128x257 [5] S4x32x4x4x128 := by decide

theorem lift_eq (b : Fin 4) (i : Fin 32) (g u : Fin 4) (r : Fin 128) (k : Fin 257) :
    reduces.lift (ix5 b i g u r) k = ix6 b i g u r k := by
  refine funext fun a => Fin.ext ?_
  match a with
  | ⟨0, _⟩ => rfl
  | ⟨1, _⟩ => rfl
  | ⟨2, _⟩ => rfl
  | ⟨3, _⟩ => rfl
  | ⟨4, _⟩ => rfl
  | ⟨5, _⟩ => rfl

theorem ninf : Ideal.ofBits .f32 0xFF800000#32 = ⊥ := by
  simp [Ideal.ofBits, Ideal.ieee]

theorem maxima_apply (t : FVec Ideal S4x32x4x4x128x257 .f32) (b : Fin 4) (i : Fin 32) (g u : Fin 4) (r : Fin 128) :
    maxima t (ix5 b i g u r) = Finset.univ.fold max ⊥ fun k : Fin 257 => t (ix6 b i g u r k) := by
  have h : maxima t (ix5 b i g u r) = Finset.fold max (Ideal.ofBits FTy.f32 4286578688#32) t
      {x | reducesTo_S4x32x4x4x128x257_S4x32x4x4x128_d5.drop x = ix5 b i g u r} := by
    pointwise [maxima]
  rw [h, ninf, Shape.ReducesTo.drop_eq_drop _ reduces]
  refine (reduces.fold_filter_drop_single _ _ _ _).trans ?_
  exact congrArg (fun f => Finset.fold max ⊥ f Finset.univ) (funext fun k => congrArg t (lift_eq b i g u r k))

theorem sums_apply (t : FVec Ideal S4x32x4x4x128x257 .f32) (b : Fin 4) (i : Fin 32) (g u : Fin 4) (r : Fin 128) :
    sums t (ix5 b i g u r) = ∑ k : Fin 257, t (ix6 b i g u r k) := by
  have h : sums t (ix5 b i g u r) = Ideal.hostReduceAdd reducesTo_S4x32x4x4x128x257_S4x32x4x4x128_d5 t 0 (ix5 b i g u r) := by
    pointwise [sums]
  rw [h, Ideal.hostReduceAdd_single _ reduces, zero_add]
  exact Finset.sum_congr rfl fun k _ => congrArg t (lift_eq b i g u r k)

/-- The band at an index. -/
theorem band_apply (t : FVec Ideal S4x4096x4x64 .f32) (b : Fin 4) (i : Fin 32) (j : Fin 256) (g : Fin 4) (e : Fin 64) :
    band t (ix5 b i j g e) = if h : j.val < 128 then (if h' : i.val < 1 then (0 : EReal) else t (ix4 b ⟨(i.val - 1) * 128 + j.val, by omega⟩ g e))
      else t (ix4 b ⟨i.val * 128 + (j.val - 128), by omega⟩ g e) := by
  pointwise [band]

/-- The reference's distance word. -/
def dwordR (i : Fin 32) (r : Fin 128) (j : Fin 256) : BitVec 32 :=
  IntOp.subi (IntOp.addi (IntOp.muli (BitVec.ofNat 32 i.val) 128#32) (BitVec.ofNat 32 r.val))
    (IntOp.addi (IntOp.subi (IntOp.muli (BitVec.ofNat 32 i.val) 128#32) 128#32) (BitVec.ofNat 32 j.val))

/-- The reference's mask word. -/
def mwordR (i : Fin 32) (r : Fin 128) (j : Fin 256) : BitVec 1 :=
  IntOp.andi (IntOp.andi (IntOp.cmpi CmpIPredicate.sge (dwordR i r j) 0#32) (IntOp.cmpi CmpIPredicate.sle (dwordR i r j) 128#32))
    (IntOp.cmpi CmpIPredicate.sge (IntOp.addi (IntOp.subi (IntOp.muli (BitVec.ofNat 32 i.val) 128#32) 128#32) (BitVec.ofNat 32 j.val)) 0#32)

/-- A slope. -/
theorem slopes_apply (h : Fin 16) : slopes (ix1 h)
    = Ideal.pow (Ideal.ofBits .f32 0x40000000#32)
          (Ideal.div (Ideal.ofBits .f32 0xC1000000#32 * (1 + FloatOps.sitofp (F := Ideal) FTy.f32 (BitVec.ofNat 32 h.val)))
            (Ideal.ofBits .f32 0x41800000#32)) := by
  pointwise [slopes]

/-- A logit. -/
theorem logits_apply (q : FVec Ideal S4x4096x4x4x64 .f32) (k : FVec Ideal S4x4096x4x64 .f32)
    (b : Fin 4) (i : Fin 32) (g u : Fin 4) (r : Fin 128) (j : Fin 256) :
    logits q k (ix6 b i g u r j) = Scalar.select (mwordR i r j)
      ((∑ x : Fin 64, band k (ix5 b i j g x) * q (ix5 b ⟨i.val * 128 + r.val, by omega⟩ g u x)) * Ideal.ofBits .f32 0x3E000000#32
        - slopes (ix1 ⟨g.val * 4 + u.val, by omega⟩) * FloatOps.sitofp (F := Ideal) FTy.f32 (dwordR i r j)) (⊥ : EReal) := by
  rw [← show id (constant S_ .f32 0xFF800000#32 : FVec Ideal S_ .f32) ix0 = (⊥ : EReal) from ninf]
  pointwise [logits, prods, mask, dist, qpos, kpos, start, mwordR, dwordR]

/-- A row's entries. -/
theorem rows_apply (s : FVec Ideal S4x32x4x4x128x256 .f32) (z : FVec Ideal S16 .f32)
    (b : Fin 4) (i : Fin 32) (g u : Fin 4) (r : Fin 128) (j : Fin 257) :
    rows s z (ix6 b i g u r j) = if h : j.val < 256 then s (ix6 b i g u r ⟨j.val, h⟩) else z (ix1 ⟨g.val * 4 + u.val, by omega⟩) := by
  pointwise [rows]

theorem expo_apply (t : FVec Ideal S4x32x4x4x128x257 .f32) (x : FVec Ideal S4x32x4x4x128 .f32)
    (b : Fin 4) (i : Fin 32) (g u : Fin 4) (r : Fin 128) (j : Fin 257) :
    expo t x (ix6 b i g u r j) = Ideal.exp (t (ix6 b i g u r j) - x (ix5 b i g u r)) := by
  have h : expo t x (ix6 b i g u r j)
      = Ideal.exp (t (ix6 b i g u r j) - max (Ideal.ofBits .f32 0xFF800000#32) (x (ix5 b i g u r))) := by
    pointwise [expo]
  rw [h, ninf, max_eq_right bot_le]

theorem weights_apply (x : FVec Ideal S4x32x4x4x128x257 .f32) (d : FVec Ideal S4x32x4x4x128 .f32)
    (b : Fin 4) (i : Fin 32) (g u : Fin 4) (r : Fin 128) (j : Fin 257) :
    weights x d (ix6 b i g u r j) = Ideal.div (x (ix6 b i g u r j)) (d (ix5 b i g u r)) := by
  pointwise [weights]

theorem outp_apply (w : FVec Ideal S4x32x4x4x128x257 .f32) (v : FVec Ideal S4x4096x4x64 .f32) (n : Fin 16384) (e : Fin 1024) :
    outp w v (ix2 n e) = ∑ x : Fin 256, band v (ix5 ⟨n.val / 4096, by omega⟩ ⟨n.val / 128 % 32, by omega⟩ x ⟨e.val / 256, by omega⟩ ⟨e.val % 64, by omega⟩)
      * w (ix6 ⟨n.val / 4096, by omega⟩ ⟨n.val / 128 % 32, by omega⟩ ⟨e.val / 256, by omega⟩ ⟨e.val / 64 % 4, by omega⟩ ⟨n.val % 128, by omega⟩
        ⟨x.val, by omega⟩) := by
  pointwise [outp]

/-- The softmax's weights of the rows: the exponential of the logit less the row's maximum, over the row's sum. -/
theorem soft_apply (s : FVec Ideal S4x32x4x4x128x256 .f32) (z : FVec Ideal S16 .f32)
    (b : Fin 4) (i : Fin 32) (g u : Fin 4) (r : Fin 128) (j : Fin 256) :
    soft (rows s z) (ix6 b i g u r ⟨j.val, by omega⟩)
      = Ideal.div (Ideal.exp (s (ix6 b i g u r j) - Softmax.top (fun j => s (ix6 b i g u r j)) (z (ix1 ⟨g.val * 4 + u.val, by omega⟩))))
          (Softmax.den (fun j => s (ix6 b i g u r j)) (z (ix1 ⟨g.val * 4 + u.val, by omega⟩))) := by
  have hc : (fun j : Fin 256 => rows s z (ix6 b i g u r j.castSucc)) = fun j => s (ix6 b i g u r j) := by
    funext j
    rw [rows_apply, dif_pos (show j.castSucc.val < 256 from j.isLt)]
    rfl
  have hl : rows s z (ix6 b i g u r (Fin.last 256)) = z (ix1 ⟨g.val * 4 + u.val, by omega⟩) := by
    rw [rows_apply, dif_neg (by simp)]
  rw [soft, weights_apply, sums_apply]
  simp only [expo_apply, maxima_apply]
  rw [Softmax.den_snoc, Softmax.fold_snoc, hc, hl, rows_apply, dif_pos j.isLt]

end Cert.ReferenceIdeal.RefAt

end
-- ==== Proof.Finite.lean ====
/- The precondition read back: the queries, the keys and the sinks are real numbers. -/
module

public import proofs.«01_k».proof.Pre_finite
public import Idealize.ShloMosaic.Lib.Pointwise
public import Idealize.ShloMosaic.Lib.ReduceAll

@[expose] public section

noncomputable section

namespace Cert.Pre_finite
open Idealize.ShloMosaic

theorem facts : Facts where
  bcast_S_S4x4096x4x4x64 := by decide
  reducesTo_S4x4096x4x4x64_S_d0_1_2_3_4 := by decide
  h_S_ := by decide
  bcast_S_S4x4096x4x64 := by decide
  reducesTo_S4x4096x4x64_S_d0_1_2_3 := by decide
  bcast_S_S16 := by decide
  reducesTo_S16_S_d0 := by decide

/-- A number whose absolute value compares below infinity is real. -/
theorem real_of_lt (x : EReal) (h : FloatOps.cmpf (F := Ideal) (φ := .f32) .olt (FloatOps.absf (F := Ideal) (φ := .f32) x) (Ideal.ofBits .f32 0x7F800000#32) = 1#1) :
    ∃ r : ℝ, x = r := by
  have ht : Ideal.ofBits .f32 0x7F800000#32 = ⊤ := by simp [Ideal.ofBits, Ideal.ieee]
  rw [ht] at h
  induction x using EReal.rec with
  | bot => simp [FloatOps.cmpf, FloatOps.absf, Ideal.cmp] at h
  | top => simp [FloatOps.cmpf, FloatOps.absf, Ideal.cmp] at h
  | coe r => exact ⟨r, rfl⟩

/-- Where `finite` holds the queries, the keys and the sinks are real. -/
theorem reals [Facts] (q : FVec Ideal S4x4096x4x4x64 .f32) (k v : FVec Ideal S4x4096x4x64 .f32) (z : FVec Ideal S16 .f32)
    (h : fn (F := Ideal) q k v z = fun _ => 1#1) :
    (∀ i, ∃ r : ℝ, q i = (r : EReal)) ∧ (∀ i, ∃ r : ℝ, k i = (r : EReal)) ∧ ∀ i, ∃ r : ℝ, z i = (r : EReal) := by
  have hs : Subsingleton S_.Idx := ⟨fun a b => funext fun i => i.elim0⟩
  have h0 := congrFun h (fun i => i.elim0)
  dsimp only [fn] at h0
  obtain ⟨h1, h3⟩ := IntOp.andi_eq_one.1 h0
  obtain ⟨h1, h2⟩ := IntOp.andi_eq_one.1 h1
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i)⟩

end Cert.Pre_finite

end
-- ==== Proof.Join.lean ====
/- The attention's two results are equal where the queries, the keys and the sinks are real numbers. -/
module

public import proofs.«01_k».proof.Proof.KernAt
public import proofs.«01_k».proof.Proof.RefAt
public import proofs.«01_k».proof.Proof.Finite
public import proofs.«01_k».proof.Proof.Gen.KernelIdeal.Value

@[expose] public section

set_option maxRecDepth 16384

noncomputable section

namespace Cert.Join
open Cert.KernelIdeal Cert.KernelIdeal.Gen Cert.KernelIdeal.Head
open Idealize.ShloMosaic Idealize.ShloMosaic.TcCoe Idealize.SL.Sem Idealize.ShloMosaic.Pointwise
open Cert.ReferenceIdeal (RefAt.dwordR RefAt.mwordR RefAt.band RefAt.logits RefAt.slopes RefAt.rows RefAt.soft RefAt.outp)

/-- A real number among the extended ones. -/
def R (x : EReal) : Prop := ∃ r : ℝ, x = r

theorem R.sub {x y : EReal} : R x → R y → R (x - y) := fun ⟨a, ha⟩ ⟨b, hb⟩ => ⟨a - b, by rw [ha, hb, EReal.coe_sub]⟩
theorem R.add {x y : EReal} : R x → R y → R (x + y) := fun ⟨a, ha⟩ ⟨b, hb⟩ => ⟨a + b, by rw [ha, hb, EReal.coe_add]⟩
theorem R.mul {x y : EReal} : R x → R y → R (x * y) := fun ⟨a, ha⟩ ⟨b, hb⟩ => ⟨a * b, by rw [ha, hb, EReal.coe_mul]⟩
theorem R.sum {ι : Type*} (u : Finset ι) (f : ι → EReal) (h : ∀ j, R (f j)) : R (∑ j ∈ u, f j) := by
  classical
  induction u using Finset.induction with
  | empty => exact ⟨0, by simp⟩
  | insert a u ha ih => rw [Finset.sum_insert ha]; exact (h a).add ih
theorem R.ne_top {x : EReal} : R x → x ≠ ⊤ := fun ⟨a, ha⟩ => ha ▸ EReal.coe_ne_top a

/-- The scale 1/8 is a real number, not negative. -/
theorem eighth : ∃ r : ℝ, 0 ≤ r ∧ Ideal.ofBits .f32 0x3E000000#32 = (r : EReal) := by
  refine ⟨1 / 8, by norm_num, ?_⟩
  simp [Ideal.ofBits, Ideal.ieee, -EReal.coe_mul]
  norm_num

theorem two_lit : Ideal.ofBits .f32 0x40000000#32 = ((2 : ℝ) : EReal) := by
  simp [Ideal.ofBits, Ideal.ieee, -EReal.coe_mul]
  norm_num
theorem eight_lit : Ideal.ofBits .f32 0xC1000000#32 = ((-8 : ℝ) : EReal) := by
  simp [Ideal.ofBits, Ideal.ieee, -EReal.coe_mul]
  norm_num
theorem sixteen_lit : Ideal.ofBits .f32 0x41800000#32 = ((16 : ℝ) : EReal) := by
  simp [Ideal.ofBits, Ideal.ieee, -EReal.coe_mul]
  norm_num

/-- The slopes are real numbers. -/
theorem slope_real (h : Fin 16) : R (RefAt.slopes (ix1 h)) := by
  rw [Cert.ReferenceIdeal.RefAt.slopes_apply, two_lit, eight_lit, sixteen_lit]
  have h1 : R (((-8 : ℝ) : EReal) * (1 + FloatOps.sitofp (F := Ideal) FTy.f32 (BitVec.ofNat 32 h.val))) :=
    R.mul ⟨_, rfl⟩ (R.add ⟨1, rfl⟩ ⟨_, rfl⟩)
  obtain ⟨a, ha⟩ := h1
  rw [ha, Ideal.div, if_neg (by rw [← EReal.coe_zero]; exact fun h => by simpa using EReal.coe_injective h), ← EReal.coe_inv, ← EReal.coe_mul]
  exact ⟨_, rfl⟩

theorem dword_eq (i : Fin 32) (r : Fin 128) (j : Fin 256) : RefAt.dwordR i r j = dword r j := by
  simp only [RefAt.dwordR, dword, IntOp.addi, IntOp.subi, IntOp.muli]
  generalize BitVec.ofNat 32 i.val * 128#32 = a
  generalize BitVec.ofNat 32 r.val = b
  generalize BitVec.ofNat 32 j.val = d
  bv_omega

/-- No key before the sequence: the two programs' words for it. -/
theorem edge : ∀ (i : Fin 32) (j : Fin 256),
    IntOp.ori (IntOp.cmpi CmpIPredicate.sge (BitVec.ofNat 32 j.val) 128#32) (Scalar.cmpi CmpIPredicate.sgt (BitVec.ofNat 32 i.val) 0#32)
      = IntOp.cmpi CmpIPredicate.sge (IntOp.addi (IntOp.subi (IntOp.muli (BitVec.ofNat 32 i.val) 128#32) 128#32) (BitVec.ofNat 32 j.val)) 0#32 := by
  decide +kernel

theorem edge_one : ∀ (i : Fin 32) (j : Fin 256),
    IntOp.ori (IntOp.cmpi CmpIPredicate.sge (BitVec.ofNat 32 j.val) 128#32) (Scalar.cmpi CmpIPredicate.sgt (BitVec.ofNat 32 i.val) 0#32) = 1#1 →
      128 ≤ j.val ∨ 1 ≤ i.val := by
  decide +kernel

theorem mword_eq (i : Fin 32) (r : Fin 128) (j : Fin 256) : RefAt.mwordR i r j = mword i.val r j := by
  simp only [RefAt.mwordR, mword, dword_eq, edge]

/-- The kernel's logit of query `r` and key `j` of head `h`. -/
def klogit (n : ℕ) (k0 k1 : FVec Ideal S128x256 .f32) (q : FVec Ideal S128x1024 .bf16) (sl : FVec Ideal S16 .f32)
    (h : Fin 16) (r : Fin 128) (j : Fin 256) : EReal :=
  Scalar.select (mword n r j)
    ((∑ x : Fin 64, q (ix2 r ⟨64 * h.val + x.val, by omega⟩) * two k0 k1 j ⟨64 * (h.val / 4) + x.val, by omega⟩)
      - sl (ix1 h) * FloatOps.sitofp (F := Ideal) FTy.f32 (dword r j)) (⊥ : EReal)

theorem headAt_apply (i : grid0.Coords) (k0 k1 v0 v1 : FVec Ideal S128x256 .f32) (q : FVec Ideal S128x1024 .bf16)
    (sl z : FVec Ideal S16 .f32) (h : Fin 16) (r : Fin 128) (e : Fin 64) :
    headAt i k0 k1 v0 v1 q sl z h (ix2 r e)
      = Softmax.row (fun j => klogit (i 1).val k0 k1 q sl h r j) (z (ix1 h))
          (fun j => two v0 v1 j ⟨64 * (h.val / 4) + e.val, by omega⟩) :=
  head_apply _ _ _ _ _ _ _ _ _ _ _ _ (by omega) (by omega) r e

theorem lt4 (h : Fin 16) : h.val / 4 < 4 := by omega
theorem md4 (h : Fin 16) : h.val % 4 < 4 := by omega
theorem t4 (t : Fin cfg0.N) : t.val / 32 < 4 := by have := tlt t; omega
theorem t32 (t : Fin cfg0.N) : t.val % 32 < 32 := by omega

variable (m : (ℓ : Loc nD τ sig) → Buf (Elt Ideal) ℓ)

/-- The kernel's arguments. -/
def Q (c : Dev nD) : FVec Ideal S4x4096x4x4x64 .f32 := m ((c : Thread nD τ).loc main_arg0)
def K (c : Dev nD) : FVec Ideal S4x4096x4x64 .f32 := m ((c : Thread nD τ).loc main_arg1)
def W (c : Dev nD) : FVec Ideal S4x4096x4x64 .f32 := m ((c : Thread nD τ).loc main_arg2)
def Z (c : Dev nD) : FVec Ideal S16 .f32 := m ((c : Thread nD τ).loc main_arg3)

/-- The two blocks of keys are the band, where a key is not before the sequence. -/
theorem two_k (c : Dev nD) (t : Fin cfg0.N) (b : Fin 4) (hb : b.val = t.val / 32) (i : Fin 32) (hi : i.val = t.val % 32) (g : Fin 4)
    (j : Fin 256) (hj : 128 ≤ j.val ∨ 1 ≤ i.val) (x : Fin 64) :
    two (iblk m c 3 t) (iblk m c 4 t) j ⟨64 * g.val + x.val, by omega⟩ = RefAt.band (K m c) (ix5 b i j g x) := by
  obtain rfl : b = ⟨t.val / 32, t4 t⟩ := Fin.ext hb
  obtain rfl : i = ⟨t.val % 32, t32 t⟩ := Fin.ext hi
  rw [Cert.ReferenceIdeal.RefAt.band_apply, two]
  by_cases h : j.val < 128
  · rw [dif_pos h, dif_pos h, dif_neg (by simp only [Fin.val_mk] at hj ⊢; omega)]
    exact kp_blk m c t _ g x
  · rw [dif_neg h, dif_neg h]
    exact kc_blk m c t _ g x

/-- So are the two blocks of values. -/
theorem two_v (c : Dev nD) (t : Fin cfg0.N) (b : Fin 4) (hb : b.val = t.val / 32) (i : Fin 32) (hi : i.val = t.val % 32) (g : Fin 4)
    (j : Fin 256) (hj : 128 ≤ j.val ∨ 1 ≤ i.val) (x : Fin 64) :
    two (iblk m c 5 t) (iblk m c 6 t) j ⟨64 * g.val + x.val, by omega⟩ = RefAt.band (W m c) (ix5 b i j g x) := by
  obtain rfl : b = ⟨t.val / 32, t4 t⟩ := Fin.ext hb
  obtain rfl : i = ⟨t.val % 32, t32 t⟩ := Fin.ext hi
  rw [Cert.ReferenceIdeal.RefAt.band_apply, two]
  by_cases h : j.val < 128
  · rw [dif_pos h, dif_pos h, dif_neg (by simp only [Fin.val_mk] at hj ⊢; omega)]
    exact vp_blk m c t _ g x
  · rw [dif_neg h, dif_neg h]
    exact vc_blk m c t _ g x

theorem mword_one (i : Fin 32) (r : Fin 128) (j : Fin 256) (h : mword i.val r j = 1#1) : 128 ≤ j.val ∨ 1 ≤ i.val :=
  edge_one i j (IntOp.andi_eq_one.1 h).2

/-- A logit of the kernel is the reference's. -/
theorem logit_eq (c : Dev nD) (t : Fin cfg0.N) (b : Fin 4) (hb : b.val = t.val / 32) (i : Fin 32) (hi : i.val = t.val % 32)
    (h : Fin 16) (g : Fin 4) (hg : g.val = h.val / 4) (u : Fin 4) (hu : u.val = h.val % 4) (r : Fin 128) (j : Fin 256) :
    klogit (grid0.coords t 1).val (iblk m c 3 t) (iblk m c 4 t) (iblk m c 2 t) (iblk m c 0 t) h r j
      = RefAt.logits (Q m c) (K m c) (ix6 b i g u r j) := by
  have ht := tlt t
  rw [klogit, Cert.ReferenceIdeal.RefAt.logits_apply, mword_eq, dword_eq, (idx t).2.2.2.2.2.2.2.2, ← hi]
  by_cases hm : mword i.val r j = 1
  · have hj := mword_one i r j hm
    rw [show (⟨g.val * 4 + u.val, by omega⟩ : Fin 16) = h from Fin.ext (by simp only [Fin.val_mk]; omega),
      Cert.ReferenceIdeal.RefAt.slopes_apply, s_blk]
    obtain ⟨s, hs, he⟩ := eighth
    congr 2
    rw [he, Softmax.sum_mul_right _ _ (EReal.coe_nonneg.2 hs) (EReal.coe_ne_top s)]
    refine Finset.sum_congr rfl fun x _ => ?_
    obtain rfl : g = ⟨h.val / 4, lt4 h⟩ := Fin.ext hg
    obtain rfl : u = ⟨h.val % 4, md4 h⟩ := Fin.ext hu
    obtain rfl : b = ⟨t.val / 32, t4 t⟩ := Fin.ext hb
    rw [q_blk, he, two_k m c t ⟨t.val / 32, t4 t⟩ rfl i hi ⟨h.val / 4, lt4 h⟩ j hj x]
    obtain rfl : i = ⟨t.val % 32, t32 t⟩ := Fin.ext hi
    rw [mul_assoc, mul_comm, mul_assoc, mul_comm]
    rfl
  · rw [Scalar.select, Scalar.select, if_neg hm, if_neg hm]

/-- A logit is real or `⊥`; it is `⊥` under the mask. -/
theorem logit_real (c : Dev nD) (hq : ∀ i, R (Q m c i)) (hk : ∀ i, R (K m c i)) (b : Fin 4) (i : Fin 32) (g u : Fin 4) (r : Fin 128) (j : Fin 256) :
    RefAt.logits (Q m c) (K m c) (ix6 b i g u r j) ≠ ⊤ := by
  rw [Cert.ReferenceIdeal.RefAt.logits_apply, Scalar.select]
  split
  · refine R.ne_top (R.sub (R.mul (R.sum _ _ fun x => R.mul ?_ (hq _)) ?_) (R.mul (slope_real _) ⟨_, rfl⟩))
    · rw [Cert.ReferenceIdeal.RefAt.band_apply]
      split
      · split
        · exact ⟨0, rfl⟩
        · exact hk _
      · exact hk _
    · obtain ⟨s, _, he⟩ := eighth
      exact ⟨s, he⟩
  · exact bot_ne_top

/-- One entry of the kernel's block at grid point `t` is the reference's. -/
theorem entry (c : Dev nD) (hq : ∀ i, R (Q m c i)) (hk : ∀ i, R (K m c i)) (hz : ∀ i, R (Z m c i))
    (t : Fin cfg0.N) (b : Fin 4) (hb : b.val = t.val / 32) (i : Fin 32) (hi : i.val = t.val % 32)
    (h : Fin 16) (g : Fin 4) (hg : g.val = h.val / 4) (u : Fin 4) (hu : u.val = h.val % 4) (r : Fin 128) (e : Fin 64) :
    headAt (grid0.coords t) (iblk m c 3 t) (iblk m c 4 t) (iblk m c 5 t) (iblk m c 6 t) (iblk m c 2 t)
        (iblk m c 0 t) (iblk m c 1 t) h (ix2 r e)
      = ∑ x : Fin 256, RefAt.band (W m c) (ix5 b i x g e)
          * RefAt.soft (RefAt.rows (RefAt.logits (Q m c) (K m c)) (Z m c)) (ix6 b i g u r ⟨x.val, by omega⟩) := by
  have ht := tlt t
  obtain ⟨z, hz'⟩ := hz (ix1 h)
  rw [headAt_apply]
  simp only [logit_eq m c t b hb i hi h g hg u hu r]
  rw [z_blk, show (m ((c : Thread nD τ).loc main_arg3) : FVec Ideal S16 .f32) (ix1 h) = (z : EReal) from hz',
    Softmax.row_eq _ (logit_real m c hq hk b i g u r) z _ (fun j => RefAt.band (W m c) (ix5 b i j g e)) fun j => ?_]
  · refine Finset.sum_congr rfl fun x _ => ?_
    rw [Cert.ReferenceIdeal.RefAt.soft_apply,
      show (⟨g.val * 4 + u.val, by omega⟩ : Fin 16) = h from Fin.ext (by simp only [Fin.val_mk]; omega), hz']
  · by_cases hm : mword i.val r j = 1
    · right
      obtain rfl : g = ⟨h.val / 4, lt4 h⟩ := Fin.ext hg
      have hj := mword_one i r j hm
      beta_reduce
      exact two_v m c t b hb i hi ⟨h.val / 4, lt4 h⟩ j hj e
    · left
      rw [Cert.ReferenceIdeal.RefAt.logits_apply, mword_eq, Scalar.select, if_neg hm]

/-- The kernel's result array is the reference's result of the kernel's arguments. -/
theorem result (c : Dev nD) (hq : ∀ i, R (Q m c i)) (hk : ∀ i, R (K m c i)) (hz : ∀ i, R (Z m c i)) :
    (dats m 0 c).arrAt 7 cfg0.N = RefAt.outp (RefAt.soft (RefAt.rows (RefAt.logits (Q m c) (K m c)) (Z m c))) (W m c) := by
  refine (dats m 0 c).arrAt_eq_of_covers 7 _ (by decide +kernel) fun t _ y => ?_
  have ht := tlt t
  blk_simp
  rw [after0_7]
  have h0 : (y 0).val < 128 := (y 0).isLt
  have h1 : (y 1).val < 1024 := (y 1).isLt
  have he : ((View.whole main_v15).slice (win0_7.rect t)).emb y = ix2 ⟨t.val * 128 + (y 0).val, by omega⟩ ⟨(y 1).val, h1⟩ := by
    blk_ext [idx t]
  rw [he, Cert.ReferenceIdeal.RefAt.outp_apply, outs_eq]
  have hr : (ix2 (y 0) ⟨(y 1).val % 64, by omega⟩ : S128x64.Idx)
      = ix2 ⟨(t.val * 128 + (y 0).val) % 128, by omega⟩ ⟨(y 1).val % 64, by omega⟩ :=
    congrArg (fun a : Fin 128 => (ix2 a ⟨(y 1).val % 64, by omega⟩ : S128x64.Idx)) (Fin.ext (by simp only [Fin.val_mk]; omega))
  refine (congrArg (headAt (grid0.coords t) (iblk m c 3 t) (iblk m c 4 t) (iblk m c 5 t) (iblk m c 6 t) (iblk m c 2 t)
        (iblk m c 0 t) (iblk m c 1 t) ⟨(y 1).val / 64, by omega⟩) hr).trans ?_
  refine entry m c hq hk hz t ⟨(t.val * 128 + (y 0).val) / 4096, by omega⟩ ?_ ⟨(t.val * 128 + (y 0).val) / 128 % 32, by omega⟩ ?_
    ⟨(y 1).val / 64, by omega⟩ ⟨(y 1).val / 256, by omega⟩ ?_ ⟨(y 1).val / 64 % 4, by omega⟩ ?_ _ _
  · simp only [Fin.val_mk]; omega
  · simp only [Fin.val_mk]; omega
  · simp only [Fin.val_mk]; omega
  · simp only [Fin.val_mk]

end Cert.Join

end
-- ==== Proof.AttnClaims.lean ====
/- The claims about the attention of the prompts: the three frames, the named constant, the value. -/
module

public import proofs.«01_k».proof.Defs
public import proofs.«01_k».proof.Proof.Gen.Kernel.Frame
public import proofs.«01_k».proof.Proof.Gen.KernelIdeal.Frame
public import proofs.«01_k».proof.Proof.Join

@[expose] public section

noncomputable section

namespace Cert.Attn
open Idealize.ShloMosaic Idealize.SL.Sem

theorem frame_k : Cert.quiescent_Kernel (hKernel := Cert.Kernel.Gen.facts) := fun m ρ _ => Cert.Kernel.Gen.frame m ρ
theorem frame_ki : Cert.quiescent_KernelIdeal (hKernelIdeal := Cert.KernelIdeal.Gen.facts) := fun m ρ _ => Cert.KernelIdeal.Gen.frame m ρ
theorem frame_kip : Cert.quiescent_KernelIdeal_pre_finite (hKernelIdeal := Cert.KernelIdeal.Gen.facts) (hPre_finite := Cert.Pre_finite.facts) :=
  fun m ρ _ => Cert.KernelIdeal.Gen.frame m ρ

/-- The reference's frame: its run read at the arguments; it declares no semaphore. -/
theorem frame_r : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_rp : Cert.quiescent_ReferenceIdeal_pre_finite (hReferenceIdeal := Cert.ReferenceIdeal.Gen.facts) (hPre_finite := Cert.Pre_finite.facts) :=
  fun m ρ _ => frame_r m ρ trivial

/-- The mask's constant is named: it stands for minus infinity. -/
theorem preserves : Cert.preserves_Kernel_KernelIdeal :=
  IdealRules.named_const.statement Cert.KernelIdeal.κ "mask" .f32 0xF149F2CA#32 ⊥ rfl

/-- The kernel's attention is the reference's, where the queries, the keys and the sinks are real. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' hpre hag
  refine ⟨fun c => (Cert.KernelIdeal.Gen.dats m 0 c).arrAt 7 Cert.KernelIdeal.cfg0.N, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3⟩ := hag c
  obtain ⟨hq, hk, hz⟩ := @Cert.Pre_finite.reals Cert.Pre_finite.facts _ _ _ _ (hpre c)
  refine Eq.trans ?_ (Cert.Join.result m c hq hk hz).symm
  rw [Cert.ReferenceIdeal.RefAt.res_eq, h0, h1, h2, h3]
  rfl

end Cert.Attn

end
-- ==== Proof.InprojMath.lean ====
/- The arithmetic of the input projection: norms of a token and of a head, sums over a head's columns. -/
module

public import Idealize.ShloMosaic.Lib.Pointwise
public import Idealize.ShloMosaic.Lib.Pipeline.ValueKit

@[expose] public section

noncomputable section

open Idealize.ShloMosaic

namespace Cert.Inproj

/-- A real number among the extended ones. -/
def R (x : EReal) : Prop := ∃ r : ℝ, x = r

theorem R.mul {x y : EReal} : R x → R y → R (x * y) := fun ⟨a, ha⟩ ⟨b, hb⟩ => ⟨a * b, by rw [ha, hb, EReal.coe_mul]⟩
theorem R.add {x y : EReal} : R x → R y → R (x + y) := fun ⟨a, ha⟩ ⟨b, hb⟩ => ⟨a + b, by rw [ha, hb, EReal.coe_add]⟩
theorem R.sum {ι : Type*} (u : Finset ι) (f : ι → EReal) (h : ∀ j, R (f j)) : R (∑ j ∈ u, f j) := by
  classical
  induction u using Finset.induction with
  | empty => exact ⟨0, by simp⟩
  | insert a u ha ih => rw [Finset.sum_insert ha]; exact (h a).add ih

theorem coe_sum {ι : Type*} (u : Finset ι) (f : ι → ℝ) : ((∑ j ∈ u, f j : ℝ) : EReal) = ∑ j ∈ u, (f j : EReal) := by
  classical
  induction u using Finset.induction with
  | empty => simp
  | insert a u ha ih => rw [Finset.sum_insert ha, Finset.sum_insert ha, EReal.coe_add, ih]

theorem eps_lit : ∃ e : ℝ, 0 < e ∧ Ideal.ofBits .f32 0x358637BD#32 = (e : EReal) := by
  refine ⟨_, ?_, by simp [Ideal.ofBits, Ideal.ieee, -EReal.coe_mul]; rfl⟩
  positivity
theorem len_lit : Ideal.ofBits .f32 0x44800000#32 = ((1024 : ℝ) : EReal) := by
  simp [Ideal.ofBits, Ideal.ieee, -EReal.coe_mul]
  norm_num
theorem head_lit : Ideal.ofBits .f32 0x42800000#32 = ((64 : ℝ) : EReal) := by
  simp [Ideal.ofBits, Ideal.ieee, -EReal.coe_mul]
  norm_num
theorem inv_head_lit : Ideal.ofBits .f32 0x3C800000#32 = ((1 / 64 : ℝ) : EReal) := by
  simp [Ideal.ofBits, Ideal.ieee, -EReal.coe_mul]
  norm_num
theorem one_lit : Ideal.ofBits .f32 0x3F800000#32 = 1 := by
  have h : Ideal.ofBits .f32 0x3F800000#32 = ((1 : ℝ) : EReal) := by
    simp [Ideal.ofBits, Ideal.ieee, -EReal.coe_mul, -EReal.coe_one]
    norm_num
  rw [h, EReal.coe_one]
theorem zero_lit : Ideal.ofBits .f32 0x00000000#32 = 0 := by
  simp [Ideal.ofBits, Ideal.ieee, -EReal.coe_mul]

/-- A quotient by a positive real is a product with its inverse. -/
theorem div_pos (x : EReal) (r : ℝ) (h : 0 < r) : Ideal.div x (r : EReal) = x * ((1 / r : ℝ) : EReal) := by
  rw [Ideal.div, if_neg (by rw [← EReal.coe_zero]; exact fun e => h.ne' (EReal.coe_injective e)), ← EReal.coe_inv, one_div]

/-- One entry of a token's norm before its gain. -/
def unit {n : ℕ} (c : EReal) (x : Fin n → EReal) (k : Fin n) : EReal :=
  x k * Ideal.rsqrt (Ideal.div (∑ j : Fin n, x j * x j) c + Ideal.ofBits .f32 0x358637BD#32)

/-- The root of a nonnegative real over a positive one, plus the norm's constant, is real. -/
theorem rsqrt_real (s : ℝ) (hs : 0 ≤ s) : R (Ideal.rsqrt ((s : EReal) + Ideal.ofBits .f32 0x358637BD#32)) := by
  obtain ⟨e, he, hl⟩ := eps_lit
  rw [hl, ← EReal.coe_add]
  refine ⟨(Real.sqrt (s + e))⁻¹, ?_⟩
  show (if s + e < 0 then (⊥ : EReal) else if s + e = 0 then ⊤ else ((Real.sqrt (s + e))⁻¹ : ℝ)) = _
  rw [if_neg (by linarith), if_neg (by linarith)]

theorem sq_nonneg (x : EReal) : 0 ≤ x * x := by
  induction x using EReal.rec with
  | bot => simp
  | top => simp
  | coe r => rw [← EReal.coe_mul]; exact_mod_cast mul_self_nonneg r

/-- An entry of a norm is real whatever the row: an infinite row has an infinite mean square, whose inverse root is zero. -/
theorem unit_real {n : ℕ} (r : ℝ) (hr : 0 < r) (x : Fin n → EReal) (k : Fin n) : R (unit (r : EReal) x k) := by
  rw [unit, div_pos _ r hr]
  by_cases h : ∀ j, R (x j)
  · choose u hu using h
    have e : ∑ j : Fin n, x j * x j = ((∑ j : Fin n, u j * u j : ℝ) : EReal) := by
      rw [coe_sum]
      exact Finset.sum_congr rfl fun j _ => by rw [hu, EReal.coe_mul]
    rw [e, ← EReal.coe_mul]
    refine R.mul ⟨_, hu k⟩ (rsqrt_real _ ?_)
    exact mul_nonneg (Finset.sum_nonneg fun j _ => mul_self_nonneg _) (by positivity)
  · push Not at h
    obtain ⟨j, hj⟩ := h
    have ht : x j * x j = ⊤ := by
      induction hx : x j using EReal.rec with
      | bot => simp
      | top => simp
      | coe a => exact absurd ⟨a, hx⟩ hj
    have hs : ∑ j : Fin n, x j * x j = ⊤ := by
      refine top_le_iff.1 (ht ▸ Finset.single_le_sum (f := fun j => x j * x j) (fun i _ => sq_nonneg (x i)) (Finset.mem_univ j))
    obtain ⟨e, he, hl⟩ := eps_lit
    rw [hs, hl, EReal.top_mul_coe_of_pos (by positivity), EReal.top_add_coe]
    exact ⟨0, by rw [show Ideal.rsqrt ⊤ = 0 from rfl, mul_zero, EReal.coe_zero]⟩

/-- The three parts of a real number in a product with a matrix, put together: the second and the third part are zero. -/
theorem parts {ι : Type*} [Fintype ι] (f s : ι → EReal) (h : ∀ i, R (f i)) :
    (∑ i, f i * s i) + (∑ i, (f i - f i) * s i) + (∑ i, (f i - f i - (f i - f i)) * s i) = ∑ i, f i * s i := by
  have e : ∀ i, f i - f i = 0 := fun i => by
    obtain ⟨r, hr⟩ := h i
    rw [hr, ← EReal.coe_sub, sub_self, EReal.coe_zero]
  simp only [e, sub_zero, zero_mul, Finset.sum_const_zero, add_zero]

/-- The sum over a row against the indicator of head `h` is the sum over the head's 64 columns. -/
theorem sum_head {n : ℕ} (f : Fin n → EReal) (h : ℕ) (hn : 64 * h + 64 ≤ n) :
    ∑ c : Fin n, f c * (if c.val / 64 = h then (1 : EReal) else 0) = ∑ e : Fin 64, f ⟨64 * h + e.val, by omega⟩ := by
  simp only [mul_ite, mul_one, mul_zero]
  rw [← Finset.sum_filter]
  refine Finset.sum_bij' (fun c hc => (⟨c.val % 64, Nat.mod_lt _ (by norm_num)⟩ : Fin 64)) (fun e _ => (⟨64 * h + e.val, by omega⟩ : Fin n))
    ?_ ?_ ?_ ?_ ?_
  · intro c hc; exact Finset.mem_univ _
  · intro e _
    simp only [Finset.mem_filter, Finset.mem_univ, true_and]
    omega
  · intro c hc
    simp only [Finset.mem_filter, Finset.mem_univ, true_and] at hc
    exact Fin.ext (by show 64 * h + c.val % 64 = c.val; omega)
  · intro e _
    exact Fin.ext (by show (64 * h + e.val) % 64 = e.val; omega)
  · intro c hc
    simp only [Finset.mem_filter, Finset.mem_univ, true_and] at hc
    exact congrArg f (Fin.ext (by show c.val = 64 * h + c.val % 64; omega))

/-- The sum over the lanes against the indicator of a column's head is the head's lane. -/
theorem sum_lane (f : Fin 128 → EReal) (c : ℕ) (h : c / 64 < 128) :
    ∑ l : Fin 128, f l * (if c / 64 = l.val then (1 : EReal) else 0) = f ⟨c / 64, h⟩ := by
  rw [Finset.sum_eq_single (⟨c / 64, h⟩ : Fin 128)]
  · rw [if_pos rfl, mul_one]
  · intro l _ hl
    rw [if_neg (fun e => hl (Fin.ext e.symm)), mul_zero]
  · intro hm; exact absurd (Finset.mem_univ _) hm

/-- The inverse root of lane `l` of a row `t`: of the mean square of the columns of head `l` (of nothing past the heads). -/
def lane {n : ℕ} (t : Fin n → EReal) (l : Fin 128) : EReal :=
  Ideal.rsqrt ((∑ c : Fin n, t c * t c * (if c.val / 64 = l.val then (1 : EReal) else 0)) * Ideal.ofBits .f32 0x3C800000#32
    + Ideal.ofBits .f32 0x358637BD#32)

theorem lane_real {n : ℕ} (t : Fin n → EReal) (h : ∀ c, R (t c)) (l : Fin 128) : R (lane t l) := by
  choose u hu using h
  have e : ∑ c : Fin n, t c * t c * (if c.val / 64 = l.val then (1 : EReal) else 0)
      = ((∑ c : Fin n, u c * u c * (if c.val / 64 = l.val then (1 : ℝ) else 0) : ℝ) : EReal) := by
    rw [coe_sum]
    refine Finset.sum_congr rfl fun c _ => ?_
    rw [hu]
    split_ifs <;> simp [EReal.coe_mul]
  rw [lane, e, inv_head_lit, ← EReal.coe_mul]
  refine rsqrt_real _ (mul_nonneg (Finset.sum_nonneg fun c _ => mul_nonneg (mul_self_nonneg _) ?_) (by norm_num))
  split_ifs <;> norm_num

/-- A head's lane is the norm of the head's 64 columns. -/
theorem lane_eq {n : ℕ} (t : Fin n → EReal) (c : Fin n) (h : c.val / 64 < 128) (hn : 64 * (c.val / 64) + 64 ≤ n) :
    t c * lane t ⟨c.val / 64, h⟩
      = unit (Ideal.ofBits .f32 0x42800000#32) (fun e : Fin 64 => t ⟨64 * (c.val / 64) + e.val, by omega⟩) ⟨c.val % 64, Nat.mod_lt _ (by norm_num)⟩ := by
  rw [lane, unit, sum_head (fun c => t c * t c) (c.val / 64) hn, head_lit, div_pos _ 64 (by norm_num), inv_head_lit]
  exact congrArg (fun a => t a * _) (Fin.ext (by show c.val = 64 * (c.val / 64) + c.val % 64; omega))

/-- One column of a token's projection: the row's norm with its gain against the column. -/
def proj (x g : Fin 1024 → EReal) (w : Fin 1024 → EReal) : EReal :=
  ∑ k : Fin 1024, unit (Ideal.ofBits .f32 0x44800000#32) x k * g k * w k

/-- The gelu of a number, in its form with the hyperbolic tangent. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- The entry at column `c` of the norms of a token's heads, before the gain. -/
def head {n : ℕ} (t : Fin n → EReal) (c : Fin n) (h : 64 * (c.val / 64) + 64 ≤ n) : EReal :=
  unit (Ideal.ofBits .f32 0x42800000#32) (fun e : Fin 64 => t ⟨64 * (c.val / 64) + e.val, by omega⟩) ⟨c.val % 64, Nat.mod_lt _ (by norm_num)⟩

end Cert.Inproj

end
-- ==== Proof.InprojKern.lean ====
/- The input projection's body, its pure values read at an index. -/
module

public import proofs.«01_k».proof.Proof.InprojMath
public import proofs.«01_k».proof.Proof.Gen.Kernel2Ideal.Frame
public import Idealize.ShloMosaic.Lib.Pipeline.Value

@[expose] public section

set_option maxRecDepth 16384

noncomputable section

namespace Cert.Kernel2Ideal.Kern
open Cert.Kernel2Ideal Cert.Kernel2Ideal.Gen Cert.Inproj
open Idealize.ShloMosaic Idealize.ShloMosaic.TcCoe Idealize.SL.Sem Idealize.ShloMosaic.Pointwise

/-- The normed block. -/
def xn (x : FVec Ideal S256x1024 .f32) (g : FVec Ideal S1x1024 .f32) : FVec Ideal S256x1024 .bf16 := k0_pay2 (F := Ideal) x g

theorem xn_apply (x : FVec Ideal S256x1024 .f32) (g : FVec Ideal S1x1024 .f32) (r : Fin 256) (k : Fin 1024) :
    xn x g (ix2 r k) = unit (Ideal.ofBits .f32 0x44800000#32) (fun j : Fin 1024 => x (ix2 r j)) k * g (ix2 0 k) := by
  pointwise [xn, k0_pay2, unit]

theorem pay3_apply (x : FVec Ideal S256x1024 .f32) (g : FVec Ideal S1x1024 .f32) (w : FVec Ideal S1024x1024 .bf16) (r : Fin 256) (n : Fin 1024) :
    (k0_pay3 (F := Ideal) x g w : FVec Ideal S256x1024 .f32) (ix2 r n) = ∑ k : Fin 1024, xn x g (ix2 r k) * w (ix2 k n) := by
  unfold k0_pay3 xn
  generalize (k0_pay2 (F := Ideal) x g : FVec Ideal S256x1024 .bf16) = y
  pointwise []

theorem pay4_apply (x : FVec Ideal S256x1024 .f32) (g : FVec Ideal S1x1024 .f32) (w : FVec Ideal S1024x1024 .bf16) (r : Fin 256) (n : Fin 1024) :
    (k0_pay4 (F := Ideal) x g w : FVec Ideal S256x1024 .f32) (ix2 r n) = gelu (∑ k : Fin 1024, xn x g (ix2 r k) * w (ix2 k n)) := by
  unfold k0_pay4 xn
  generalize (k0_pay2 (F := Ideal) x g : FVec Ideal S256x1024 .bf16) = y
  pointwise [gelu]

theorem pay5_apply (y : FVec Ideal S256x1024 .bf16) (w : FVec Ideal S1024x1024 .bf16) (r : Fin 256) (n : Fin 1024) :
    (k0_pay5 (F := Ideal) y w : FVec Ideal S256x1024 .f32) (ix2 r n) = ∑ k : Fin 1024, y (ix2 r k) * w (ix2 k n) := by
  pointwise [k0_pay5]
theorem pay17_apply (y : FVec Ideal S256x1024 .bf16) (w : FVec Ideal S1024x256 .bf16) (r : Fin 256) (n : Fin 256) :
    (k0_pay17 (F := Ideal) y w : FVec Ideal S256x256 .f32) (ix2 r n) = ∑ k : Fin 1024, y (ix2 r k) * w (ix2 k n) := by
  pointwise [k0_pay17]
theorem pay29_apply (y : FVec Ideal S256x1024 .bf16) (w : FVec Ideal S1024x256 .bf16) (r : Fin 256) (n : Fin 256) :
    (k0_pay29 (F := Ideal) y w : FVec Ideal S256x256 .f32) (ix2 r n) = ∑ k : Fin 1024, y (ix2 r k) * w (ix2 k n) := by
  pointwise [k0_pay29]
theorem pay30_apply (y : FVec Ideal S256x1024 .bf16) (w : FVec Ideal S1024x1024 .bf16) (r : Fin 256) (n : Fin 1024) :
    (k0_pay30 (F := Ideal) y w : FVec Ideal S256x1024 .f32) (ix2 r n) = Ideal.logistic (∑ k : Fin 1024, y (ix2 r k) * w (ix2 k n)) := by
  pointwise [k0_pay30]
theorem pay1_apply (y : FVec Ideal S256x1024 .bf16) (w : FVec Ideal S1024x1024 .bf16) (r : Fin 256) (n : Fin 1024) :
    (k0_pay1 (F := Ideal) y w : FVec Ideal S256x1024 .f32) (ix2 r n) = Ideal.logistic (∑ k : Fin 1024, y (ix2 r k) * w (ix2 k n)) := by
  pointwise [k0_pay1]

/-- The queries' heads' columns: one where the column lies in the head. -/
def segQ : FVec Ideal S1024x128 .bf16 := k0_pay7 (F := Ideal)
def segQT : FVec Ideal S128x1024 .bf16 :=
  k0_pay10 (F := Ideal) (iota .tc S128x1024 32 [0] iota_S128x1024_d0_w32) (iota .tc S128x1024 32 [1] iota_S128x1024_d1_w32) 64#32 k0_pay8 k0_pay9
def segK : FVec Ideal S256x128 .bf16 := k0_pay21 (F := Ideal) (iota .tc S256x128 32 [1] iota_S256x128_d1_w32) k0_pay19 k0_pay20
def segKT : FVec Ideal S128x256 .bf16 := k0_pay22 (F := Ideal)

/-- The word of the head of column `c`: the quotient by 64, rounded towards minus infinity. -/
def quot (c : ℕ) : BitVec 32 :=
  Scalar.select
    (IntOp.andi
      (IntOp.cmpi CmpIPredicate.ne
        (IntOp.subi (BitVec.setWidth 32 (IntOp.cmpi CmpIPredicate.sgt (BitVec.ofNat 32 c) 0#32))
          (BitVec.setWidth 32 (IntOp.cmpi CmpIPredicate.slt (BitVec.ofNat 32 c) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 c) 64#32) 0#32))
    (IntOp.subi (IntOp.divsi ArithUnit.vector (BitVec.ofNat 32 c) 64#32) 1#32)
    (IntOp.divsi ArithUnit.vector (BitVec.ofNat 32 c) 64#32)

theorem quot_eq : ∀ c : Fin 1024, quot c.val = BitVec.ofNat 32 (c.val / 64) := by
  decide +kernel

/-- The entry of the matrix of columns and lanes: one where the column's head is the lane. -/
theorem entry_eq (c : ℕ) (hc : c < 1024) (l : Fin 128) :
    Scalar.select (IntOp.cmpi CmpIPredicate.eq (quot c) (BitVec.ofNat 32 l.val)) (1 : EReal) 0 = if c / 64 = l.val then (1 : EReal) else 0 := by
  rw [quot_eq ⟨c, hc⟩, Scalar.select]
  refine if_congr ?_ rfl rfl
  simp only [IntOp.cmpi]
  rw [show ((c / 64 = l.val) ↔ (BitVec.ofNat 32 (c / 64) = BitVec.ofNat 32 l.val)) from ?_]
  · by_cases h : BitVec.ofNat 32 (c / 64) = BitVec.ofNat 32 l.val
    · simp [h]
    · rw [beq_false_of_ne h]
      simp [h]
  · constructor
    · intro h; rw [h]
    · intro h
      have := congrArg BitVec.toNat h
      simp only [BitVec.toNat_ofNat] at this
      omega

theorem segQ_apply (c : Fin 1024) (l : Fin 128) : segQ (ix2 c l) = (if c.val / 64 = l.val then (1 : EReal) else 0) := by
  rw [← entry_eq c.val c.isLt l]
  pointwise [segQ, k0_pay7, quot]
theorem segQT_apply (c : Fin 1024) (l : Fin 128) : segQT (ix2 l c) = (if c.val / 64 = l.val then (1 : EReal) else 0) := by
  rw [← entry_eq c.val c.isLt l]
  pointwise [segQT, k0_pay10, k0_pay8, k0_pay9, quot]
theorem segK_apply (c : Fin 256) (l : Fin 128) : segK (ix2 c l) = (if c.val / 64 = l.val then (1 : EReal) else 0) := by
  rw [← entry_eq c.val (by omega) l]
  pointwise [segK, k0_pay21, k0_pay19, k0_pay20, quot]
theorem segKT_apply (c : Fin 256) (l : Fin 128) : segKT (ix2 l c) = (if c.val / 64 = l.val then (1 : EReal) else 0) := by
  rw [← entry_eq c.val (by omega) l]
  pointwise [segKT, k0_pay22, quot]

/-- The three parts of a row in a product with a matrix's column. -/
def three {ι : Type} [Fintype ι] (f s : ι → EReal) : EReal :=
  (∑ i, f i * s i) + (∑ i, (f i - f i) * s i) + (∑ i, (f i - f i - (f i - f i)) * s i)

/-- The queries' lanes, as the body computes them. -/
def lanesQ (t : FVec Ideal S256x1024 .f32) : FVec Ideal S256x128 .f32 := k0_pay11 (F := Ideal) t segQ

theorem lanesQ_apply (t : FVec Ideal S256x1024 .f32) (r : Fin 256) (l : Fin 128) :
    lanesQ t (ix2 r l) = Ideal.rsqrt (three (fun c : Fin 1024 => t (ix2 r c) * t (ix2 r c)) (fun c => segQ (ix2 c l)) * Ideal.ofBits .f32 0x3C800000#32
      + Ideal.ofBits .f32 0x358637BD#32) := by
  unfold lanesQ
  generalize segQ = s
  pointwise [k0_pay11, three]

/-- The queries of a block as the body leaves them. -/
def headsQ (t : FVec Ideal S256x1024 .f32) (g : FVec Ideal S1x1024 .f32) : FVec Ideal S256x1024 .bf16 :=
  k0_pay16 (F := Ideal) t (k0_pay6 (F := Ideal) g) segQT (k0_pay12 (F := Ideal) t segQ) (k0_pay13 (F := Ideal) t segQ)
    (k0_pay14 (F := Ideal) t segQ) (k0_pay15 (F := Ideal) t segQ)

theorem headsQ_three (t : FVec Ideal S256x1024 .f32) (g : FVec Ideal S1x1024 .f32) (r : Fin 256) (c : Fin 1024) :
    headsQ t g (ix2 r c) = t (ix2 r c) * three (fun l : Fin 128 => lanesQ t (ix2 r l)) (fun l => segQT (ix2 l c)) * g (ix2 0 c)
      * Ideal.ofBits .f32 0x3E000000#32 := by
  unfold headsQ k0_pay15 k0_pay14 k0_pay13 k0_pay12
  rw [show k0_pay11 (F := Ideal) t segQ = lanesQ t from rfl]
  generalize lanesQ t = y
  generalize segQT = s
  pointwise [k0_pay16, k0_pay6, three]

/-- The keys of a block as the body leaves them. -/
def headsK (t : FVec Ideal S256x256 .f32) (g : FVec Ideal S1x256 .f32) : FVec Ideal S256x256 .f32 :=
  k0_pay28 (F := Ideal) t (k0_pay18 (F := Ideal) g) segK segKT (k0_pay24 (F := Ideal) t) (k0_pay26 (F := Ideal) t) (k0_pay27 (F := Ideal) t)
    (constant S256x128 .f32 0x00000000#32)

theorem headsK_three (t : FVec Ideal S256x256 .f32) (g : FVec Ideal S1x256 .f32) (r : Fin 256) (c : Fin 256) :
    headsK t g (ix2 r c) = t (ix2 r c) * three (fun l : Fin 128 =>
        Ideal.rsqrt (three (fun c : Fin 256 => t (ix2 r c) * t (ix2 r c)) (fun c => segK (ix2 c l)) * Ideal.ofBits .f32 0x3C800000#32
          + Ideal.ofBits .f32 0x358637BD#32)) (fun l => segKT (ix2 l c)) * g (ix2 0 c) := by
  unfold headsK
  generalize segKT = s
  generalize segK = u
  pointwise [k0_pay28, k0_pay24, k0_pay26, k0_pay27, k0_pay25, k0_pay23, k0_pay18, three]

/-- Where a block's queries are real, they leave the body as the norms of their heads. -/
theorem headsQ_apply (t : FVec Ideal S256x1024 .f32) (g : FVec Ideal S1x1024 .f32) (r : Fin 256) (c : Fin 1024) (h : ∀ c : Fin 1024, R (t (ix2 r c))) :
    headsQ t g (ix2 r c)
      = head (fun c => t (ix2 r c)) c (by omega)
          * g (ix2 0 c) * Ideal.ofBits .f32 0x3E000000#32 := by
  have e : ∀ l : Fin 128, lanesQ t (ix2 r l) = lane (fun c : Fin 1024 => t (ix2 r c)) l := fun l => by
    rw [lanesQ_apply, three, parts _ _ fun i => (h i).mul (h i)]
    simp only [segQ_apply, lane]
  rw [headsQ_three]
  simp only [e]
  rw [three, parts _ _ fun l => lane_real _ h l]
  simp only [segQT_apply]
  rw [sum_lane _ c.val (by omega), lane_eq (fun c : Fin 1024 => t (ix2 r c)) c (by omega) (by omega), head]

/-- Where a block's keys are real, they leave the body as the norms of their heads. -/
theorem headsK_apply (t : FVec Ideal S256x256 .f32) (g : FVec Ideal S1x256 .f32) (r : Fin 256) (c : Fin 256) (h : ∀ c : Fin 256, R (t (ix2 r c))) :
    headsK t g (ix2 r c)
      = head (fun c => t (ix2 r c)) c (by omega)
          * g (ix2 0 c) := by
  have e : ∀ l : Fin 128, Ideal.rsqrt (three (fun c : Fin 256 => t (ix2 r c) * t (ix2 r c)) (fun c => segK (ix2 c l)) * Ideal.ofBits .f32 0x3C800000#32
          + Ideal.ofBits .f32 0x358637BD#32) = lane (fun c : Fin 256 => t (ix2 r c)) l := fun l => by
    rw [three, parts _ _ fun i => (h i).mul (h i)]
    simp only [segK_apply, lane]
  rw [headsK_three]
  simp only [e]
  rw [three, parts _ _ fun l => lane_real _ h l]
  simp only [segKT_apply]
  rw [sum_lane _ c.val (by omega), lane_eq (fun c : Fin 256 => t (ix2 r c)) c (by omega) (by omega), head]

end Cert.Kernel2Ideal.Kern

end
-- ==== Proof.InprojRef.lean ====
/- The reference of the input projection, its results read at an index. -/
module

public import proofs.«01_k».proof.Proof.InprojMath
public import proofs.«01_k».proof.Proof.Gen.Reference2Ideal.Run

@[expose] public section

set_option maxRecDepth 16384

noncomputable section

open Idealize.ShloMosaic Idealize.ShloMosaic.TcCoe Idealize.SL.Sem Idealize.ShloMosaic.Pointwise

namespace Cert.Reference2Ideal.InprojRef
open Cert.Reference2Ideal Cert.Reference2Ideal.Gen Cert.Reference2Ideal.Value Cert.Inproj

/-- The normed tokens. -/
def nrm (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

theorem nrm_apply (x : FVec Ideal S4x4096x1024 .f32) (g : FVec Ideal S1024 .f32) (b : Fin 4) (t : Fin 4096) (k : Fin 1024) :
    nrm x g (ix3 b t k) = unit (Ideal.ofBits .f32 0x44800000#32) (fun k => x (ix3 b t k)) k * g (ix1 k) := by
  pointwise [nrm, unit]

/-- The projected tokens. -/
def prj (x : FVec Ideal S4x4096x1024 .f32) (g : FVec Ideal S1024 .f32) (w : FVec Ideal S1024x5632 .f32) : FVec Ideal S4x4096x5632 .f32 :=
  Host.dotGeneral dot_S4x4096x1024_S1024x5632_S4x4096x5632_2_0_01_1_n_n none (nrm x g) w

theorem prj_apply (x : FVec Ideal S4x4096x1024 .f32) (g : FVec Ideal S1024 .f32) (w : FVec Ideal S1024x5632 .f32) (b : Fin 4) (t : Fin 4096) (n : Fin 5632) :
    prj x g w (ix3 b t n) = proj (fun k => x (ix3 b t k)) (fun k => g (ix1 k)) (fun k => w (ix2 k n)) := by
  unfold prj proj
  simp only [← nrm_apply]
  generalize nrm x g = y
  pointwise []

/-- The first 1024 columns, the recurrent branch's input. -/
def rx (z : FVec Ideal S4x4096x5632 .f32) : FVec Ideal S16384x1024 .f32 :=
  shapeCast _ (extractStridedSlice S4x4096x1024 ![0, 0, 0] z slices_S4x4096x5632_S4x4096x1024_0_0_0) shapeCasts_S4x4096x1024_S16384x1024

theorem rx_apply (z : FVec Ideal S4x4096x5632 .f32) (r : Fin 16384) (n : Fin 1024) :
    rx z (ix2 r n) = z (ix3 ⟨r.val / 4096, by omega⟩ ⟨r.val % 4096, by omega⟩ ⟨n.val, by omega⟩) := by
  pointwise [rx]

/-- The next 1024 columns, through gelu. -/
def rg (z : FVec Ideal S4x4096x5632 .f32) : FVec Ideal S16384x1024 .f32 :=
  shapeCast _ (mulf (extractStridedSlice S4x4096x1024 ![0, 0, 1024] z slices_S4x4096x5632_S4x4096x1024_0_0_1024) (mulf (broadcastInDim S4x4096x1024 ![] bcast_S_S4x4096x1024 (constant S_ .f32 0x3F000000#32)) (addf (broadcastInDim S4x4096x1024 ![] bcast_S_S4x4096x1024 (constant S_ .f32 0x3F800000#32)) (Host.tanh (mulf (broadcastInDim S4x4096x1024 ![] bcast_S_S4x4096x1024 (constant S_ .f32 0x3F4C422A#32)) (addf (extractStridedSlice S4x4096x1024 ![0, 0, 1024] z slices_S4x4096x5632_S4x4096x1024_0_0_1024) (mulf (broadcastInDim S4x4096x1024 ![] bcast_S_S4x4096x1024 (constant S_ .f32 0x3D372713#32)) (mulf (mulf (extractStridedSlice S4x4096x1024 ![0, 0, 1024] z slices_S4x4096x5632_S4x4096x1024_0_0_1024) (extractStridedSlice S4x4096x1024 ![0, 0, 1024] z slices_S4x4096x5632_S4x4096x1024_0_0_1024)) (extractStridedSlice S4x4096x1024 ![0, 0, 1024] z slices_S4x4096x5632_S4x4096x1024_0_0_1024))))))))) shapeCasts_S4x4096x1024_S16384x1024

theorem rg_apply (z : FVec Ideal S4x4096x5632 .f32) (r : Fin 16384) (n : Fin 1024) :
    rg z (ix2 r n) = gelu (z (ix3 ⟨r.val / 4096, by omega⟩ ⟨r.val % 4096, by omega⟩ ⟨1024 + n.val, by omega⟩)) := by
  unfold gelu
  rw [mul_comm (z _) (z _ * z _)]
  pointwise [rg]

/-- The queries: 1024 columns as 16 heads, each normed, with its gain and the attention's scale. -/
def rq (z : FVec Ideal S4x4096x5632 .f32) (g : FVec Ideal S64 .f32) : FVec Ideal S16384x1024 .bf16 :=
  shapeCast _ (truncf .bf16 (mulf (mulf (mulf (shapeCast _ (extractStridedSlice S4x4096x1024 ![0, 0, 2048] z slices_S4x4096x5632_S4x4096x1024_0_0_2048) shapeCasts_S4x4096x1024_S4x4096x4x4x64) (broadcastInDim S4x4096x4x4x64 ![0, 1, 2, 3, 4] bcast_S4x4096x4x4x1_S4x4096x4x4x64_0_1_2_3_4 (Host.rsqrt (addf (Host.divf (broadcastInDim S4x4096x4x4x1 ![0, 1, 2, 3] bcast_S4x4096x4x4_S4x4096x4x4x1_0_1_2_3 (Host.reduceAdd (mulf (shapeCast _ (extractStridedSlice S4x4096x1024 ![0, 0, 2048] z slices_S4x4096x5632_S4x4096x1024_0_0_2048) shapeCasts_S4x4096x1024_S4x4096x4x4x64) (shapeCast _ (extractStridedSlice S4x4096x1024 ![0, 0, 2048] z slices_S4x4096x5632_S4x4096x1024_0_0_2048) shapeCasts_S4x4096x1024_S4x4096x4x4x64)) (constant S_ .f32 0x00000000#32) reducesTo_S4x4096x4x4x64_S4x4096x4x4_d4 h_S_)) (broadcastInDim S4x4096x4x4x1 ![] bcast_S_S4x4096x4x4x1 (constant S_ .f32 0x42800000#32))) (broadcastInDim S4x4096x4x4x1 ![] bcast_S_S4x4096x4x4x1 (constant S_ .f32 0x358637BD#32)))))) (broadcastInDim S4x4096x4x4x64 ![0, 1, 2, 3, 4] bcast_S1x1x1x1x64_S4x4096x4x4x64_0_1_2_3_4 (broadcastInDim S1x1x1x1x64 ![4] bcast_S64_S1x1x1x1x64_4 g))) (broadcastInDim S4x4096x4x4x64 ![] bcast_S_S4x4096x4x4x64 (constant S_ .f32 0x3E000000#32))) bitsLt_bf16_f32) shapeCasts_S4x4096x4x4x64_S16384x1024

theorem rq_apply (z : FVec Ideal S4x4096x5632 .f32) (g : FVec Ideal S64 .f32) (r : Fin 16384) (n : Fin 1024) :
    rq z g (ix2 r n) = head (fun c : Fin 1024 => z (ix3 ⟨r.val / 4096, by omega⟩ ⟨r.val % 4096, by omega⟩ ⟨2048 + c.val, by omega⟩)) n (by omega)
      * g (ix1 ⟨n.val % 64, by omega⟩) * Ideal.ofBits .f32 0x3E000000#32 := by
  have e1 : n.val / 256 * 256 + n.val / 64 % 4 * 64 = 64 * (n.val / 64) := by omega
  have e2 : 64 * (n.val / 64) + n.val % 64 = n.val := by omega
  pointwise [rq, head, unit]
  simp only [e1, e2]

/-- The keys of the 4 heads: 256 columns, each head normed, with its gain. -/
def kh (z : FVec Ideal S4x4096x5632 .f32) (g : FVec Ideal S64 .f32) : FVec Ideal S4x4096x4x64 .f32 :=
  mulf (mulf (shapeCast _ (extractStridedSlice S4x4096x256 ![0, 0, 3072] z slices_S4x4096x5632_S4x4096x256_0_0_3072) shapeCasts_S4x4096x256_S4x4096x4x64) (broadcastInDim S4x4096x4x64 ![0, 1, 2, 3] bcast_S4x4096x4x1_S4x4096x4x64_0_1_2_3 (Host.rsqrt (addf (Host.divf (broadcastInDim S4x4096x4x1 ![0, 1, 2] bcast_S4x4096x4_S4x4096x4x1_0_1_2 (Host.reduceAdd (mulf (shapeCast _ (extractStridedSlice S4x4096x256 ![0, 0, 3072] z slices_S4x4096x5632_S4x4096x256_0_0_3072) shapeCasts_S4x4096x256_S4x4096x4x64) (shapeCast _ (extractStridedSlice S4x4096x256 ![0, 0, 3072] z slices_S4x4096x5632_S4x4096x256_0_0_3072) shapeCasts_S4x4096x256_S4x4096x4x64)) (constant S_ .f32 0x00000000#32) reducesTo_S4x4096x4x64_S4x4096x4_d3 h_S_)) (broadcastInDim S4x4096x4x1 ![] bcast_S_S4x4096x4x1 (constant S_ .f32 0x42800000#32))) (broadcastInDim S4x4096x4x1 ![] bcast_S_S4x4096x4x1 (constant S_ .f32 0x358637BD#32)))))) (broadcastInDim S4x4096x4x64 ![0, 1, 2, 3] bcast_S1x1x1x64_S4x4096x4x64_0_1_2_3 (broadcastInDim S1x1x1x64 ![3] bcast_S64_S1x1x1x64_3 g))

/-- The keys: the heads side by side, the sequences one after another. -/
def rk (z : FVec Ideal S4x4096x5632 .f32) (g : FVec Ideal S64 .f32) : FVec Ideal S16384x256 .f32 :=
  shapeCast _ (kh z g) shapeCasts_S4x4096x4x64_S16384x256

theorem rk_apply (z : FVec Ideal S4x4096x5632 .f32) (g : FVec Ideal S64 .f32) (r : Fin 16384) (n : Fin 256) :
    rk z g (ix2 r n) = head (fun c : Fin 256 => z (ix3 ⟨r.val / 4096, by omega⟩ ⟨r.val % 4096, by omega⟩ ⟨3072 + c.val, by omega⟩)) n (by omega)
      * g (ix1 ⟨n.val % 64, by omega⟩) := by
  have e1 : n.val / 64 * 64 = 64 * (n.val / 64) := by omega
  have e2 : 64 * (n.val / 64) + n.val % 64 = n.val := by omega
  pointwise [rk, kh, head, unit]
  simp only [e1, e2]

/-- The values of the 4 heads: 256 columns. -/
def vh (z : FVec Ideal S4x4096x5632 .f32) : FVec Ideal S4x4096x4x64 .f32 :=
  shapeCast _ (extractStridedSlice S4x4096x256 ![0, 0, 3328] z slices_S4x4096x5632_S4x4096x256_0_0_3328) shapeCasts_S4x4096x256_S4x4096x4x64

/-- The values: the heads side by side, the sequences one after another. -/
def rv (z : FVec Ideal S4x4096x5632 .f32) : FVec Ideal S16384x256 .f32 :=
  shapeCast _ (vh z) shapeCasts_S4x4096x4x64_S16384x256

theorem rv_apply (z : FVec Ideal S4x4096x5632 .f32) (r : Fin 16384) (n : Fin 256) :
    rv z (ix2 r n) = z (ix3 ⟨r.val / 4096, by omega⟩ ⟨r.val % 4096, by omega⟩ ⟨3328 + n.val, by omega⟩) := by
  have e1 : n.val / 64 * 64 + n.val % 64 = n.val := by omega
  pointwise [rv, vh]

/-- The recurrent branch's gate: 1024 columns through the logistic function. -/
def ra (z : FVec Ideal S4x4096x5632 .f32) : FVec Ideal S16384x1024 .f32 :=
  shapeCast _ (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 3584] z slices_S4x4096x5632_S4x4096x1024_0_0_3584))))) shapeCasts_S4x4096x1024_S16384x1024

theorem ra_apply (z : FVec Ideal S4x4096x5632 .f32) (r : Fin 16384) (n : Fin 1024) :
    ra z (ix2 r n) = Ideal.logistic (z (ix3 ⟨r.val / 4096, by omega⟩ ⟨r.val % 4096, by omega⟩ ⟨3584 + n.val, by omega⟩)) := by
  unfold Ideal.logistic
  pointwise [ra]

/-- The attention's gate: the last 1024 columns through the logistic function. -/
def rb (z : FVec Ideal S4x4096x5632 .f32) : FVec Ideal S16384x1024 .f32 :=
  shapeCast _ (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 4608] z slices_S4x4096x5632_S4x4096x1024_0_0_4608))))) shapeCasts_S4x4096x1024_S16384x1024

theorem rb_apply (z : FVec Ideal S4x4096x5632 .f32) (r : Fin 16384) (n : Fin 1024) :
    rb z (ix2 r n) = Ideal.logistic (z (ix3 ⟨r.val / 4096, by omega⟩ ⟨r.val % 4096, by omega⟩ ⟨4608 + n.val, by omega⟩)) := by
  unfold Ideal.logistic
  pointwise [rb]

/-! ## The states of the prompts: the last positions of every sequence -/

/-- The convolution's state: three zero rows before each sequence, then the last three rows. -/
def lastX (z : FVec Ideal S4x4096x5632 .f32) : FVec Ideal S1x4x3x1024 .f32 :=
  broadcastInDim S1x4x3x1024 ![1, 2, 3] bcast_S4x3x1024_S1x4x3x1024_1_2_3 (extractStridedSlice S4x3x1024 ![0, 4096, 0] (concatenate S4x4099x1024 1 [⟨S4x3x1024, (broadcastInDim S4x3x1024 ![] bcast_S_S4x3x1024 (constant S_ .f32 0x00000000#32))⟩, ⟨S4x4096x1024, (extractStridedSlice S4x4096x1024 ![0, 0, 0] z slices_S4x4096x5632_S4x4096x1024_0_0_0)⟩] concatenates_S4x3x1024_S4x4096x1024_S4x4099x1024_d1) slices_S4x4099x1024_S4x3x1024_0_4096_0)

/-- The last 128 keys, or values, of each sequence. -/
def last (t : FVec Ideal S4x4096x4x64 .f32) : FVec Ideal S1x4x128x4x64 .f32 :=
  broadcastInDim S1x4x128x4x64 ![1, 2, 3, 4] bcast_S4x128x4x64_S1x4x128x4x64_1_2_3_4 (extractStridedSlice S4x128x4x64 ![0, 3968, 0, 0] t slices_S4x4096x4x64_S4x128x4x64_0_3968_0_0)

theorem lastX_apply (z : FVec Ideal S4x4096x5632 .f32) (l : Fin 1) (b : Fin 4) (s : Fin 3) (n : Fin 1024) :
    lastX z (ix4 l b s n) = z (ix3 b ⟨4093 + s.val, by omega⟩ ⟨n.val, by omega⟩) := by
  pointwise [lastX]
  rw [dif_neg (by omega)]
  exact congrArg (fun i => z (ix3 b i _)) (Fin.ext (by show 4096 + s.val - 3 = 4093 + s.val; omega))

theorem last_apply (t : FVec Ideal S4x4096x4x64 .f32) (l : Fin 1) (b : Fin 4) (s : Fin 128) (h : Fin 4) (d : Fin 64) :
    last t (ix5 l b s h d) = t (ix4 b ⟨3968 + s.val, by omega⟩ h d) := by
  pointwise [last]

variable (m : (ℓ : Loc nD τ sig) → Buf (Elt Ideal) ℓ)

/-- The second result is the gelu of its columns of the projection. -/
theorem res_eq (c : Dev nD) : res_main_v69 m c
    = rg (prj (m ((c.tc : Thread nD τ).loc main_arg0)) (m ((c.tc : Thread nD τ).loc main_arg1)) (m ((c.tc : Thread nD τ).loc main_arg2))) := by
  unfold res_main_v69
  rfl

end Cert.Reference2Ideal.InprojRef

end
-- ==== Proof.InprojJoin.lean ====
/- The input projection: the kernel's result arrays are the reference's. -/
module

public import proofs.«01_k».proof.Proof.InprojKern
public import proofs.«01_k».proof.Proof.InprojRef

@[expose] public section

set_option maxRecDepth 16384

noncomputable section

namespace Cert.InprojJoin
open Cert.Kernel2Ideal Cert.Kernel2Ideal.Gen Cert.Kernel2Ideal.Kern Cert.Inproj
open Idealize.ShloMosaic Idealize.ShloMosaic.TcCoe Idealize.SL.Sem Idealize.ShloMosaic.Pointwise
open Cert.Reference2Ideal.InprojRef (prj rx rg rq rk rv ra rb prj_apply rx_apply rg_apply rq_apply rk_apply rv_apply ra_apply rb_apply)

/-! ## The body's loads and stores -/

theorem ld_x (x : FVec Ideal S256x1024 .f32) : View.ld (Val := Elt Ideal) (e' := .f32) x r0_0 = x :=
  View.ld_unit_lit' (Val := Elt Ideal) (e := .f32) (S := S256x1024) _ x (by decide)
theorem ld_g (x : FVec Ideal S1x1024 .f32) : View.ld (Val := Elt Ideal) (e' := .f32) x r0_1 = x :=
  View.ld_unit_lit' (Val := Elt Ideal) (e := .f32) (S := S1x1024) _ x (by decide)
theorem ld_k (x : FVec Ideal S1x256 .f32) : View.ld (Val := Elt Ideal) (e' := .f32) x r0_6 = x :=
  View.ld_unit_lit' (Val := Elt Ideal) (e := .f32) (S := S1x256) _ x (by decide)

/-- Columns of the weights from column `o` on. -/
def cols (w : FVec Ideal S1024x5632 .bf16) (o n : ℕ) (h : o + n ≤ 5632) : FVec Ideal ⟨2, ![1024, n]⟩ .bf16 :=
  fun i => w (ix2 (i 0) ⟨o + (i 1).val, lt_of_lt_of_le (Nat.add_lt_add_left (i 1).isLt o) h⟩)

theorem ld_cols (w : FVec Ideal S1024x5632 .bf16) (o n : ℕ) (h : o + n ≤ 5632) (inb) :
    View.ld (Val := Elt Ideal) (e' := .bf16) w (Rect.unit (s := S1024x5632) ![0, o] (![1024, n] : Fin 2 → ℕ) inb) = cols w o n h := by
  funext i
  refine View.ld_unit_apply_of _ _ _ _ _ _ fun a => ?_
  match a with
  | ⟨0, _⟩ => exact (Nat.zero_add _).symm
  | ⟨1, _⟩ => rfl

variable (x : FVec Ideal S256x1024 .f32) (g : FVec Ideal S1x1024 .f32) (w : FVec Ideal S1024x5632 .bf16) (gq : FVec Ideal S1x1024 .f32) (gk : FVec Ideal S1x256 .f32)

theorem pay31_eq : k0_pay31 (F := Ideal) x g w gq gk = xn x g := by
  unfold k0_pay31 xn
  rw [ld_x, ld_g]

theorem out5_eq : out0_5 (F := Ideal) x g w gq gk = k0_pay3 (F := Ideal) x g (cols w 0 1024 (by norm_num)) := by
  unfold out0_5; frame_out
  rw [← ld_cols w 0 1024 (by norm_num) inb_S1024x5632_S1024x1024_0_0]
theorem out6_eq : out0_6 (F := Ideal) x g w gq gk = k0_pay4 (F := Ideal) x g (cols w 1024 1024 (by norm_num)) := by
  unfold out0_6; frame_out
  rw [← ld_cols w 1024 1024 (by norm_num) inb_S1024x5632_S1024x1024_0_1024]

/-- The queries' columns of a block's projection. -/
def tq : FVec Ideal S256x1024 .f32 := k0_pay5 (F := Ideal) (xn x g) (cols w 2048 1024 (by norm_num))
/-- The keys' columns of a block's projection. -/
def tk : FVec Ideal S256x256 .f32 := k0_pay17 (F := Ideal) (xn x g) (cols w 3072 256 (by norm_num))

theorem pay32_eq : k0_pay32 (F := Ideal) x g w gq gk = tq x g w := by
  unfold k0_pay32 tq
  rw [pay31_eq, ← ld_cols w 2048 1024 (by norm_num) inb_S1024x5632_S1024x1024_0_2048]
theorem pay34_eq : k0_pay34 (F := Ideal) x g w gq gk = tk x g w := by
  unfold k0_pay34 tk
  rw [pay31_eq, ← ld_cols w 3072 256 (by norm_num) inb_S1024x5632_S1024x256_0_3072]

theorem out7_eq : out0_7 (F := Ideal) x g w gq gk = headsQ (tq x g w) gq := by
  unfold out0_7; frame_out
  rw [pay32_eq]
  unfold headsQ
  rfl
theorem out8_eq : out0_8 (F := Ideal) x g w gq gk = headsK (tk x g w) gk := by
  unfold out0_8; frame_out
  rw [pay34_eq]
  unfold headsK
  rfl
theorem out9_eq : out0_9 (F := Ideal) x g w gq gk = k0_pay29 (F := Ideal) (xn x g) (cols w 3328 256 (by norm_num)) := by
  unfold out0_9; frame_out
  rw [pay31_eq, ← ld_cols w 3328 256 (by norm_num) inb_S1024x5632_S1024x256_0_3328]
theorem out10_eq : out0_10 (F := Ideal) x g w gq gk = k0_pay30 (F := Ideal) (xn x g) (cols w 3584 1024 (by norm_num)) := by
  unfold out0_10; frame_out
  rw [pay31_eq, ← ld_cols w 3584 1024 (by norm_num) inb_S1024x5632_S1024x1024_0_3584]
theorem out11_eq : out0_11 (F := Ideal) x g w gq gk = k0_pay1 (F := Ideal) (xn x g) (cols w 4608 1024 (by norm_num)) := by
  unfold out0_11; frame_out
  rw [pay31_eq, ← ld_cols w 4608 1024 (by norm_num) inb_S1024x5632_S1024x1024_0_4608]

/-! ## The blocks the grid's points read -/

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

/-- The grid has 64 points. -/
theorem tlt (t : Fin cfg0.N) : t.val < 64 := lt_of_lt_of_eq t.isLt N_0

/-- The buffers the call meets are what the operations before it leave. -/
theorem V_eq (c : Dev nD) (b : Ref sig .tc) : V m c b = StableHlo.after hostOps0 (fun b => m (c, b)) (Proc.devRef .tc b) := rfl

theorem V_x (c : Dev nD) : V m c main_v0 = (shapeCast _ (m ((c : Thread nD τ).loc main_arg0) : FVec Ideal S4x4096x1024 .f32)
    shapeCasts_S4x4096x1024_S16384x1024 : FVec Ideal S16384x1024 .f32) :=
  (V_eq m c _).trans (by after_results_simp <;> rfl)
theorem V_w (c : Dev nD) : V m c main_v1 = (truncf .bf16 (m ((c : Thread nD τ).loc main_arg2) : FVec Ideal S1024x5632 .f32) bitsLt_bf16_f32 :
    FVec Ideal S1024x5632 .bf16) :=
  (V_eq m c _).trans (by after_results_simp <;> rfl)
theorem V_g (c : Dev nD) : V m c main_v2 = (shapeCast _ (m ((c : Thread nD τ).loc main_arg1) : FVec Ideal S1024 .f32) shapeCasts_S1024_S1x1024 :
    FVec Ideal S1x1024 .f32) :=
  (V_eq m c _).trans (by after_results_simp <;> rfl)
theorem V_gq (c : Dev nD) : V m c main_v6 = (shapeCast _ (shapeCast _ (broadcastInDim S16x64 ![0, 1] bcast_S1x64_S16x64_0_1
    (shapeCast _ (m ((c : Thread nD τ).loc main_arg3) : FVec Ideal S64 .f32) shapeCasts_S64_S1x64)) shapeCasts_S16x64_S1024) shapeCasts_S1024_S1x1024 :
    FVec Ideal S1x1024 .f32) :=
  (V_eq m c _).trans (by after_results_simp <;> rfl)
theorem V_gk (c : Dev nD) : V m c main_v10 = (shapeCast _ (shapeCast _ (broadcastInDim S4x64 ![0, 1] bcast_S1x64_S4x64_0_1
    (shapeCast _ (m ((c : Thread nD τ).loc main_arg4) : FVec Ideal S64 .f32) shapeCasts_S64_S1x64)) shapeCasts_S4x64_S256) shapeCasts_S256_S1x256 :
    FVec Ideal S1x256 .f32) :=
  (V_eq m c _).trans (by after_results_simp <;> rfl)

/-- The row of the arrays that row `r` of the block at point `t` is. -/
def row (t : Fin cfg0.N) (r : Fin 256) : Fin 16384 := ⟨t.val * 256 + r.val, by have := tlt t; omega⟩

theorem flat_apply (x : FVec Ideal S4x4096x1024 .f32) (q : Fin 16384) (k : Fin 1024) :
    (shapeCast _ x shapeCasts_S4x4096x1024_S16384x1024 : FVec Ideal S16384x1024 .f32) (ix2 q k)
      = x (ix3 ⟨q.val / 4096, by omega⟩ ⟨q.val % 4096, by omega⟩ k) := by
  pointwise []

theorem x_blk (c : Dev nD) (t : Fin cfg0.N) (r : Fin 256) (k : Fin 1024) :
    (iblk m c 0 t : FVec Ideal S256x1024 .f32) (ix2 r k)
      = (m ((c : Thread nD τ).loc main_arg0) : FVec Ideal S4x4096x1024 .f32)
          (ix3 ⟨(row t r).val / 4096, by omega⟩ ⟨(row t r).val % 4096, by omega⟩ k) := by
  have := tlt t
  have he : ((View.whole main_v0).slice (win0_0.rect t)).emb (ix2 r k) = ix2 (row t r) k := by unfold row; blk_ext [idx t]
  show V m c main_v0 (((View.whole main_v0).slice (win0_0.rect t)).emb (ix2 r k)) = _
  rw [V_x, he]
  exact flat_apply _ _ _
theorem g_blk (c : Dev nD) (t : Fin cfg0.N) (k : Fin 1024) :
    (iblk m c 1 t : FVec Ideal S1x1024 .f32) (ix2 0 k) = (m ((c : Thread nD τ).loc main_arg1) : FVec Ideal S1024 .f32) (ix1 k) := by
  have he : ((View.whole main_v2).slice (win0_1.rect t)).emb (ix2 0 k) = ix2 0 k := by blk_ext [idx t]
  show V m c main_v2 (((View.whole main_v2).slice (win0_1.rect t)).emb (ix2 0 k)) = _
  rw [V_g, he]
  pointwise []
theorem w_blk (c : Dev nD) (t : Fin cfg0.N) (k : Fin 1024) (n : Fin 5632) :
    (iblk m c 2 t : FVec Ideal S1024x5632 .bf16) (ix2 k n) = (m ((c : Thread nD τ).loc main_arg2) : FVec Ideal S1024x5632 .f32) (ix2 k n) := by
  show V m c main_v1 (((View.whole main_v1).slice (win0_2.rect t)).emb (ix2 k n)) = _
  rw [V_w]
  blk_point [idx t]
theorem gq_blk (c : Dev nD) (t : Fin cfg0.N) (k : Fin 1024) :
    (iblk m c 3 t : FVec Ideal S1x1024 .f32) (ix2 0 k) = (m ((c : Thread nD τ).loc main_arg3) : FVec Ideal S64 .f32) (ix1 ⟨k.val % 64, by omega⟩) := by
  have he : ((View.whole main_v6).slice (win0_3.rect t)).emb (ix2 0 k) = ix2 0 k := by blk_ext [idx t]
  show V m c main_v6 (((View.whole main_v6).slice (win0_3.rect t)).emb (ix2 0 k)) = _
  rw [V_gq, he]
  pointwise []
theorem gk_blk (c : Dev nD) (t : Fin cfg0.N) (k : Fin 256) :
    (iblk m c 4 t : FVec Ideal S1x256 .f32) (ix2 0 k) = (m ((c : Thread nD τ).loc main_arg4) : FVec Ideal S64 .f32) (ix1 ⟨k.val % 64, by omega⟩) := by
  have he : ((View.whole main_v10).slice (win0_4.rect t)).emb (ix2 0 k) = ix2 0 k := by blk_ext [idx t]
  show V m c main_v10 (((View.whole main_v10).slice (win0_4.rect t)).emb (ix2 0 k)) = _
  rw [V_gk, he]
  pointwise []

/-- The reference's projection of the kernel's arguments. -/
def Z (c : Dev nD) : FVec Ideal Cert.Reference2Ideal.S4x4096x5632 .f32 :=
  prj (m ((c : Thread nD τ).loc main_arg0)) (m ((c : Thread nD τ).loc main_arg1)) (m ((c : Thread nD τ).loc main_arg2))

/-- A column of a block's projection, as a sum, is the reference's. -/
theorem dot_apply (c : Dev nD) (t : Fin cfg0.N) (o n : ℕ) (h : o + n ≤ 5632) (r : Fin 256) (j : Fin n) :
    (∑ k : Fin 1024, xn (iblk m c 0 t) (iblk m c 1 t) (ix2 r k) * cols (iblk m c 2 t) o n h (ix2 k j))
      = Z m c (ix3 ⟨(row t r).val / 4096, by omega⟩ ⟨(row t r).val % 4096, by omega⟩ ⟨o + j.val, by omega⟩) := by
  rw [Z, prj_apply, proj]
  refine Finset.sum_congr rfl fun k _ => ?_
  rw [xn_apply, cols]
  simp only [x_blk, g_blk]
  exact congrArg _ (w_blk m c t k ⟨o + j.val, by omega⟩)

/-- The columns of the projection over real weights, after a norm with a real gain, are real. -/
theorem Z_real (c : Dev nD) (hg : ∀ i, R ((m ((c : Thread nD τ).loc main_arg1) : FVec Ideal S1024 .f32) i)) (b : Fin 4) (t : Fin 4096) (n : Fin 5632)
    (hw : ∀ k : Fin 1024, R ((m ((c : Thread nD τ).loc main_arg2) : FVec Ideal S1024x5632 .f32) (ix2 k n))) : R (Z m c (ix3 b t n)) := by
  rw [Z, prj_apply, proj]
  refine R.sum _ _ fun k => ?_
  rw [len_lit]
  exact ((unit_real 1024 (by norm_num) _ _).mul (hg _)).mul (hw k)

theorem tq_apply (c : Dev nD) (t : Fin cfg0.N) (r : Fin 256) (j : Fin 1024) :
    tq (iblk m c 0 t) (iblk m c 1 t) (iblk m c 2 t) (ix2 r j)
      = Z m c (ix3 ⟨(row t r).val / 4096, by omega⟩ ⟨(row t r).val % 4096, by omega⟩ ⟨2048 + j.val, by omega⟩) :=
  (pay5_apply _ _ r j).trans (dot_apply m c t 2048 1024 _ r j)
theorem tk_apply (c : Dev nD) (t : Fin cfg0.N) (r : Fin 256) (j : Fin 256) :
    tk (iblk m c 0 t) (iblk m c 1 t) (iblk m c 2 t) (ix2 r j)
      = Z m c (ix3 ⟨(row t r).val / 4096, by omega⟩ ⟨(row t r).val % 4096, by omega⟩ ⟨3072 + j.val, by omega⟩) :=
  (pay17_apply _ _ r j).trans (dot_apply m c t 3072 256 _ r j)

/-! ## The seven results, block by block -/

theorem blk5 (c : Dev nD) (t : Fin cfg0.N) (r : Fin 256) (n : Fin 1024) :
    (k0_pay3 (F := Ideal) (iblk m c 0 t) (iblk m c 1 t) (cols (iblk m c 2 t) 0 1024 (by norm_num)) : FVec Ideal S256x1024 .f32) (ix2 r n)
      = rx (Z m c) (ix2 (row t r) n) := by
  rw [rx_apply]
  refine ((pay3_apply _ _ _ r n).trans (dot_apply m c t 0 1024 _ r n)).trans ?_
  exact congrArg (fun j => Z m c (ix3 _ _ j)) (Fin.ext (Nat.zero_add _))
theorem blk6 (c : Dev nD) (t : Fin cfg0.N) (r : Fin 256) (n : Fin 1024) :
    (k0_pay4 (F := Ideal) (iblk m c 0 t) (iblk m c 1 t) (cols (iblk m c 2 t) 1024 1024 (by norm_num)) : FVec Ideal S256x1024 .f32) (ix2 r n)
      = rg (Z m c) (ix2 (row t r) n) := by
  rw [rg_apply]
  exact (pay4_apply _ _ _ r n).trans (congrArg gelu (dot_apply m c t 1024 1024 _ r n))
theorem blk7 (c : Dev nD) (t : Fin cfg0.N) (h : ∀ b t (j : Fin 1024), R (Z m c (ix3 b t ⟨2048 + j.val, by omega⟩))) (r : Fin 256) (n : Fin 1024) :
    headsQ (tq (iblk m c 0 t) (iblk m c 1 t) (iblk m c 2 t)) (iblk m c 3 t) (ix2 r n)
      = rq (Z m c) (m ((c : Thread nD τ).loc main_arg3)) (ix2 (row t r) n) := by
  rw [rq_apply, headsQ_apply _ _ _ _ fun j => by rw [tq_apply]; exact h _ _ j]
  simp only [tq_apply, gq_blk]
theorem blk8 (c : Dev nD) (t : Fin cfg0.N) (h : ∀ b t (j : Fin 256), R (Z m c (ix3 b t ⟨3072 + j.val, by omega⟩))) (r : Fin 256) (n : Fin 256) :
    headsK (tk (iblk m c 0 t) (iblk m c 1 t) (iblk m c 2 t)) (iblk m c 4 t) (ix2 r n)
      = rk (Z m c) (m ((c : Thread nD τ).loc main_arg4)) (ix2 (row t r) n) := by
  rw [rk_apply, headsK_apply _ _ _ _ fun j => by rw [tk_apply]; exact h _ _ j]
  simp only [tk_apply, gk_blk]
theorem blk9 (c : Dev nD) (t : Fin cfg0.N) (r : Fin 256) (n : Fin 256) :
    (k0_pay29 (F := Ideal) (xn (iblk m c 0 t) (iblk m c 1 t)) (cols (iblk m c 2 t) 3328 256 (by norm_num)) : FVec Ideal S256x256 .f32) (ix2 r n)
      = rv (Z m c) (ix2 (row t r) n) := by
  rw [rv_apply]
  exact (pay29_apply _ _ r n).trans (dot_apply m c t 3328 256 _ r n)
theorem blk10 (c : Dev nD) (t : Fin cfg0.N) (r : Fin 256) (n : Fin 1024) :
    (k0_pay30 (F := Ideal) (xn (iblk m c 0 t) (iblk m c 1 t)) (cols (iblk m c 2 t) 3584 1024 (by norm_num)) : FVec Ideal S256x1024 .f32) (ix2 r n)
      = ra (Z m c) (ix2 (row t r) n) := by
  rw [ra_apply]
  exact (pay30_apply _ _ r n).trans (congrArg Ideal.logistic (dot_apply m c t 3584 1024 _ r n))
theorem blk11 (c : Dev nD) (t : Fin cfg0.N) (r : Fin 256) (n : Fin 1024) :
    (k0_pay1 (F := Ideal) (xn (iblk m c 0 t) (iblk m c 1 t)) (cols (iblk m c 2 t) 4608 1024 (by norm_num)) : FVec Ideal S256x1024 .f32) (ix2 r n)
      = rb (Z m c) (ix2 (row t r) n) := by
  rw [rb_apply]
  exact (pay1_apply _ _ r n).trans (congrArg Ideal.logistic (dot_apply m c t 4608 1024 _ r n))

/-! ## The seven result arrays -/

/-- An index of a block is the pair of its coordinates. -/
theorem eta2 {n : ℕ} (y : Shape.Idx ⟨2, ![256, n]⟩) : y = ix2 (y 0) (y 1) := by
  funext i
  match i with
  | ⟨0, _⟩ => rfl
  | ⟨1, _⟩ => rfl

/-- The first result is the reference's input of the recurrent branch. -/
theorem result5 (c : Dev nD) : (dats m 0 c).arrAt 5 cfg0.N = rx (Z m c) := by
  refine (dats m 0 c).arrAt_eq_of_covers 5 _ (by decide +kernel) fun t _ y => ?_
  have ht := tlt t
  blk_simp
  rw [after0_5, out5_eq]
  have h0 : (y 0).val < 256 := (y 0).isLt
  have h1 : (y 1).val < 1024 := (y 1).isLt
  have he : ((View.whole main_v11_0).slice (win0_5.rect t)).emb y = ix2 (row t (y 0)) ⟨(y 1).val, h1⟩ := by
    unfold row
    blk_ext [idx t]
  rw [he]
  exact (congrArg _ (eta2 y)).trans (blk5 m c t (y 0) (y 1))

/-- The second result is the reference's gelu. -/
theorem result6 (c : Dev nD) : (dats m 0 c).arrAt 6 cfg0.N = rg (Z m c) := by
  refine (dats m 0 c).arrAt_eq_of_covers 6 _ (by decide +kernel) fun t _ y => ?_
  have ht := tlt t
  blk_simp
  rw [after0_6, out6_eq]
  have h0 : (y 0).val < 256 := (y 0).isLt
  have h1 : (y 1).val < 1024 := (y 1).isLt
  have he : ((View.whole main_v11_1).slice (win0_6.rect t)).emb y = ix2 (row t (y 0)) ⟨(y 1).val, h1⟩ := by
    unfold row
    blk_ext [idx t]
  rw [he]
  exact (congrArg _ (eta2 y)).trans (blk6 m c t (y 0) (y 1))

/-- The third result is the reference's queries, where the projection's queries are real. -/
theorem result7 (c : Dev nD) (h : ∀ b t (j : Fin 1024), R (Z m c (ix3 b t ⟨2048 + j.val, by omega⟩))) : (dats m 0 c).arrAt 7 cfg0.N = rq (Z m c) (m ((c : Thread nD τ).loc main_arg3)) := by
  refine (dats m 0 c).arrAt_eq_of_covers 7 _ (by decide +kernel) fun t _ y => ?_
  have ht := tlt t
  blk_simp
  rw [after0_7, out7_eq]
  have h0 : (y 0).val < 256 := (y 0).isLt
  have h1 : (y 1).val < 1024 := (y 1).isLt
  have he : ((View.whole main_v11_2).slice (win0_7.rect t)).emb y = ix2 (row t (y 0)) ⟨(y 1).val, h1⟩ := by
    unfold row
    blk_ext [idx t]
  rw [he]
  exact (congrArg _ (eta2 y)).trans (blk7 m c t h (y 0) (y 1))

/-- The fourth result is the reference's keys, where the projection's keys are real. -/
theorem result8 (c : Dev nD) (h : ∀ b t (j : Fin 256), R (Z m c (ix3 b t ⟨3072 + j.val, by omega⟩))) : (dats m 0 c).arrAt 8 cfg0.N = rk (Z m c) (m ((c : Thread nD τ).loc main_arg4)) := by
  refine (dats m 0 c).arrAt_eq_of_covers 8 _ (by decide +kernel) fun t _ y => ?_
  have ht := tlt t
  blk_simp
  rw [after0_8, out8_eq]
  have h0 : (y 0).val < 256 := (y 0).isLt
  have h1 : (y 1).val < 256 := (y 1).isLt
  have he : ((View.whole main_v11_3).slice (win0_8.rect t)).emb y = ix2 (row t (y 0)) ⟨(y 1).val, h1⟩ := by
    unfold row
    blk_ext [idx t]
  rw [he]
  exact (congrArg _ (eta2 y)).trans (blk8 m c t h (y 0) (y 1))

/-- The fifth result is the reference's values. -/
theorem result9 (c : Dev nD) : (dats m 0 c).arrAt 9 cfg0.N = rv (Z m c) := by
  refine (dats m 0 c).arrAt_eq_of_covers 9 _ (by decide +kernel) fun t _ y => ?_
  have ht := tlt t
  blk_simp
  rw [after0_9, out9_eq]
  have h0 : (y 0).val < 256 := (y 0).isLt
  have h1 : (y 1).val < 256 := (y 1).isLt
  have he : ((View.whole main_v11_4).slice (win0_9.rect t)).emb y = ix2 (row t (y 0)) ⟨(y 1).val, h1⟩ := by
    unfold row
    blk_ext [idx t]
  rw [he]
  exact (congrArg _ (eta2 y)).trans (blk9 m c t (y 0) (y 1))

/-- The sixth result is the reference's first gate. -/
theorem result10 (c : Dev nD) : (dats m 0 c).arrAt 10 cfg0.N = ra (Z m c) := by
  refine (dats m 0 c).arrAt_eq_of_covers 10 _ (by decide +kernel) fun t _ y => ?_
  have ht := tlt t
  blk_simp
  rw [after0_10, out10_eq]
  have h0 : (y 0).val < 256 := (y 0).isLt
  have h1 : (y 1).val < 1024 := (y 1).isLt
  have he : ((View.whole main_v11_5).slice (win0_10.rect t)).emb y = ix2 (row t (y 0)) ⟨(y 1).val, h1⟩ := by
    unfold row
    blk_ext [idx t]
  rw [he]
  exact (congrArg _ (eta2 y)).trans (blk10 m c t (y 0) (y 1))

/-- The seventh result is the reference's second gate. -/
theorem result11 (c : Dev nD) : (dats m 0 c).arrAt 11 cfg0.N = rb (Z m c) := by
  refine (dats m 0 c).arrAt_eq_of_covers 11 _ (by decide +kernel) fun t _ y => ?_
  have ht := tlt t
  blk_simp
  rw [after0_11, out11_eq]
  have h0 : (y 0).val < 256 := (y 0).isLt
  have h1 : (y 1).val < 1024 := (y 1).isLt
  have he : ((View.whole main_v11_6).slice (win0_11.rect t)).emb y = ix2 (row t (y 0)) ⟨(y 1).val, h1⟩ := by
    unfold row
    blk_ext [idx t]
  rw [he]
  exact (congrArg _ (eta2 y)).trans (blk11 m c t (y 0) (y 1))

end Cert.InprojJoin

end
-- ==== Proof.InprojTail.lean ====
/- The operations after the input projection's call: the states of the prompts, slices of the arrays the call leaves. -/
module

public import proofs.«01_k».proof.Proof.InprojJoin
public import Idealize.ShloMosaic.Lib.Pipeline.FrameSuffix

@[expose] public section

set_option maxRecDepth 16384

noncomputable section

namespace Cert.InprojTail
open Cert.Kernel2Ideal Cert.Kernel2Ideal.Gen
open Idealize.ShloMosaic Idealize.ShloMosaic.TcCoe Idealize.SL.Sem Idealize.ShloMosaic.Pointwise
open Cert.Reference2Ideal.InprojRef (rx rk rv kh vh lastX last rx_apply lastX_apply last_apply)

/-- The kernel's slice of the recurrent branch's input. -/
def tailX (x : FVec Ideal S16384x1024 .f32) : FVec Ideal S1x4x3x1024 .f32 :=
  broadcastInDim S1x4x3x1024 ![1, 2, 3] bcast_S4x3x1024_S1x4x3x1024_1_2_3 (extractStridedSlice S4x3x1024 ![0, 4093, 0]
    (shapeCast S4x4096x1024 x shapeCasts_S16384x1024_S4x4096x1024) slices_S4x4096x1024_S4x3x1024_0_4093_0)

/-- The kernel's slice of the keys, or of the values. -/
def tail (x : FVec Ideal S16384x256 .f32) : FVec Ideal S1x4x128x4x64 .f32 :=
  broadcastInDim S1x4x128x4x64 ![1, 2, 3, 4] bcast_S4x128x4x64_S1x4x128x4x64_1_2_3_4 (shapeCast S4x128x4x64
    (extractStridedSlice S4x128x256 ![0, 3968, 0] (shapeCast S4x4096x256 x shapeCasts_S16384x256_S4x4096x256)
      slices_S4x4096x256_S4x128x256_0_3968_0) shapeCasts_S4x128x256_S4x128x4x64)

theorem eta4 {a b c d : ℕ} (y : Shape.Idx ⟨4, ![a, b, c, d]⟩) : y = ix4 (y 0) (y 1) (y 2) (y 3) := by
  funext i
  match i with
  | ⟨0, _⟩ => rfl
  | ⟨1, _⟩ => rfl
  | ⟨2, _⟩ => rfl
  | ⟨3, _⟩ => rfl
theorem eta5 {a b c d e : ℕ} (y : Shape.Idx ⟨5, ![a, b, c, d, e]⟩) : y = ix5 (y 0) (y 1) (y 2) (y 3) (y 4) := by
  funext i
  match i with
  | ⟨0, _⟩ => rfl
  | ⟨1, _⟩ => rfl
  | ⟨2, _⟩ => rfl
  | ⟨3, _⟩ => rfl
  | ⟨4, _⟩ => rfl

theorem tailX_apply (z : FVec Ideal Cert.Reference2Ideal.S4x4096x5632 .f32) (l : Fin 1) (b : Fin 4) (s : Fin 3) (n : Fin 1024) :
    tailX (rx z) (ix4 l b s n) = z (ix3 b ⟨4093 + s.val, by omega⟩ ⟨n.val, by omega⟩) := by
  pointwise [tailX, rx]

/-- The last three rows, cut from the array of all rows, are the convolution's state of the reference. -/
theorem tailX_eq (z : FVec Ideal Cert.Reference2Ideal.S4x4096x5632 .f32) : tailX (rx z) = lastX z := by
  funext y
  rw [eta4 y]
  exact (tailX_apply z _ _ _ _).trans (lastX_apply z _ _ _ _).symm

/-- The heads side by side, the sequences one after another. -/
abbrev flat (t : FVec Ideal Cert.Reference2Ideal.S4x4096x4x64 .f32) : FVec Ideal S16384x256 .f32 :=
  shapeCast _ t Cert.Reference2Ideal.Facts₀.shapeCasts_S4x4096x4x64_S16384x256

theorem tail_apply (t : FVec Ideal Cert.Reference2Ideal.S4x4096x4x64 .f32) (l : Fin 1) (b : Fin 4) (s : Fin 128) (h : Fin 4) (d : Fin 64) :
    tail (flat t) (ix5 l b s h d) = t (ix4 b ⟨3968 + s.val, by omega⟩ h d) := by
  pointwise [tail, flat]

/-- The last 128 rows of the heads side by side are the last 128 positions of the heads. -/
theorem tail_eq (t : FVec Ideal Cert.Reference2Ideal.S4x4096x4x64 .f32) : tail (flat t) = last t := by
  funext y
  rw [eta5 y]
  exact (tail_apply t _ _ _ _ _).trans (last_apply t _ _ _ _ _).symm

variable (m : (ℓ : Loc nD τ sig) → Buf (Elt Ideal) ℓ)

/-- What the operations after the call leave in a buffer. -/
abbrev after (c : Dev nD) := Pipeline.afterTail₀ cfgs (dats (F := Ideal) m) 0 (V0 m) [hostOps1] c

theorem arrRef_injective : Function.Injective (Pipeline.arrRef spec0) := by decide

theorem after_x (c : Dev nD) : after m c main_v20 = tailX ((dats (F := Ideal) m 0 c).arrAt 5 cfg0.N) := by
  unfold after Pipeline.afterTail₀
  rw [← Pipeline.withArrays_arr spec0 arrRef_injective c (V0 m c) (fun w => (dats (F := Ideal) m 0 c).arrAt w cfg0.N) 5]
  after_results_simp <;> rfl
theorem after_k (c : Dev nD) : after m c main_v21 = tail ((dats (F := Ideal) m 0 c).arrAt 8 cfg0.N) := by
  unfold after Pipeline.afterTail₀
  rw [← Pipeline.withArrays_arr spec0 arrRef_injective c (V0 m c) (fun w => (dats (F := Ideal) m 0 c).arrAt w cfg0.N) 8]
  after_results_simp <;> rfl
theorem after_v (c : Dev nD) : after m c main_v22 = tail ((dats (F := Ideal) m 0 c).arrAt 9 cfg0.N) := by
  unfold after Pipeline.afterTail₀
  rw [← Pipeline.withArrays_arr spec0 arrRef_injective c (V0 m c) (fun w => (dats (F := Ideal) m 0 c).arrAt w cfg0.N) 9]
  after_results_simp <;> rfl

/-- THE RUN: the seven arrays of the call, the three states cut from them, the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v11_0) = (dats (F := Ideal) m 0 c).arrAt 5 cfg0.N
      ∧ r.2.mem ((c.tc : Thread nD τ).loc main_v11_1) = (dats (F := Ideal) m 0 c).arrAt 6 cfg0.N
      ∧ r.2.mem ((c.tc : Thread nD τ).loc main_v11_2) = (dats (F := Ideal) m 0 c).arrAt 7 cfg0.N
      ∧ r.2.mem ((c.tc : Thread nD τ).loc main_v11_3) = (dats (F := Ideal) m 0 c).arrAt 8 cfg0.N
      ∧ r.2.mem ((c.tc : Thread nD τ).loc main_v11_4) = (dats (F := Ideal) m 0 c).arrAt 9 cfg0.N
      ∧ r.2.mem ((c.tc : Thread nD τ).loc main_v11_5) = (dats (F := Ideal) m 0 c).arrAt 10 cfg0.N
      ∧ r.2.mem ((c.tc : Thread nD τ).loc main_v11_6) = (dats (F := Ideal) m 0 c).arrAt 11 cfg0.N
      ∧ r.2.mem ((c.tc : Thread nD τ).loc main_v20) = tailX ((dats (F := Ideal) m 0 c).arrAt 5 cfg0.N)
      ∧ r.2.mem ((c.tc : Thread nD τ).loc main_v21) = tail ((dats (F := Ideal) m 0 c).arrAt 8 cfg0.N)
      ∧ r.2.mem ((c.tc : Thread nD τ).loc main_v22) = tail ((dats (F := Ideal) m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5, (h c).1 6, (h c).1 7, (h c).1 8, (h c).1 9, (h c).1 10, (h c).1 11,
      ((h c).2 main_v20 (Pipeline.mem_restRefs_of main_v20 (by decide) (by decide))).trans (after_x m c),
      ((h c).2 main_v21 (Pipeline.mem_restRefs_of main_v21 (by decide) (by decide))).trans (after_k m c),
      ((h c).2 main_v22 (Pipeline.mem_restRefs_of main_v22 (by decide) (by decide))).trans (after_v m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.InprojTail

end
-- ==== Proof.FiniteWeights.lean ====
/- The precondition of the input projection read back: the first norm's gain and the queries' and keys' columns are real. -/
module

public import proofs.«01_k».proof.Pre_finite_weights
public import proofs.«01_k».proof.Proof.Finite

@[expose] public section

noncomputable section

namespace Cert.Pre_finite_weights
open Idealize.ShloMosaic Idealize.ShloMosaic.Pointwise

theorem facts : Facts where
  slices_S1024x5632_S1024x1280_0_2048 := by decide
  bcast_S_S1024 := by decide
  reducesTo_S1024_S_d0 := by decide
  h_S_ := by decide
  bcast_S_S1024x1280 := by decide
  reducesTo_S1024x1280_S_d0_1 := by decide

/-- Where `finite_weights` holds the gain and the columns 2048 … 3327 of the weights are real. -/
theorem reals [Facts] (x : FVec Ideal S4x4096x1024 .f32) (g : FVec Ideal S1024 .f32) (w : FVec Ideal S1024x5632 .f32) (a b : FVec Ideal S64 .f32)
    (h : fn (F := Ideal) x g w a b = fun _ => 1#1) :
    (∀ i, ∃ r : ℝ, g i = (r : EReal)) ∧ ∀ (k : Fin 1024) (n : Fin 5632), 2048 ≤ n.val → n.val < 3328 → ∃ r : ℝ, w (ix2 k n) = (r : EReal) := by
  have hs : Subsingleton S_.Idx := ⟨fun a b => funext fun i => i.elim0⟩
  have h0 := congrFun h (fun i => i.elim0)
  dsimp only [fn] at h0
  obtain ⟨h1, h2⟩ := IntOp.andi_eq_one.1 h0
  refine ⟨fun i => Cert.Pre_finite.real_of_lt _ (Host.reduce_andi_all _ _ _ _ _ h1 i), fun k n hn hn' => ?_⟩
  obtain ⟨r, hr⟩ := Cert.Pre_finite.real_of_lt _ (Host.reduce_andi_all _ _ _ _ _ h2 (ix2 k ⟨n.val - 2048, by omega⟩))
  have e : n = ⟨2048 + (n.val - 2048), by omega⟩ := Fin.ext (by show n.val = 2048 + (n.val - 2048); omega)
  rw [e]
  refine ⟨r, Eq.trans ?_ hr⟩
  pointwise []

end Cert.Pre_finite_weights

end
-- ==== Proof.InprojClaims.lean ====
/- The claims about the input projection: the three frames, the value of its ten results. -/
module

public import proofs.«01_k».proof.Defs
public import proofs.«01_k».proof.Proof.Gen.Kernel2.Frame
public import proofs.«01_k».proof.Proof.Gen.Kernel2Ideal.Frame
public import proofs.«01_k».proof.Proof.InprojTail
public import proofs.«01_k».proof.Proof.FiniteWeights

@[expose] public section

noncomputable section

namespace Cert.InprojClaims
open Idealize.ShloMosaic Idealize.SL.Sem Idealize.ShloMosaic.Pointwise

theorem frame_k : Cert.quiescent_Kernel2 (hKernel2 := Cert.Kernel2.Gen.facts) := fun m ρ _ => Cert.Kernel2.Gen.frame m ρ
theorem frame_ki : Cert.quiescent_Kernel2Ideal (hKernel2Ideal := Cert.Kernel2Ideal.Gen.facts) := fun m ρ _ => Cert.Kernel2Ideal.Gen.frame m ρ
theorem frame_kip : Cert.quiescent_Kernel2Ideal_pre_finite_weights (hKernel2Ideal := Cert.Kernel2Ideal.Gen.facts)
    (hPre_finite_weights := Cert.Pre_finite_weights.facts) := fun m ρ _ => Cert.Kernel2Ideal.Gen.frame m ρ

/-- The reference's frame: its run read at the arguments; it declares no semaphore. -/
theorem frame_r : Cert.quiescent_Reference2Ideal (hReference2Ideal := Cert.Reference2Ideal.Gen.facts) := fun m ρ _ =>
  (θ_run Cert.Reference2Ideal.defs _ _).mono (fun r h => ⟨fun c => (h c).2.2.2.2.2.2.2.2.2.2,
      Idealize.ShloMosaic.sem_eq_zero_of_no_sems (by decide) r.2⟩)
    (Cert.Reference2Ideal.Value.run (F := Ideal) m ρ)
theorem frame_rp : Cert.quiescent_Reference2Ideal_pre_finite_weights (hReference2Ideal := Cert.Reference2Ideal.Gen.facts)
    (hPre_finite_weights := Cert.Pre_finite_weights.facts) := fun m ρ _ => frame_r m ρ trivial

/-- No operation is replaced. -/
theorem preserves : Cert.preserves_Kernel2_Kernel2Ideal := trivial

set_option maxHeartbeats 2000000 in
/-- The kernel's ten results are the reference's, where the norm's gain and the queries' and keys' columns of the weights are real. -/
theorem algebraic : Cert.algebraic_Kernel2Ideal_Reference2Ideal_pre_finite_weights (hKernel2Ideal := Cert.Kernel2Ideal.Gen.facts)
    (hReference2Ideal := Cert.Reference2Ideal.Gen.facts) (hPre_finite_weights := Cert.Pre_finite_weights.facts) := by
  intro m ρ m' ρ' hpre hag
  refine ⟨fun c => (Cert.Kernel2Ideal.Gen.dats m 0 c).arrAt 5 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => Cert.InprojTail.tailX ((Cert.Kernel2Ideal.Gen.dats m 0 c).arrAt 5 Cert.Kernel2Ideal.cfg0.N),
    fun c => Cert.InprojTail.tail ((Cert.Kernel2Ideal.Gen.dats m 0 c).arrAt 8 Cert.Kernel2Ideal.cfg0.N),
    fun c => Cert.InprojTail.tail ((Cert.Kernel2Ideal.Gen.dats m 0 c).arrAt 9 Cert.Kernel2Ideal.cfg0.N),
    Cert.InprojTail.run m ρ, ?_⟩
  refine (θ_run Cert.Reference2Ideal.defs _ _).mono
    (fun _ h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2.1.trans ?_, (h c).2.2.2.2.2.2.2.1.trans ?_,
      (h c).2.2.2.2.2.2.2.2.1.trans ?_, (h c).2.2.2.2.2.2.2.2.2.1.trans ?_, (h c).2.2.2.2.2.2.2.2.2.2⟩) (Cert.Reference2Ideal.Value.run (F := Ideal) m' ρ')
  all_goals
    obtain ⟨h0, h1, h2, h3, h4⟩ := hag c
    obtain ⟨hg, hw⟩ := @Cert.Pre_finite_weights.reals Cert.Pre_finite_weights.facts _ _ _ _ _ (hpre c)
  · refine Eq.trans ?_ (Cert.InprojJoin.result5 m c).symm
    rw [h0, h1, h2]
    rfl
  · refine Eq.trans ?_ (Cert.InprojJoin.result6 m c).symm
    rw [Cert.Reference2Ideal.InprojRef.res_eq, h0, h1, h2]
    rfl
  · refine Eq.trans ?_ (Cert.InprojJoin.result7 m c fun b t j => Cert.InprojJoin.Z_real m c hg b t _ fun k =>
      hw k _ (Nat.le_add_right _ _) (by show 2048 + j.val < 3328; omega)).symm
    rw [h0, h1, h2, h3]
    rfl
  · refine Eq.trans ?_ (Cert.InprojJoin.result8 m c fun b t j => Cert.InprojJoin.Z_real m c hg b t _ fun k =>
      hw k _ (by show 2048 ≤ 3072 + j.val; omega) (by show 3072 + j.val < 3328; omega)).symm
    rw [h0, h1, h2, h4]
    rfl
  · refine Eq.trans ?_ (Cert.InprojJoin.result9 m c).symm
    rw [h0, h1, h2]
    rfl
  · refine Eq.trans ?_ (Cert.InprojJoin.result10 m c).symm
    rw [h0, h1, h2]
    rfl
  · refine Eq.trans ?_ (Cert.InprojJoin.result11 m c).symm
    rw [h0, h1, h2]
    rfl
  · refine Eq.trans ?_ ((congrArg Cert.InprojTail.tailX (Cert.InprojJoin.result5 m c)).trans (Cert.InprojTail.tailX_eq _)).symm
    rw [h0, h1, h2]
    rfl
  · refine Eq.trans ?_ ((congrArg Cert.InprojTail.tail (Cert.InprojJoin.result8 m c fun b t j => Cert.InprojJoin.Z_real m c hg b t _ fun k =>
      hw k _ (by show 2048 ≤ 3072 + j.val; omega) (by show 3072 + j.val < 3328; omega))).trans (Cert.InprojTail.tail_eq _)).symm
    rw [h0, h1, h2, h4]
    rfl
  · refine Eq.trans ?_ ((congrArg Cert.InprojTail.tail (Cert.InprojJoin.result9 m c)).trans (Cert.InprojTail.tail_eq _)).symm
    rw [h0, h1, h2]
    rfl

end Cert.InprojClaims

end
-- ==== Proof.PostAt.lean ====
/- The merge of the two branches: the kernel's block and the reference's array, each read at a row and a column. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.Post

/-- The residual of one token: the input plus the output projection of the two gated branches. -/
def res (x l a sa sb : Fin 1024 → EReal) (wl wa wo : Fin 1024 → Fin 1024 → EReal) (n : Fin 1024) : EReal :=
  x n + ∑ k : Fin 1024, (sa k * (∑ j : Fin 1024, l j * wl j k) + sb k * (∑ j : Fin 1024, a j * wa j k)) * wo k n

/-- The norm of one token's row `h` with the gain `g`. -/
def rms (h g : Fin 1024 → EReal) (n : Fin 1024) : EReal :=
  h n * Ideal.rsqrt (Ideal.div (∑ j : Fin 1024, h j * h j) (Ideal.ofBits .f32 0x44800000#32) + Ideal.ofBits .f32 0x358637BD#32) * g n

/-- The column a piece of the stacked array starts at: pieces 0, 4, 1, 5, 2, 6, 3, 7 of 128 columns. -/
def startCol (p : Fin 8) : ℕ := 512 * (p.val % 2) + 128 * (p.val / 2)

theorem startCol_le (p : Fin 8) : startCol p + 128 ≤ 1024 := by
  unfold startCol; omega

end Cert.Post

namespace Cert.Kernel3Ideal.PostAt
open Cert.Kernel3Ideal Cert.Kernel3Ideal.Gen Cert.Post

/-- The body's residual at an index. -/
theorem res_apply (x : FVec Ideal S256x1024 .f32) (l a : FVec Ideal S256x1024 .bf16) (sa sb : FVec Ideal S256x1024 .f32)
    (wl wa wo : FVec Ideal S1024x1024 .bf16) (r : Fin 256) (n : Fin 1024) :
    (k0_pay3 (F := Ideal) sa l wl sb a wa x wo : FVec Ideal S256x1024 .f32) (ix2 r n)
      = res (fun k => x (ix2 r k)) (fun k => l (ix2 r k)) (fun k => a (ix2 r k)) (fun k => sa (ix2 r k)) (fun k => sb (ix2 r k))
          (fun j k => wl (ix2 j k)) (fun j k => wa (ix2 j k)) (fun j k => wo (ix2 j k)) n := by
  pointwise [k0_pay3, res]

/-- The body's norm at an index, over the residual whole. -/
theorem norm_apply (x : FVec Ideal S256x1024 .f32) (l a : FVec Ideal S256x1024 .bf16) (sa sb : FVec Ideal S256x1024 .f32)
    (wl wa wo : FVec Ideal S1024x1024 .bf16) (g : FVec Ideal S1x1024 .f32) (r : Fin 256) (n : Fin 1024) :
    (k0_pay5 (F := Ideal) (k0_pay4 (F := Ideal) sa l wl sb a wa x wo) g : FVec Ideal S256x1024 .f32) (ix2 r n)
      = rms (fun k => (k0_pay3 (F := Ideal) sa l wl sb a wa x wo : FVec Ideal S256x1024 .f32) (ix2 r k)) (fun k => g (ix2 0 k)) n := by
  unfold k0_pay4
  generalize (k0_pay3 (F := Ideal) sa l wl sb a wa x wo : FVec Ideal S256x1024 .f32) = h
  pointwise [k0_pay5, rms]

end Cert.Kernel3Ideal.PostAt

namespace Cert.Reference3Ideal.PostAt
open Cert.Reference3Ideal Cert.Reference3Ideal.Gen Cert.Reference3Ideal.Value Cert.Post

/-- The reference's residual. -/
def hres (x : FVec Ideal S4x4096x1024 .f32) (l a : FVec Ideal S16384x1024 .bf16) (sa sb : FVec Ideal S16384x1024 .f32)
    (wl wa wo : FVec Ideal S1024x1024 .f32) : FVec Ideal S16384x1024 .f32 :=
  addf (shapeCast _ x shapeCasts_S4x4096x1024_S16384x1024)
    (Host.dotGeneral dot_S16384x1024_S1024x1024_S16384x1024_1_0_0_1_n_n none
      (addf (mulf sa (Host.dotGeneral dot_S16384x1024_S1024x1024_S16384x1024_1_0_0_1_n_n none (extf .f32 l bitsLt_bf16_f32) wl))
        (mulf sb (Host.dotGeneral dot_S16384x1024_S1024x1024_S16384x1024_1_0_0_1_n_n none (extf .f32 a bitsLt_bf16_f32) wa))) wo)

/-- The reference's norm of the residual. -/
def nrm (h : FVec Ideal S16384x1024 .f32) (g : FVec Ideal S1024 .f32) : FVec Ideal S16384x1024 .f32 :=
  mulf (mulf h (broadcastInDim S16384x1024 ![0, 1] bcast_S16384x1_S16384x1024_0_1
      (Host.rsqrt (addf (Host.divf (broadcastInDim S16384x1 ![0] bcast_S16384_S16384x1_0
          (Host.reduceAdd (mulf h h) (constant S_ .f32 0x00000000#32) reducesTo_S16384x1024_S16384_d1 h_S_))
          (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem hres_apply (x : FVec Ideal S4x4096x1024 .f32) (l a : FVec Ideal S16384x1024 .bf16) (sa sb : FVec Ideal S16384x1024 .f32)
    (wl wa wo : FVec Ideal S1024x1024 .f32) (r : Fin 16384) (n : Fin 1024) :
    hres x l a sa sb wl wa wo (ix2 r n)
      = res (fun k => x (ix3 ⟨r.val / 4096, by omega⟩ ⟨r.val % 4096, by omega⟩ k)) (fun k => l (ix2 r k)) (fun k => a (ix2 r k))
          (fun k => sa (ix2 r k)) (fun k => sb (ix2 r k))
          (fun j k => wl (ix2 j k)) (fun j k => wa (ix2 j k)) (fun j k => wo (ix2 j k)) n := by
  pointwise [hres, res]

theorem nrm_apply (h : FVec Ideal S16384x1024 .f32) (g : FVec Ideal S1024 .f32) (r : Fin 16384) (n : Fin 1024) :
    nrm h g (ix2 r n) = rms (fun k => h (ix2 r k)) (fun k => g (ix1 k)) n := by
  pointwise [nrm, rms]

/-- The stacked pieces of columns of an array. -/
def stacked (y : FVec Ideal S16384x1024 .f32) : FVec Ideal S16384x8x128 .f32 :=
  concatenate S16384x8x128 1
    [⟨S16384x1x128, (broadcastInDim S16384x1x128 ![0, 2] bcast_S16384x128_S16384x1x128_0_2 (extractStridedSlice S16384x128 ![0, 0] y slices_S16384x1024_S16384x128_0_0) : FVec Ideal S16384x1x128 .f32)⟩,
     ⟨S16384x1x128, (broadcastInDim S16384x1x128 ![0, 2] bcast_S16384x128_S16384x1x128_0_2 (extractStridedSlice S16384x128 ![0, 512] y slices_S16384x1024_S16384x128_0_512) : FVec Ideal S16384x1x128 .f32)⟩,
     ⟨S16384x1x128, (broadcastInDim S16384x1x128 ![0, 2] bcast_S16384x128_S16384x1x128_0_2 (extractStridedSlice S16384x128 ![0, 128] y slices_S16384x1024_S16384x128_0_128) : FVec Ideal S16384x1x128 .f32)⟩,
     ⟨S16384x1x128, (broadcastInDim S16384x1x128 ![0, 2] bcast_S16384x128_S16384x1x128_0_2 (extractStridedSlice S16384x128 ![0, 640] y slices_S16384x1024_S16384x128_0_640) : FVec Ideal S16384x1x128 .f32)⟩,
     ⟨S16384x1x128, (broadcastInDim S16384x1x128 ![0, 2] bcast_S16384x128_S16384x1x128_0_2 (extractStridedSlice S16384x128 ![0, 256] y slices_S16384x1024_S16384x128_0_256) : FVec Ideal S16384x1x128 .f32)⟩,
     ⟨S16384x1x128, (broadcastInDim S16384x1x128 ![0, 2] bcast_S16384x128_S16384x1x128_0_2 (extractStridedSlice S16384x128 ![0, 768] y slices_S16384x1024_S16384x128_0_768) : FVec Ideal S16384x1x128 .f32)⟩,
     ⟨S16384x1x128, (broadcastInDim S16384x1x128 ![0, 2] bcast_S16384x128_S16384x1x128_0_2 (extractStridedSlice S16384x128 ![0, 384] y slices_S16384x1024_S16384x128_0_384) : FVec Ideal S16384x1x128 .f32)⟩,
     ⟨S16384x1x128, (broadcastInDim S16384x1x128 ![0, 2] bcast_S16384x128_S16384x1x128_0_2 (extractStridedSlice S16384x128 ![0, 896] y slices_S16384x1024_S16384x128_0_896) : FVec Ideal S16384x1x128 .f32)⟩]
    concatenates_S16384x1x128_S16384x1x128_S16384x1x128_S16384x1x128_S16384x1x128_S16384x1x128_S16384x1x128_S16384x1x128_S16384x8x128_d1

theorem stacked_apply (y : FVec Ideal S16384x1024 .f32) (r : Fin 16384) (p : Fin 8) (n : Fin 128) :
    stacked y (ix3 r p n) = y (ix2 r ⟨startCol p + n.val, by have := startCol_le p; omega⟩) := by
  fin_cases p <;> pointwise [stacked, startCol]

variable (m : (ℓ : Loc nD τ sig) → Buf (Elt Ideal) ℓ)

/-- The third result is the stack of the norm of the residual. -/
theorem res_eq (c : Dev nD) : res_main_v40 m c
    = stacked (nrm (hres (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))) (m ((c.tc : Thread nD τ).loc main_arg8))) := by
  unfold res_main_v40
  rfl

end Cert.Reference3Ideal.PostAt

end
-- ==== Proof.PostJoin.lean ====
/- The merge of the two branches: the kernel's result arrays are the reference's. -/
module

public import proofs.«01_k».proof.Proof.PostAt

@[expose] public section

set_option maxRecDepth 16384

noncomputable section

namespace Cert.PostJoin
open Cert.Kernel3Ideal Cert.Kernel3Ideal.Gen Cert.Kernel3Ideal.PostAt Cert.Post
open Idealize.ShloMosaic Idealize.ShloMosaic.TcCoe Idealize.SL.Sem Idealize.ShloMosaic.Pointwise
open Cert.Reference3Ideal.PostAt (hres nrm stacked hres_apply nrm_apply stacked_apply)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0, 0] :=
  (by decide +kernel : ∀ t : Fin grid0.N, _)

/-- The grid has 64 points. -/
theorem tlt (t : Fin cfg0.N) : t.val < 64 := lt_of_lt_of_eq t.isLt N_0

/-- The row of the arrays that row `r` of the block at point `t` is. -/
def row (t : Fin cfg0.N) (r : Fin 256) : Fin 16384 := ⟨t.val * 256 + r.val, by have := tlt t; omega⟩

theorem x_blk (c : Dev nD) (t : Fin cfg0.N) (r : Fin 256) (k : Fin 1024) :
    (iblk m c 0 t : FVec Ideal S256x1024 .f32) (ix2 r k)
      = (m ((c : Thread nD τ).loc main_arg0) : FVec Ideal S4x4096x1024 .f32)
          (ix3 ⟨(row t r).val / 4096, by omega⟩ ⟨(row t r).val % 4096, by omega⟩ k) := by
  have := tlt t
  unfold row
  blk_point [iblk, V, idx t]
theorem l_blk (c : Dev nD) (t : Fin cfg0.N) (r : Fin 256) (k : Fin 1024) :
    (iblk m c 1 t : FVec Ideal S256x1024 .bf16) (ix2 r k) = (m ((c : Thread nD τ).loc main_arg1) : FVec Ideal S16384x1024 .bf16) (ix2 (row t r) k) := by
  unfold row
  blk_point [iblk, V, idx t]
theorem a_blk (c : Dev nD) (t : Fin cfg0.N) (r : Fin 256) (k : Fin 1024) :
    (iblk m c 2 t : FVec Ideal S256x1024 .bf16) (ix2 r k) = (m ((c : Thread nD τ).loc main_arg2) : FVec Ideal S16384x1024 .bf16) (ix2 (row t r) k) := by
  unfold row
  blk_point [iblk, V, idx t]
theorem sa_blk (c : Dev nD) (t : Fin cfg0.N) (r : Fin 256) (k : Fin 1024) :
    (iblk m c 3 t : FVec Ideal S256x1024 .f32) (ix2 r k) = (m ((c : Thread nD τ).loc main_arg3) : FVec Ideal S16384x1024 .f32) (ix2 (row t r) k) := by
  unfold row
  blk_point [iblk, V, idx t]
theorem sb_blk (c : Dev nD) (t : Fin cfg0.N) (r : Fin 256) (k : Fin 1024) :
    (iblk m c 4 t : FVec Ideal S256x1024 .f32) (ix2 r k) = (m ((c : Thread nD τ).loc main_arg4) : FVec Ideal S16384x1024 .f32) (ix2 (row t r) k) := by
  unfold row
  blk_point [iblk, V, idx t]
theorem wl_blk (c : Dev nD) (t : Fin cfg0.N) (j k : Fin 1024) :
    (iblk m c 5 t : FVec Ideal S1024x1024 .bf16) (ix2 j k) = (m ((c : Thread nD τ).loc main_arg5) : FVec Ideal S1024x1024 .f32) (ix2 j k) := by
  blk_point [iblk, V, idx t]
theorem wa_blk (c : Dev nD) (t : Fin cfg0.N) (j k : Fin 1024) :
    (iblk m c 6 t : FVec Ideal S1024x1024 .bf16) (ix2 j k) = (m ((c : Thread nD τ).loc main_arg6) : FVec Ideal S1024x1024 .f32) (ix2 j k) := by
  blk_point [iblk, V, idx t]
theorem wo_blk (c : Dev nD) (t : Fin cfg0.N) (j k : Fin 1024) :
    (iblk m c 7 t : FVec Ideal S1024x1024 .bf16) (ix2 j k) = (m ((c : Thread nD τ).loc main_arg7) : FVec Ideal S1024x1024 .f32) (ix2 j k) := by
  blk_point [iblk, V, idx t]
theorem g_blk (c : Dev nD) (t : Fin cfg0.N) (k : Fin 1024) :
    (iblk m c 8 t : FVec Ideal S1x1024 .f32) (ix2 0 k) = (m ((c : Thread nD τ).loc main_arg8) : FVec Ideal S1024 .f32) (ix1 k) := by
  blk_point [iblk, V, idx t]

/-- The reference's residual of the kernel's arguments. -/
def H (c : Dev nD) : FVec Ideal S16384x1024 .f32 :=
  hres (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The reference's norm of the residual, of the kernel's arguments. -/
def Y (c : Dev nD) : FVec Ideal S16384x1024 .f32 := nrm (H m c) (m ((c : Thread nD τ).loc main_arg8))

/-- The residual of the block at point `t`. -/
def hblk (c : Dev nD) (t : Fin cfg0.N) : FVec Ideal S256x1024 .f32 :=
  k0_pay3 (F := Ideal) (iblk m c 3 t) (iblk m c 1 t) (iblk m c 5 t) (iblk m c 4 t) (iblk m c 2 t) (iblk m c 6 t) (iblk m c 0 t) (iblk m c 7 t)

/-- The norm of the block at point `t`. -/
def yblk (c : Dev nD) (t : Fin cfg0.N) : FVec Ideal S256x1024 .f32 :=
  k0_pay5 (F := Ideal) (k0_pay4 (F := Ideal) (iblk m c 3 t) (iblk m c 1 t) (iblk m c 5 t) (iblk m c 4 t) (iblk m c 2 t) (iblk m c 6 t) (iblk m c 0 t)
    (iblk m c 7 t)) (iblk m c 8 t)

theorem hblk_apply (c : Dev nD) (t : Fin cfg0.N) (r : Fin 256) (n : Fin 1024) : hblk m c t (ix2 r n) = H m c (ix2 (row t r) n) := by
  refine (res_apply _ _ _ _ _ _ _ _ r n).trans ?_
  rw [H, hres_apply]
  simp only [x_blk, l_blk, a_blk, sa_blk, sb_blk, wl_blk, wa_blk, wo_blk]

theorem yblk_apply (c : Dev nD) (t : Fin cfg0.N) (r : Fin 256) (n : Fin 1024) : yblk m c t (ix2 r n) = Y m c (ix2 (row t r) n) := by
  refine (Cert.Kernel3Ideal.PostAt.norm_apply _ _ _ _ _ _ _ _ _ r n).trans ?_
  rw [Y, nrm_apply]
  simp only [g_blk, ← hblk_apply]
  rfl

theorem out9_eq (c : Dev nD) (t : Fin cfg0.N) :
    out0_9 (F := Ideal) (iblk m c 0 t) (iblk m c 1 t) (iblk m c 2 t) (iblk m c 3 t) (iblk m c 4 t) (iblk m c 5 t) (iblk m c 6 t) (iblk m c 7 t) (iblk m c 8 t)
      = hblk m c t := by
  unfold out0_9; frame_out
  rfl

theorem out10_eq (c : Dev nD) (t : Fin cfg0.N) :
    out0_10 (F := Ideal) (iblk m c 0 t) (iblk m c 1 t) (iblk m c 2 t) (iblk m c 3 t) (iblk m c 4 t) (iblk m c 5 t) (iblk m c 6 t) (iblk m c 7 t) (iblk m c 8 t)
      = yblk m c t := by
  unfold_out out0_10; frame_out
  rfl

/-- A slice of 128 columns of the norm, as a piece of the stack, at an index. -/
theorem piece_apply (y : FVec Ideal S256x1024 .f32) (o : ℕ) (h : S256x1024.Slices ![0, o] S256x128) (ho : o + 128 ≤ 1024) (x : S256x1x128.Idx) :
    shapeCast S256x1x128 (extractStridedSlice S256x128 ![0, o] y h) shapeCasts_S256x128_S256x1x128 x
      = y (ix2 (x 0) ⟨o + (x 2).val, by have := (x 2).isLt; change _ < 128 at this; omega⟩) := by
  obtain ⟨a, b, e, rfl⟩ : ∃ (a : Fin 256) (b : Fin 1) (e : Fin 128), x = ix3 a b e := ⟨x 0, x 1, x 2, by
    funext i; match i with | ⟨0, _⟩ => rfl | ⟨1, _⟩ => rfl | ⟨2, _⟩ => rfl⟩
  pointwise []

/-- The columns of a block stacked in pieces. -/
def stackBlk (y : FVec Ideal S256x1024 .f32) : FVec Ideal S256x8x128 .f32 := fun z =>
  y (ix2 (z 0) ⟨startCol (z 1) + (z 2).val, by have := startCol_le (z 1); have := (z 2).isLt; change _ < 128 at this; omega⟩)

/-- Piece `p` stored at row `p` of the stack is the stack there. -/
theorem stack_piece (y : FVec Ideal S256x1024 .f32) (p : Fin 8) (o : ℕ) (h : S256x1024.Slices ![0, o] S256x128) (ho : startCol p = o)
    (x : S256x1x128.Idx) (z : S256x8x128.Idx) (h0 : (z 0).val = (x 0).val) (h1 : (z 1).val = p.val) (h2 : (z 2).val = (x 2).val) :
    shapeCast S256x1x128 (extractStridedSlice S256x128 ![0, o] y h) shapeCasts_S256x128_S256x1x128 x = stackBlk y z := by
  rw [piece_apply y o h (ho ▸ startCol_le p) x, stackBlk]
  obtain rfl : z 1 = p := Fin.ext h1
  refine congrArg y (funext fun i => Fin.ext ?_)
  match i with
  | ⟨0, _⟩ => exact h0.symm
  | ⟨1, _⟩ => show o + (x 2).val = startCol (z 1) + (z 2).val; omega

theorem ld_gain (g : FVec Ideal S1x1024 .f32) : View.ld (Val := Elt Ideal) (e' := .f32) g r0_2 = g :=
  View.ld_unit_lit' (Val := Elt Ideal) (e := .f32) (S := S1x1024) _ g (by decide)

theorem norm_eq (c : Dev nD) (t : Fin cfg0.N) :
    k0_pay5 (F := Ideal) (k0_pay14 (iblk m c 0 t) (iblk m c 1 t) (iblk m c 2 t) (iblk m c 3 t) (iblk m c 4 t) (iblk m c 5 t)
      (iblk m c 6 t) (iblk m c 7 t) (iblk m c 8 t)) (View.ld (iblk m c 8 t) r0_2) = yblk m c t := by
  unfold k0_pay14 yblk
  simp (disch := decide) only [View.ld_unit_lit']
  exact congrArg _ (ld_gain _)

theorem at_zero (n : ℕ) : 0 + 1 * n = n := by omega

theorem at_row (p : ℕ) (x : S256x1x128.Idx) : p + 1 * (x 1).val = p := by
  have := (x 1).isLt
  change _ < 1 at this
  omega

/-- An index of the block is the pair of its coordinates. -/
theorem eta2 (y : S256x1024.Idx) : y = ix2 (y 0) (y 1) := by
  funext i
  match i with
  | ⟨0, _⟩ => rfl
  | ⟨1, _⟩ => rfl

/-- Eight pieces stored one at each row of the stack are the stack. -/
theorem canon_stack (a : FVec Ideal S256x1024 .f32) (g : FVec Ideal S1x1024 .f32) (y : S256x8x128.Idx) :
    View.canon (Val := Elt Ideal) (e := .f32) [⟨r0_10, k0_pay2 (F := Ideal) (k0_pay5 a g)⟩,
      ⟨r0_9, k0_pay1 (F := Ideal) (k0_pay13 a g)⟩,
      ⟨r0_8, k0_pay12 (F := Ideal) a g⟩,
      ⟨r0_7, k0_pay11 (F := Ideal) a g⟩,
      ⟨r0_6, k0_pay10 (F := Ideal) a g⟩,
      ⟨r0_5, k0_pay9 (F := Ideal) a g⟩,
      ⟨r0_4, k0_pay8 (F := Ideal) a g⟩,
      ⟨r0_3, k0_pay7 (F := Ideal) a g⟩] y = (stackBlk (k0_pay5 (F := Ideal) a g) : Vec Ideal S256x8x128 .f32) y := by
  refine View.canon_apply_of_pieces (Val := Elt Ideal) (stackBlk (k0_pay5 (F := Ideal) a g)) _ ?_ y (cover0_11 _ _ _ _ _ _ _ _ y)
  intro pc hpc
  simp only [List.mem_cons, List.not_mem_nil, or_false] at hpc
  rcases hpc with rfl | rfl | rfl | rfl | rfl | rfl | rfl | rfl <;> intro x
  · exact stack_piece (k0_pay5 (F := Ideal) a g) 7 896 slices_S256x1024_o0_896_S256x128 (by decide) x _ (at_zero _) (at_row 7 x) (at_zero _)
  · exact stack_piece (k0_pay5 (F := Ideal) a g) 6 384 slices_S256x1024_o0_384_S256x128 (by decide) x _ (at_zero _) (at_row 6 x) (at_zero _)
  · exact stack_piece (k0_pay5 (F := Ideal) a g) 5 768 slices_S256x1024_o0_768_S256x128 (by decide) x _ (at_zero _) (at_row 5 x) (at_zero _)
  · exact stack_piece (k0_pay5 (F := Ideal) a g) 4 256 slices_S256x1024_o0_256_S256x128 (by decide) x _ (at_zero _) (at_row 4 x) (at_zero _)
  · exact stack_piece (k0_pay5 (F := Ideal) a g) 3 640 slices_S256x1024_o0_640_S256x128 (by decide) x _ (at_zero _) (at_row 3 x) (at_zero _)
  · exact stack_piece (k0_pay5 (F := Ideal) a g) 2 128 slices_S256x1024_o0_128_S256x128 (by decide) x _ (at_zero _) (at_row 2 x) (at_zero _)
  · exact stack_piece (k0_pay5 (F := Ideal) a g) 1 512 slices_S256x1024_o0_512_S256x128 (by decide) x _ (at_zero _) (at_row 1 x) (at_zero _)
  · exact stack_piece (k0_pay5 (F := Ideal) a g) 0 0 slices_S256x1024_o0_0_S256x128 (by decide) x _ (at_zero _) (at_row 0 x) (at_zero _)

theorem out11_eq (c : Dev nD) (t : Fin cfg0.N) :
    out0_11 (F := Ideal) (iblk m c 0 t) (iblk m c 1 t) (iblk m c 2 t) (iblk m c 3 t) (iblk m c 4 t) (iblk m c 5 t) (iblk m c 6 t) (iblk m c 7 t)
        (iblk m c 8 t) = stackBlk (yblk m c t) := by
  funext y
  unfold out0_11
  refine (canon_stack _ _ y).trans ?_
  exact congrArg (fun v : FVec Ideal S256x1024 .f32 => stackBlk v y) (norm_eq m c t)

/-- The first result is the reference's residual. -/
theorem result9 (c : Dev nD) : (dats m 0 c).arrAt 9 cfg0.N = H m c := by
  refine (dats m 0 c).arrAt_eq_of_covers 9 _ (by decide +kernel) fun t _ y => ?_
  have ht := tlt t
  blk_simp
  rw [after0_9, out9_eq]
  have h0 : (y 0).val < 256 := (y 0).isLt
  have h1 : (y 1).val < 1024 := (y 1).isLt
  have he : ((View.whole main_v5_0).slice (win0_9.rect t)).emb y = ix2 (row t (y 0)) ⟨(y 1).val, h1⟩ := by
    unfold row
    blk_ext [idx t]
  rw [he]
  exact (congrArg (hblk m c t) (eta2 y)).trans (hblk_apply m c t (y 0) (y 1))

/-- The second result is the reference's norm. -/
theorem result10 (c : Dev nD) : (dats m 0 c).arrAt 10 cfg0.N = Y m c := by
  refine (dats m 0 c).arrAt_eq_of_covers 10 _ (by decide +kernel) fun t _ y => ?_
  have ht := tlt t
  blk_simp
  rw [after0_10, out10_eq]
  have h0 : (y 0).val < 256 := (y 0).isLt
  have h1 : (y 1).val < 1024 := (y 1).isLt
  have he : ((View.whole main_v5_1).slice (win0_10.rect t)).emb y = ix2 (row t (y 0)) ⟨(y 1).val, h1⟩ := by
    unfold row
    blk_ext [idx t]
  rw [he]
  exact (congrArg (yblk m c t) (eta2 y)).trans (yblk_apply m c t (y 0) (y 1))

/-- The third result is the reference's stack of the norm. -/
theorem result11 (c : Dev nD) : (dats m 0 c).arrAt 11 cfg0.N = stacked (Y m c) := by
  refine (dats m 0 c).arrAt_eq_of_covers 11 _ (by decide +kernel) fun t _ y => ?_
  have ht := tlt t
  blk_simp
  rw [after0_11, out11_eq]
  have h0 : (y 0).val < 256 := (y 0).isLt
  have h1 : (y 1).val < 8 := (y 1).isLt
  have h2 : (y 2).val < 128 := (y 2).isLt
  have he : ((View.whole main_v5_2).slice (win0_11.rect t)).emb y = ix3 (row t (y 0)) ⟨(y 1).val, h1⟩ ⟨(y 2).val, h2⟩ := by
    unfold row
    blk_ext [idx t]
  rw [he, stacked_apply]
  exact yblk_apply m c t (y 0) ⟨startCol (y 1) + (y 2).val, _⟩

end Cert.PostJoin

end
-- ==== Proof.PostClaims.lean ====
/- The claims about the merge of the two branches: the three frames, the value of its three results. -/
module

public import proofs.«01_k».proof.Defs
public import proofs.«01_k».proof.Proof.Gen.Kernel3.Frame
public import proofs.«01_k».proof.Proof.Gen.Kernel3Ideal.Frame
public import proofs.«01_k».proof.Proof.PostJoin

@[expose] public section

noncomputable section

namespace Cert.PostClaims
open Idealize.ShloMosaic Idealize.SL.Sem

theorem frame_k : Cert.quiescent_Kernel3 (hKernel3 := Cert.Kernel3.Gen.facts) := fun m ρ _ => Cert.Kernel3.Gen.frame m ρ
theorem frame_ki : Cert.quiescent_Kernel3Ideal (hKernel3Ideal := Cert.Kernel3Ideal.Gen.facts) := fun m ρ _ => Cert.Kernel3Ideal.Gen.frame m ρ

/-- The reference's frame: its run read at the arguments; it declares no semaphore. -/
theorem frame_r : Cert.quiescent_Reference3Ideal (hReference3Ideal := Cert.Reference3Ideal.Gen.facts) := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

/-- No operation is replaced. -/
theorem preserves : Cert.preserves_Kernel3_Kernel3Ideal := trivial

/-- The kernel's residual, its norm and the stack of the norm's columns are the reference's, of any arguments. -/
theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N, Cert.Kernel3Ideal.Value.run_blocks (F := Ideal) m ρ, ?_⟩
  refine (θ_run Cert.Reference3Ideal.defs _ _).mono
    (fun _ h c => ⟨(h c).1.trans ?_, (h c).2.1.trans ?_, (h c).2.2.1.trans ?_, (h c).2.2.2⟩) (Cert.Reference3Ideal.Value.run (F := Ideal) m' ρ')
  all_goals obtain ⟨h0, h1, h2, h3, h4, h5, h6, h7, h8⟩ := hag c
  · refine Eq.trans ?_ (Cert.PostJoin.result9 m c).symm
    rw [h0, h1, h2, h3, h4, h5, h6, h7]
    rfl
  · refine Eq.trans ?_ (Cert.PostJoin.result10 m c).symm
    rw [h0, h1, h2, h3, h4, h5, h6, h7, h8]
    rfl
  · refine Eq.trans ?_ (Cert.PostJoin.result11 m c).symm
    rw [Cert.Reference3Ideal.PostAt.res_eq, h0, h1, h2, h3, h4, h5, h6, h7, h8]
    rfl

end Cert.PostClaims

end
-- ==== Proof.SampleHead.lean ====
/- One head of the samples' attention: the body goes through the eight sequences of its block, and for each computes its
   sixteen heads by the same lines, at sixteen column offsets of the queries and four of the keys and values; here they
   are written once, at any offset, and read at an index. -/
module

public import proofs.«01_k».proof.Proof.Gen.Kernel4Ideal.Frame
public import proofs.«01_k».proof.Proof.Softmax
public import Idealize.ShloMosaic.Lib.Pointwise
public import Idealize.ShloMosaic.Lib.Pipeline.ValueKit
public import Idealize.ShloMosaic.Lib.Pipeline.Value

@[expose] public section

set_option maxRecDepth 16384

noncomputable section

namespace Cert.Kernel4Ideal.Sample
open Cert.Kernel4Ideal Cert.Kernel4Ideal.Gen
open Idealize.ShloMosaic Idealize.ShloMosaic.TcCoe Idealize.SL.Sem Idealize.ShloMosaic.Pointwise

/-- A head's logits: the queries' columns from `oq`, the keys' from `ok`, the slope `sl`, under the mask. -/
def score (n : FVec Ideal S1x8x256 .f32) (p : FVec Ideal S1x128x256 .f32) (q : FVec Ideal S1x8x1024 .bf16) (sl : EReal) (oq ok : ℕ)
    (hq : S8x1024.Slices ![0, oq] S8x64) (hk : S136x256.Slices ![0, ok] S136x64) : FVec Ideal S8x136 .f32 :=
  select k0_pay2
    (subf (matmul dot_S8x64_S136x64_S8x136_1_1_0_0_n_n none
        (extractStridedSlice S8x64 ![0, oq] (k0_pay18 (F := Ideal) q) hq : FVec Ideal S8x64 .bf16)
        (extractStridedSlice S136x64 ![0, ok] (k0_pay16 (F := Ideal) n p) hk : FVec Ideal S136x64 .bf16)
        (constant S8x136 .f32 0x00000000#32))
      (mulf (broadcast S8x136 sl) (k0_pay3 (F := Ideal))))
    (broadcast S8x136 (Named.named (F := Ideal) κ "mask" 0xF149F2CA#32))

/-- A head's row maxima, the sink `z` included. -/
def mx (s : FVec Ideal S8x136 .f32) (z : EReal) : FVec Ideal S8x1 .f32 :=
  maximumf (shapeCast S8x1 (multiReduction .maximumf [1] S8 s 0xFF800000#32 reduces_S8x136_S8 (.inl rfl) rfl)
    shapeCasts_S8_S8x1) (broadcast S8x1 z)

/-- A head's weights, not yet divided. -/
def wt (s : FVec Ideal S8x136 .f32) (m : FVec Ideal S8x1 .f32) : FVec Ideal S8x136 .f32 :=
  exp (subf s (broadcastTo S8x136 m broadcasts_S8x1_S8x136))

/-- A head's denominators. -/
def dn (m : FVec Ideal S8x1 .f32) (p : FVec Ideal S8x136 .f32) (z : EReal) : FVec Ideal S8x1 .f32 :=
  addf (shapeCast S8x1 (multiReduction .add [1] S8 p 0x00000000#32 reduces_S8x136_S8 (.inl rfl) rfl)
    shapeCasts_S8_S8x1) (exp (subf (broadcast S8x1 z) m))

/-- A head's output: the weighted sums of the values' columns from `ok`, divided by the denominators. -/
def outv (n : FVec Ideal S1x8x256 .f32) (c : FVec Ideal S1x128x256 .f32) (p : FVec Ideal S8x136 .f32) (d : FVec Ideal S8x1 .f32) (ok : ℕ)
    (hk : S136x256.Slices ![0, ok] S136x64) : FVec Ideal S8x64 .f32 :=
  divf (matmul dot_S8x136_S136x64_S8x64_1_0_0_1_n_n none (truncf .bf16 p bitsLt_bf16_f32)
      (extractStridedSlice S136x64 ![0, ok] (k0_pay17 (F := Ideal) n c) hk : FVec Ideal S136x64 .bf16)
      (constant S8x64 .f32 0x00000000#32))
    (broadcastTo S8x64 d broadcasts_S8x1_S8x64)

/-- A head, from its sequence's keys, values and queries. -/
def head (kn vn : FVec Ideal S1x8x256 .f32) (kc vc : FVec Ideal S1x128x256 .f32) (q : FVec Ideal S1x8x1024 .bf16) (sl z : EReal)
    (oq ok : ℕ) (hq : S8x1024.Slices ![0, oq] S8x64) (hk : S136x256.Slices ![0, ok] S136x64) : FVec Ideal S8x64 .f32 :=
  outv vn vc (wt (score kn kc q sl oq ok hq hk) (mx (score kn kc q sl oq ok hq hk) z))
    (dn (mx (score kn kc q sl oq ok hq hk) z) (wt (score kn kc q sl oq ok hq hk) (mx (score kn kc q sl oq ok hq hk) z)) z)
    ok hk

theorem slices_q (h : Fin 16) : S8x1024.Slices ![0, 64 * h.val] S8x64 := by
  revert h; decide
theorem slices_k (h : Fin 16) : S136x256.Slices ![0, 64 * (h.val / 4)] S136x64 := by
  revert h; decide

/-- Head `h` of the sixteen: its queries' columns from `64 h`, its keys' and values' from `64 (h / 4)`. -/
def headAt (kn vn : FVec Ideal S1x8x256 .f32) (kc vc : FVec Ideal S1x128x256 .f32) (q : FVec Ideal S1x8x1024 .bf16) (sl z : EReal)
    (h : Fin 16) : FVec Ideal S8x64 .f32 :=
  head kn vn kc vc q sl z (64 * h.val) (64 * (h.val / 4)) (slices_q h) (slices_k h)

/-- A block of rows written in the result's layout. -/
theorem lay_apply (g : FVec Ideal S8x1024 .f32) (r : Fin 8) (e : Fin 1024) :
    (shapeCast S1x8x1024 (truncf .bf16 g bitsLt_bf16_f32 : FVec Ideal S8x1024 .bf16) shapeCasts_S8x1024_S1x8x1024 : FVec Ideal S1x8x1024 .bf16) (ix3 0 r e)
      = g (ix2 r e) := by
  pointwise []

/-- The sixteen heads side by side, at an index. -/
theorem pay11_apply (f : Fin 16 → FVec Ideal S8x64 .f32) (r : Fin 8) (e : Fin 1024) :
    k0_pay11 (F := Ideal) (f 0) (f 1) (f 2) (f 3) (f 4) (f 5) (f 6) (f 7) (f 8) (f 9) (f 10) (f 11) (f 12) (f 13) (f 14) (f 15) (ix3 0 r e)
      = f ⟨e.val / 64, by omega⟩ (ix2 r ⟨e.val % 64, Nat.mod_lt _ (by norm_num)⟩) :=
  (lay_apply _ r e).trans (concatenate_ofFn_apply (s₁ := S8x64) (t := S8x1024) 1 f
    concatenates_S8x64_S8x64_S8x64_S8x64_S8x64_S8x64_S8x64_S8x64_S8x64_S8x64_S8x64_S8x64_S8x64_S8x64_S8x64_S8x64_S8x1024_d1
    rfl 64 rfl (ix2 r e) _ rfl _ rfl fun b hb => by
      match b with
      | ⟨0, _⟩ => rfl
      | ⟨1, _⟩ => exact absurd rfl hb)

/-- A sequence's keys (or values), those of the cache before those of the step, read at a row and a column. -/
def two (n : FVec Ideal S1x8x256 .f32) (c : FVec Ideal S1x128x256 .f32) (j : Fin 136) (e : Fin 256) : EReal :=
  if h : j.val < 128 then c (ix3 0 ⟨j.val, h⟩ e) else n (ix3 0 ⟨j.val - 128, by omega⟩ e)

/-- The distance word from query `r` to key `j`. -/
def dword (r : Fin 8) (j : Fin 136) : BitVec 32 :=
  IntOp.subi (IntOp.addi (128#32) (BitVec.ofNat 32 r.val)) (BitVec.ofNat 32 j.val)

/-- The mask word of query `r` and key `j`. -/
def mword (r : Fin 8) (j : Fin 136) : BitVec 1 :=
  IntOp.andi (IntOp.cmpi CmpIPredicate.sge (dword r j) 0#32) (IntOp.cmpi CmpIPredicate.sle (dword r j) 128#32)

theorem named_mask : Named.named (F := Ideal) (φ := .f32) κ "mask" 0xF149F2CA#32 = (⊥ : EReal) :=
  IdealRules.named_const.ideal_named_scalar _ _ _ _ rfl

theorem ninf : Ideal.ofBits .f32 0xFF800000#32 = ⊥ := by
  simp [Ideal.ofBits, Ideal.ieee]

/-- The keys kept: the last 128 of the 136. -/
theorem pay14_apply (n : FVec Ideal S1x8x256 .f32) (c : FVec Ideal S1x128x256 .f32) (r : Fin 128) (e : Fin 256) :
    k0_pay14 (F := Ideal) n c (ix3 0 r e) = two n c ⟨8 + r.val, by omega⟩ e := by
  pointwise [k0_pay14, k0_pay12, two]

/-- The values kept: the last 128 of the 136. -/
theorem pay15_apply (n : FVec Ideal S1x8x256 .f32) (c : FVec Ideal S1x128x256 .f32) (r : Fin 128) (e : Fin 256) :
    k0_pay15 (F := Ideal) n c (ix3 0 r e) = two n c ⟨8 + r.val, by omega⟩ e := by
  pointwise [k0_pay15, k0_pay13, two]

/-- A logit: the product of a query and a key less the slope times the distance, or `⊥` under the mask. -/
theorem score_apply (n : FVec Ideal S1x8x256 .f32) (c : FVec Ideal S1x128x256 .f32) (q : FVec Ideal S1x8x1024 .bf16) (sl : EReal) (oq ok : ℕ)
    (hq : S8x1024.Slices ![0, oq] S8x64) (hk : S136x256.Slices ![0, ok] S136x64) (h1 : oq + 64 ≤ 1024) (h2 : ok + 64 ≤ 256)
    (r : Fin 8) (j : Fin 136) :
    score n c q sl oq ok hq hk (ix2 r j)
      = Scalar.select (mword r j)
          ((∑ x : Fin 64, q (ix3 0 r ⟨oq + x.val, by omega⟩) * two n c j ⟨ok + x.val, by omega⟩)
            - sl * FloatOps.sitofp (F := Ideal) FTy.f32 (dword r j)) (⊥ : EReal) := by
  rw [← named_mask]
  pointwise [score, k0_pay18, k0_pay16, k0_pay12, k0_pay3, k0_pay1, k0_pay2, mword, dword, two]

theorem mx_apply (s : FVec Ideal S8x136 .f32) (z : EReal) (r : Fin 8) :
    mx s z (ix2 r 0) = Softmax.top (fun j : Fin 136 => s (ix2 r j)) z := by
  rw [Softmax.top, ← ninf]
  pointwise [mx]

theorem dn_apply (p : FVec Ideal S8x136 .f32) (m : FVec Ideal S8x1 .f32) (z : EReal) (r : Fin 8) :
    dn m p z (ix2 r 0) = (∑ j : Fin 136, p (ix2 r j)) + Ideal.exp (z - m (ix2 r 0)) := by
  pointwise [dn]

theorem wt_apply (s : FVec Ideal S8x136 .f32) (m : FVec Ideal S8x1 .f32) (r : Fin 8) (j : Fin 136) :
    wt s m (ix2 r j) = Ideal.exp (s (ix2 r j) - m (ix2 r 0)) := by
  pointwise [wt]

theorem outv_apply (n : FVec Ideal S1x8x256 .f32) (c : FVec Ideal S1x128x256 .f32) (p : FVec Ideal S8x136 .f32) (d : FVec Ideal S8x1 .f32) (ok : ℕ)
    (hk : S136x256.Slices ![0, ok] S136x64) (h2 : ok + 64 ≤ 256) (r : Fin 8) (e : Fin 64) :
    outv n c p d ok hk (ix2 r e)
      = Ideal.div (∑ j : Fin 136, p (ix2 r j) * two n c j ⟨ok + e.val, by omega⟩) (d (ix2 r 0)) := by
  pointwise [outv, k0_pay17, k0_pay13, two]

/-- The kernel's logit of query `r` and key `j` of head `h`. -/
def klogit (n : FVec Ideal S1x8x256 .f32) (c : FVec Ideal S1x128x256 .f32) (q : FVec Ideal S1x8x1024 .bf16) (sl : EReal)
    (h : Fin 16) (r : Fin 8) (j : Fin 136) : EReal :=
  Scalar.select (mword r j)
    ((∑ x : Fin 64, q (ix3 0 r ⟨64 * h.val + x.val, by omega⟩) * two n c j ⟨64 * (h.val / 4) + x.val, by omega⟩)
      - sl * FloatOps.sitofp (F := Ideal) FTy.f32 (dword r j)) (⊥ : EReal)

/-- A head at an index: the row of its logits, its sink and its values. -/
theorem headAt_apply (kn vn : FVec Ideal S1x8x256 .f32) (kc vc : FVec Ideal S1x128x256 .f32) (q : FVec Ideal S1x8x1024 .bf16) (sl z : EReal)
    (h : Fin 16) (r : Fin 8) (e : Fin 64) :
    headAt kn vn kc vc q sl z h (ix2 r e)
      = Softmax.row (fun j => klogit kn kc q sl h r j) z (fun j => two vn vc j ⟨64 * (h.val / 4) + e.val, by omega⟩) := by
  simp only [headAt, head, outv_apply _ _ _ _ _ _ (show 64 * (h.val / 4) + 64 ≤ 256 by omega), dn_apply, wt_apply, mx_apply,
    score_apply _ _ _ _ _ _ _ _ (show 64 * h.val + 64 ≤ 1024 by omega) (show 64 * (h.val / 4) + 64 ≤ 256 by omega),
    Softmax.row, Softmax.den, klogit]

end Cert.Kernel4Ideal.Sample

end
-- ==== Proof.SampleLoop.lean ====
/- The loop of the samples' attention: what its eight trips leave in the three result blocks. Trip `k` writes sequence `k`
   of each block, whole; so the blocks are, sequence by sequence, what a trip writes. -/
module

public import proofs.«01_k».proof.Proof.SampleHead

@[expose] public section

set_option maxRecDepth 16384

noncomputable section

namespace Cert.Kernel4Ideal.Sample
open Cert.Kernel4Ideal Cert.Kernel4Ideal.Gen
open Idealize.ShloMosaic Idealize.ShloMosaic.TcCoe Idealize.SL.Sem Idealize.ShloMosaic.Pointwise

/-- Sequence `s` of a block of the step's keys (or values). -/
def seqN (X : FVec Ideal S8x8x256 .f32) (s : Fin 8) : FVec Ideal S1x8x256 .f32 := fun x => X (ix3 s (x 1) (x 2))
/-- Sequence `s` of a block of the cache's keys (or values). -/
def seqC (X : FVec Ideal S8x128x256 .f32) (s : Fin 8) : FVec Ideal S1x128x256 .f32 := fun x => X (ix3 s (x 1) (x 2))
/-- Sequence `s` of a block of queries. -/
def seqQ (X : FVec Ideal S8x8x1024 .bf16) (s : Fin 8) : FVec Ideal S1x8x1024 .bf16 := fun x => X (ix3 s (x 1) (x 2))

/-- The attention's block, from the input blocks. -/
def attnOut (sl z : FVec Ideal S16 .f32) (q : FVec Ideal S8x8x1024 .bf16) (kn vn : FVec Ideal S8x8x256 .f32) (kc vc : FVec Ideal S8x128x256 .f32)
    (y : S8x8x1024.Idx) : EReal :=
  headAt (seqN kn (y 0)) (seqN vn (y 0)) (seqC kc (y 0)) (seqC vc (y 0)) (seqQ q (y 0))
    (sl (ix1 ⟨(y 2).val / 64, by have := (y 2).isLt; change _ < 1024 at this; omega⟩))
    (z (ix1 ⟨(y 2).val / 64, by have := (y 2).isLt; change _ < 1024 at this; omega⟩))
    ⟨(y 2).val / 64, by have := (y 2).isLt; change _ < 1024 at this; omega⟩ (ix2 (y 1) ⟨(y 2).val % 64, Nat.mod_lt _ (by norm_num)⟩)

/-- The block of kept keys (or values), from the input blocks. -/
def keptOut (n : FVec Ideal S8x8x256 .f32) (c : FVec Ideal S8x128x256 .f32) (y : S8x128x256.Idx) : EReal :=
  two (seqN n (y 0)) (seqC c (y 0)) ⟨8 + (y 1).val, by have := (y 1).isLt; change _ < 128 at this; omega⟩ (y 2)

theorem trips_eq : k0_t1_loop.trips = 8 := by decide +kernel

theorem klt (k : Fin k0_t1_loop.trips) : k.val < 8 := lt_of_lt_of_eq k.isLt trips_eq

theorem off1_eq : ∀ k : Fin k0_t1_loop.trips, k0_off1 k = ![k.val, 0, 0] := by decide +kernel
theorem off2_eq : ∀ k : Fin k0_t1_loop.trips, k0_off2 k = ![k.val, 0, 0] := by decide +kernel
theorem off3_eq : ∀ k : Fin k0_t1_loop.trips, k0_off3 k = ![k.val, 0, 0] := by decide +kernel

theorem ld_n (X : FVec Ideal S8x8x256 .f32) (k : Fin k0_t1_loop.trips) (hi) :
    View.ld (Val := Elt Ideal) (e' := .f32) X (Rect.unit (s := S8x8x256) (k0_off1 k) S1x8x256.size hi) = seqN X ⟨k.val, klt k⟩ :=
  funext fun x => View.ld_unit_apply_of _ _ _ _ _ _ fun a => Eq.trans (by
    match a with
    | ⟨0, _⟩ => have := (x 0).isLt; change (x 0).val < 1 at this; show k.val = k.val + (x 0).val; omega
    | ⟨1, _⟩ => show (x 1).val = 0 + (x 1).val; omega
    | ⟨2, _⟩ => show (x 2).val = 0 + (x 2).val; omega)
    (congrArg (· + (x a).val) (congrFun (off1_eq k) a).symm)
theorem ld_c (X : FVec Ideal S8x128x256 .f32) (k : Fin k0_t1_loop.trips) (hi) :
    View.ld (Val := Elt Ideal) (e' := .f32) X (Rect.unit (s := S8x128x256) (k0_off2 k) S1x128x256.size hi) = seqC X ⟨k.val, klt k⟩ :=
  funext fun x => View.ld_unit_apply_of _ _ _ _ _ _ fun a => Eq.trans (by
    match a with
    | ⟨0, _⟩ => have := (x 0).isLt; change (x 0).val < 1 at this; show k.val = k.val + (x 0).val; omega
    | ⟨1, _⟩ => show (x 1).val = 0 + (x 1).val; omega
    | ⟨2, _⟩ => show (x 2).val = 0 + (x 2).val; omega)
    (congrArg (· + (x a).val) (congrFun (off2_eq k) a).symm)
theorem ld_q (X : FVec Ideal S8x8x1024 .bf16) (k : Fin k0_t1_loop.trips) (hi) :
    View.ld (Val := Elt Ideal) (e' := .bf16) X (Rect.unit (s := S8x8x1024) (k0_off3 k) S1x8x1024.size hi) = seqQ X ⟨k.val, klt k⟩ :=
  funext fun x => View.ld_unit_apply_of _ _ _ _ _ _ fun a => Eq.trans (by
    match a with
    | ⟨0, _⟩ => have := (x 0).isLt; change (x 0).val < 1 at this; show k.val = k.val + (x 0).val; omega
    | ⟨1, _⟩ => show (x 1).val = 0 + (x 1).val; omega
    | ⟨2, _⟩ => show (x 2).val = 0 + (x 2).val; omega)
    (congrArg (· + (x a).val) (congrFun (off3_eq k) a).symm)

/-- A scalar read from one of the two tables of sixteen. -/
theorem ld_scalar (x : FVec Ideal S16 .f32) (h : ℕ) (hi) (hp) :
    View.ld (Val := Elt Ideal) (e' := .f32) x (Rect.unit (s := S16) ![h] ![1] hi) (Shape.Idx.first hp)
      = x (ix1 ⟨h, by have := hi 0; change h + 1 ≤ 16 at this; omega⟩) :=
  View.ld_unit_apply_of _ _ _ _ _ _ fun a => by
    have := Fin.fin_one_eq_zero a; subst this; rfl

theorem emb_c (k : Fin k0_t1_loop.trips) (hi) (x : S1x128x256.Idx) :
    (Rect.unit (s := S8x128x256) (k0_off2 k) S1x128x256.size hi).emb x = (ix3 ⟨k.val, klt k⟩ (x 1) (x 2) : S8x128x256.Idx) := by
  funext a
  refine Fin.ext ((Rect.idx_unit_val (s := S8x128x256) (k0_off2 k) S1x128x256.size hi x a).trans ((congrArg (· + (x a).val) (congrFun (off2_eq k) a)).trans ?_))
  match a with
  | ⟨0, _⟩ => have := (x 0).isLt; change (x 0).val < 1 at this; show k.val + (x 0).val = k.val; omega
  | ⟨1, _⟩ => show 0 + (x 1).val = (x 1).val; omega
  | ⟨2, _⟩ => show 0 + (x 2).val = (x 2).val; omega
theorem emb_q (k : Fin k0_t1_loop.trips) (hi) (x : S1x8x1024.Idx) :
    (Rect.unit (s := S8x8x1024) (k0_off3 k) S1x8x1024.size hi).emb x = (ix3 ⟨k.val, klt k⟩ (x 1) (x 2) : S8x8x1024.Idx) := by
  funext a
  refine Fin.ext ((Rect.idx_unit_val (s := S8x8x1024) (k0_off3 k) S1x8x1024.size hi x a).trans ((congrArg (· + (x a).val) (congrFun (off3_eq k) a)).trans ?_))
  match a with
  | ⟨0, _⟩ => have := (x 0).isLt; change (x 0).val < 1 at this; show k.val + (x 0).val = k.val; omega
  | ⟨1, _⟩ => show 0 + (x 1).val = (x 1).val; omega
  | ⟨2, _⟩ => show 0 + (x 2).val = (x 2).val; omega

theorem inb (h : Fin 16) : ∀ a : Fin S16.rank, (![h.val] : Fin 1 → ℕ) a + (![1] : Fin 1 → ℕ) a ≤ S16.size a := by
  revert h; decide

section
variable (𝒱 : Variants) (c : Dev nD) (bd : Option 𝒱.V) (i : grid0.Coords)
  (arg1 : Memref sig .tc .smem S16 .f32) (harg1 : arg1.IsWhole) (arg2 : Memref sig .tc .smem S16 .f32) (harg2 : arg2.IsWhole)
  (arg3 : Memref sig .tc .vmem S8x8x1024 .bf16) (harg3 : arg3.IsWhole)
  (arg4 : Memref sig .tc .vmem S8x8x256 .f32) (harg4 : arg4.IsWhole) (arg5 : Memref sig .tc .vmem S8x8x256 .f32) (harg5 : arg5.IsWhole)
  (arg6 : Memref sig .tc .vmem S8x128x256 .f32) (harg6 : arg6.IsWhole) (arg7 : Memref sig .tc .vmem S8x128x256 .f32) (harg7 : arg7.IsWhole)
  (arg8 : Memref sig .tc .vmem S8x8x1024 .bf16) (harg8 : arg8.IsWhole)
  (arg9 : Memref sig .tc .vmem S8x128x256 .f32) (harg9 : arg9.IsWhole) (arg10 : Memref sig .tc .vmem S8x128x256 .f32) (harg10 : arg10.IsWhole)
  (X1 : BufTy.Contents (Elt Ideal) arg1.view.ty) (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty) (X6 : BufTy.Contents (Elt Ideal) arg6.view.ty)
  (X7 : BufTy.Contents (Elt Ideal) arg7.view.ty)

/-- The heads of trip `k`, from the input blocks. -/
def hd (k : Fin k0_t1_loop.trips) (h : Fin 16) : FVec Ideal S8x64 .f32 :=
  head (View.ld (Val := Elt Ideal) (e' := .f32) (S := S8x8x256) (arg4.view.read (Elt Ideal) X4) (Rect.unit (s := S8x8x256) (k0_off1 k) S1x8x256.size (k0_off1_inb k)))
    (View.ld (Val := Elt Ideal) (e' := .f32) (S := S8x8x256) (arg5.view.read (Elt Ideal) X5) (Rect.unit (s := S8x8x256) (k0_off1 k) S1x8x256.size (k0_off1_inb k)))
    (View.ld (Val := Elt Ideal) (e' := .f32) (S := S8x128x256) (arg6.view.read (Elt Ideal) X6) (Rect.unit (s := S8x128x256) (k0_off2 k) S1x128x256.size (k0_off2_inb k)))
    (View.ld (Val := Elt Ideal) (e' := .f32) (S := S8x128x256) (arg7.view.read (Elt Ideal) X7) (Rect.unit (s := S8x128x256) (k0_off2 k) S1x128x256.size (k0_off2_inb k)))
    (View.ld (Val := Elt Ideal) (e' := .bf16) (S := S8x8x1024) (arg3.view.read (Elt Ideal) X3) (Rect.unit (s := S8x8x1024) (k0_off3 k) S1x8x1024.size (k0_off3_inb k)))
    (View.ld (Val := Elt Ideal) (e' := .f32) (S := S16) (arg1.view.read (Elt Ideal) X1) (Rect.unit (s := S16) ![h.val] ![1] (inb h)) (Shape.Idx.first (by decide +revert)))
    (View.ld (Val := Elt Ideal) (e' := .f32) (S := S16) (arg2.view.read (Elt Ideal) X2) (Rect.unit (s := S16) ![h.val] ![1] (inb h)) (Shape.Idx.first (by decide +revert)))
    (64 * h.val) (64 * (h.val / 4)) (slices_q h) (slices_k h)

theorem hd_eq (k : Fin k0_t1_loop.trips) (h : Fin 16) : hd arg1 arg2 arg3 arg4 arg5 arg6 arg7 X1 X2 X3 X4 X5 X6 X7 k h
    = headAt (seqN (arg4.view.read (Elt Ideal) X4) ⟨k.val, klt k⟩) (seqN (arg5.view.read (Elt Ideal) X5) ⟨k.val, klt k⟩)
        (seqC (arg6.view.read (Elt Ideal) X6) ⟨k.val, klt k⟩) (seqC (arg7.view.read (Elt Ideal) X7) ⟨k.val, klt k⟩)
        (seqQ (arg3.view.read (Elt Ideal) X3) ⟨k.val, klt k⟩)
        ((arg1.view.read (Elt Ideal) X1 : FVec Ideal S16 .f32) (ix1 h)) ((arg2.view.read (Elt Ideal) X2 : FVec Ideal S16 .f32) (ix1 h)) h := by
  unfold hd headAt
  rw [ld_scalar, ld_scalar, ld_n, ld_n, ld_c, ld_c, ld_q]

set_option maxHeartbeats 2000000 in
/-- What trip `k` writes into the attention's block. -/
theorem trip_o (k : Fin k0_t1_loop.trips) :
    (tripL_k0_t1 (F := Ideal) 𝒱 c bd i arg1 harg1 arg2 harg2 arg3 harg3 arg4 harg4 arg5 harg5 arg6 harg6 arg7 harg7 arg8 harg8 arg9 harg9 arg10 harg10
        X1 X2 X3 X4 X5 X6 X7 k).1
      = [⟨Rect.unit (s := S8x8x1024) (k0_off3 k) S1x8x1024.size (k0_off3_inb k),
          let f := hd arg1 arg2 arg3 arg4 arg5 arg6 arg7 X1 X2 X3 X4 X5 X6 X7 k
          k0_pay11 (F := Ideal) (f 0) (f 1) (f 2) (f 3) (f 4) (f 5) (f 6) (f 7) (f 8) (f 9) (f 10) (f 11) (f 12) (f 13) (f 14) (f 15)⟩] := by
  unfold tripL_k0_t1 trip_k0_t1
  rfl

/-- What trip `k` writes into the block of kept keys. -/
theorem trip_k (k : Fin k0_t1_loop.trips) :
    (tripL_k0_t1 (F := Ideal) 𝒱 c bd i arg1 harg1 arg2 harg2 arg3 harg3 arg4 harg4 arg5 harg5 arg6 harg6 arg7 harg7 arg8 harg8 arg9 harg9 arg10 harg10
        X1 X2 X3 X4 X5 X6 X7 k).2.1
      = [⟨Rect.unit (s := S8x128x256) (k0_off2 k) S1x128x256.size (k0_off2_inb k), k0_pay14 (F := Ideal)
          (View.ld (Val := Elt Ideal) (e' := .f32) (S := S8x8x256) (arg4.view.read (Elt Ideal) X4) (Rect.unit (s := S8x8x256) (k0_off1 k) S1x8x256.size (k0_off1_inb k)))
          (View.ld (Val := Elt Ideal) (e' := .f32) (S := S8x128x256) (arg6.view.read (Elt Ideal) X6) (Rect.unit (s := S8x128x256) (k0_off2 k) S1x128x256.size (k0_off2_inb k)))⟩] := by
  unfold tripL_k0_t1 trip_k0_t1
  rfl

/-- What trip `k` writes into the block of kept values. -/
theorem trip_v (k : Fin k0_t1_loop.trips) :
    (tripL_k0_t1 (F := Ideal) 𝒱 c bd i arg1 harg1 arg2 harg2 arg3 harg3 arg4 harg4 arg5 harg5 arg6 harg6 arg7 harg7 arg8 harg8 arg9 harg9 arg10 harg10
        X1 X2 X3 X4 X5 X6 X7 k).2.2
      = [⟨Rect.unit (s := S8x128x256) (k0_off2 k) S1x128x256.size (k0_off2_inb k), k0_pay15 (F := Ideal)
          (View.ld (Val := Elt Ideal) (e' := .f32) (S := S8x8x256) (arg5.view.read (Elt Ideal) X5) (Rect.unit (s := S8x8x256) (k0_off1 k) S1x8x256.size (k0_off1_inb k)))
          (View.ld (Val := Elt Ideal) (e' := .f32) (S := S8x128x256) (arg7.view.read (Elt Ideal) X7) (Rect.unit (s := S8x128x256) (k0_off2 k) S1x128x256.size (k0_off2_inb k)))⟩] := by
  unfold tripL_k0_t1 trip_k0_t1
  rfl

/-- Every piece of three lists holds, at each of its places, the block's value there. -/
def Good (G7 : S8x8x1024.Idx → EReal) (G8 G9 : S8x128x256.Idx → EReal)
    (L : List (View.Piece (Elt Ideal) S8x8x1024 .bf16) × List (View.Piece (Elt Ideal) S8x128x256 .f32) × List (View.Piece (Elt Ideal) S8x128x256 .f32)) : Prop :=
  (∀ p ∈ L.1, ∀ x : p.1.shape.Idx, p.2 x = G7 (p.1.emb x)) ∧ (∀ p ∈ L.2.1, ∀ x : p.1.shape.Idx, p.2 x = G8 (p.1.emb x))
    ∧ ∀ p ∈ L.2.2, ∀ x : p.1.shape.Idx, p.2 x = G9 (p.1.emb x)

theorem eta3 {b c : ℕ} (y : Shape.Idx ⟨3, ![1, b, c]⟩) : y = ix3 0 (y 1) (y 2) := by
  funext i
  match i with
  | ⟨0, _⟩ => exact Subsingleton.elim (α := Fin 1) _ _
  | ⟨1, _⟩ => rfl
  | ⟨2, _⟩ => rfl

/-- One trip's pieces are good. -/
theorem trip_good (k : Fin k0_t1_loop.trips) :
    Good (attnOut (arg1.view.read (Elt Ideal) X1) (arg2.view.read (Elt Ideal) X2) (arg3.view.read (Elt Ideal) X3) (arg4.view.read (Elt Ideal) X4)
        (arg5.view.read (Elt Ideal) X5) (arg6.view.read (Elt Ideal) X6) (arg7.view.read (Elt Ideal) X7))
      (keptOut (arg4.view.read (Elt Ideal) X4) (arg6.view.read (Elt Ideal) X6)) (keptOut (arg5.view.read (Elt Ideal) X5) (arg7.view.read (Elt Ideal) X7))
      (tripL_k0_t1 (F := Ideal) 𝒱 c bd i arg1 harg1 arg2 harg2 arg3 harg3 arg4 harg4 arg5 harg5 arg6 harg6 arg7 harg7 arg8 harg8 arg9 harg9 arg10 harg10
        X1 X2 X3 X4 X5 X6 X7 k) := by
  refine ⟨?_, ?_, ?_⟩
  · rw [trip_o]
    intro p hp x
    obtain rfl := List.mem_singleton.1 hp
    have hx : (x : S1x8x1024.Idx) = ix3 0 (x 1) (x 2) := eta3 (b := 8) (c := 1024) x
    dsimp only
    rw [emb_q]
    refine (congrArg _ hx).trans ((pay11_apply _ _ _).trans ?_)
    rw [hd_eq]
    rfl
  · rw [trip_k]
    intro p hp x
    obtain rfl := List.mem_singleton.1 hp
    have hx : (x : S1x128x256.Idx) = ix3 0 (x 1) (x 2) := eta3 (b := 128) (c := 256) x
    dsimp only
    rw [emb_c]
    refine (congrArg _ hx).trans ((pay14_apply _ _ _ _).trans ?_)
    rw [ld_n, ld_c]
    rfl
  · rw [trip_v]
    intro p hp x
    obtain rfl := List.mem_singleton.1 hp
    have hx : (x : S1x128x256.Idx) = ix3 0 (x 1) (x 2) := eta3 (b := 128) (c := 256) x
    dsimp only
    rw [emb_c]
    refine (congrArg _ hx).trans ((pay15_apply _ _ _ _).trans ?_)
    rw [ld_n, ld_c]
    rfl

/-- So are the pieces of the first `k` trips together. -/
theorem pb_good (k : ℕ) (hk : k ≤ k0_t1_loop.trips) :
    Good (attnOut (arg1.view.read (Elt Ideal) X1) (arg2.view.read (Elt Ideal) X2) (arg3.view.read (Elt Ideal) X3) (arg4.view.read (Elt Ideal) X4)
        (arg5.view.read (Elt Ideal) X5) (arg6.view.read (Elt Ideal) X6) (arg7.view.read (Elt Ideal) X7))
      (keptOut (arg4.view.read (Elt Ideal) X4) (arg6.view.read (Elt Ideal) X6)) (keptOut (arg5.view.read (Elt Ideal) X5) (arg7.view.read (Elt Ideal) X7))
      (pb_k0_t1 (F := Ideal) 𝒱 c bd i arg1 harg1 arg2 harg2 arg3 harg3 arg4 harg4 arg5 harg5 arg6 harg6 arg7 harg7 arg8 harg8 arg9 harg9 arg10 harg10
        X1 X2 X3 X4 X5 X6 X7 k) := by
  induction k with
  | zero =>
    rw [pb_k0_t1.eq_1]
    exact ⟨fun _ h => absurd h List.not_mem_nil, fun _ h => absurd h List.not_mem_nil, fun _ h => absurd h List.not_mem_nil⟩
  | succ k ih =>
    have h := ih (Nat.le_of_succ_le hk)
    have g := trip_good 𝒱 c bd i arg1 harg1 arg2 harg2 arg3 harg3 arg4 harg4 arg5 harg5 arg6 harg6 arg7 harg7 arg8 harg8 arg9 harg9 arg10 harg10
      X1 X2 X3 X4 X5 X6 X7 ⟨k, hk⟩
    rw [pb_k0_t1_succ 𝒱 c bd i arg1 harg1 arg2 harg2 arg3 harg3 arg4 harg4 arg5 harg5 arg6 harg6 arg7 harg7 arg8 harg8 arg9 harg9 arg10 harg10
      X1 X2 X3 X4 X5 X6 X7 ⟨k, hk⟩]
    exact ⟨fun p hp => (List.mem_append.1 hp).elim (g.1 p) (h.1 p), fun p hp => (List.mem_append.1 hp).elim (g.2.1 p) (h.2.1 p),
      fun p hp => (List.mem_append.1 hp).elim (g.2.2 p) (h.2.2 p)⟩

/-- The pieces the whole body leaves are good. -/
theorem kern_good (x0 x1 : FVec Ideal S16 .f32) (x2 : FVec Ideal S8x8x1024 .bf16) (x3 x4 : FVec Ideal S8x8x256 .f32) (x5 x6 : FVec Ideal S8x128x256 .f32) :
    Good (attnOut x0 x1 x2 x3 x4 x5 x6) (keptOut x3 x5) (keptOut x4 x6)
      ((kernelRun0_A (F := Ideal) c i arg1 harg1 arg2 harg2 arg3 harg3 arg4 harg4 arg5 harg5 arg6 harg6 arg7 harg7 arg8 harg8 arg9 harg9 arg10 harg10 x0 x1 x2 x3 x4 x5 x6).1,
       (kernelRun0_A (F := Ideal) c i arg1 harg1 arg2 harg2 arg3 harg3 arg4 harg4 arg5 harg5 arg6 harg6 arg7 harg7 arg8 harg8 arg9 harg9 arg10 harg10 x0 x1 x2 x3 x4 x5 x6).2.1,
       (kernelRun0_A (F := Ideal) c i arg1 harg1 arg2 harg2 arg3 harg3 arg4 harg4 arg5 harg5 arg6 harg6 arg7 harg7 arg8 harg8 arg9 harg9 arg10 harg10 x0 x1 x2 x3 x4 x5 x6).2.2.1) := by
  have g := pb_good Variants.none c none i arg1 harg1 arg2 harg2 arg3 harg3 arg4 harg4 arg5 harg5 arg6 harg6 arg7 harg7 arg8 harg8 arg9 harg9 arg10 harg10
    (harg1.unread x0) (harg2.unread x1) (harg3.unread x2) (harg4.unread x3) (harg5.unread x4) (harg6.unread x5) (harg7.unread x6)
    k0_t1_loop.trips le_rfl
  simp only [Memref.IsWhole.read_unread] at g
  exact g

end

variable (m : (ℓ : Loc nD τ sig) → Buf (Elt Ideal) ℓ)

/-- What the body leaves at a grid point in the attention's block. -/
theorem outs7 (c : Dev nD) (t : Fin cfg0.N) (y : S8x8x1024.Idx) : (outsAt0 m c t).1 y = attnOut (iblk m c 0 t) (iblk m c 1 t) (iblk m c 2 t) (iblk m c 3 t) (iblk m c 4 t) (iblk m c 5 t) (iblk m c 6 t) y := by
  unfold outsAt0; frame_out
  exact View.canon_apply_of_pieces _ _ (kern_good c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t)).1 y
    (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) y)
/-- In the block of kept keys. -/
theorem outs8 (c : Dev nD) (t : Fin cfg0.N) (y : S8x128x256.Idx) : (outsAt0 m c t).2.1 y = keptOut (iblk m c 3 t) (iblk m c 5 t) y := by
  unfold outsAt0; frame_out
  exact View.canon_apply_of_pieces _ _ (kern_good c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t)).2.1 y
    (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) y)
/-- In the block of kept values. -/
theorem outs9 (c : Dev nD) (t : Fin cfg0.N) (y : S8x128x256.Idx) : (outsAt0 m c t).2.2 y = keptOut (iblk m c 4 t) (iblk m c 6 t) y := by
  unfold outsAt0; frame_out
  exact View.canon_apply_of_pieces _ _ (kern_good c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t)).2.2 y
    (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) y)

end Cert.Kernel4Ideal.Sample

end
-- ==== Proof.SampleRef.lean ====
/- The samples' attention in the reference: its results in parts, each read at an index. -/
module

public import proofs.«01_k».proof.Proof.Gen.Reference4Ideal.Run
public import proofs.«01_k».proof.Proof.Softmax
public import Idealize.ShloMosaic.Lib.Pointwise
public import Idealize.ShloMosaic.Lib.Pipeline.ValueKit

@[expose] public section

set_option maxRecDepth 16384

noncomputable section

namespace Cert.Reference4Ideal.RefAt
open Cert.Reference4Ideal Cert.Reference4Ideal.Gen Cert.Reference4Ideal.Value
open Idealize.ShloMosaic Idealize.ShloMosaic.TcCoe Idealize.SL.Sem Idealize.ShloMosaic.Pointwise

/-- The new keys (or values) behind those of the cache. -/
def both (t : FVec Ideal S128x128x4x64 .f32) (n : FVec Ideal S128x8x4x64 .f32) : FVec Ideal S128x136x4x64 .f32 :=
  concatenate S128x136x4x64 1 [⟨S128x128x4x64, t⟩, ⟨S128x8x4x64, n⟩] concatenates_S128x128x4x64_S128x8x4x64_S128x136x4x64_d1

/-- The queries' positions. -/
def qpos : IVec S1x8 32 :=
  broadcastInDim S1x8 ![1] bcast_S8_S1x8_1 (addi (broadcastInDim S8 ![] bcast_S_S8 (constantI S_ 32 16384#32)) (iotaInDim S8 32 0))

/-- The keys' positions. -/
def kpos : IVec S1x136 32 :=
  broadcastInDim S1x136 ![1] bcast_S136_S1x136_1 (addi (broadcastInDim S136 ![] bcast_S_S136 (constantI S_ 32 16256#32)) (iotaInDim S136 32 0))

/-- The distance from each query to each key. -/
def dist : IVec S1x8x136 32 :=
  subi (broadcastInDim S1x8x136 ![0, 1, 2] bcast_S1x8x1_S1x8x136_0_1_2 (broadcastInDim S1x8x1 ![0, 1] bcast_S1x8_S1x8x1_0_1 qpos))
    (broadcastInDim S1x8x136 ![0, 1, 2] bcast_S1x1x136_S1x8x136_0_1_2 (broadcastInDim S1x1x136 ![0, 2] bcast_S1x136_S1x1x136_0_2 kpos))

/-- The mask: the window, and no key before the sequence. -/
def mask : IVec S1x8x136 1 :=
  andi (andi (cmpi .sge dist (broadcastInDim S1x8x136 ![] bcast_S_S1x8x136 (constantI S_ 32 0#32)))
      (cmpi .sle dist (broadcastInDim S1x8x136 ![] bcast_S_S1x8x136 (constantI S_ 32 128#32))))
    (broadcastInDim S1x8x136 ![0, 1, 2] bcast_S1x1x136_S1x8x136_0_1_2
      (cmpi .sge (broadcastInDim S1x1x136 ![0, 2] bcast_S1x136_S1x1x136_0_2 kpos) (broadcastInDim S1x1x136 ![] bcast_S_S1x1x136 (constantI S_ 32 0#32))))

/-- The slopes of the sixteen heads. -/
def slopes : FVec Ideal S16 .f32 :=
  Host.powf (broadcastInDim S16 ![] bcast_S_S16 (constant S_ .f32 0x40000000#32))
    (Host.divf (mulf (broadcastInDim S16 ![] bcast_S_S16 (constant S_ .f32 0xC1000000#32))
      (addf (broadcastInDim S16 ![] bcast_S_S16 (constant S_ .f32 0x3F800000#32)) (sitofp .f32 (iotaInDim S16 32 0))))
      (broadcastInDim S16 ![] bcast_S_S16 (constant S_ .f32 0x41800000#32)))

/-- The scaled products of queries and keys. -/
def prods (q : FVec Ideal S128x8x4x4x64 .f32) (k : FVec Ideal S128x136x4x64 .f32) : FVec Ideal S128x1x4x4x8x136 .f32 :=
  mulf (transpose S128x1x4x4x8x136 [0, 1, 2, 5, 4, 3]
      (Host.dotGeneral dot_S128x1x136x4x64_S128x1x8x4x4x64_S128x1x4x136x8x4_4_5_2_24_013_013 none
        (broadcastInDim S128x1x136x4x64 ![0, 2, 3, 4] bcast_S128x136x4x64_S128x1x136x4x64_0_2_3_4 k : FVec Ideal S128x1x136x4x64 .f32)
        (broadcastInDim S128x1x8x4x4x64 ![0, 2, 3, 4, 5] bcast_S128x8x4x4x64_S128x1x8x4x4x64_0_2_3_4_5 q : FVec Ideal S128x1x8x4x4x64 .f32)
          : FVec Ideal S128x1x4x136x8x4 .f32)
      transposes_S128x1x4x136x8x4_S128x1x4x4x8x136_0_1_2_5_4_3)
    (broadcastInDim S128x1x4x4x8x136 ![] bcast_S_S128x1x4x4x8x136 (constant S_ .f32 0x3E000000#32))

/-- The logits, the mask applied. -/
def logits (q : FVec Ideal S128x8x4x4x64 .f32) (k : FVec Ideal S128x136x4x64 .f32) : FVec Ideal S128x1x4x4x8x136 .f32 :=
  select (broadcastInDim S128x1x4x4x8x136 ![0, 1, 2, 3, 4, 5] bcast_S1x1x1x1x8x136_S128x1x4x4x8x136_0_1_2_3_4_5
      (broadcastInDim S1x1x1x1x8x136 ![1, 4, 5] bcast_S1x8x136_S1x1x1x1x8x136_1_4_5 mask))
    (subf (prods q k) (broadcastInDim S128x1x4x4x8x136 ![0, 1, 2, 3, 4, 5] bcast_S1x1x4x4x8x136_S128x1x4x4x8x136_0_1_2_3_4_5
      (mulf (broadcastInDim S1x1x4x4x8x136 ![0, 1, 2, 3, 4, 5] bcast_S1x1x4x4x1x1_S1x1x4x4x8x136_0_1_2_3_4_5
          (broadcastInDim S1x1x4x4x1x1 ![2, 3] bcast_S4x4_S1x1x4x4x1x1_2_3 (shapeCast S4x4 slopes shapeCasts_S16_S4x4)))
        (broadcastInDim S1x1x4x4x8x136 ![0, 1, 2, 3, 4, 5] bcast_S1x1x1x1x8x136_S1x1x4x4x8x136_0_1_2_3_4_5
          (broadcastInDim S1x1x1x1x8x136 ![1, 4, 5] bcast_S1x8x136_S1x1x1x1x8x136_1_4_5 (sitofp .f32 dist : FVec Ideal S1x8x136 .f32))))))
    (broadcastInDim S128x1x4x4x8x136 ![] bcast_S_S128x1x4x4x8x136 (id (constant S_ .f32 0xFF800000#32)))

/-- The rows the softmax is taken of: the logits, and the sink at the end. -/
def rows (s : FVec Ideal S128x1x4x4x8x136 .f32) (z : FVec Ideal S16 .f32) : FVec Ideal S128x1x4x4x8x137 .f32 :=
  concatenate S128x1x4x4x8x137 5
    [⟨S128x1x4x4x8x136, s⟩,
     ⟨S128x1x4x4x8x1, broadcastInDim S128x1x4x4x8x1 ![0, 1, 2, 3, 4, 5] bcast_S1x1x4x4x1x1_S128x1x4x4x8x1_0_1_2_3_4_5
        (shapeCast S1x1x4x4x1x1 z shapeCasts_S16_S1x1x4x4x1x1)⟩]
    concatenates_S128x1x4x4x8x136_S128x1x4x4x8x1_S128x1x4x4x8x137_d5

/-- The rows' maxima. -/
def maxima (t : FVec Ideal S128x1x4x4x8x137 .f32) : FVec Ideal S128x1x4x4x8 .f32 :=
  Host.reduce FloatOps.maximumf t (constant S_ .f32 0xFF800000#32) reducesTo_S128x1x4x4x8x137_S128x1x4x4x8_d5 h_S_

/-- The rows' sums. -/
def sums (t : FVec Ideal S128x1x4x4x8x137 .f32) : FVec Ideal S128x1x4x4x8 .f32 :=
  Host.reduceAdd t (constant S_ .f32 0x00000000#32) reducesTo_S128x1x4x4x8x137_S128x1x4x4x8_d5 h_S_

/-- The exponentials of the rows less their maxima `x`. -/
def expo (t : FVec Ideal S128x1x4x4x8x137 .f32) (x : FVec Ideal S128x1x4x4x8 .f32) : FVec Ideal S128x1x4x4x8x137 .f32 :=
  Host.exp (subf t (broadcastInDim S128x1x4x4x8x137 ![0, 1, 2, 3, 4, 5] bcast_S128x1x4x4x8x1_S128x1x4x4x8x137_0_1_2_3_4_5
    (broadcastInDim S128x1x4x4x8x1 ![0, 1, 2, 3, 4] bcast_S128x1x4x4x8_S128x1x4x4x8x1_0_1_2_3_4
      (maximumf (broadcastInDim S128x1x4x4x8 ![] bcast_S_S128x1x4x4x8 (constant S_ .f32 0xFF800000#32)) x))))

/-- The weights: the exponentials divided by their sums `d`. -/
def weights (x : FVec Ideal S128x1x4x4x8x137 .f32) (d : FVec Ideal S128x1x4x4x8 .f32) : FVec Ideal S128x1x4x4x8x137 .f32 :=
  Host.divf x (broadcastInDim S128x1x4x4x8x137 ![0, 1, 2, 3, 4, 5] bcast_S128x1x4x4x8x1_S128x1x4x4x8x137_0_1_2_3_4_5
    (broadcastInDim S128x1x4x4x8x1 ![0, 1, 2, 3, 4] bcast_S128x1x4x4x8_S128x1x4x4x8x1_0_1_2_3_4 d))

/-- The values, weighed and summed, in the result's layout. -/
def outp (w : FVec Ideal S128x1x4x4x8x137 .f32) (v : FVec Ideal S128x136x4x64 .f32) : FVec Ideal S1024x1024 .bf16 :=
  truncf .bf16 (shapeCast S1024x1024 (shapeCast S128x8x1024 (transpose S128x1x8x4x4x64 [0, 1, 5, 2, 4, 3]
    (Host.dotGeneral dot_S128x1x136x4x64_S128x1x4x4x8x136_S128x1x4x64x4x8_2_5_4_34_013_012 none
      (broadcastInDim S128x1x136x4x64 ![0, 2, 3, 4] bcast_S128x136x4x64_S128x1x136x4x64_0_2_3_4 v : FVec Ideal S128x1x136x4x64 .f32)
      (extractStridedSlice S128x1x4x4x8x136 ![0, 0, 0, 0, 0, 0] w slices_S128x1x4x4x8x137_S128x1x4x4x8x136_0_0_0_0_0_0 : FVec Ideal S128x1x4x4x8x136 .f32) : FVec Ideal S128x1x4x64x4x8 .f32)
    transposes_S128x1x4x64x4x8_S128x1x8x4x4x64_0_1_5_2_4_3) shapeCasts_S128x1x8x4x4x64_S128x8x1024) shapeCasts_S128x8x1024_S1024x1024) bitsLt_bf16_f32

/-- The softmax of the rows. -/
def soft (t : FVec Ideal S128x1x4x4x8x137 .f32) : FVec Ideal S128x1x4x4x8x137 .f32 :=
  weights (expo t (maxima t)) (sums (expo t (maxima t)))

/-- The new state: the last 128 keys (or values), under the layer's index. -/
def state (t : FVec Ideal S128x136x4x64 .f32) : FVec Ideal S1x128x128x4x64 .f32 :=
  broadcastInDim S1x128x128x4x64 ![1, 2, 3, 4] bcast_S128x128x4x64_S1x128x128x4x64_1_2_3_4
    (extractStridedSlice S128x128x4x64 ![0, 8, 0, 0] t slices_S128x136x4x64_S128x128x4x64_0_8_0_0)

variable (m : (ℓ : Loc nD τ sig) → Buf (Elt Ideal) ℓ)

set_option maxHeartbeats 2000000 in
/-- The reference's attention is these parts put together. -/
theorem res_eq (c : Dev nD) : res_main_v73 m c
    = outp (soft (rows (logits (m ((c.tc : Thread nD τ).loc main_arg0))
        (both (m ((c.tc : Thread nD τ).loc main_arg3)) (m ((c.tc : Thread nD τ).loc main_arg1))))
        (m ((c.tc : Thread nD τ).loc main_arg5)))) (both (m ((c.tc : Thread nD τ).loc main_arg4)) (m ((c.tc : Thread nD τ).loc main_arg2))) := by
  unfold res_main_v73
  rfl

theorem reduces : Shape.Reduces S128x1x4x4x8x137 [5] S128x1x4x4x8 := by decide

theorem lift_eq (b : Fin 128) (i : Fin 1) (g u : Fin 4) (r : Fin 8) (k : Fin 137) :
    reduces.lift (ix5 b i g u r) k = ix6 b i g u r k := by
  refine funext fun a => Fin.ext ?_
  match a with
  | ⟨0, _⟩ => rfl
  | ⟨1, _⟩ => rfl
  | ⟨2, _⟩ => rfl
  | ⟨3, _⟩ => rfl
  | ⟨4, _⟩ => rfl
  | ⟨5, _⟩ => rfl

theorem ninf : Ideal.ofBits .f32 0xFF800000#32 = ⊥ := by
  simp [Ideal.ofBits, Ideal.ieee]

theorem maxima_apply (t : FVec Ideal S128x1x4x4x8x137 .f32) (b : Fin 128) (i : Fin 1) (g u : Fin 4) (r : Fin 8) :
    maxima t (ix5 b i g u r) = Finset.univ.fold max ⊥ fun k : Fin 137 => t (ix6 b i g u r k) := by
  have h : maxima t (ix5 b i g u r) = Finset.fold max (Ideal.ofBits FTy.f32 4286578688#32) t
      {x | reducesTo_S128x1x4x4x8x137_S128x1x4x4x8_d5.drop x = ix5 b i g u r} := by
    pointwise [maxima]
  rw [h, ninf, Shape.ReducesTo.drop_eq_drop _ reduces]
  refine (reduces.fold_filter_drop_single _ _ _ _).trans ?_
  exact congrArg (fun f => Finset.fold max ⊥ f Finset.univ) (funext fun k => congrArg t (lift_eq b i g u r k))

theorem sums_apply (t : FVec Ideal S128x1x4x4x8x137 .f32) (b : Fin 128) (i : Fin 1) (g u : Fin 4) (r : Fin 8) :
    sums t (ix5 b i g u r) = ∑ k : Fin 137, t (ix6 b i g u r k) := by
  have h : sums t (ix5 b i g u r) = Ideal.hostReduceAdd reducesTo_S128x1x4x4x8x137_S128x1x4x4x8_d5 t 0 (ix5 b i g u r) := by
    pointwise [sums]
  rw [h, Ideal.hostReduceAdd_single _ reduces, zero_add]
  exact Finset.sum_congr rfl fun k _ => congrArg t (lift_eq b i g u r k)

/-- The keys (or values) of cache and step at an index. -/
theorem both_apply (t : FVec Ideal S128x128x4x64 .f32) (n : FVec Ideal S128x8x4x64 .f32) (b : Fin 128) (j : Fin 136) (g : Fin 4) (e : Fin 64) :
    both t n (ix4 b j g e) = if h : j.val < 128 then t (ix4 b ⟨j.val, h⟩ g e) else n (ix4 b ⟨j.val - 128, by omega⟩ g e) := by
  pointwise [both]

/-- The reference's distance word. -/
def dwordR (r : Fin 8) (j : Fin 136) : BitVec 32 :=
  IntOp.subi (IntOp.addi (16384#32) (BitVec.ofNat 32 r.val)) (IntOp.addi (16256#32) (BitVec.ofNat 32 j.val))

/-- The reference's mask word. -/
def mwordR (r : Fin 8) (j : Fin 136) : BitVec 1 :=
  IntOp.andi (IntOp.andi (IntOp.cmpi CmpIPredicate.sge (dwordR r j) 0#32) (IntOp.cmpi CmpIPredicate.sle (dwordR r j) 128#32))
    (IntOp.cmpi CmpIPredicate.sge (IntOp.addi (16256#32) (BitVec.ofNat 32 j.val)) 0#32)

/-- A slope. -/
theorem slopes_apply (h : Fin 16) : slopes (ix1 h)
    = Ideal.pow (Ideal.ofBits .f32 0x40000000#32)
          (Ideal.div (Ideal.ofBits .f32 0xC1000000#32 * (1 + FloatOps.sitofp (F := Ideal) FTy.f32 (BitVec.ofNat 32 h.val)))
            (Ideal.ofBits .f32 0x41800000#32)) := by
  pointwise [slopes]

/-- A logit. -/
theorem logits_apply (q : FVec Ideal S128x8x4x4x64 .f32) (k : FVec Ideal S128x136x4x64 .f32)
    (b : Fin 128) (i : Fin 1) (g u : Fin 4) (r : Fin 8) (j : Fin 136) :
    logits q k (ix6 b i g u r j) = Scalar.select (mwordR r j)
      ((∑ x : Fin 64, k (ix4 b j g x) * q (ix5 b r g u x)) * Ideal.ofBits .f32 0x3E000000#32
        - slopes (ix1 ⟨g.val * 4 + u.val, by omega⟩) * FloatOps.sitofp (F := Ideal) FTy.f32 (dwordR r j)) (⊥ : EReal) := by
  rw [← show id (constant S_ .f32 0xFF800000#32 : FVec Ideal S_ .f32) ix0 = (⊥ : EReal) from ninf]
  pointwise [logits, prods, mask, dist, qpos, kpos, mwordR, dwordR]

/-- A row's entries. -/
theorem rows_apply (s : FVec Ideal S128x1x4x4x8x136 .f32) (z : FVec Ideal S16 .f32)
    (b : Fin 128) (i : Fin 1) (g u : Fin 4) (r : Fin 8) (j : Fin 137) :
    rows s z (ix6 b i g u r j) = if h : j.val < 136 then s (ix6 b i g u r ⟨j.val, h⟩) else z (ix1 ⟨g.val * 4 + u.val, by omega⟩) := by
  obtain rfl : i = 0 := Subsingleton.elim _ _
  pointwise [rows]

theorem expo_apply (t : FVec Ideal S128x1x4x4x8x137 .f32) (x : FVec Ideal S128x1x4x4x8 .f32)
    (b : Fin 128) (i : Fin 1) (g u : Fin 4) (r : Fin 8) (j : Fin 137) :
    expo t x (ix6 b i g u r j) = Ideal.exp (t (ix6 b i g u r j) - x (ix5 b i g u r)) := by
  have h : expo t x (ix6 b i g u r j)
      = Ideal.exp (t (ix6 b i g u r j) - max (Ideal.ofBits .f32 0xFF800000#32) (x (ix5 b i g u r))) := by
    obtain rfl : i = 0 := Subsingleton.elim _ _
    pointwise [expo]
  rw [h, ninf, max_eq_right bot_le]

theorem weights_apply (x : FVec Ideal S128x1x4x4x8x137 .f32) (d : FVec Ideal S128x1x4x4x8 .f32)
    (b : Fin 128) (i : Fin 1) (g u : Fin 4) (r : Fin 8) (j : Fin 137) :
    weights x d (ix6 b i g u r j) = Ideal.div (x (ix6 b i g u r j)) (d (ix5 b i g u r)) := by
  obtain rfl : i = 0 := Subsingleton.elim _ _
  pointwise [weights]

theorem outp_apply (w : FVec Ideal S128x1x4x4x8x137 .f32) (v : FVec Ideal S128x136x4x64 .f32) (n : Fin 1024) (e : Fin 1024) :
    outp w v (ix2 n e) = ∑ x : Fin 136, v (ix4 ⟨n.val / 8, by omega⟩ x ⟨e.val / 256, by omega⟩ ⟨e.val % 64, by omega⟩)
      * w (ix6 ⟨n.val / 8, by omega⟩ 0 ⟨e.val / 256, by omega⟩ ⟨e.val / 64 % 4, by omega⟩ ⟨n.val % 8, by omega⟩
        ⟨x.val, by omega⟩) := by
  pointwise [outp]

/-- The new state at an index. -/
theorem state_apply (t : FVec Ideal S128x136x4x64 .f32) (l : Fin 1) (b : Fin 128) (j : Fin 128) (g : Fin 4) (e : Fin 64) :
    state t (ix5 l b j g e) = t (ix4 b ⟨8 + j.val, by omega⟩ g e) := by
  pointwise [state]

/-- The softmax's weights of the rows: the exponential of the logit less the row's maximum, over the row's sum. -/
theorem soft_apply (s : FVec Ideal S128x1x4x4x8x136 .f32) (z : FVec Ideal S16 .f32)
    (b : Fin 128) (i : Fin 1) (g u : Fin 4) (r : Fin 8) (j : Fin 136) :
    soft (rows s z) (ix6 b i g u r ⟨j.val, by omega⟩)
      = Ideal.div (Ideal.exp (s (ix6 b i g u r j) - Softmax.top (fun j => s (ix6 b i g u r j)) (z (ix1 ⟨g.val * 4 + u.val, by omega⟩))))
          (Softmax.den (fun j => s (ix6 b i g u r j)) (z (ix1 ⟨g.val * 4 + u.val, by omega⟩))) := by
  have hc : (fun j : Fin 136 => rows s z (ix6 b i g u r j.castSucc)) = fun j => s (ix6 b i g u r j) := by
    funext j
    rw [rows_apply, dif_pos (show j.castSucc.val < 136 from j.isLt)]
    rfl
  have hl : rows s z (ix6 b i g u r (Fin.last 136)) = z (ix1 ⟨g.val * 4 + u.val, by omega⟩) := by
    rw [rows_apply, dif_neg (by simp)]
  rw [soft, weights_apply, sums_apply]
  simp only [expo_apply, maxima_apply]
  rw [Softmax.den_snoc, Softmax.fold_snoc, hc, hl, rows_apply, dif_pos j.isLt]

end Cert.Reference4Ideal.RefAt

end
-- ==== Proof.SampleKern.lean ====
/- The samples' attention: the blocks its grid points read, in terms of the arguments. -/
module

public import proofs.«01_k».proof.Proof.SampleLoop
public import proofs.«01_k».proof.Proof.SampleRef

@[expose] public section

set_option maxRecDepth 16384

noncomputable section

namespace Cert.Kernel4Ideal.Sample
open Cert.Kernel4Ideal Cert.Kernel4Ideal.Gen
open Idealize.ShloMosaic Idealize.ShloMosaic.TcCoe Idealize.SL.Sem Idealize.ShloMosaic.Pointwise
open Cert.Reference4Ideal (RefAt.slopes RefAt.both)

variable (m : (ℓ : Loc nD τ sig) → Buf (Elt Ideal) ℓ)

/-- The kernel's arguments: the queries, the step's keys and values, the cache's keys and values, the sinks. -/
def Q (c : Dev nD) : FVec Ideal S128x8x4x4x64 .f32 := m ((c : Thread nD τ).loc main_arg0)
def Kn (c : Dev nD) : FVec Ideal S128x8x4x64 .f32 := m ((c : Thread nD τ).loc main_arg1)
def Vn (c : Dev nD) : FVec Ideal S128x8x4x64 .f32 := m ((c : Thread nD τ).loc main_arg2)
def Kc (c : Dev nD) : FVec Ideal S128x128x4x64 .f32 := m ((c : Thread nD τ).loc main_arg3)
def Vc (c : Dev nD) : FVec Ideal S128x128x4x64 .f32 := m ((c : Thread nD τ).loc main_arg4)
def Z (c : Dev nD) : FVec Ideal S16 .f32 := m ((c : Thread nD τ).loc main_arg5)

/-- The host's layouts: the heads side by side, the queries scaled. -/
def flatQ (q : FVec Ideal S128x8x4x4x64 .f32) : FVec Ideal S128x8x1024 .bf16 :=
  shapeCast _ (truncf .bf16 (mulf (shapeCast _ q shapeCasts_S128x8x4x4x64_S1024x1024 : FVec Ideal S1024x1024 .f32)
    (broadcastInDim S1024x1024 ![] bcast_S_S1024x1024 (constant S_ .f32 0x3E000000#32))) bitsLt_bf16_f32 : FVec Ideal S1024x1024 .bf16)
    shapeCasts_S1024x1024_S128x8x1024
def flatN (k : FVec Ideal S128x8x4x64 .f32) : FVec Ideal S128x8x256 .f32 :=
  shapeCast _ (shapeCast _ k shapeCasts_S128x8x4x64_S1024x256 : FVec Ideal S1024x256 .f32) shapeCasts_S1024x256_S128x8x256
def flatC (k : FVec Ideal S128x128x4x64 .f32) : FVec Ideal S128x128x256 .f32 := shapeCast _ k shapeCasts_S128x128x4x64_S128x128x256

theorem flatQ_apply (q : FVec Ideal S128x8x4x4x64 .f32) (s : Fin 128) (r : Fin 8) (e : Fin 1024) :
    flatQ q (ix3 s r e) = @HMul.hMul EReal EReal EReal _ (q (ix5 s r ⟨e.val / 256, by omega⟩ ⟨e.val / 64 % 4, by omega⟩ ⟨e.val % 64, by omega⟩))
      (Ideal.ofBits .f32 0x3E000000#32) := by
  pointwise [flatQ]
theorem flatN_apply (k : FVec Ideal S128x8x4x64 .f32) (s : Fin 128) (j : Fin 8) (e : Fin 256) :
    flatN k (ix3 s j e) = k (ix4 s j ⟨e.val / 64, by omega⟩ ⟨e.val % 64, by omega⟩) := by
  pointwise [flatN]
theorem flatC_apply (k : FVec Ideal S128x128x4x64 .f32) (s : Fin 128) (j : Fin 128) (e : Fin 256) :
    flatC k (ix3 s j e) = k (ix4 s j ⟨e.val / 64, by omega⟩ ⟨e.val % 64, by omega⟩) := by
  pointwise [flatC]

/-- The buffers the call meets are what the operations before it leave. -/
theorem V_eq (c : Dev nD) (b : Ref sig .tc) : V m c b = StableHlo.after hostOps0 (fun b => m (c, b)) (Proc.devRef .tc b) := rfl

theorem V_s (c : Dev nD) : V m c main_v16 = (RefAt.slopes : FVec Ideal S16 .f32) :=
  (V_eq m c _).trans (by after_results_simp <;> rfl)
theorem V_z (c : Dev nD) : V m c main_arg5 = Z m c :=
  (V_eq m c _).trans (by after_results_simp <;> rfl)
theorem V_q (c : Dev nD) : V m c main_v17 = flatQ (Q m c) :=
  (V_eq m c _).trans (by after_results_simp <;> rfl)
theorem V_kn (c : Dev nD) : V m c main_v18 = flatN (Kn m c) :=
  (V_eq m c _).trans (by after_results_simp <;> rfl)
theorem V_vn (c : Dev nD) : V m c main_v19 = flatN (Vn m c) :=
  (V_eq m c _).trans (by after_results_simp <;> rfl)
theorem V_kc (c : Dev nD) : V m c main_v6 = flatC (Kc m c) :=
  (V_eq m c _).trans (by after_results_simp <;> rfl)
theorem V_vc (c : Dev nD) : V m c main_v7 = flatC (Vc m c) :=
  (V_eq m c _).trans (by after_results_simp <;> rfl)

theorem idx : ∀ t : Fin cfg0.N, win0_0.index t = ![0] ∧ win0_1.index t = ![0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0]
    ∧ win0_9.index t = ![t.val, 0, 0] :=
  (by decide +kernel : ∀ t : Fin grid0.N, _)

/-- The grid has 16 points. -/
theorem tlt (t : Fin cfg0.N) : t.val < 16 := lt_of_lt_of_eq t.isLt N_0

/-- Sequence `b` of the block at point `t`, among all. -/
def seqOf (t : Fin cfg0.N) (b : Fin 8) : Fin 128 := ⟨t.val * 8 + b.val, by have := tlt t; omega⟩

theorem s_blk (c : Dev nD) (t : Fin cfg0.N) (h : Fin 16) :
    (iblk m c 0 t : FVec Ideal S16 .f32) (ix1 h) = (RefAt.slopes : FVec Ideal S16 .f32) (ix1 h) := by
  have he : ((View.whole main_v16).slice (win0_0.rect t)).emb (ix1 h) = ix1 h := by blk_ext [idx t]
  show V m c main_v16 (((View.whole main_v16).slice (win0_0.rect t)).emb (ix1 h)) = _
  rw [V_s, he]
theorem z_blk (c : Dev nD) (t : Fin cfg0.N) (h : Fin 16) : (iblk m c 1 t : FVec Ideal S16 .f32) (ix1 h) = Z m c (ix1 h) := by
  have he : ((View.whole main_arg5).slice (win0_1.rect t)).emb (ix1 h) = ix1 h := by blk_ext [idx t]
  show V m c main_arg5 (((View.whole main_arg5).slice (win0_1.rect t)).emb (ix1 h)) = _
  rw [V_z, he]
theorem q_blk (c : Dev nD) (t : Fin cfg0.N) (b r : Fin 8) (e : Fin 1024) :
    (iblk m c 2 t : FVec Ideal S8x8x1024 .bf16) (ix3 b r e) = flatQ (Q m c) (ix3 (seqOf t b) r e) := by
  have ht := tlt t
  have he : ((View.whole main_v17).slice (win0_2.rect t)).emb (ix3 b r e) = ix3 (seqOf t b) r e := by unfold seqOf; blk_ext [idx t]
  show V m c main_v17 (((View.whole main_v17).slice (win0_2.rect t)).emb (ix3 b r e)) = _
  rw [V_q, he]
theorem kn_blk (c : Dev nD) (t : Fin cfg0.N) (b j : Fin 8) (e : Fin 256) :
    (iblk m c 3 t : FVec Ideal S8x8x256 .f32) (ix3 b j e) = flatN (Kn m c) (ix3 (seqOf t b) j e) := by
  have ht := tlt t
  have he : ((View.whole main_v18).slice (win0_3.rect t)).emb (ix3 b j e) = ix3 (seqOf t b) j e := by unfold seqOf; blk_ext [idx t]
  show V m c main_v18 (((View.whole main_v18).slice (win0_3.rect t)).emb (ix3 b j e)) = _
  rw [V_kn, he]
theorem vn_blk (c : Dev nD) (t : Fin cfg0.N) (b j : Fin 8) (e : Fin 256) :
    (iblk m c 4 t : FVec Ideal S8x8x256 .f32) (ix3 b j e) = flatN (Vn m c) (ix3 (seqOf t b) j e) := by
  have ht := tlt t
  have he : ((View.whole main_v19).slice (win0_4.rect t)).emb (ix3 b j e) = ix3 (seqOf t b) j e := by unfold seqOf; blk_ext [idx t]
  show V m c main_v19 (((View.whole main_v19).slice (win0_4.rect t)).emb (ix3 b j e)) = _
  rw [V_vn, he]
theorem kc_blk (c : Dev nD) (t : Fin cfg0.N) (b : Fin 8) (j : Fin 128) (e : Fin 256) :
    (iblk m c 5 t : FVec Ideal S8x128x256 .f32) (ix3 b j e) = flatC (Kc m c) (ix3 (seqOf t b) j e) := by
  have ht := tlt t
  have he : ((View.whole main_v6).slice (win0_5.rect t)).emb (ix3 b j e) = ix3 (seqOf t b) j e := by unfold seqOf; blk_ext [idx t]
  show V m c main_v6 (((View.whole main_v6).slice (win0_5.rect t)).emb (ix3 b j e)) = _
  rw [V_kc, he]
theorem vc_blk (c : Dev nD) (t : Fin cfg0.N) (b : Fin 8) (j : Fin 128) (e : Fin 256) :
    (iblk m c 6 t : FVec Ideal S8x128x256 .f32) (ix3 b j e) = flatC (Vc m c) (ix3 (seqOf t b) j e) := by
  have ht := tlt t
  have he : ((View.whole main_v7).slice (win0_6.rect t)).emb (ix3 b j e) = ix3 (seqOf t b) j e := by unfold seqOf; blk_ext [idx t]
  show V m c main_v7 (((View.whole main_v7).slice (win0_6.rect t)).emb (ix3 b j e)) = _
  rw [V_vc, he]

/-- The cache and the step of a block's sequence are the reference's, where the blocks are cut from the arrays. -/
theorem two_eq (n : FVec Ideal S8x8x256 .f32) (x : FVec Ideal S8x128x256 .f32) (N : FVec Ideal S128x8x4x64 .f32) (X : FVec Ideal S128x128x4x64 .f32)
    (t : Fin cfg0.N) (b : Fin 8) (hn : ∀ j e, n (ix3 b j e) = flatN N (ix3 (seqOf t b) j e)) (hx : ∀ j e, x (ix3 b j e) = flatC X (ix3 (seqOf t b) j e))
    (j : Fin 136) (e : Fin 256) :
    two (seqN n b) (seqC x b) j e = RefAt.both X N (ix4 (seqOf t b) j ⟨e.val / 64, by omega⟩ ⟨e.val % 64, by omega⟩) := by
  rw [Cert.Reference4Ideal.RefAt.both_apply, two]
  by_cases h : j.val < 128
  · rw [dif_pos h, dif_pos h]
    exact (hx _ _).trans (flatC_apply _ _ _ _)
  · rw [dif_neg h, dif_neg h]
    exact (hn _ _).trans (flatN_apply _ _ _ _)

theorem two_k (c : Dev nD) (t : Fin cfg0.N) (b : Fin 8) (j : Fin 136) (e : Fin 256) :
    two (seqN (iblk m c 3 t) b) (seqC (iblk m c 5 t) b) j e
      = RefAt.both (Kc m c) (Kn m c) (ix4 (seqOf t b) j ⟨e.val / 64, by omega⟩ ⟨e.val % 64, by omega⟩) :=
  two_eq _ _ _ _ t b (kn_blk m c t b) (kc_blk m c t b) j e
theorem two_v (c : Dev nD) (t : Fin cfg0.N) (b : Fin 8) (j : Fin 136) (e : Fin 256) :
    two (seqN (iblk m c 4 t) b) (seqC (iblk m c 6 t) b) j e
      = RefAt.both (Vc m c) (Vn m c) (ix4 (seqOf t b) j ⟨e.val / 64, by omega⟩ ⟨e.val % 64, by omega⟩) :=
  two_eq _ _ _ _ t b (vn_blk m c t b) (vc_blk m c t b) j e

end Cert.Kernel4Ideal.Sample

end
-- ==== Proof.SampleJoin.lean ====
/- The samples' attention: the kernel's three arrays are the reference's results, where the queries, the keys and the sinks
   are real numbers. -/
module

public import proofs.«01_k».proof.Proof.SampleKern
public import proofs.«01_k».proof.Proof.Join

@[expose] public section

set_option maxRecDepth 16384

noncomputable section

namespace Cert.SampleJoin
open Cert.Kernel4Ideal Cert.Kernel4Ideal.Gen Cert.Kernel4Ideal.Sample
open Idealize.ShloMosaic Idealize.ShloMosaic.TcCoe Idealize.SL.Sem Idealize.ShloMosaic.Pointwise
open Cert.Reference4Ideal (RefAt.dwordR RefAt.mwordR RefAt.both RefAt.logits RefAt.slopes RefAt.rows RefAt.soft RefAt.outp)
open Cert.Join (R eighth two_lit eight_lit sixteen_lit)

/-- The slopes are real numbers. -/
theorem slope_real (h : Fin 16) : R (RefAt.slopes (ix1 h)) := by
  rw [Cert.Reference4Ideal.RefAt.slopes_apply, ← Cert.ReferenceIdeal.RefAt.slopes_apply]
  exact Cert.Join.slope_real h

/-- The kernel counts positions from the cache's first key, the reference from the sequence's. -/
theorem dword_eq (r : Fin 8) (j : Fin 136) : RefAt.dwordR r j = dword r j := by
  simp only [RefAt.dwordR, dword, IntOp.addi, IntOp.subi]
  generalize BitVec.ofNat 32 r.val = b
  generalize BitVec.ofNat 32 j.val = d
  bv_omega

theorem mword_eq : ∀ (r : Fin 8) (j : Fin 136), RefAt.mwordR r j = mword r j := by
  decide +kernel

variable (m : (ℓ : Loc nD τ sig) → Buf (Elt Ideal) ℓ)

theorem lt4 (h : Fin 16) : h.val / 4 < 4 := by omega
theorem md4 (h : Fin 16) : h.val % 4 < 4 := by omega

/-- A logit of the kernel is the reference's. -/
theorem logit_eq (c : Dev nD) (t : Fin cfg0.N) (b : Fin 8) (h : Fin 16) (g : Fin 4) (hg : g.val = h.val / 4) (u : Fin 4) (hu : u.val = h.val % 4)
    (r : Fin 8) (j : Fin 136) :
    klogit (seqN (iblk m c 3 t) b) (seqC (iblk m c 5 t) b) (seqQ (iblk m c 2 t) b) ((iblk m c 0 t : FVec Ideal S16 .f32) (ix1 h)) h r j
      = RefAt.logits (Q m c) (RefAt.both (Kc m c) (Kn m c)) (ix6 (seqOf t b) 0 g u r j) := by
  rw [klogit, Cert.Reference4Ideal.RefAt.logits_apply, mword_eq, dword_eq,
    show (⟨g.val * 4 + u.val, by omega⟩ : Fin 16) = h from Fin.ext (by simp only [Fin.val_mk]; omega), s_blk]
  obtain ⟨s, hs, he⟩ := eighth
  congr 2
  rw [he, Softmax.sum_mul_right _ _ (EReal.coe_nonneg.2 hs) (EReal.coe_ne_top s)]
  refine Finset.sum_congr rfl fun x _ => ?_
  obtain rfl : g = ⟨h.val / 4, lt4 h⟩ := Fin.ext hg
  obtain rfl : u = ⟨h.val % 4, md4 h⟩ := Fin.ext hu
  have e1 : seqQ (iblk m c 2 t) b (ix3 0 r ⟨64 * h.val + x.val, by omega⟩)
      = @HMul.hMul EReal EReal EReal _ (Q m c (ix5 (seqOf t b) r ⟨h.val / 4, lt4 h⟩ ⟨h.val % 4, md4 h⟩ x)) (s : EReal) := by
    refine (q_blk m c t b r ⟨64 * h.val + x.val, by omega⟩).trans ((flatQ_apply (Q m c) (seqOf t b) r ⟨64 * h.val + x.val, by omega⟩).trans ?_)
    rw [he]
    congr 3 <;> simp only [Fin.ext_iff, Fin.val_mk] <;> omega
  have e2 : two (seqN (iblk m c 3 t) b) (seqC (iblk m c 5 t) b) j ⟨64 * (h.val / 4) + x.val, by omega⟩
      = RefAt.both (Kc m c) (Kn m c) (ix4 (seqOf t b) j ⟨h.val / 4, lt4 h⟩ x) := by
    refine (two_k m c t b j _).trans ?_
    congr 2 <;> simp only [Fin.ext_iff, Fin.val_mk] <;> omega
  rw [e1, e2]
  rw [mul_assoc, mul_comm, mul_assoc, mul_comm]

/-- A logit is real or `⊥`; it is `⊥` under the mask. -/
theorem logit_real (c : Dev nD) (hq : ∀ i, R (Q m c i)) (hk : ∀ i, R (Kn m c i)) (hc : ∀ i, R (Kc m c i)) (s : Fin 128) (g u : Fin 4) (r : Fin 8) (j : Fin 136) :
    RefAt.logits (Q m c) (RefAt.both (Kc m c) (Kn m c)) (ix6 s 0 g u r j) ≠ ⊤ := by
  rw [Cert.Reference4Ideal.RefAt.logits_apply, Scalar.select]
  split
  · refine R.ne_top (R.sub (R.mul (R.sum _ _ fun x => R.mul ?_ (hq _)) ?_) (R.mul (slope_real _) ⟨_, rfl⟩))
    · rw [Cert.Reference4Ideal.RefAt.both_apply]
      split
      · exact hc _
      · exact hk _
    · obtain ⟨s, _, he⟩ := eighth
      exact ⟨s, he⟩
  · exact bot_ne_top

/-- One entry of the kernel's attention is the reference's. -/
theorem entry (c : Dev nD) (hq : ∀ i, R (Q m c i)) (hk : ∀ i, R (Kn m c i)) (hc : ∀ i, R (Kc m c i)) (hz : ∀ i, R (Z m c i))
    (t : Fin cfg0.N) (b : Fin 8) (h : Fin 16) (g : Fin 4) (hg : g.val = h.val / 4) (u : Fin 4) (hu : u.val = h.val % 4) (r : Fin 8) (e : Fin 64) :
    headAt (seqN (iblk m c 3 t) b) (seqN (iblk m c 4 t) b) (seqC (iblk m c 5 t) b) (seqC (iblk m c 6 t) b) (seqQ (iblk m c 2 t) b)
        ((iblk m c 0 t : FVec Ideal S16 .f32) (ix1 h)) ((iblk m c 1 t : FVec Ideal S16 .f32) (ix1 h)) h (ix2 r e)
      = ∑ x : Fin 136, RefAt.both (Vc m c) (Vn m c) (ix4 (seqOf t b) x g e)
          * RefAt.soft (RefAt.rows (RefAt.logits (Q m c) (RefAt.both (Kc m c) (Kn m c))) (Z m c)) (ix6 (seqOf t b) 0 g u r ⟨x.val, by omega⟩) := by
  obtain ⟨z, hz'⟩ := hz (ix1 h)
  rw [headAt_apply]
  simp only [logit_eq m c t b h g hg u hu r]
  rw [z_blk, hz', Softmax.row_eq _ (logit_real m c hq hk hc (seqOf t b) g u r) z _
    (fun j => RefAt.both (Vc m c) (Vn m c) (ix4 (seqOf t b) j g e)) fun j => ?_]
  · refine Finset.sum_congr rfl fun x _ => ?_
    rw [Cert.Reference4Ideal.RefAt.soft_apply,
      show (⟨g.val * 4 + u.val, by omega⟩ : Fin 16) = h from Fin.ext (by simp only [Fin.val_mk]; omega), hz']
  · right
    obtain rfl : g = ⟨h.val / 4, lt4 h⟩ := Fin.ext hg
    refine (two_v m c t b j _).trans ?_
    congr 2 <;> simp only [Fin.ext_iff, Fin.val_mk] <;> omega

/-- The reference's attention of the kernel's arguments, with the sequences apart. -/
def attn (c : Dev nD) : FVec Ideal S1024x1024 .bf16 :=
  RefAt.outp (RefAt.soft (RefAt.rows (RefAt.logits (Q m c) (RefAt.both (Kc m c) (Kn m c))) (Z m c))) (RefAt.both (Vc m c) (Vn m c))

/-- The rows of 128 sequences, apart. -/
def apart (a : FVec Ideal S1024x1024 .bf16) : FVec Ideal S128x8x1024 .bf16 := fun i => a (ix2 ⟨(i 0).val * 8 + (i 1).val, by
  have h0 := (i 0).isLt; have h1 := (i 1).isLt; change _ < 128 at h0; change _ < 8 at h1; omega⟩ (i 2))

/-- The kernel's attention array, sequence by sequence, is the reference's attention. -/
theorem result7 (c : Dev nD) (hq : ∀ i, R (Q m c i)) (hk : ∀ i, R (Kn m c i)) (hc : ∀ i, R (Kc m c i)) (hz : ∀ i, R (Z m c i)) :
    (dats m 0 c).arrAt 7 cfg0.N = apart (attn m c) := by
  refine (dats m 0 c).arrAt_eq_of_covers 7 _ (by decide +kernel) fun t _ y => ?_
  have ht := tlt t
  blk_simp
  rw [after0_7, outs7]
  have h0 : (y 0).val < 8 := (y 0).isLt
  have h1 : (y 1).val < 8 := (y 1).isLt
  have h2 : (y 2).val < 1024 := (y 2).isLt
  have he : ((View.whole main_v20_0).slice (win0_7.rect t)).emb y = ix3 (seqOf t (y 0)) (y 1) (y 2) := by
    unfold seqOf; blk_ext [idx t]
  rw [he, attnOut]
  refine (entry m c hq hk hc hz t (y 0) ⟨(y 2).val / 64, by omega⟩ ⟨(y 2).val / 256, by omega⟩ (by simp only [Fin.val_mk]; omega)
    ⟨(y 2).val / 64 % 4, by omega⟩ rfl (y 1) ⟨(y 2).val % 64, by omega⟩).trans ?_
  refine Eq.symm ((Cert.Reference4Ideal.RefAt.outp_apply _ _ _ _).trans ?_)
  have a1 : (⟨((seqOf t (y 0)).val * 8 + (y 1).val) / 8, by have := (seqOf t (y 0)).isLt; omega⟩ : Fin 128) = seqOf t (y 0) := Fin.ext (by simp only [Fin.val_mk]; omega)
  have a2 : (⟨((seqOf t (y 0)).val * 8 + (y 1).val) % 8, by omega⟩ : Fin 8) = y 1 := Fin.ext (by simp only [Fin.val_mk]; omega)
  refine Finset.sum_congr rfl fun x _ => ?_
  exact congrArg₂ (fun (s : Fin 128) (r : Fin 8) => RefAt.both (Vc m c) (Vn m c) (ix4 s x ⟨(y 2).val / 256, by omega⟩ ⟨(y 2).val % 64, by omega⟩)
    * RefAt.soft (RefAt.rows (RefAt.logits (Q m c) (RefAt.both (Kc m c) (Kn m c))) (Z m c)) (ix6 s 0 ⟨(y 2).val / 256, by omega⟩ ⟨(y 2).val / 64 % 4, by omega⟩ r ⟨x.val, by omega⟩)) a1 a2

/-- The last 128 of cache and step, the heads side by side. -/
def kept (t : FVec Ideal Cert.Reference4Ideal.S128x136x4x64 .f32) : FVec Ideal S128x128x256 .f32 := fun i =>
  t (ix4 (i 0) ⟨8 + (i 1).val, by have := (i 1).isLt; change _ < 128 at this; omega⟩
    ⟨(i 2).val / 64, by have := (i 2).isLt; change _ < 256 at this; omega⟩ ⟨(i 2).val % 64, Nat.mod_lt _ (by norm_num)⟩)

/-- The array of kept keys is the last 128 of cache and step. -/
theorem result8 (c : Dev nD) : (dats m 0 c).arrAt 8 cfg0.N = kept (RefAt.both (Kc m c) (Kn m c)) := by
  refine (dats m 0 c).arrAt_eq_of_covers 8 _ (by decide +kernel) fun t _ y => ?_
  have ht := tlt t
  blk_simp
  rw [after0_8, outs8]
  have he : ((View.whole main_v20_1).slice (win0_8.rect t)).emb y = ix3 (seqOf t (y 0)) (y 1) (y 2) := by
    unfold seqOf; blk_ext [idx t]
  rw [he, keptOut]
  exact two_k m c t (y 0) _ (y 2)
/-- So is the array of kept values. -/
theorem result9 (c : Dev nD) : (dats m 0 c).arrAt 9 cfg0.N = kept (RefAt.both (Vc m c) (Vn m c)) := by
  refine (dats m 0 c).arrAt_eq_of_covers 9 _ (by decide +kernel) fun t _ y => ?_
  have ht := tlt t
  blk_simp
  rw [after0_9, outs9]
  have he : ((View.whole main_v20_2).slice (win0_9.rect t)).emb y = ix3 (seqOf t (y 0)) (y 1) (y 2) := by
    unfold seqOf; blk_ext [idx t]
  rw [he, keptOut]
  exact two_v m c t (y 0) _ (y 2)

end Cert.SampleJoin

end
-- ==== Proof.SampleTail.lean ====
/- The operations after the samples' attention: its arrays in the results' layouts. -/
module

public import proofs.«01_k».proof.Proof.SampleJoin
public import Idealize.ShloMosaic.Lib.Pipeline.FrameSuffix

@[expose] public section

set_option maxRecDepth 16384

noncomputable section

namespace Cert.SampleTail
open Cert.Kernel4Ideal Cert.Kernel4Ideal.Gen
open Idealize.ShloMosaic Idealize.ShloMosaic.TcCoe Idealize.SL.Sem Idealize.ShloMosaic.Pointwise
open Cert.SampleJoin (apart kept)
open Cert.Reference4Ideal (RefAt.state)

/-- The rows of all sequences, one after another. -/
def rowsOf (x : FVec Ideal S128x8x1024 .bf16) : FVec Ideal S1024x1024 .bf16 := shapeCast _ x shapeCasts_S128x8x1024_S1024x1024

/-- The kept keys (or values), the heads apart, under the layer's index. -/
def layer (x : FVec Ideal S128x128x256 .f32) : FVec Ideal S1x128x128x4x64 .f32 :=
  broadcastInDim S1x128x128x4x64 ![1, 2, 3, 4] bcast_S128x128x4x64_S1x128x128x4x64_1_2_3_4
    (shapeCast _ x shapeCasts_S128x128x256_S128x128x4x64 : FVec Ideal S128x128x4x64 .f32)

theorem rowsOf_apply (x : FVec Ideal S128x8x1024 .bf16) (n e : Fin 1024) :
    rowsOf x (ix2 n e) = x (ix3 ⟨n.val / 8, by omega⟩ ⟨n.val % 8, by omega⟩ e) := by
  pointwise [rowsOf]
theorem layer_apply (x : FVec Ideal S128x128x256 .f32) (l : Fin 1) (b j : Fin 128) (g : Fin 4) (e : Fin 64) :
    layer x (ix5 l b j g e) = x (ix3 b j ⟨g.val * 64 + e.val, by omega⟩) := by
  pointwise [layer]

theorem eta2 {a b : ℕ} (y : Shape.Idx ⟨2, ![a, b]⟩) : y = ix2 (y 0) (y 1) := by
  funext i
  match i with
  | ⟨0, _⟩ => rfl
  | ⟨1, _⟩ => rfl
theorem eta5 {a b c d e : ℕ} (y : Shape.Idx ⟨5, ![a, b, c, d, e]⟩) : y = ix5 (y 0) (y 1) (y 2) (y 3) (y 4) := by
  funext i
  match i with
  | ⟨0, _⟩ => rfl
  | ⟨1, _⟩ => rfl
  | ⟨2, _⟩ => rfl
  | ⟨3, _⟩ => rfl
  | ⟨4, _⟩ => rfl

/-- Taking the rows apart by sequence and putting them together again leaves them. -/
theorem rowsOf_apart (a : FVec Ideal S1024x1024 .bf16) : rowsOf (apart a) = a := by
  funext y
  rw [eta2 y]
  refine (rowsOf_apply _ _ _).trans ?_
  have h := (y 0).isLt
  change _ < 1024 at h
  exact congrArg (fun n : Fin 1024 => a (ix2 n (y 1))) (Fin.ext (show (y 0).val / 8 * 8 + (y 0).val % 8 = (y 0).val by omega))

/-- The kept 128 are the reference's new state. -/
theorem layer_kept (t : FVec Ideal Cert.Reference4Ideal.S128x136x4x64 .f32) : layer (kept t) = RefAt.state t := by
  funext y
  rw [eta5 y]
  refine (layer_apply _ _ _ _ _ _).trans (Eq.trans ?_ (Cert.Reference4Ideal.RefAt.state_apply t _ _ _ _ _).symm)
  have h3 := (y 3).isLt
  have h4 := (y 4).isLt
  change _ < 4 at h3
  change _ < 64 at h4
  exact congrArg₂ (fun (g : Fin 4) (e : Fin 64) => t (ix4 (y 1) ⟨8 + (y 2).val, by have := (y 2).isLt; change _ < 128 at this; omega⟩ g e))
    (Fin.ext (show ((y 3).val * 64 + (y 4).val) / 64 = (y 3).val by omega))
    (Fin.ext (show ((y 3).val * 64 + (y 4).val) % 64 = (y 4).val by omega))

variable (m : (ℓ : Loc nD τ sig) → Buf (Elt Ideal) ℓ)

/-- What the operations after the call leave in a buffer. -/
abbrev after (c : Dev nD) := Pipeline.afterTail₀ cfgs (dats (F := Ideal) m) 0 (V0 m) [hostOps1] c

theorem arrRef_injective : Function.Injective (Pipeline.arrRef spec0) := by decide

theorem after_o (c : Dev nD) : after m c main_v21 = rowsOf ((dats (F := Ideal) m 0 c).arrAt 7 cfg0.N) := by
  unfold after Pipeline.afterTail₀
  rw [← Pipeline.withArrays_arr spec0 arrRef_injective c (V0 m c) (fun w => (dats (F := Ideal) m 0 c).arrAt w cfg0.N) 7]
  after_results_simp <;> rfl
theorem after_k (c : Dev nD) : after m c main_v24 = layer ((dats (F := Ideal) m 0 c).arrAt 8 cfg0.N) := by
  unfold after Pipeline.afterTail₀
  rw [← Pipeline.withArrays_arr spec0 arrRef_injective c (V0 m c) (fun w => (dats (F := Ideal) m 0 c).arrAt w cfg0.N) 8]
  after_results_simp <;> rfl
theorem after_v (c : Dev nD) : after m c main_v25 = layer ((dats (F := Ideal) m 0 c).arrAt 9 cfg0.N) := by
  unfold after Pipeline.afterTail₀
  rw [← Pipeline.withArrays_arr spec0 arrRef_injective c (V0 m c) (fun w => (dats (F := Ideal) m 0 c).arrAt w cfg0.N) 9]
  after_results_simp <;> rfl

/-- THE RUN: the three results, the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v21) = rowsOf ((dats (F := Ideal) m 0 c).arrAt 7 cfg0.N)
      ∧ r.2.mem ((c.tc : Thread nD τ).loc main_v24) = layer ((dats (F := Ideal) m 0 c).arrAt 8 cfg0.N)
      ∧ r.2.mem ((c.tc : Thread nD τ).loc main_v25) = layer ((dats (F := Ideal) m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v21 (Pipeline.mem_restRefs_of main_v21 (by decide) (by decide))).trans (after_o m c),
      ((h c).2 main_v24 (Pipeline.mem_restRefs_of main_v24 (by decide) (by decide))).trans (after_k m c),
      ((h c).2 main_v25 (Pipeline.mem_restRefs_of main_v25 (by decide) (by decide))).trans (after_v m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 1).trans (((dats m 0 c).arrAt_in 1 rfl _).trans (V_main_arg5 m c))⟩) (run_main m ρ)

end Cert.SampleTail

end
-- ==== Proof.FiniteSample.lean ====
/- The precondition of the samples' attention read back: the queries, the keys of the step and of the cache, and the
   sinks are real numbers. -/
module

public import proofs.«01_k».proof.Pre_finite_sample
public import proofs.«01_k».proof.Proof.Finite

@[expose] public section

noncomputable section

namespace Cert.Pre_finite_sample
open Idealize.ShloMosaic
open Cert.Pre_finite (real_of_lt)

theorem facts : Facts where
  bcast_S_S128x8x4x4x64 := by decide
  reducesTo_S128x8x4x4x64_S_d0_1_2_3_4 := by decide
  h_S_ := by decide
  bcast_S_S128x8x4x64 := by decide
  reducesTo_S128x8x4x64_S_d0_1_2_3 := by decide
  bcast_S_S128x128x4x64 := by decide
  reducesTo_S128x128x4x64_S_d0_1_2_3 := by decide
  bcast_S_S16 := by decide
  reducesTo_S16_S_d0 := by decide

/-- Where `finite_sample` holds the queries, the keys of the step and of the cache, and the sinks are real. -/
theorem reals [Facts] (q : FVec Ideal S128x8x4x4x64 .f32) (k v : FVec Ideal S128x8x4x64 .f32) (ck cv : FVec Ideal S128x128x4x64 .f32)
    (z : FVec Ideal S16 .f32) (h : fn (F := Ideal) q k v ck cv z = fun _ => 1#1) :
    (∀ i, ∃ r : ℝ, q i = (r : EReal)) ∧ (∀ i, ∃ r : ℝ, k i = (r : EReal)) ∧ (∀ i, ∃ r : ℝ, ck i = (r : EReal))
      ∧ ∀ i, ∃ r : ℝ, z i = (r : EReal) := by
  have hs : Subsingleton S_.Idx := ⟨fun a b => funext fun i => i.elim0⟩
  have h0 := congrFun h (fun i => i.elim0)
  dsimp only [fn, fn_part1] at h0
  obtain ⟨h1, h4⟩ := IntOp.andi_eq_one.1 h0
  obtain ⟨h1, h3⟩ := IntOp.andi_eq_one.1 h1
  obtain ⟨h1, h2⟩ := IntOp.andi_eq_one.1 h1
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i), fun i => real_of_lt _ (Host.reduce_andi_all _ _ _ _ _ h4 i)⟩

end Cert.Pre_finite_sample

end
-- ==== Proof.SampleClaims.lean ====
/- The claims about the attention of the samples: the three frames, the named constant, the value of its three results. -/
module

public import proofs.«01_k».proof.Defs
public import proofs.«01_k».proof.Proof.Gen.Kernel4.Frame
public import proofs.«01_k».proof.Proof.Gen.Kernel4Ideal.Frame
public import proofs.«01_k».proof.Proof.SampleTail
public import proofs.«01_k».proof.Proof.FiniteSample

@[expose] public section

noncomputable section

namespace Cert.SampleClaims
open Idealize.ShloMosaic Idealize.SL.Sem

theorem frame_k : Cert.quiescent_Kernel4 (hKernel4 := Cert.Kernel4.Gen.facts) := fun m ρ _ => Cert.Kernel4.Gen.frame m ρ
theorem frame_ki : Cert.quiescent_Kernel4Ideal (hKernel4Ideal := Cert.Kernel4Ideal.Gen.facts) := fun m ρ _ => Cert.Kernel4Ideal.Gen.frame m ρ
theorem frame_kip : Cert.quiescent_Kernel4Ideal_pre_finite_sample (hKernel4Ideal := Cert.Kernel4Ideal.Gen.facts)
    (hPre_finite_sample := Cert.Pre_finite_sample.facts) := fun m ρ _ => Cert.Kernel4Ideal.Gen.frame m ρ

/-- The reference's frame: its run read at the arguments; it declares no semaphore. -/
theorem frame_r : Cert.quiescent_Reference4Ideal (hReference4Ideal := Cert.Reference4Ideal.Gen.facts) := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)
theorem frame_rp : Cert.quiescent_Reference4Ideal_pre_finite_sample (hReference4Ideal := Cert.Reference4Ideal.Gen.facts)
    (hPre_finite_sample := Cert.Pre_finite_sample.facts) := fun m ρ _ => frame_r m ρ trivial

/-- The mask's constant is named: it stands for minus infinity. -/
theorem preserves : Cert.preserves_Kernel4_Kernel4Ideal :=
  IdealRules.named_const.statement Cert.Kernel4Ideal.κ "mask" .f32 0xF149F2CA#32 ⊥ rfl

/-- The kernel's attention and its new states are the reference's, where the queries, the keys and the sinks are real. -/
theorem algebraic : Cert.algebraic_Kernel4Ideal_Reference4Ideal_pre_finite_sample (hKernel4Ideal := Cert.Kernel4Ideal.Gen.facts)
    (hReference4Ideal := Cert.Reference4Ideal.Gen.facts) (hPre_finite_sample := Cert.Pre_finite_sample.facts) := by
  intro m ρ m' ρ' hpre hag
  refine ⟨fun c => Cert.SampleTail.rowsOf ((Cert.Kernel4Ideal.Gen.dats m 0 c).arrAt 7 Cert.Kernel4Ideal.cfg0.N),
    fun c => Cert.SampleTail.layer ((Cert.Kernel4Ideal.Gen.dats m 0 c).arrAt 8 Cert.Kernel4Ideal.cfg0.N),
    fun c => Cert.SampleTail.layer ((Cert.Kernel4Ideal.Gen.dats m 0 c).arrAt 9 Cert.Kernel4Ideal.cfg0.N),
    Cert.SampleTail.run m ρ, ?_⟩
  refine (θ_run Cert.Reference4Ideal.defs _ _).mono (fun _ h c => ⟨(h c).1.trans ?_, (h c).2.1.trans ?_, (h c).2.2.1.trans ?_, (h c).2.2.2⟩)
    (Cert.Reference4Ideal.Value.run (F := Ideal) m' ρ')
  all_goals
    obtain ⟨h0, h1, h2, h3, h4, h5⟩ := hag c
    obtain ⟨hq, hk, hc, hz⟩ := @Cert.Pre_finite_sample.reals Cert.Pre_finite_sample.facts _ _ _ _ _ _ (hpre c)
  · refine Eq.trans ?_ ((congrArg Cert.SampleTail.rowsOf (Cert.SampleJoin.result7 m c hq hk hc hz)).trans (Cert.SampleTail.rowsOf_apart _)).symm
    rw [Cert.Reference4Ideal.RefAt.res_eq, h0, h1, h2, h3, h4, h5]
    rfl
  · refine Eq.trans ?_ ((congrArg Cert.SampleTail.layer (Cert.SampleJoin.result8 m c)).trans (Cert.SampleTail.layer_kept _)).symm
    rw [h1, h3]
    rfl
  · refine Eq.trans ?_ ((congrArg Cert.SampleTail.layer (Cert.SampleJoin.result9 m c)).trans (Cert.SampleTail.layer_kept _)).symm
    rw [h2, h4]
    rfl

end Cert.SampleClaims

end
-- ==== Proof.LruMath.lean ====
/- The arithmetic of the samples' convolution and linear recurrence, over the extended reals. -/
module

public import proofs.«01_k».proof.Proof.InprojMath

@[expose] public section

noncomputable section

open Idealize.ShloMosaic

namespace Cert.Lru

/-! ## The convolution -/

/-- The convolution of four taps: the newest first, then the offset, then the older ones. -/
def conv (x0 x1 x2 x3 w0 w1 w2 w3 b : EReal) : EReal := x3 * w3 + b + x2 * w2 + x1 * w1 + x0 * w0

/-- Taken oldest first from zero, with the offset last, it is the same. -/
theorem conv_eq (x0 x1 x2 x3 w0 w1 w2 w3 b : EReal) :
    0 + x0 * w0 + x1 * w1 + x2 * w2 + x3 * w3 + b = conv x0 x1 x2 x3 w0 w1 w2 w3 b := by
  unfold conv
  rw [zero_add]
  ac_rfl

/-! ## The gates -/

/-- A gate: the sigmoid of a channel's product with its head's weights plus the offset. -/
def gate (x : Fin 1024 → EReal) (w : Fin 16 → Fin 64 → Fin 64 → EReal) (b : EReal) (e : Fin 1024) : EReal :=
  Ideal.logistic ((∑ j : Fin 64, x ⟨64 * (e.val / 64) + j.val, by omega⟩ * w ⟨e.val / 64, by omega⟩ j ⟨e.val % 64, by omega⟩) + b)

/-- A sum over all channels of weights that vanish outside one head is the sum over that head. -/
theorem gate_sum (x : Fin 1024 → EReal) (w : Fin 16 → Fin 64 → Fin 64 → EReal) (e : Fin 1024) :
    (∑ k : Fin 1024, x k * (w ⟨k.val / 64, by omega⟩ ⟨k.val % 64, by omega⟩ ⟨e.val % 64, by omega⟩ * if k.val / 64 = e.val / 64 then (1 : EReal) else 0))
      = ∑ j : Fin 64, x ⟨64 * (e.val / 64) + j.val, by omega⟩ * w ⟨e.val / 64, by omega⟩ j ⟨e.val % 64, by omega⟩ := by
  have h := Cert.Inproj.sum_head (fun k : Fin 1024 => x k * w ⟨k.val / 64, by omega⟩ ⟨k.val % 64, by omega⟩ ⟨e.val % 64, by omega⟩) (e.val / 64) (by omega)
  refine (Finset.sum_congr rfl fun k _ => ?_).trans (h.trans (Finset.sum_congr rfl fun j _ => ?_))
  · by_cases hk : k.val / 64 = e.val / 64
    · simp only [if_pos hk, mul_one]
    · simp only [if_neg hk, mul_zero]
  · have h1 : (⟨(64 * (e.val / 64) + j.val) / 64, by omega⟩ : Fin 16) = ⟨e.val / 64, by omega⟩ := Fin.ext (by show (64 * (e.val / 64) + j.val) / 64 = e.val / 64; omega)
    have h2 : (⟨(64 * (e.val / 64) + j.val) % 64, by omega⟩ : Fin 64) = j := Fin.ext (by show (64 * (e.val / 64) + j.val) % 64 = j.val; omega)
    show x _ * w ⟨(64 * (e.val / 64) + j.val) / 64, _⟩ ⟨(64 * (e.val / 64) + j.val) % 64, _⟩ _ = _
    rw [h1, h2]

theorem coe_max (x y : ℝ) : ((max x y : ℝ) : EReal) = max (x : EReal) y := EReal.coe_strictMono.monotone.map_max
theorem coe_min (x y : ℝ) : ((min x y : ℝ) : EReal) = min (x : EReal) y := EReal.coe_strictMono.monotone.map_min

/-- The logarithm of the sigmoid. -/
def lsig (l : EReal) : EReal := min l 0 - Ideal.log1p (Ideal.exp (0 - max l (-l)))

theorem log1p_exp (r : ℝ) : Ideal.log1p (Ideal.exp (r : EReal)) = ((Real.log (1 + Real.exp r) : ℝ) : EReal) := by
  show Ideal.log (1 + ((Real.exp r : ℝ) : EReal)) = _
  have h : (1 : EReal) + ((Real.exp r : ℝ) : EReal) = ((1 + Real.exp r : ℝ) : EReal) := by rw [EReal.coe_add, EReal.coe_one]
  rw [h]
  show (if 1 + Real.exp r ≤ 0 then (⊥ : EReal) else _) = _
  rw [if_neg (by have := Real.exp_pos r; linarith)]

theorem log1p_zero : Ideal.log1p 0 = 0 := by
  show Ideal.log (1 + 0) = 0
  rw [add_zero]
  show (if (1 : ℝ) ≤ 0 then (⊥ : EReal) else ((Real.log 1 : ℝ) : EReal)) = 0
  rw [if_neg (by norm_num), Real.log_one, EReal.coe_zero]

theorem lsig_real (r : ℝ) : lsig (r : EReal) = ((min r 0 - Real.log (1 + Real.exp (-|r|)) : ℝ) : EReal) := by
  have h : (0 : EReal) - max (r : EReal) (-(r : EReal)) = ((-|r| : ℝ) : EReal) := by
    rw [zero_sub, ← EReal.coe_neg, ← coe_max, ← EReal.coe_neg]; rfl
  unfold lsig
  rw [h, log1p_exp, ← EReal.coe_zero, ← coe_min, ← EReal.coe_sub]

theorem lsig_bot : lsig ⊥ = ⊥ := by
  unfold lsig
  simp
theorem lsig_top : lsig ⊤ = 0 := by
  unfold lsig
  have : (0 : EReal) - max ⊤ (-⊤) = ⊥ := by simp
  rw [this]
  show min ⊤ 0 - Ideal.log1p 0 = 0
  rw [log1p_zero]; simp

theorem lsig_nonpos (l : EReal) : lsig l ≤ 0 := by
  induction l with
  | bot => rw [lsig_bot]; exact bot_le
  | top => rw [lsig_top]
  | coe r =>
    rw [lsig_real, ← EReal.coe_zero, EReal.coe_le_coe_iff]
    have h1 : 0 ≤ Real.log (1 + Real.exp (-|r|)) := Real.log_nonneg (by have := Real.exp_pos (-|r|); linarith)
    have h2 := min_le_right r 0
    linarith

/-- The softplus of the negation, negated, is the logarithm of the sigmoid. -/
theorem lsig_eq (l : EReal) : -(max (-l) 0 + Ideal.log1p (Ideal.exp (-(max (-l - 0) (-(-l - 0)))))) = lsig l := by
  induction l with
  | bot =>
    rw [lsig_bot]
    have : -(max (-(⊥ : EReal) - 0) (-(-⊥ - 0))) = ⊥ := by simp
    rw [this]
    show -(max (-⊥) 0 + Ideal.log1p 0) = _
    rw [log1p_zero]; simp
  | top =>
    rw [lsig_top]
    have : -(max (-(⊤ : EReal) - 0) (-(-⊤ - 0))) = ⊥ := by simp
    rw [this]
    show -(max (-⊤) 0 + Ideal.log1p 0) = _
    rw [log1p_zero]; simp
  | coe r =>
    have h : -(max (-(r : EReal) - 0) (-(-(r : EReal) - 0))) = ((-|r| : ℝ) : EReal) := by
      rw [sub_zero, neg_neg, ← EReal.coe_neg, ← coe_max, ← EReal.coe_neg, max_comm]; rfl
    rw [lsig_real, h, log1p_exp, ← EReal.coe_neg, ← EReal.coe_zero, ← coe_max, ← EReal.coe_add, ← EReal.coe_neg]
    congr 1
    have : max (-r) 0 = -min r 0 := by rcases le_total r 0 with h | h <;> simp [h]
    rw [this]; ring

/-- The square of the factor of a new input: `1 - a²`, by the hyperbolic tangent. -/
theorem rest_eq (L : EReal) : (0 - Ideal.tanh L) * (Ideal.exp L * Ideal.exp L + 1) = -(Ideal.exp (2 * L) - 1) := by
  induction L with
  | bot =>
    have h2 : (2 : EReal) * ⊥ = ⊥ := EReal.mul_bot_of_pos (by norm_num)
    rw [h2]
    show (0 - (-1 : EReal)) * ((0 : EReal) * 0 + 1) = -((0 : EReal) - 1)
    simp
  | top =>
    have h2 : (2 : EReal) * ⊤ = ⊤ := EReal.mul_top_of_pos (by norm_num)
    rw [h2]
    show (0 - (1 : EReal)) * ((⊤ : EReal) * ⊤ + 1) = -((⊤ : EReal) - 1)
    have h3 : (⊤ : EReal) * ⊤ + 1 = ⊤ := by rw [EReal.top_mul_top]; rfl
    have h4 : (⊤ : EReal) - 1 = ⊤ := rfl
    have h5 : (0 : EReal) - 1 = ((-1 : ℝ) : EReal) := by rw [zero_sub]; rfl
    rw [h3, h4, h5, EReal.neg_top, EReal.coe_mul_top_of_neg (by norm_num)]
  | coe r =>
    have h2 : (2 : EReal) * (r : EReal) = ((2 * r : ℝ) : EReal) := by rw [EReal.coe_mul]; rfl
    rw [h2]
    show ((0 : ℝ) - (Real.tanh r : EReal)) * (((Real.exp r : ℝ) : EReal) * ((Real.exp r : ℝ) : EReal) + ((1 : ℝ) : EReal)) = -(((Real.exp (2 * r) : ℝ) : EReal) - ((1 : ℝ) : EReal))
    simp only [← EReal.coe_mul, ← EReal.coe_add, ← EReal.coe_sub, ← EReal.coe_neg]
    congr 1
    have hp := Real.exp_pos r
    have hc := Real.cosh_pos r
    rw [Real.tanh_eq_sinh_div_cosh, two_mul, Real.exp_add]
    rw [Real.sinh_eq, Real.cosh_eq, Real.exp_neg]
    field_simp
    ring

/-- The logarithm of the decay: the gate `r`, the channel's parameter `l`. -/
def logA (r l : EReal) : EReal := Ideal.ofBits .f32 0x41000000#32 * r * lsig l

/-- The factor of a new input of decay `exp L`. -/
def fac (L : EReal) : EReal := Ideal.sqrt ((0 - Ideal.tanh L) * (Ideal.exp L * Ideal.exp L + 1))

theorem eight_lit : Ideal.ofBits .f32 0x41000000#32 = ((8 : ℝ) : EReal) := by
  simp [Ideal.ofBits, Ideal.ieee]
  rw [← EReal.coe_mul]; norm_num
theorem two_lit : Ideal.ofBits .f32 0x40000000#32 = 2 := by
  rw [show (2 : EReal) = ((2 : ℝ) : EReal) from rfl]
  simp [Ideal.ofBits, Ideal.ieee]
  rw [← EReal.coe_mul]; norm_num

theorem exp_nonneg (x : EReal) : 0 ≤ Ideal.exp x := by
  induction x with
  | bot => exact le_refl _
  | top => exact le_top
  | coe r => exact EReal.coe_nonneg.2 (Real.exp_pos r).le

theorem logistic_nonneg (x : EReal) : 0 ≤ Ideal.logistic x := by
  unfold Ideal.logistic Ideal.div
  split
  · split <;> simp_all
  · rw [one_mul]
    exact EReal.inv_nonneg_of_nonneg (add_nonneg zero_le_one (exp_nonneg _))

/-- The decay is a real number that is not negative. -/
theorem decay_real (x l : EReal) : ∃ r : ℝ, 0 ≤ r ∧ Ideal.exp (logA (Ideal.logistic x) l) = r := by
  have hL : logA (Ideal.logistic x) l ≤ 0 := by
    unfold logA
    rw [eight_lit]
    exact mul_nonpos_of_nonneg_of_nonpos (mul_nonneg (EReal.coe_nonneg.2 (by norm_num)) (logistic_nonneg x)) (lsig_nonpos l)
  generalize logA (Ideal.logistic x) l = L at hL
  induction L with
  | bot => exact ⟨0, le_refl _, rfl⟩
  | top => exact absurd hL (by simp)
  | coe r => exact ⟨Real.exp r, (Real.exp_pos r).le, rfl⟩

/-! ## The recurrence -/

/-- The recurrence over a sequence's eight positions, from nothing. -/
def hs (a b : Fin 8 → EReal) : Fin 8 → EReal
  | ⟨0, _⟩ => b 0
  | ⟨1, _⟩ => a 1 * b 0 + b 1
  | ⟨2, _⟩ => a 2 * (a 1 * b 0 + b 1) + b 2
  | ⟨3, _⟩ => a 3 * (a 2 * (a 1 * b 0 + b 1) + b 2) + b 3
  | ⟨4, _⟩ => a 4 * (a 3 * (a 2 * (a 1 * b 0 + b 1) + b 2) + b 3) + b 4
  | ⟨5, _⟩ => a 5 * (a 4 * (a 3 * (a 2 * (a 1 * b 0 + b 1) + b 2) + b 3) + b 4) + b 5
  | ⟨6, _⟩ => a 6 * (a 5 * (a 4 * (a 3 * (a 2 * (a 1 * b 0 + b 1) + b 2) + b 3) + b 4) + b 5) + b 6
  | ⟨7, _⟩ => a 7 * (a 6 * (a 5 * (a 4 * (a 3 * (a 2 * (a 1 * b 0 + b 1) + b 2) + b 3) + b 4) + b 5) + b 6) + b 7
  | ⟨_ + 8, h⟩ => absurd h (by omega)

/-- The decays of `2s` positions from those of `s`. -/
def growA (s : ℕ) (a : Fin 8 → EReal) (t : Fin 8) : EReal := a t * if t.val < s then 1 else a ⟨(t.val + 8 - s) % 8, by omega⟩
/-- The inputs gathered over `2s` positions from those over `s`. -/
def growB (s : ℕ) (a b : Fin 8 → EReal) (t : Fin 8) : EReal := a t * (if t.val < s then 0 else b ⟨(t.val + 8 - s) % 8, by omega⟩) + b t

theorem dist (r : ℝ) (h : 0 ≤ r) (x y : EReal) : (r : EReal) * (x + y) = r * x + r * y :=
  EReal.left_distrib_of_nonneg_of_ne_top (EReal.coe_nonneg.2 h) (EReal.coe_ne_top r) x y

/-- Decays that are real and not negative go into sums. -/
theorem dists (a : Fin 8 → EReal) (h : ∀ t, ∃ r : ℝ, 0 ≤ r ∧ a t = r) (t : Fin 8) (x y : EReal) : a t * (x + y) = a t * x + a t * y := by
  obtain ⟨r, hr, e⟩ := h t
  rw [e]; exact dist r hr x y

/-- Doubling the span three times is the recurrence. -/
theorem grow_eq (a b : Fin 8 → EReal) (h : ∀ t, ∃ r : ℝ, 0 ≤ r ∧ a t = r) (t : Fin 8) :
    growB 4 (growA 2 (growA 1 a)) (growB 2 (growA 1 a) (growB 1 a b)) t = hs a b t := by
  have d := dists a h
  fin_cases t <;> simp [growA, growB, hs] <;> simp only [mul_assoc, d, add_assoc]

end Cert.Lru

end
-- ==== Proof.LruKern.lean ====
/- The body of the samples' convolution and recurrence, its pure values read at an index. -/
module

public import proofs.«01_k».proof.Proof.LruMath
public import proofs.«01_k».proof.Proof.Gen.Kernel5Ideal.Frame
public import Idealize.ShloMosaic.Lib.Pipeline.Value

@[expose] public section

set_option maxRecDepth 16384

noncomputable section

namespace Cert.Kernel5Ideal.LruKern
open Cert.Kernel5Ideal Cert.Kernel5Ideal.Gen Cert.Lru
open Idealize.ShloMosaic Idealize.ShloMosaic.TcCoe Idealize.SL.Sem Idealize.ShloMosaic.Pointwise

/-! ## Positions -/

/-- The position of a row in its sequence, as a word: the remainder by 8, made non-negative. -/
theorem pos_apply : ∀ (r : Fin 256) (e : Fin 1024), (k0_pay4 : IVec S256x1024 32) (ix2 r e) = BitVec.ofNat 32 (r.val % 8) := by
  intro r e
  pointwise [k0_pay4]
  revert r
  decide +kernel

/-- Comparing a small position with a small bound. -/
theorem slt_iff : ∀ (p : Fin 8) (s : Fin 8), (IntOp.cmpi CmpIPredicate.slt (BitVec.ofNat 32 p.val) (BitVec.ofNat 32 s.val) = 1#1) ↔ p.val < s.val := by
  decide +kernel

/-- Choosing by a small position. -/
theorem select_slt {α : Type} (p : ℕ) (hp : p < 8) (s : Fin 8) (x y : α) :
    Scalar.select (IntOp.cmpi CmpIPredicate.slt (BitVec.ofNat 32 p) (BitVec.ofNat 32 s.val)) x y = if p < s.val then x else y :=
  if_congr (slt_iff ⟨p, hp⟩ s) rfl rfl

/-! ## The convolution -/

/-- A row's earlier input: the given one where the sequence begins after it. -/
def back (x : FVec Ideal S256x1024 .f32) (g : FVec Ideal S1x256x1024 .f32) (s : ℕ) (r : Fin 256) (e : Fin 1024) : EReal :=
  if r.val % 8 < s then g (ix3 0 r e) else x (ix2 ⟨(r.val + 256 - s % 256) % 256, Nat.mod_lt _ (by norm_num)⟩ e)

/-- The convolution of a block. -/
def xc (x : FVec Ideal S256x1024 .f32) (w3 b : FVec Ideal S1x1024 .f32) (g1 : FVec Ideal S1x256x1024 .f32) (w2 : FVec Ideal S1x1024 .f32)
    (g2 : FVec Ideal S1x256x1024 .f32) (w1 : FVec Ideal S1x1024 .f32) (g3 : FVec Ideal S1x256x1024 .f32) (w0 : FVec Ideal S1x1024 .f32) :
    FVec Ideal S256x1024 .f32 :=
  k0_pay6 (F := Ideal) (k0_pay3 (F := Ideal) x) k0_pay4 (k0_pay5 (F := Ideal) x w3 b g1 w2) g2 w1 g3 w0

theorem xc_apply (x : FVec Ideal S256x1024 .f32) (w3 b : FVec Ideal S1x1024 .f32) (g1 : FVec Ideal S1x256x1024 .f32) (w2 : FVec Ideal S1x1024 .f32)
    (g2 : FVec Ideal S1x256x1024 .f32) (w1 : FVec Ideal S1x1024 .f32) (g3 : FVec Ideal S1x256x1024 .f32) (w0 : FVec Ideal S1x1024 .f32)
    (r : Fin 256) (e : Fin 1024) :
    xc x w3 b g1 w2 g2 w1 g3 w0 (ix2 r e) = conv (back x g3 3 r e) (back x g2 2 r e) (back x g1 1 r e) (x (ix2 r e))
      (w0 (ix2 0 e)) (w1 (ix2 0 e)) (w2 (ix2 0 e)) (w3 (ix2 0 e)) (b (ix2 0 e)) := by
  have hr : r.val % 8 < 8 := Nat.mod_lt _ (by norm_num)
  have p := pos_apply
  unfold xc k0_pay5
  generalize (k0_pay4 : IVec S256x1024 32) = P at p ⊢
  pointwise [k0_pay6, k0_pay3, conv, p]
  have s1 (x y : EReal) : Scalar.select (IntOp.cmpi CmpIPredicate.slt (BitVec.ofNat 32 (r.val % 8)) 1#32) x y = if r.val % 8 < 1 then x else y :=
    select_slt _ hr 1 x y
  have s2 (x y : EReal) : Scalar.select (IntOp.cmpi CmpIPredicate.slt (BitVec.ofNat 32 (r.val % 8)) 2#32) x y = if r.val % 8 < 2 then x else y :=
    select_slt _ hr 2 x y
  have s3 (x y : EReal) : Scalar.select (IntOp.cmpi CmpIPredicate.slt (BitVec.ofNat 32 (r.val % 8)) 3#32) x y = if r.val % 8 < 3 then x else y :=
    select_slt _ hr 3 x y
  rw [s1, s2, s3]
  rfl

/-! ## The gates -/

section gates
variable (v1 : FVec Ideal S256x1024 .f32) (v18 : IVec S256x1024 32) (v35 : FVec Ideal S256x1024 .f32) (v36 : FVec Ideal S1x256x1024 .f32)
  (v42 : FVec Ideal S1x1024 .f32) (v46 : FVec Ideal S1x256x1024 .f32) (v52 : FVec Ideal S1x1024 .f32) (W : FVec Ideal S1024x2048 .bf16)
  (v : FVec Ideal S1x1024 .f32) (r : Fin 256) (e : Fin 1024)

/-- The product of the convolution with the two gates' weights. -/
theorem prod_apply (n : Fin 2048) : k0_pay7 (F := Ideal) v1 v18 v35 v36 v42 v46 v52 W (ix2 r n)
    = ∑ k : Fin 1024, k0_pay6 (F := Ideal) v1 v18 v35 v36 v42 v46 v52 (ix2 r k) * W (ix2 k n) := by
  unfold k0_pay7
  generalize k0_pay6 (F := Ideal) v1 v18 v35 v36 v42 v46 v52 = X
  pointwise []

/-- The input gate. -/
theorem gate_x : k0_pay8 (F := Ideal) v1 v18 v35 v36 v42 v46 v52 W v (ix2 r e)
    = Ideal.logistic ((∑ k : Fin 1024, k0_pay6 (F := Ideal) v1 v18 v35 v36 v42 v46 v52 (ix2 r k) * W (ix2 k ⟨1024 + e.val, by omega⟩)) + v (ix2 0 e)) := by
  rw [← prod_apply]
  unfold k0_pay8
  generalize k0_pay7 (F := Ideal) v1 v18 v35 v36 v42 v46 v52 W = X
  pointwise []

/-- Eight times the recurrence gate. -/
theorem gate_a : k0_pay9 (F := Ideal) v1 v18 v35 v36 v42 v46 v52 W v (ix2 r e)
    = Ideal.ofBits .f32 0x41000000#32 * Ideal.logistic ((∑ k : Fin 1024, k0_pay6 (F := Ideal) v1 v18 v35 v36 v42 v46 v52 (ix2 r k) * W (ix2 k ⟨e.val, by omega⟩)) + v (ix2 0 e)) := by
  rw [← prod_apply]
  unfold k0_pay9
  generalize k0_pay7 (F := Ideal) v1 v18 v35 v36 v42 v46 v52 W = X
  pointwise []

end gates

/-! ## The recurrence -/

section steps
variable (X i g : FVec Ideal S256x1024 .f32) (l : FVec Ideal S1x1024 .f32) (h0 : FVec Ideal S256x1024 .f32)

/-- The logarithm of a step's decay. -/
theorem log_apply (r : Fin 256) (e : Fin 1024) : k0_pay11 (F := Ideal) g l (ix2 r e) = g (ix2 r e) * lsig (l (ix2 0 e)) := by
  pointwise [k0_pay11, lsig]
  rfl

/-- A sequence's row of the block. -/
def at8 (s : Fin 32) (t : Fin 8) : Fin 256 := ⟨s.val * 8 + t.val, by omega⟩

/-- The decays of a sequence. -/
def av (s : Fin 32) (e : Fin 1024) (t : Fin 8) : EReal := Ideal.exp (k0_pay11 (F := Ideal) g l (ix2 (at8 s t) e))

/-- The inputs of a sequence, the earlier state in the first. -/
def bv (s : Fin 32) (e : Fin 1024) (t : Fin 8) : EReal :=
  fac (k0_pay11 (F := Ideal) g l (ix2 (at8 s t) e)) * (i (ix2 (at8 s t) e) * X (ix2 (at8 s t) e)) + av g l s e t * h0 (ix2 (at8 s t) e)

/-- Choosing by a position and a small bound, as the words are compared. -/
theorem sel (t : Fin 8) (x y : EReal) :
    (Scalar.select (IntOp.cmpi CmpIPredicate.slt (BitVec.ofNat 32 t.val) 1#32) x y = if t.val < 1 then x else y)
    ∧ (Scalar.select (IntOp.cmpi CmpIPredicate.slt (BitVec.ofNat 32 t.val) 2#32) x y = if t.val < 2 then x else y)
    ∧ (Scalar.select (IntOp.cmpi CmpIPredicate.slt (BitVec.ofNat 32 t.val) 4#32) x y = if t.val < 4 then x else y) :=
  ⟨select_slt t.val t.isLt 1 x y, select_slt t.val t.isLt 2 x y, select_slt t.val t.isLt 4 x y⟩

/-- A product with a value chosen between zero and another. -/
theorem mul_sel (p : Prop) [Decidable p] (a y : EReal) : (if p then 0 else a * y) = a * if p then 0 else y := by
  split <;> simp

/-- The decays over two steps. -/
theorem decay1_apply (s : Fin 32) (t : Fin 8) (e : Fin 1024) : k0_pay15 (F := Ideal) g l (ix3 s t e) = growA 1 (av g l s e) t := by
  unfold k0_pay15 k0_pay13 k0_pay12
  unfold growA av at8
  generalize k0_pay11 (F := Ideal) g l = L
  pointwise []
  rw [(sel t _ _).1]

/-- The states from two steps. -/
theorem state1_apply (s : Fin 32) (t : Fin 8) (e : Fin 1024) : k0_pay14 (F := Ideal) X i g l h0 (ix3 s t e) = growB 1 (av g l s e) (bv X i g l h0 s e) t := by
  unfold k0_pay14 k0_pay13 k0_pay12
  unfold growB bv av at8 fac
  generalize k0_pay11 (F := Ideal) g l = L
  pointwise []
  rw [(sel t _ _).1, mul_sel]

/-- The last two doublings. -/
theorem grow_apply (S D : FVec Ideal S32x8x1024 .f32) (a b : Fin 8 → EReal) (r : Fin 256) (e : Fin 1024)
    (hS : ∀ t, S (ix3 ⟨r.val / 8, by omega⟩ t e) = growB 1 a b t) (hD : ∀ t, D (ix3 ⟨r.val / 8, by omega⟩ t e) = growA 1 a t) :
    k0_pay1 (F := Ideal) (iota .tc S32x8x1024 32 [1] iota_S32x8x1024_d1_w32) S D k0_pay16
      (dynamicRotate 1 2#32 none D rotates_S32x8x1024_d1) (k0_pay18 (F := Ideal)) (ix2 r e)
      = growB 4 (growA 2 (growA 1 a)) (growB 2 (growA 1 a) (growB 1 a b)) ⟨r.val % 8, by omega⟩ := by
  unfold k0_pay1 k0_pay16 k0_pay18
  generalize growB 1 a b = b1 at hS ⊢
  generalize growA 1 a = a1 at hD ⊢
  pointwise []
  simp only [hS, hD]
  have s4 := fun x y => (sel ⟨r.val % 8, by omega⟩ x y).2.2
  have s2 := fun x y => (sel ⟨r.val % 8, by omega⟩ x y).2.1
  have s6 := fun x y => (sel ⟨(r.val % 8 + 8 - 4) % 8, by omega⟩ x y).2.1
  rw [s4, s2, s2, s6, mul_sel, mul_sel, mul_sel]
  rfl

/-- The states of a block: every sequence's recurrence. -/
theorem state_apply (r : Fin 256) (e : Fin 1024) (hd : ∀ t, ∃ x : ℝ, 0 ≤ x ∧ av g l ⟨r.val / 8, by omega⟩ e t = x) :
    k0_pay1 (F := Ideal) (iota .tc S32x8x1024 32 [1] iota_S32x8x1024_d1_w32) (k0_pay14 (F := Ideal) X i g l h0) (k0_pay15 (F := Ideal) g l) k0_pay16
      (k0_pay17 (F := Ideal) g l) (k0_pay18 (F := Ideal)) (ix2 r e)
      = hs (av g l ⟨r.val / 8, by omega⟩ e) (bv X i g l h0 ⟨r.val / 8, by omega⟩ e) ⟨r.val % 8, by omega⟩ := by
  rw [← grow_eq _ _ hd]
  exact grow_apply _ _ _ _ r e (fun t => state1_apply X i g l h0 _ t e) (fun t => decay1_apply g l _ t e)

end steps

end Cert.Kernel5Ideal.LruKern

end
-- ==== Proof.LruJoin.lean ====
/- The samples' convolution and recurrence: the blocks that the grid's points read. -/
module

public import proofs.«01_k».proof.Proof.LruKern
public import proofs.«01_k».proof.Proof.InprojMath

@[expose] public section

set_option maxRecDepth 16384

noncomputable section

namespace Cert.LruJoin
open Cert.Kernel5Ideal Cert.Kernel5Ideal.Gen Cert.Kernel5Ideal.LruKern Cert.Lru
open Idealize.ShloMosaic Idealize.ShloMosaic.TcCoe Idealize.SL.Sem Idealize.ShloMosaic.Pointwise

/-! ## The body's loads and stores -/

theorem ld_x (x : FVec Ideal S256x1024 .f32) : View.ld (Val := Elt Ideal) (e' := .f32) x r0_0 = x :=
  View.ld_unit_lit' (Val := Elt Ideal) (e := .f32) (S := S256x1024) _ x (by decide)
theorem ld_v (x : FVec Ideal S1x1024 .f32) : View.ld (Val := Elt Ideal) (e' := .f32) x r0_2 = x :=
  View.ld_unit_lit' (Val := Elt Ideal) (e := .f32) (S := S1x1024) _ x (by decide)
theorem ld_w (x : FVec Ideal S1024x2048 .bf16) : View.ld (Val := Elt Ideal) (e' := .bf16) x r0_9 = x :=
  View.ld_unit_lit' (Val := Elt Ideal) (e := .bf16) (S := S1024x2048) _ x (by decide)

/-- One of the taps. -/
def tap (w : FVec Ideal S4x1024 .f32) (j : Fin 4) : FVec Ideal S1x1024 .f32 := fun i => w (ix2 j (i 1))

theorem ld_tap (w : FVec Ideal S4x1024 .f32) (j : Fin 4) (inb) :
    View.ld (Val := Elt Ideal) (e' := .f32) w (Rect.unit (s := S4x1024) ![j.val, 0] S1x1024.size inb) = tap w j := by
  funext i
  refine View.ld_unit_apply_of _ _ _ _ _ _ fun a => ?_
  match a with
  | ⟨0, _⟩ =>
    have h : (i 0).val < 1 := (i 0).isLt
    show j.val = j.val + (i 0).val
    omega
  | ⟨1, _⟩ => exact (Nat.zero_add _).symm

/-- The inputs given for the rows at one distance. -/
def halo (x : FVec Ideal S3x256x1024 .f32) (j : Fin 3) : FVec Ideal S1x256x1024 .f32 := fun i => x (ix3 j (i 1) (i 2))

theorem ld_halo (x : FVec Ideal S3x256x1024 .f32) (j : Fin 3) (inb) :
    View.ld (Val := Elt Ideal) (e' := .f32) x (Rect.unit (s := S3x256x1024) ![j.val, 0, 0] S1x256x1024.size inb) = halo x j := by
  funext i
  refine View.ld_unit_apply_of _ _ _ _ _ _ fun a => ?_
  match a with
  | ⟨0, _⟩ =>
    have h : (i 0).val < 1 := (i 0).isLt
    show j.val = j.val + (i 0).val
    omega
  | ⟨1, _⟩ => exact (Nat.zero_add _).symm
  | ⟨2, _⟩ => exact (Nat.zero_add _).symm

section outs
variable (x0 x1 : FVec Ideal S256x1024 .f32) (x2 : FVec Ideal S3x256x1024 .f32) (x3 : FVec Ideal S256x1024 .f32) (x4 : FVec Ideal S4x1024 .f32)
  (x5 : FVec Ideal S1x1024 .f32) (x6 : FVec Ideal S1024x2048 .bf16) (x7 x8 x9 : FVec Ideal S1x1024 .f32)

/-- The convolution before its last two taps. -/
def half : FVec Ideal S256x1024 .f32 := k0_pay5 (F := Ideal) x0 (tap x4 3) x5 (halo x2 0) (tap x4 2)
/-- The convolution. -/
def cv : FVec Ideal S256x1024 .f32 := xc x0 (tap x4 3) x5 (halo x2 0) (tap x4 2) (halo x2 1) (tap x4 1) (halo x2 2) (tap x4 0)
/-- Eight times the decay's gate. -/
def ga : FVec Ideal S256x1024 .f32 :=
  k0_pay9 (F := Ideal) (k0_pay3 (F := Ideal) x0) k0_pay4 (half x0 x2 x4 x5) (halo x2 1) (tap x4 1) (halo x2 2) (tap x4 0) x6 x7
/-- The input's gate. -/
def gx : FVec Ideal S256x1024 .f32 :=
  k0_pay8 (F := Ideal) (k0_pay3 (F := Ideal) x0) k0_pay4 (half x0 x2 x4 x5) (halo x2 1) (tap x4 1) (halo x2 2) (tap x4 0) x6 x8
/-- The states. -/
def st : FVec Ideal S256x1024 .f32 :=
  k0_pay1 (F := Ideal) (iota .tc S32x8x1024 32 [1] iota_S32x8x1024_d1_w32)
    (k0_pay14 (F := Ideal) (cv x0 x2 x4 x5) (gx x0 x2 x4 x5 x6 x8) (ga x0 x2 x4 x5 x6 x7) (k0_pay10 (F := Ideal) x9) x3)
    (k0_pay15 (F := Ideal) (ga x0 x2 x4 x5 x6 x7) (k0_pay10 (F := Ideal) x9)) k0_pay16
    (k0_pay17 (F := Ideal) (ga x0 x2 x4 x5 x6 x7) (k0_pay10 (F := Ideal) x9)) (k0_pay18 (F := Ideal))

theorem pay21_eq : k0_pay21 (F := Ideal) x0 x1 x2 x3 x4 x5 x6 x7 x8 x9 = half x0 x2 x4 x5 := by
  unfold k0_pay21 half
  rw [ld_x, ld_v, ← ld_tap x4 3 inb_S4x1024_S1x1024_3_0, ← ld_tap x4 2 inb_S4x1024_S1x1024_2_0, ← ld_halo x2 0 inb_S3x256x1024_S1x256x1024_0_0_0]
  rfl
theorem pay19_eq : k0_pay19 (F := Ideal) x0 x1 x2 x3 x4 x5 x6 x7 x8 x9 = k0_pay3 (F := Ideal) x0 := by
  unfold k0_pay19
  rw [ld_x]
theorem pay22_eq : k0_pay22 (F := Ideal) x0 x1 x2 x3 x4 x5 x6 x7 x8 x9 = ga x0 x2 x4 x5 x6 x7 := by
  unfold k0_pay22 ga k0_pay20
  rw [pay21_eq, pay19_eq, ld_w, ld_v, ← ld_tap x4 1 inb_S4x1024_S1x1024_1_0, ← ld_tap x4 0 inb_S4x1024_S1x1024_0_0,
    ← ld_halo x2 1 inb_S3x256x1024_S1x256x1024_1_0_0, ← ld_halo x2 2 inb_S3x256x1024_S1x256x1024_2_0_0]
  rfl
theorem pay23_eq : k0_pay23 (F := Ideal) x0 x1 x2 x3 x4 x5 x6 x7 x8 x9 = k0_pay10 (F := Ideal) x9 := by
  unfold k0_pay23
  rw [ld_v]
theorem pay25_eq : k0_pay25 (F := Ideal) x0 x1 x2 x3 x4 x5 x6 x7 x8 x9
    = k0_pay14 (F := Ideal) (cv x0 x2 x4 x5) (gx x0 x2 x4 x5 x6 x8) (ga x0 x2 x4 x5 x6 x7) (k0_pay10 (F := Ideal) x9) x3 := by
  unfold k0_pay25 cv xc gx k0_pay20
  rw [pay21_eq, pay19_eq, pay22_eq, pay23_eq, ld_w, ld_v, ld_x, ← ld_tap x4 1 inb_S4x1024_S1x1024_1_0, ← ld_tap x4 0 inb_S4x1024_S1x1024_0_0,
    ← ld_halo x2 1 inb_S3x256x1024_S1x256x1024_1_0_0, ← ld_halo x2 2 inb_S3x256x1024_S1x256x1024_2_0_0]
  rfl

theorem out11_eq : out0_11 (F := Ideal) x0 x1 x2 x3 x4 x5 x6 x7 x8 x9 = st x0 x2 x3 x4 x5 x6 x7 x8 x9 := by
  unfold out0_11; frame_out
  unfold st
  rw [pay25_eq]
  unfold k0_pay24 k0_pay26 k0_pay27 k0_pay28 k0_pay29
  rw [pay22_eq, pay23_eq]
theorem out10_eq : out0_10 (F := Ideal) x0 x1 x2 x3 x4 x5 x6 x7 x8 x9
    = truncf .bf16 (mulf (st x0 x2 x3 x4 x5 x6 x7 x8 x9) x1) bitsLt_bf16_f32 := by
  unfold out0_10; frame_out
  unfold k0_pay2
  rw [pay25_eq]
  unfold k0_pay24 k0_pay26 k0_pay27 k0_pay28 k0_pay29
  rw [pay22_eq, pay23_eq]
  unfold st
  funext y
  obtain ⟨r, e, rfl⟩ : ∃ (r : Fin 256) (e : Fin 1024), y = ix2 r e := ⟨y 0, y 1, by
    funext i
    match i with
    | ⟨0, _⟩ => rfl
    | ⟨1, _⟩ => rfl⟩
  generalize k0_pay1 (F := Ideal) _ _ _ _ _ _ = s
  pointwise []

end outs

/-! ## The blocks the grid's points read -/

variable (m : (ℓ : Loc nD τ sig) → Buf (Elt Ideal) ℓ)

theorem idx : ∀ t : Fin cfg0.N, win0_0.index t = ![t.val, 0] ∧ win0_1.index t = ![t.val, 0] ∧ win0_2.index t = ![0, t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] :=
  (by decide +kernel : ∀ t : Fin grid0.N, _)

/-- The grid has 4 points. -/
theorem tlt (t : Fin cfg0.N) : t.val < 4 := lt_of_lt_of_eq t.isLt N_0

/-- The row of the arrays that row `r` of the block at point `t` is. -/
def row (t : Fin cfg0.N) (r : Fin 256) : Fin 1024 := ⟨t.val * 256 + r.val, by have := tlt t; omega⟩

/-- The samples' inputs. -/
def kx (c : Dev nD) : FVec Ideal S128x8x1024 .f32 := m ((c : Thread nD τ).loc main_arg0)
/-- The factors of the states. -/
def kg (c : Dev nD) : FVec Ideal S128x8x1024 .f32 := m ((c : Thread nD τ).loc main_arg1)
/-- The three inputs before the samples. -/
def kc (c : Dev nD) : FVec Ideal S128x3x1024 .f32 := m ((c : Thread nD τ).loc main_arg2)
/-- The states before the samples. -/
def kh (c : Dev nD) : FVec Ideal S128x1024 .f32 := m ((c : Thread nD τ).loc main_arg3)
/-- The taps and the convolution's offset. -/
def kw (c : Dev nD) : FVec Ideal S4x1024 .f32 := m ((c : Thread nD τ).loc main_arg4)
def kb (c : Dev nD) : FVec Ideal S1024 .f32 := m ((c : Thread nD τ).loc main_arg5)
/-- The weights and offset of the decay's gate. -/
def kwa (c : Dev nD) : FVec Ideal S16x64x64 .f32 := m ((c : Thread nD τ).loc main_arg6)
def kba (c : Dev nD) : FVec Ideal S1024 .f32 := m ((c : Thread nD τ).loc main_arg7)
/-- The weights and offset of the input's gate. -/
def kwx (c : Dev nD) : FVec Ideal S16x64x64 .f32 := m ((c : Thread nD τ).loc main_arg8)
def kbx (c : Dev nD) : FVec Ideal S1024 .f32 := m ((c : Thread nD τ).loc main_arg9)
/-- The channels' parameter. -/
def kl (c : Dev nD) : FVec Ideal S1024 .f32 := m ((c : Thread nD τ).loc main_arg10)

/-- The buffers the call meets are what the operations before it leave. -/
theorem V_eq (c : Dev nD) (b : Ref sig .tc) : V m c b = StableHlo.after hostOps0 (fun b => m (c, b)) (Proc.devRef .tc b) := rfl

/-- Rows of all sequences, one after another. -/
def flat (x : FVec Ideal S128x8x1024 .f32) : FVec Ideal S1024x1024 .f32 := shapeCast _ x shapeCasts_S128x8x1024_S1024x1024
/-- A vector as a row. -/
def line (x : FVec Ideal S1024 .f32) : FVec Ideal S1x1024 .f32 := shapeCast _ x shapeCasts_S1024_S1x1024
/-- The matrix that is one on the diagonal. -/
def eye : FVec Ideal S16x16 .f32 :=
  uitofp .f32 (cmpi .eq (addi (iotaInDim S16x16 32 0) (broadcastInDim S16x16 ![] bcast_S_S16x16 (constantI S_ 32 0#32))) (iotaInDim S16x16 32 1))
/-- A gate's weights as one matrix, a head's block in its place. -/
def blocks (w : FVec Ideal S16x64x64 .f32) : FVec Ideal S1024x1024 .f32 :=
  shapeCast _ (mulf (broadcastInDim S16x64x16x64 ![0, 1, 2, 3] bcast_S16x64x1x64_S16x64x16x64_0_1_2_3 (broadcastInDim S16x64x1x64 ![0, 1, 3] bcast_S16x64x64_S16x64x1x64_0_1_3 w))
    (broadcastInDim S16x64x16x64 ![0, 1, 2, 3] bcast_S16x1x16x1_S16x64x16x64_0_1_2_3 (broadcastInDim S16x1x16x1 ![0, 2] bcast_S16x16_S16x1x16x1_0_2 eye)) : FVec Ideal S16x64x16x64 .f32)
    shapeCasts_S16x64x16x64_S1024x1024
/-- The inputs given to the first, the first two and the first three positions. -/
def given1 (x : FVec Ideal S128x3x1024 .f32) : FVec Ideal S128x8x1024 .f32 :=
  concatenate S128x8x1024 1 [⟨S128x1x1024, extractStridedSlice S128x1x1024 ![0, 2, 0] x slices_S128x3x1024_S128x1x1024_0_2_0⟩,
    ⟨S128x7x1024, broadcastInDim S128x7x1024 ![] bcast_S_S128x7x1024 (constant (F := Ideal) S_ .f32 0x00000000#32)⟩] concatenates_S128x1x1024_S128x7x1024_S128x8x1024_d1
def given2 (x : FVec Ideal S128x3x1024 .f32) : FVec Ideal S128x8x1024 .f32 :=
  concatenate S128x8x1024 1 [⟨S128x2x1024, extractStridedSlice S128x2x1024 ![0, 1, 0] x slices_S128x3x1024_S128x2x1024_0_1_0⟩,
    ⟨S128x6x1024, broadcastInDim S128x6x1024 ![] bcast_S_S128x6x1024 (constant (F := Ideal) S_ .f32 0x00000000#32)⟩] concatenates_S128x2x1024_S128x6x1024_S128x8x1024_d1
def given3 (x : FVec Ideal S128x3x1024 .f32) : FVec Ideal S128x8x1024 .f32 :=
  concatenate S128x8x1024 1 [⟨S128x3x1024, x⟩,
    ⟨S128x5x1024, broadcastInDim S128x5x1024 ![] bcast_S_S128x5x1024 (constant (F := Ideal) S_ .f32 0x00000000#32)⟩] concatenates_S128x3x1024_S128x5x1024_S128x8x1024_d1
/-- Under the distance's index. -/
def sheet (x : FVec Ideal S1024x1024 .f32) : FVec Ideal S1x1024x1024 .f32 := broadcastInDim S1x1024x1024 ![1, 2] bcast_S1024x1024_S1x1024x1024_1_2 x
/-- The states given to the first positions. -/
def given0 (x : FVec Ideal S128x1024 .f32) : FVec Ideal S128x8x1024 .f32 :=
  concatenate S128x8x1024 1 [⟨S128x1x1024, broadcastInDim S128x1x1024 ![0, 2] bcast_S128x1024_S128x1x1024_0_2 x⟩,
    ⟨S128x7x1024, broadcastInDim S128x7x1024 ![] bcast_S_S128x7x1024 (constant (F := Ideal) S_ .f32 0x00000000#32)⟩] concatenates_S128x1x1024_S128x7x1024_S128x8x1024_d1

theorem V_x (c : Dev nD) : V m c main_v24 = flat (kx m c) := (V_eq m c _).trans (by after_results_simp <;> rfl)
theorem V_g (c : Dev nD) : V m c main_v25 = flat (kg m c) := (V_eq m c _).trans (by after_results_simp <;> rfl)
theorem V_b (c : Dev nD) : V m c main_v20 = line (kb m c) := (V_eq m c _).trans (by after_results_simp <;> rfl)
theorem V_ba (c : Dev nD) : V m c main_v21 = line (kba m c) := (V_eq m c _).trans (by after_results_simp <;> rfl)
theorem V_bx (c : Dev nD) : V m c main_v22 = line (kbx m c) := (V_eq m c _).trans (by after_results_simp <;> rfl)
theorem V_l (c : Dev nD) : V m c main_v23 = line (kl m c) := (V_eq m c _).trans (by after_results_simp <;> rfl)
theorem V_h (c : Dev nD) : V m c main_v44 = flat (given0 (kh m c)) := (V_eq m c _).trans (by after_results_simp <;> rfl)
theorem V_w (c : Dev nD) : V m c main_v19 = (truncf .bf16 (concatenate S1024x2048 1 [⟨S1024x1024, blocks (kwa m c)⟩, ⟨S1024x1024, blocks (kwx m c)⟩]
    concatenates_S1024x1024_S1024x1024_S1024x2048_d1 : FVec Ideal S1024x2048 .f32) bitsLt_bf16_f32 : FVec Ideal S1024x2048 .bf16) :=
  (V_eq m c _).trans (by after_results_simp <;> rfl)
theorem V_c (c : Dev nD) : V m c main_v40 = (concatenate S3x1024x1024 0 [⟨S1x1024x1024, sheet (flat (given1 (kc m c)))⟩,
    ⟨S1x1024x1024, sheet (flat (given2 (kc m c)))⟩, ⟨S1x1024x1024, sheet (flat (given3 (kc m c)))⟩]
    concatenates_S1x1024x1024_S1x1024x1024_S1x1024x1024_S3x1024x1024_d0 : FVec Ideal S3x1024x1024 .f32) :=
  (V_eq m c _).trans (by after_results_simp <;> rfl)

end Cert.LruJoin

end
-- ==== Proof.LruScan.lean ====
/- The reference's associative scan over a sequence's eight positions, read at an index. -/
module

public import proofs.«01_k».proof.Proof.LruMath
public import proofs.«01_k».proof.Proof.Gen.Reference5Ideal.Run

@[expose] public section

set_option maxRecDepth 16384

noncomputable section

namespace Cert.Reference5Ideal.LruScan
open Cert.Reference5Ideal Cert.Reference5Ideal.Gen Cert.Reference5Ideal.Value Cert.Lru
open Idealize.ShloMosaic Idealize.ShloMosaic.TcCoe Idealize.SL.Sem Idealize.ShloMosaic.Pointwise

variable (V0 : Valuation τ sig (Elt Ideal))

/-- The decays. -/
def da : FVec Ideal S128x8x1024 .f32 := res_main_v65 V0
/-- The inputs. -/
def db : FVec Ideal S128x8x1024 .f32 := res_main_v77 V0

/-- The decays of pairs. -/
def pa : FVec Ideal S128x4x1024 .f32 := res_main_v82 V0
/-- The inputs of pairs. -/
def pb : FVec Ideal S128x4x1024 .f32 := res_main_v84 V0
/-- The decays of fours. -/
def qa : FVec Ideal S128x2x1024 .f32 := res_main_v89 V0
/-- The inputs of fours. -/
def qb : FVec Ideal S128x2x1024 .f32 := res_main_v91 V0

theorem pa_apply (b : Fin 128) (i : Fin 4) (e : Fin 1024) :
    pa V0 (ix3 b i e) = da V0 (ix3 b ⟨2 * i.val, by omega⟩ e) * da V0 (ix3 b ⟨1 + 2 * i.val, by omega⟩ e) := by
  unfold pa res_main_v82 res_main_v80
  change mulf (Host.slice S128x4x1024 ![0, 0, 0] ![1, 2, 1] (da V0) _) (Host.slice S128x4x1024 ![0, 1, 0] ![1, 2, 1] (da V0) _) _ = _
  generalize da V0 = A
  pointwise []
theorem pb_apply (b : Fin 128) (i : Fin 4) (e : Fin 1024) :
    pb V0 (ix3 b i e) = da V0 (ix3 b ⟨1 + 2 * i.val, by omega⟩ e) * db V0 (ix3 b ⟨2 * i.val, by omega⟩ e) + db V0 (ix3 b ⟨1 + 2 * i.val, by omega⟩ e) := by
  unfold pb res_main_v84 res_main_v80
  change addf (mulf (Host.slice S128x4x1024 ![0, 1, 0] ![1, 2, 1] (da V0) _) (Host.slice S128x4x1024 ![0, 0, 0] ![1, 2, 1] (db V0) _)) (Host.slice S128x4x1024 ![0, 1, 0] ![1, 2, 1] (db V0) _) _ = _
  generalize da V0 = A
  generalize db V0 = B
  pointwise []
theorem qa_apply (b : Fin 128) (i : Fin 2) (e : Fin 1024) :
    qa V0 (ix3 b i e) = pa V0 (ix3 b ⟨2 * i.val, by omega⟩ e) * pa V0 (ix3 b ⟨1 + 2 * i.val, by omega⟩ e) := by
  unfold qa res_main_v89 res_main_v87
  change mulf (Host.slice S128x2x1024 ![0, 0, 0] ![1, 2, 1] (pa V0) _) (Host.slice S128x2x1024 ![0, 1, 0] ![1, 2, 1] (pa V0) _) _ = _
  generalize pa V0 = A
  pointwise []
theorem qb_apply (b : Fin 128) (i : Fin 2) (e : Fin 1024) :
    qb V0 (ix3 b i e) = pa V0 (ix3 b ⟨1 + 2 * i.val, by omega⟩ e) * pb V0 (ix3 b ⟨2 * i.val, by omega⟩ e) + pb V0 (ix3 b ⟨1 + 2 * i.val, by omega⟩ e) := by
  unfold qb res_main_v91 res_main_v87
  change addf (mulf (Host.slice S128x2x1024 ![0, 1, 0] ![1, 2, 1] (pa V0) _) (Host.slice S128x2x1024 ![0, 0, 0] ![1, 2, 1] (pb V0) _)) (Host.slice S128x2x1024 ![0, 1, 0] ![1, 2, 1] (pb V0) _) _ = _
  generalize pa V0 = A
  generalize pb V0 = B
  pointwise []

/-- The recurrence at the ends of fours. -/
def h4 : FVec Ideal S128x2x1024 .f32 := res_main_v115 V0
/-- The recurrence at the ends of pairs. -/
def h2 : FVec Ideal S128x4x1024 .f32 := res_main_v132 V0
/-- The recurrence. -/
def h1 : FVec Ideal S128x8x1024 .f32 := res_main_v149 V0

theorem h4_apply (b : Fin 128) (i : Fin 2) (e : Fin 1024) :
    h4 V0 (ix3 b i e) = if i.val = 0 then qb V0 (ix3 b 0 e) else qa V0 (ix3 b 1 e) * qb V0 (ix3 b 0 e) + qb V0 (ix3 b 1 e) := by
  unfold h4 res_main_v115 res_main_v98 res_main_v94
  change addf (pad S128x2x1024 ![0, 0, 0] ![0, 1, 0] ![0, 1, 0] (concatenate S128x1x1024 1 [⟨S128x1x1024, (extractStridedSlice S128x1x1024 ![0, 0, 0] (qb V0) slices_S128x2x1024_S128x1x1024_0_0_0)⟩, ⟨S128x0x1024, _⟩] concatenates_S128x1x1024_S128x0x1024_S128x1x1024_d1) (constant S_ .f32 0x00000000#32) pads_S128x1x1024_S128x2x1024_000_011_000 h_S_) (pad S128x2x1024 ![0, 1, 0] ![0, 0, 0] ![0, 1, 0] (addf (mulf (Host.slice S128x1x1024 ![0, 1, 0] ![1, 2, 1] (qa V0) slicesBy_S128x2x1024_S128x1x1024_0s1_1s2_0s1) (Host.slice S128x1x1024 ![0, 0, 0] ![1, 2, 1] (qb V0) slicesBy_S128x2x1024_S128x1x1024_0s1_0s2_0s1)) (Host.slice S128x1x1024 ![0, 1, 0] ![1, 2, 1] (qb V0) slicesBy_S128x2x1024_S128x1x1024_0s1_1s2_0s1)) (constant S_ .f32 0x00000000#32) pads_S128x1x1024_S128x2x1024_000_101_000 h_S_) _ = _
  generalize qa V0 = A
  generalize qb V0 = B
  generalize (addf (mulf (res_main_v101 V0) _) _ : FVec Ideal S128x0x1024 .f32) = Z
  fin_cases i
  · pointwise []
  · pointwise []

theorem h2_apply (b : Fin 128) (i : Fin 4) (e : Fin 1024) :
    h2 V0 (ix3 b i e) = if i.val % 2 = 1 then h4 V0 (ix3 b ⟨i.val / 2, by omega⟩ e)
      else if i.val = 0 then pb V0 (ix3 b 0 e) else pa V0 (ix3 b 2 e) * h4 V0 (ix3 b 0 e) + pb V0 (ix3 b 2 e) := by
  unfold h2 res_main_v132 res_main_v118
  change addf (pad S128x4x1024 ![0, 0, 0] ![0, 1, 0] ![0, 1, 0] (concatenate S128x2x1024 1 [⟨S128x1x1024, (extractStridedSlice S128x1x1024 ![0, 0, 0] (pb V0) slices_S128x4x1024_S128x1x1024_0_0_0)⟩, ⟨S128x1x1024, (addf (mulf (Host.slice S128x1x1024 ![0, 2, 0] ![1, 2, 1] (pa V0) slicesBy_S128x4x1024_S128x1x1024_0s1_2s2_0s1) (extractStridedSlice S128x1x1024 ![0, 0, 0] (h4 V0) slices_S128x2x1024_S128x1x1024_0_0_0)) (Host.slice S128x1x1024 ![0, 2, 0] ![1, 2, 1] (pb V0) slicesBy_S128x4x1024_S128x1x1024_0s1_2s2_0s1))⟩] concatenates_S128x1x1024_S128x1x1024_S128x2x1024_d1) (constant S_ .f32 0x00000000#32) pads_S128x2x1024_S128x4x1024_000_011_000 h_S_) (pad S128x4x1024 ![0, 1, 0] ![0, 0, 0] ![0, 1, 0] (h4 V0) (constant S_ .f32 0x00000000#32) pads_S128x2x1024_S128x4x1024_000_101_000 h_S_) _ = _
  generalize pa V0 = A
  generalize pb V0 = B
  generalize h4 V0 = H
  fin_cases i
  · pointwise []
  · pointwise []
  · pointwise []
  · pointwise []

theorem h1_apply (b : Fin 128) (i : Fin 8) (e : Fin 1024) :
    h1 V0 (ix3 b i e) = if i.val % 2 = 1 then h2 V0 (ix3 b ⟨i.val / 2, by omega⟩ e)
      else if i.val = 0 then db V0 (ix3 b 0 e)
      else da V0 (ix3 b i e) * h2 V0 (ix3 b ⟨(i.val - 1) / 2, by omega⟩ e) + db V0 (ix3 b i e) := by
  unfold h1 res_main_v149 res_main_v135
  change addf (pad S128x8x1024 ![0, 0, 0] ![0, 1, 0] ![0, 1, 0] (concatenate S128x4x1024 1 [⟨S128x1x1024, (extractStridedSlice S128x1x1024 ![0, 0, 0] (db V0) slices_S128x8x1024_S128x1x1024_0_0_0)⟩, ⟨S128x3x1024, (addf (mulf (Host.slice S128x3x1024 ![0, 2, 0] ![1, 2, 1] (da V0) slicesBy_S128x8x1024_S128x3x1024_0s1_2s2_0s1) (extractStridedSlice S128x3x1024 ![0, 0, 0] (h2 V0) slices_S128x4x1024_S128x3x1024_0_0_0)) (Host.slice S128x3x1024 ![0, 2, 0] ![1, 2, 1] (db V0) slicesBy_S128x8x1024_S128x3x1024_0s1_2s2_0s1))⟩] concatenates_S128x1x1024_S128x3x1024_S128x4x1024_d1) (constant S_ .f32 0x00000000#32) pads_S128x4x1024_S128x8x1024_000_011_000 h_S_) (pad S128x8x1024 ![0, 1, 0] ![0, 0, 0] ![0, 1, 0] (h2 V0) (constant S_ .f32 0x00000000#32) pads_S128x4x1024_S128x8x1024_000_101_000 h_S_) _ = _
  generalize da V0 = A
  generalize db V0 = B
  generalize h2 V0 = H
  fin_cases i <;> pointwise []

set_option maxHeartbeats 1600000 in
/-- THE SCAN is the recurrence, where the decays are real and not negative. -/
theorem scan_eq (b : Fin 128) (e : Fin 1024) (h : ∀ t : Fin 8, ∃ r : ℝ, 0 ≤ r ∧ da V0 (ix3 b t e) = r) (t : Fin 8) :
    h1 V0 (ix3 b t e) = hs (fun t => da V0 (ix3 b t e)) (fun t => db V0 (ix3 b t e)) t := by
  have d := dists (fun t => da V0 (ix3 b t e)) h
  fin_cases t <;> simp [h1_apply, h2_apply, h4_apply, qa_apply, qb_apply, pa_apply, pb_apply, hs] <;> simp only [mul_assoc, d, add_assoc] <;> simp only [mul_left_comm]

end Cert.Reference5Ideal.LruScan

end
-- ==== Proof.LruRef.lean ====
/- The reference of the samples' convolution and recurrence, its arrays read at an index. -/
module

public import proofs.«01_k».proof.Proof.LruScan
public import Idealize.ShloMosaic.Lib.Routing.OpsPair

@[expose] public section

set_option maxRecDepth 16384

noncomputable section

namespace Cert.Reference5Ideal.LruRef
open Cert.Reference5Ideal Cert.Reference5Ideal.Gen Cert.Reference5Ideal.Value Cert.Lru Cert.Reference5Ideal.LruScan
open Idealize.ShloMosaic Idealize.ShloMosaic.TcCoe Idealize.SL.Sem Idealize.ShloMosaic.Pointwise

/-! ## The update of one position -/

/-- A fold that changes the value at one place only changes it there. -/
theorem foldl_one {α : Type} {n : ℕ} (f : α → α) (p : Fin n → Prop) [DecidablePred p] (k : Fin n) (hp : ∀ i, p i ↔ i = k) (x : α)
    (l : List (Fin n)) (hl : l.Nodup) : l.foldl (fun a i => if p i then f a else a) x = if k ∈ l then f x else x := by
  induction l generalizing x with
  | nil => simp
  | cons i l ih =>
    rw [List.nodup_cons] at hl
    rw [List.foldl_cons, ih _ hl.2]
    by_cases h : p i
    · have e := (hp i).1 h
      subst e
      simp [h, hl.1]
    · have e : k ≠ i := fun e => h ((hp i).2 e.symm)
      simp [h, e]

theorem fold_same {α β : Type} (g : β → α → α) (x : α) (l : List β) (h : ∀ i ∈ l, ∀ a, g i a = a) : l.foldl (fun a i => g i a) x = x := by
  induction l generalizing x with
  | nil => rfl
  | cons i l ih =>
    rw [List.foldl_cons, h i (by simp)]
    exact ih x fun j hj => h j (by simp [hj])

/-- The update `(b', e')` lands at `(b, t, e)` exactly when the sequences and channels agree and the position is the first. -/
theorem lands (idx : IVec S1 32) (h0 : ∀ i, idx i = 0#32) (b' b : Fin 128) (e' e : Fin 1024) (t : Fin 8) :
    scatter_S128x8x1024_S1_S128x1024_01_1_1_0.resultIdx? (ix2 b' e') idx = some (ix3 b t e) ↔ (b' = b ∧ e' = e) ∧ t.val = 0 := by
  rw [Routing.resultIdx?_eq_some]
  have s0 : scatter_S128x8x1024_S1_S128x1024_01_1_1_0.start (ix2 b' e') idx 0 = 0 := by
    unfold ScatterDims.start
    rw [dif_neg (by decide)]
  have s1 : scatter_S128x8x1024_S1_S128x1024_01_1_1_0.start (ix2 b' e') idx 1 = 0 := by
    unfold ScatterDims.start
    rw [dif_pos (by decide), h0]
    rfl
  have s2 : scatter_S128x8x1024_S1_S128x1024_01_1_1_0.start (ix2 b' e') idx 2 = 0 := by
    unfold ScatterDims.start
    rw [dif_neg (by decide)]
  have w0 : scatter_S128x8x1024_S1_S128x1024_01_1_1_0.window (ix2 b' e') 0 = b'.val := by
    unfold ScatterDims.window
    rw [dif_pos (by decide)]
    rfl
  have w1 : scatter_S128x8x1024_S1_S128x1024_01_1_1_0.window (ix2 b' e') 1 = 0 := by
    unfold ScatterDims.window
    rw [dif_neg (by decide)]
  have w2 : scatter_S128x8x1024_S1_S128x1024_01_1_1_0.window (ix2 b' e') 2 = e'.val := by
    unfold ScatterDims.window
    rw [dif_pos (by decide)]
    rfl
  constructor
  · intro h
    have a0 := h 0
    have a1 := h 1
    have a2 := h 2
    rw [s0, w0] at a0
    rw [s1, w1] at a1
    rw [s2, w2] at a2
    change (0 : ℤ) + (b'.val : ℤ) = (b.val : ℤ) at a0
    change (0 : ℤ) + ((0 : ℕ) : ℤ) = (t.val : ℤ) at a1
    change (0 : ℤ) + (e'.val : ℤ) = (e.val : ℤ) at a2
    exact ⟨⟨Fin.ext (by omega), Fin.ext (by omega)⟩, by omega⟩
  · rintro ⟨⟨rfl, rfl⟩, ht⟩ a
    match a with
    | ⟨0, _⟩ => exact (congrArg₂ (fun (x : ℤ) (y : ℕ) => x + (y : ℤ)) s0 w0).trans (zero_add _)
    | ⟨1, _⟩ =>
      refine (congrArg₂ (fun (x : ℤ) (y : ℕ) => x + (y : ℤ)) s1 w1).trans ?_
      show (0 : ℤ) + ((0 : ℕ) : ℤ) = (t.val : ℤ)
      omega
    | ⟨2, _⟩ => exact (congrArg₂ (fun (x : ℤ) (y : ℕ) => x + (y : ℤ)) s2 w2).trans (zero_add _)

/-- Adding an update at the first position: read at an index. -/
theorem first_apply (x : FVec Ideal S128x8x1024 .f32) (idx : IVec S1 32) (h0 : ∀ i, idx i = 0#32) (u : FVec Ideal S128x1024 .f32)
    (b : Fin 128) (t : Fin 8) (e : Fin 1024) :
    Host.scatter scatter_S128x8x1024_S1_S128x1024_01_1_1_0 (FloatOps.addf (F := Ideal) (φ := .f32)) x idx u (ix3 b t e)
      = if t.val = 0 then x (ix3 b t e) + u (ix2 b e) else x (ix3 b t e) := by
  rw [Routing.scatter_at]
  have eta : ∀ y : S128x1024.Idx, ∃ (b' : Fin 128) (e' : Fin 1024), y = ix2 b' e' := fun y => ⟨y 0, y 1, by
    funext i
    match i with
    | ⟨0, _⟩ => rfl
    | ⟨1, _⟩ => rfl⟩
  by_cases ht : t.val = 0
  · rw [if_pos ht]
    have hp : ∀ n, scatter_S128x8x1024_S1_S128x1024_01_1_1_0.resultIdx? (S128x1024.rowMajor.symm n) idx = some (ix3 b t e)
        ↔ n = S128x1024.rowMajor (ix2 b e) := fun n => by
      rw [← Equiv.symm_apply_eq]
      generalize S128x1024.rowMajor.symm n = y
      obtain ⟨b', e', rfl⟩ := eta y
      rw [lands idx h0]
      constructor
      · rintro ⟨⟨h1, h2⟩, -⟩
        rw [h1, h2]
      · intro h
        exact ⟨⟨congrFun h 0, congrFun h 1⟩, ht⟩
    have hu : ∀ (a : EReal) (n : Fin S128x1024.numel),
        (if scatter_S128x8x1024_S1_S128x1024_01_1_1_0.resultIdx? (S128x1024.rowMajor.symm n) idx = some (ix3 b t e)
          then FloatOps.addf (F := Ideal) (φ := .f32) a (u (S128x1024.rowMajor.symm n)) else a)
        = if n = S128x1024.rowMajor (ix2 b e) then a + u (ix2 b e) else a := fun a n => by
      by_cases hn : n = S128x1024.rowMajor (ix2 b e)
      · rw [if_pos ((hp n).2 hn), if_pos hn, hn, Equiv.symm_apply_apply]; rfl
      · rw [if_neg fun h => hn ((hp n).1 h), if_neg hn]
    simp only [hu]
    rw [foldl_one (fun a => a + u (ix2 b e)) (fun n => n = S128x1024.rowMajor (ix2 b e)) _ (fun _ => Iff.rfl) _ _ (List.nodup_finRange _),
      if_pos (List.mem_finRange _)]
  · rw [if_neg ht]
    refine fold_same _ _ _ fun n _ a => if_neg fun h => ht ?_
    obtain ⟨b', e', he⟩ := eta (S128x1024.rowMajor.symm n)
    rw [he] at h
    exact ((lands idx h0 _ _ _ _ _).1 h).2

/-! ## The reference's arrays -/

variable (V0 : Valuation τ sig (Elt Ideal))

/-- The samples' inputs. -/
def ax : FVec Ideal S128x8x1024 .f32 := V0 (Proc.devRef .tc main_arg0)
/-- The three inputs before them. -/
def ac : FVec Ideal S128x3x1024 .f32 := V0 (Proc.devRef .tc main_arg2)
/-- The state before them. -/
def ah : FVec Ideal S128x1024 .f32 := V0 (Proc.devRef .tc main_arg3)
/-- The taps. -/
def aw : FVec Ideal S4x1024 .f32 := V0 (Proc.devRef .tc main_arg4)
/-- The convolution's offset. -/
def ab : FVec Ideal S1024 .f32 := V0 (Proc.devRef .tc main_arg5)
/-- The weights and offset of the decay's gate. -/
def wa : FVec Ideal S16x64x64 .f32 := V0 (Proc.devRef .tc main_arg6)
def ba : FVec Ideal S1024 .f32 := V0 (Proc.devRef .tc main_arg7)
/-- The weights and offset of the input's gate. -/
def wx : FVec Ideal S16x64x64 .f32 := V0 (Proc.devRef .tc main_arg8)
def bx : FVec Ideal S1024 .f32 := V0 (Proc.devRef .tc main_arg9)
/-- The channels' parameter. -/
def al : FVec Ideal S1024 .f32 := V0 (Proc.devRef .tc main_arg10)

/-- A sequence's inputs after the three before them. -/
def full (c : FVec Ideal S128x3x1024 .f32) (x : FVec Ideal S128x8x1024 .f32) (b : Fin 128) (j : Fin 11) (e : Fin 1024) : EReal :=
  if h : j.val < 3 then c (ix3 b ⟨j.val, h⟩ e) else x (ix3 b ⟨j.val - 3, by omega⟩ e)

theorem full_apply (b : Fin 128) (j : Fin 11) (e : Fin 1024) :
    (res_main_v0 V0 : FVec Ideal S128x11x1024 .f32) (ix3 b j e) = full (ac V0) (ax V0) b j e := by
  unfold res_main_v0
  change concatenate S128x11x1024 1 [⟨S128x3x1024, ac V0⟩, ⟨S128x8x1024, ax V0⟩] concatenates_S128x3x1024_S128x8x1024_S128x11x1024_d1 _ = _
  generalize ac V0 = c
  generalize ax V0 = x
  pointwise [full]

/-- The convolution. -/
def cx : FVec Ideal S128x8x1024 .f32 := res_main_v32 V0

theorem cx_apply (b : Fin 128) (t : Fin 8) (e : Fin 1024) :
    cx V0 (ix3 b t e) = conv (full (ac V0) (ax V0) b ⟨t.val, by omega⟩ e) (full (ac V0) (ax V0) b ⟨1 + t.val, by omega⟩ e)
      (full (ac V0) (ax V0) b ⟨2 + t.val, by omega⟩ e) (full (ac V0) (ax V0) b ⟨3 + t.val, by omega⟩ e)
      (aw V0 (ix2 0 e)) (aw V0 (ix2 1 e)) (aw V0 (ix2 2 e)) (aw V0 (ix2 3 e)) (ab V0 (ix1 e)) := by
  rw [← conv_eq]
  simp only [← full_apply]
  unfold cx res_main_v32
  generalize (res_main_v0 V0 : FVec Ideal S128x11x1024 .f32) = f
  pointwise [aw, ab]

/-- A gate of the reference, before its sigmoid. -/
def pre (w : FVec Ideal S16x64x64 .f32) (y : FVec Ideal S128x8x1024 .f32) (v : FVec Ideal S1024 .f32) : FVec Ideal S128x8x1024 .f32 :=
  addf (shapeCast _ (transpose S128x8x16x64 [2, 3, 0, 1] (Host.dotGeneral dot_S16x64x64_S128x8x16x64_S16x64x128x8_1_3_2_01_0_2 none w
    (shapeCast _ y shapeCasts_S128x8x1024_S128x8x16x64 : FVec Ideal S128x8x16x64 .f32)) transposes_S16x64x128x8_S128x8x16x64_2_3_0_1) shapeCasts_S128x8x16x64_S128x8x1024)
    (broadcastInDim S128x8x1024 ![0, 1, 2] bcast_S1x1x1024_S128x8x1024_0_1_2 (broadcastInDim S1x1x1024 ![2] bcast_S1024_S1x1x1024_2 v))

/-- Its sigmoid. -/
def sgm (z : FVec Ideal S128x8x1024 .f32) : FVec Ideal S128x8x1024 .f32 :=
  Host.divf (broadcastInDim S128x8x1024 ![] bcast_S_S128x8x1024 (constant S_ .f32 0x3F800000#32))
    (addf (broadcastInDim S128x8x1024 ![] bcast_S_S128x8x1024 (constant S_ .f32 0x3F800000#32)) (Host.exp (Host.negf z)))

theorem pre_apply (w : FVec Ideal S16x64x64 .f32) (y : FVec Ideal S128x8x1024 .f32) (v : FVec Ideal S1024 .f32) (b : Fin 128) (t : Fin 8) (e : Fin 1024) :
    pre w y v (ix3 b t e) = (∑ j : Fin 64, y (ix3 b t ⟨64 * (e.val / 64) + j.val, by omega⟩) * w (ix3 ⟨e.val / 64, by omega⟩ j ⟨e.val % 64, by omega⟩)) + v (ix1 e) := by
  pointwise [pre]
  refine congrArg (· + v (ix1 e)) (Finset.sum_congr rfl fun j _ => ?_)
  rw [mul_comm]
  exact congrArg (fun k : Fin 1024 => y (ix3 b t k) * w (ix3 ⟨e.val / 64, by omega⟩ j ⟨e.val % 64, by omega⟩)) (Fin.ext (show e.val / 64 * 64 + j.val = 64 * (e.val / 64) + j.val by omega))

theorem sgm_apply (z : FVec Ideal S128x8x1024 .f32) (b : Fin 128) (t : Fin 8) (e : Fin 1024) :
    sgm z (ix3 b t e) = Ideal.logistic (z (ix3 b t e)) := by
  unfold Ideal.logistic
  pointwise [sgm]

/-- The zeros that the softplus compares with. -/
def zeros : FVec Ideal S1024 .f32 := broadcastInDim S1024 ![] bcast_S_S1024 (constant S_ .f32 0x00000000#32)

/-- The logarithm of the parameter's sigmoid, by the softplus. -/
def lam (l : FVec Ideal S1024 .f32) : FVec Ideal S1024 .f32 :=
  Host.negf (select (cmpf .une (subf (Host.negf l) zeros) (subf (Host.negf l) zeros)) (addf (Host.negf l) zeros)
    (addf (maximumf (Host.negf l) zeros) (Host.log1p (Host.exp (Host.negf (Host.absf (subf (Host.negf l) zeros)))))))

theorem lam_apply (l : FVec Ideal S1024 .f32) (e : Fin 1024) : lam l (ix1 e) = lsig (l (ix1 e)) := by
  rw [← lsig_eq]
  pointwise [lam, zeros]
  rw [if_neg (not_not.2 rfl)]
  rfl

/-- The decays' logarithms. -/
def la : FVec Ideal S128x8x1024 .f32 := res_main_v64 V0

theorem la_apply (b : Fin 128) (t : Fin 8) (e : Fin 1024) :
    la V0 (ix3 b t e) = logA (Ideal.logistic (pre (wa V0) (cx V0) (ba V0) (ix3 b t e))) (al V0 (ix1 e)) := by
  rw [← sgm_apply]
  unfold la res_main_v64 logA
  rw [← lam_apply]
  change mulf (mulf (broadcastInDim S128x8x1024 ![] bcast_S_S128x8x1024 (constant S_ .f32 0x41000000#32)) (sgm (pre (wa V0) (cx V0) (ba V0))))
    (broadcastInDim S128x8x1024 ![0, 1, 2] bcast_S1x1x1024_S128x8x1024_0_1_2 (broadcastInDim S1x1x1024 ![2] bcast_S1024_S1x1x1024_2 (lam (al V0)))) _ = _
  generalize sgm (pre (wa V0) (cx V0) (ba V0)) = r
  generalize lam (al V0) = l
  pointwise []

theorem da_apply (b : Fin 128) (t : Fin 8) (e : Fin 1024) : da V0 (ix3 b t e) = Ideal.exp (la V0 (ix3 b t e)) := by
  unfold da res_main_v65 la
  generalize (res_main_v64 V0 : FVec Ideal S128x8x1024 .f32) = l
  pointwise []

/-- The new inputs. -/
def new : FVec Ideal S128x8x1024 .f32 :=
  mulf (Host.sqrt (Host.negf (Host.expm1 (mulf (broadcastInDim S128x8x1024 ![] bcast_S_S128x8x1024 (constant S_ .f32 0x40000000#32)) (la V0)))))
    (mulf (sgm (pre (wx V0) (cx V0) (bx V0))) (cx V0))

theorem new_apply (b : Fin 128) (t : Fin 8) (e : Fin 1024) :
    new V0 (ix3 b t e) = fac (la V0 (ix3 b t e)) * (Ideal.logistic (pre (wx V0) (cx V0) (bx V0) (ix3 b t e)) * cx V0 (ix3 b t e)) := by
  rw [← sgm_apply]
  unfold new fac
  rw [rest_eq, ← two_lit]
  generalize sgm (pre (wx V0) (cx V0) (bx V0)) = r
  generalize cx V0 = y
  generalize la V0 = l
  pointwise [Ideal.expm1]

theorem db_apply (b : Fin 128) (t : Fin 8) (e : Fin 1024) :
    db V0 (ix3 b t e) = new V0 (ix3 b t e) + da V0 (ix3 b t e) * if t.val = 0 then ah V0 (ix2 b e) else 0 := by
  have h : db V0 = Host.scatter scatter_S128x8x1024_S1_S128x1024_01_1_1_0 (FloatOps.addf (F := Ideal) (φ := .f32)) (new V0)
      (broadcastInDim S1 ![] bcast_S_S1 (constantI S_ 32 0#32))
      (mulf (shapeCast _ (extractStridedSlice S128x1x1024 ![0, 0, 0] (da V0) slices_S128x8x1024_S128x1x1024_0_0_0) shapeCasts_S128x1x1024_S128x1024) (ah V0)) := rfl
  rw [h, first_apply _ (broadcastInDim S1 ![] bcast_S_S1 (constantI S_ 32 0#32)) (fun _ => rfl)]
  generalize new V0 = n
  generalize da V0 = d
  generalize ah V0 = g
  by_cases ht : t.val = 0
  · obtain rfl : t = 0 := Fin.ext ht
    pointwise []
  · rw [if_neg ht, if_neg ht, mul_zero, add_zero]

/-- A gate's sum, of a convolution's row. -/
theorem gate_eq (w : FVec Ideal S16x64x64 .f32) (y : FVec Ideal S128x8x1024 .f32) (v : FVec Ideal S1024 .f32) (b : Fin 128) (t : Fin 8) (e : Fin 1024) :
    Ideal.logistic (pre w y v (ix3 b t e)) = gate (fun k => y (ix3 b t k)) (fun h j k => w (ix3 h j k)) (v (ix1 e)) e := by
  rw [pre_apply]; rfl

/-- THE REFERENCE'S RECURRENCE, from its decays and inputs. -/
theorem h1_eq (b : Fin 128) (t : Fin 8) (e : Fin 1024) :
    h1 V0 (ix3 b t e) = hs (fun t => da V0 (ix3 b t e)) (fun t => db V0 (ix3 b t e)) t :=
  scan_eq V0 b e (fun t => by rw [da_apply, la_apply]; exact decay_real _ _) t

end Cert.Reference5Ideal.LruRef

end
-- ==== Proof.LruBlocks.lean ====
/- The samples' convolution and recurrence: the kernel's blocks are the reference's arrays. -/
module

public import proofs.«01_k».proof.Proof.LruJoin
public import proofs.«01_k».proof.Proof.LruRef

@[expose] public section

set_option maxRecDepth 16384

noncomputable section

namespace Cert.LruJoin
open Cert.Kernel5Ideal Cert.Kernel5Ideal.Gen Cert.Kernel5Ideal.LruKern Cert.Lru
open Idealize.ShloMosaic Idealize.ShloMosaic.TcCoe Idealize.SL.Sem Idealize.ShloMosaic.Pointwise
open Cert.Reference5Ideal.LruRef (ax ac ah aw ab wa ba wx bx al full cx cx_apply pre gate_eq la la_apply da_apply new_apply db_apply h1_eq)
open Cert.Reference5Ideal.LruScan (da db h1)

/-! ## The host's arrays at an index -/

theorem flat_apply (x : FVec Ideal S128x8x1024 .f32) (q k : Fin 1024) :
    flat x (ix2 q k) = x (ix3 ⟨q.val / 8, by omega⟩ ⟨q.val % 8, by omega⟩ k) := by
  pointwise [flat]
theorem line_apply (x : FVec Ideal S1024 .f32) (k : Fin 1024) : line x (ix2 0 k) = x (ix1 k) := by
  pointwise [line]
theorem same : ∀ h n : Fin 16, IntOp.cmpi CmpIPredicate.eq (IntOp.addi (BitVec.ofNat 32 h.val) 0#32) (BitVec.ofNat 32 n.val)
    = if h.val = n.val then 1#1 else 0#1 := by
  decide +kernel
theorem eye_apply (h n : Fin 16) : eye (ix2 h n) = if h.val = n.val then (1 : EReal) else 0 := by
  pointwise [eye]
  rw [same]
  split
  · show (((1#1).toNat : ℝ) : EReal) = 1
    simp
  · show (((0#1).toNat : ℝ) : EReal) = 0
    simp
theorem blocks_apply (w : FVec Ideal S16x64x64 .f32) (k n : Fin 1024) :
    blocks w (ix2 k n) = w (ix3 ⟨k.val / 64, by omega⟩ ⟨k.val % 64, by omega⟩ ⟨n.val % 64, by omega⟩) * if k.val / 64 = n.val / 64 then (1 : EReal) else 0 := by
  have h := eye_apply ⟨k.val / 64, by omega⟩ ⟨n.val / 64, by omega⟩
  dsimp only at h
  rw [← h]
  unfold blocks
  generalize eye = E
  pointwise []
theorem given1_apply (x : FVec Ideal S128x3x1024 .f32) (b : Fin 128) (p : Fin 8) (e : Fin 1024) (h : p.val < 1) :
    given1 x (ix3 b p e) = x (ix3 b ⟨2 + p.val, by omega⟩ e) := by
  pointwise [given1]
  rw [dif_pos h]
theorem given2_apply (x : FVec Ideal S128x3x1024 .f32) (b : Fin 128) (p : Fin 8) (e : Fin 1024) (h : p.val < 2) :
    given2 x (ix3 b p e) = x (ix3 b ⟨1 + p.val, by omega⟩ e) := by
  pointwise [given2]
  rw [dif_pos h]
theorem given3_apply (x : FVec Ideal S128x3x1024 .f32) (b : Fin 128) (p : Fin 8) (e : Fin 1024) (h : p.val < 3) :
    given3 x (ix3 b p e) = x (ix3 b ⟨p.val, by omega⟩ e) := by
  pointwise [given3]
  rw [dif_pos h]
theorem given0_apply (x : FVec Ideal S128x1024 .f32) (b : Fin 128) (p : Fin 8) (e : Fin 1024) :
    given0 x (ix3 b p e) = if p.val = 0 then x (ix2 b e) else 0 := by
  pointwise [given0]
  exact if_congr (by omega) rfl rfl

/-- The three sheets. -/
theorem sheets_apply (x y z : FVec Ideal S1024x1024 .f32) (q k : Fin 1024) :
    let s : FVec Ideal S3x1024x1024 .f32 := concatenate S3x1024x1024 0 [⟨S1x1024x1024, sheet x⟩, ⟨S1x1024x1024, sheet y⟩, ⟨S1x1024x1024, sheet z⟩]
      concatenates_S1x1024x1024_S1x1024x1024_S1x1024x1024_S3x1024x1024_d0
    s (ix3 0 q k) = x (ix2 q k) ∧ s (ix3 1 q k) = y (ix2 q k) ∧ s (ix3 2 q k) = z (ix2 q k) := by
  refine ⟨?_, ?_, ?_⟩
  · pointwise [sheet]
  · pointwise [sheet]
  · pointwise [sheet]

/-- The two gates' columns. -/
theorem cols_apply (x y : FVec Ideal S1024x1024 .f32) (k n : Fin 1024) :
    let s : FVec Ideal S1024x2048 .f32 := concatenate S1024x2048 1 [⟨S1024x1024, x⟩, ⟨S1024x1024, y⟩] concatenates_S1024x1024_S1024x1024_S1024x2048_d1
    s (ix2 k ⟨n.val, by omega⟩) = x (ix2 k n) ∧ s (ix2 k ⟨1024 + n.val, by omega⟩) = y (ix2 k n) := by
  refine ⟨?_, ?_⟩
  · pointwise []
  · pointwise []

/-! ## The blocks -/

variable (m : (ℓ : Loc nD τ sig) → Buf (Elt Ideal) ℓ)

theorem x_blk (c : Dev nD) (t : Fin cfg0.N) (r : Fin 256) (k : Fin 1024) :
    (iblk m c 0 t : FVec Ideal S256x1024 .f32) (ix2 r k) = kx m c (ix3 ⟨(row t r).val / 8, by omega⟩ ⟨(row t r).val % 8, by omega⟩ k) := by
  have := tlt t
  have he : ((View.whole main_v24).slice (win0_0.rect t)).emb (ix2 r k) = ix2 (row t r) k := by unfold row; blk_ext [idx t]
  show V m c main_v24 (((View.whole main_v24).slice (win0_0.rect t)).emb (ix2 r k)) = _
  rw [V_x, he]
  exact flat_apply _ _ _
theorem g_blk (c : Dev nD) (t : Fin cfg0.N) (r : Fin 256) (k : Fin 1024) :
    (iblk m c 1 t : FVec Ideal S256x1024 .f32) (ix2 r k) = kg m c (ix3 ⟨(row t r).val / 8, by omega⟩ ⟨(row t r).val % 8, by omega⟩ k) := by
  have := tlt t
  have he : ((View.whole main_v25).slice (win0_1.rect t)).emb (ix2 r k) = ix2 (row t r) k := by unfold row; blk_ext [idx t]
  show V m c main_v25 (((View.whole main_v25).slice (win0_1.rect t)).emb (ix2 r k)) = _
  rw [V_g, he]
  exact flat_apply _ _ _
theorem h_blk (c : Dev nD) (t : Fin cfg0.N) (r : Fin 256) (k : Fin 1024) :
    (iblk m c 3 t : FVec Ideal S256x1024 .f32) (ix2 r k) = if (row t r).val % 8 = 0 then kh m c (ix2 ⟨(row t r).val / 8, by omega⟩ k) else 0 := by
  have := tlt t
  have he : ((View.whole main_v44).slice (win0_3.rect t)).emb (ix2 r k) = ix2 (row t r) k := by unfold row; blk_ext [idx t]
  show V m c main_v44 (((View.whole main_v44).slice (win0_3.rect t)).emb (ix2 r k)) = _
  rw [V_h, he]
  exact (flat_apply _ _ _).trans (given0_apply _ _ _ _)
theorem c_blk (c : Dev nD) (t : Fin cfg0.N) (j : Fin 3) (r : Fin 256) (k : Fin 1024) :
    (iblk m c 2 t : FVec Ideal S3x256x1024 .f32) (ix3 j r k) = (V m c main_v40 : FVec Ideal S3x1024x1024 .f32) (ix3 j (row t r) k) := by
  have := tlt t
  have he : ((View.whole main_v40).slice (win0_2.rect t)).emb (ix3 j r k) = ix3 j (row t r) k := by unfold row; blk_ext [idx t]
  show V m c main_v40 (((View.whole main_v40).slice (win0_2.rect t)).emb (ix3 j r k)) = _
  rw [he]
theorem c0_blk (c : Dev nD) (t : Fin cfg0.N) (r : Fin 256) (k : Fin 1024) (h : (row t r).val % 8 < 1) :
    (iblk m c 2 t : FVec Ideal S3x256x1024 .f32) (ix3 0 r k) = kc m c (ix3 ⟨(row t r).val / 8, by omega⟩ ⟨2 + (row t r).val % 8, by omega⟩ k) := by
  rw [c_blk, V_c]
  exact ((sheets_apply _ _ _ (row t r) k).1.trans (flat_apply _ _ _)).trans (given1_apply _ _ _ _ h)
theorem c1_blk (c : Dev nD) (t : Fin cfg0.N) (r : Fin 256) (k : Fin 1024) (h : (row t r).val % 8 < 2) :
    (iblk m c 2 t : FVec Ideal S3x256x1024 .f32) (ix3 1 r k) = kc m c (ix3 ⟨(row t r).val / 8, by omega⟩ ⟨1 + (row t r).val % 8, by omega⟩ k) := by
  rw [c_blk, V_c]
  exact ((sheets_apply _ _ _ (row t r) k).2.1.trans (flat_apply _ _ _)).trans (given2_apply _ _ _ _ h)
theorem c2_blk (c : Dev nD) (t : Fin cfg0.N) (r : Fin 256) (k : Fin 1024) (h : (row t r).val % 8 < 3) :
    (iblk m c 2 t : FVec Ideal S3x256x1024 .f32) (ix3 2 r k) = kc m c (ix3 ⟨(row t r).val / 8, by omega⟩ ⟨(row t r).val % 8, by omega⟩ k) := by
  rw [c_blk, V_c]
  exact ((sheets_apply _ _ _ (row t r) k).2.2.trans (flat_apply _ _ _)).trans (given3_apply _ _ _ _ h)
theorem tap_blk (c : Dev nD) (t : Fin cfg0.N) (j : Fin 4) (k : Fin 1024) : (iblk m c 4 t : FVec Ideal S4x1024 .f32) (ix2 j k) = kw m c (ix2 j k) := by
  have he : ((View.whole main_arg4).slice (win0_4.rect t)).emb (ix2 j k) = ix2 j k := by blk_ext [idx t]
  show V m c main_arg4 (((View.whole main_arg4).slice (win0_4.rect t)).emb (ix2 j k)) = _
  rw [he]
  exact congrFun (V_main_arg4 m c) _
theorem b_blk (c : Dev nD) (t : Fin cfg0.N) (k : Fin 1024) : (iblk m c 5 t : FVec Ideal S1x1024 .f32) (ix2 0 k) = kb m c (ix1 k) := by
  have he : ((View.whole main_v20).slice (win0_5.rect t)).emb (ix2 0 k) = ix2 0 k := by blk_ext [idx t]
  show V m c main_v20 (((View.whole main_v20).slice (win0_5.rect t)).emb (ix2 0 k)) = _
  rw [V_b, he]
  exact line_apply _ _
theorem ba_blk (c : Dev nD) (t : Fin cfg0.N) (k : Fin 1024) : (iblk m c 7 t : FVec Ideal S1x1024 .f32) (ix2 0 k) = kba m c (ix1 k) := by
  have he : ((View.whole main_v21).slice (win0_7.rect t)).emb (ix2 0 k) = ix2 0 k := by blk_ext [idx t]
  show V m c main_v21 (((View.whole main_v21).slice (win0_7.rect t)).emb (ix2 0 k)) = _
  rw [V_ba, he]
  exact line_apply _ _
theorem bx_blk (c : Dev nD) (t : Fin cfg0.N) (k : Fin 1024) : (iblk m c 8 t : FVec Ideal S1x1024 .f32) (ix2 0 k) = kbx m c (ix1 k) := by
  have he : ((View.whole main_v22).slice (win0_8.rect t)).emb (ix2 0 k) = ix2 0 k := by blk_ext [idx t]
  show V m c main_v22 (((View.whole main_v22).slice (win0_8.rect t)).emb (ix2 0 k)) = _
  rw [V_bx, he]
  exact line_apply _ _
theorem l_blk (c : Dev nD) (t : Fin cfg0.N) (k : Fin 1024) : (iblk m c 9 t : FVec Ideal S1x1024 .f32) (ix2 0 k) = kl m c (ix1 k) := by
  have he : ((View.whole main_v23).slice (win0_9.rect t)).emb (ix2 0 k) = ix2 0 k := by blk_ext [idx t]
  show V m c main_v23 (((View.whole main_v23).slice (win0_9.rect t)).emb (ix2 0 k)) = _
  rw [V_l, he]
  exact line_apply _ _
theorem w_blk (c : Dev nD) (t : Fin cfg0.N) (k : Fin 1024) (n : Fin 2048) :
    (iblk m c 6 t : FVec Ideal S1024x2048 .bf16) (ix2 k n)
      = (concatenate S1024x2048 1 [⟨S1024x1024, blocks (kwa m c)⟩, ⟨S1024x1024, blocks (kwx m c)⟩]
          concatenates_S1024x1024_S1024x1024_S1024x2048_d1 : FVec Ideal S1024x2048 .f32) (ix2 k n) := by
  have he : ((View.whole main_v19).slice (win0_6.rect t)).emb (ix2 k n) = ix2 k n := by blk_ext [idx t]
  show V m c main_v19 (((View.whole main_v19).slice (win0_6.rect t)).emb (ix2 k n)) = _
  rw [V_w, he]
  generalize (concatenate S1024x2048 1 _ _ : FVec Ideal S1024x2048 .f32) = s
  pointwise []
theorem wa_blk (c : Dev nD) (t : Fin cfg0.N) (k e : Fin 1024) : (iblk m c 6 t : FVec Ideal S1024x2048 .bf16) (ix2 k ⟨e.val, by omega⟩)
    = kwa m c (ix3 ⟨k.val / 64, by omega⟩ ⟨k.val % 64, by omega⟩ ⟨e.val % 64, by omega⟩) * if k.val / 64 = e.val / 64 then (1 : EReal) else 0 := by
  rw [w_blk]
  exact (cols_apply _ _ k e).1.trans (blocks_apply _ _ _)
theorem wx_blk (c : Dev nD) (t : Fin cfg0.N) (k e : Fin 1024) : (iblk m c 6 t : FVec Ideal S1024x2048 .bf16) (ix2 k ⟨1024 + e.val, by omega⟩)
    = kwx m c (ix3 ⟨k.val / 64, by omega⟩ ⟨k.val % 64, by omega⟩ ⟨e.val % 64, by omega⟩) * if k.val / 64 = e.val / 64 then (1 : EReal) else 0 := by
  rw [w_blk]
  exact (cols_apply _ _ k e).2.trans (blocks_apply _ _ _)

/-! ## The values of a block are the reference's -/

/-- The reference's arguments are the kernel's. -/
structure Agree (c : Dev nD) (U : Valuation Cert.Reference5Ideal.τ Cert.Reference5Ideal.sig (Elt Ideal)) : Prop where
  px : ax U = kx m c
  pc : ac U = kc m c
  ph : ah U = kh m c
  pw : aw U = kw m c
  pb : ab U = kb m c
  pwa : wa U = kwa m c
  pba : ba U = kba m c
  pwx : wx U = kwx m c
  pbx : bx U = kbx m c
  pl : al U = kl m c

variable (c : Dev nD) (t : Fin cfg0.N) (U : Valuation Cert.Reference5Ideal.τ Cert.Reference5Ideal.sig (Elt Ideal)) (A : Agree m c U)

/-- The convolution, its halves and the gates of the block at a point. -/
def cvB : FVec Ideal S256x1024 .f32 := cv (iblk m c 0 t) (iblk m c 2 t) (iblk m c 4 t) (iblk m c 5 t)
def gaB : FVec Ideal S256x1024 .f32 := ga (iblk m c 0 t) (iblk m c 2 t) (iblk m c 4 t) (iblk m c 5 t) (iblk m c 6 t) (iblk m c 7 t)
def gxB : FVec Ideal S256x1024 .f32 := gx (iblk m c 0 t) (iblk m c 2 t) (iblk m c 4 t) (iblk m c 5 t) (iblk m c 6 t) (iblk m c 8 t)

/-- An earlier input of a block's row is the reference's: a given one, or one of the sequence's own. -/
theorem back_blk (s : ℕ) (hs : s < 4) (j : Fin 3) (r : Fin 256) (e : Fin 1024)
    (hj : (row t r).val % 8 < s → (iblk m c 2 t : FVec Ideal S3x256x1024 .f32) (ix3 j r e)
      = kc m c (ix3 ⟨(row t r).val / 8, by omega⟩ ⟨(3 - s + (row t r).val % 8) % 3, by omega⟩ e)) :
    back (iblk m c 0 t) (halo (iblk m c 2 t) j) s r e
      = full (kc m c) (kx m c) ⟨(row t r).val / 8, by omega⟩ ⟨3 - s + (row t r).val % 8, by omega⟩ e := by
  have ht := tlt t
  have hq : (row t r).val = t.val * 256 + r.val := rfl
  unfold back full
  by_cases h : r.val % 8 < s
  · have h' : (row t r).val % 8 < s := by omega
    rw [if_pos h, dif_pos (by show 3 - s + (row t r).val % 8 < 3; omega)]
    refine (hj h').trans (congrArg (fun p : Fin 3 => kc m c (ix3 ⟨(row t r).val / 8, by omega⟩ p e)) (Fin.ext ?_))
    exact Nat.mod_eq_of_lt (by omega)
  · have h' : ¬ 3 - s + (row t r).val % 8 < 3 := by omega
    rw [if_neg h, dif_neg h', x_blk]
    have hm : (r.val + 256 - s % 256) % 256 = r.val - s := by omega
    have h1 : (row t ⟨(r.val + 256 - s % 256) % 256, Nat.mod_lt _ (by norm_num)⟩).val = t.val * 256 + (r.val - s) := congrArg (t.val * 256 + ·) hm
    refine congrArg₂ (fun (b : Fin 128) (p : Fin 8) => kx m c (ix3 b p e)) (Fin.ext ?_) (Fin.ext ?_)
    · show (row t ⟨(r.val + 256 - s % 256) % 256, Nat.mod_lt _ (by norm_num)⟩).val / 8 = (row t r).val / 8
      omega
    · show (row t ⟨(r.val + 256 - s % 256) % 256, Nat.mod_lt _ (by norm_num)⟩).val % 8 = 3 - s + (row t r).val % 8 - 3
      omega

/-- A tap, read at a channel. -/
theorem tap_apply (j : Fin 4) (e : Fin 1024) : tap (iblk m c 4 t) j (ix2 0 e) = kw m c (ix2 j e) := tap_blk m c t j e

/-- A gate as a sum over all the channels, the other heads' weights zero. -/
theorem gate_long (x : Fin 1024 → EReal) (w : Fin 16 → Fin 64 → Fin 64 → EReal) (b : EReal) (e : Fin 1024) :
    gate x w b e = Ideal.logistic ((∑ k : Fin 1024, x k * (w ⟨k.val / 64, by omega⟩ ⟨k.val % 64, by omega⟩ ⟨e.val % 64, by omega⟩
      * if k.val / 64 = e.val / 64 then (1 : EReal) else 0)) + b) := by
  rw [gate_sum, gate]

include A

/-- The convolution. -/
theorem conv_blk (r : Fin 256) (e : Fin 1024) :
    cvB m c t (ix2 r e) = cx U (ix3 ⟨(row t r).val / 8, by omega⟩ ⟨(row t r).val % 8, by omega⟩ e) := by
  rw [cx_apply, A.pc, A.px, A.pw, A.pb]
  unfold cvB cv
  rw [xc_apply]
  have e1 := back_blk m c t 1 (by norm_num) 0 r e fun h => by
    rw [c0_blk m c t r e h]
    exact congrArg (fun p : Fin 3 => kc m c (ix3 ⟨(row t r).val / 8, by omega⟩ p e)) (Fin.ext (by show 2 + _ = (3 - 1 + _) % 3; omega))
  have e2 := back_blk m c t 2 (by norm_num) 1 r e fun h => by
    rw [c1_blk m c t r e h]
    exact congrArg (fun p : Fin 3 => kc m c (ix3 ⟨(row t r).val / 8, by omega⟩ p e)) (Fin.ext (by show 1 + _ = (3 - 2 + _) % 3; omega))
  have e3 := back_blk m c t 3 (by norm_num) 2 r e fun h => by
    rw [c2_blk m c t r e h]
    exact congrArg (fun p : Fin 3 => kc m c (ix3 ⟨(row t r).val / 8, by omega⟩ p e)) (Fin.ext (by show (row t r).val % 8 = (3 - 3 + (row t r).val % 8) % 3; omega))
  have e0 : kx m c (ix3 ⟨(row t r).val / 8, by omega⟩ ⟨(row t r).val % 8, by omega⟩ e)
      = full (kc m c) (kx m c) ⟨(row t r).val / 8, by omega⟩ ⟨3 + (row t r).val % 8, by omega⟩ e := by
    unfold full
    rw [dif_neg (by show ¬ 3 + _ < 3; omega)]
    exact congrArg (fun p : Fin 8 => kx m c (ix3 _ p e)) (Fin.ext (by show (row t r).val % 8 = 3 + (row t r).val % 8 - 3; omega))
  rw [e1, e2, e3, x_blk, e0, b_blk, tap_apply, tap_apply, tap_apply, tap_apply]
  refine congrArg (fun j : Fin 11 => conv (full (kc m c) (kx m c) _ j e) _ _ _ _ _ _ _ _) (Fin.ext ?_)
  exact Nat.zero_add _

/-- The decay's gate. -/
theorem ga_blk (r : Fin 256) (e : Fin 1024) :
    gaB m c t (ix2 r e) = Ideal.ofBits .f32 0x41000000#32 * Ideal.logistic (pre (wa U) (cx U) (ba U) (ix3 ⟨(row t r).val / 8, by omega⟩ ⟨(row t r).val % 8, by omega⟩ e)) := by
  rw [gate_eq, gate_long, A.pwa, A.pba]
  unfold gaB ga half
  rw [gate_a, ba_blk]
  refine congrArg (fun z : EReal => Ideal.ofBits .f32 0x41000000#32 * Ideal.logistic (z + kba m c (ix1 e))) (Finset.sum_congr rfl fun k _ => ?_)
  rw [wa_blk]
  exact congrArg (· * _) (conv_blk m c t U A r k)

/-- The input's gate. -/
theorem gx_blk (r : Fin 256) (e : Fin 1024) :
    gxB m c t (ix2 r e) = Ideal.logistic (pre (wx U) (cx U) (bx U) (ix3 ⟨(row t r).val / 8, by omega⟩ ⟨(row t r).val % 8, by omega⟩ e)) := by
  rw [gate_eq, gate_long, A.pwx, A.pbx]
  unfold gxB gx half
  rw [gate_x, bx_blk]
  refine congrArg (fun z : EReal => Ideal.logistic (z + kbx m c (ix1 e))) (Finset.sum_congr rfl fun k _ => ?_)
  rw [wx_blk]
  exact congrArg (· * _) (conv_blk m c t U A r k)

/-- The channels' parameter as the body reads it. -/
theorem par_blk (e : Fin 1024) : k0_pay10 (F := Ideal) (iblk m c 9 t) (ix2 0 e) = al U (ix1 e) := by
  rw [A.pl, ← l_blk m c t e]
  generalize (iblk m c 9 t : FVec Ideal S1x1024 .f32) = x
  pointwise [k0_pay10]

/-- The decay's logarithm. -/
theorem log_blk (r : Fin 256) (e : Fin 1024) :
    k0_pay11 (F := Ideal) (gaB m c t) (k0_pay10 (F := Ideal) (iblk m c 9 t)) (ix2 r e) = la U (ix3 ⟨(row t r).val / 8, by omega⟩ ⟨(row t r).val % 8, by omega⟩ e) := by
  rw [log_apply, ga_blk m c t U A, par_blk m c t U A, la_apply]
  rfl

/-- The sequence that the block's sequence `s` is. -/
def sq (t : Fin cfg0.N) (s : Fin 32) : Fin 128 := ⟨t.val * 32 + s.val, by have := tlt t; omega⟩

omit A in
theorem at_seq (s : Fin 32) (p : Fin 8) : (row t (at8 s p)).val / 8 = (sq t s).val ∧ (row t (at8 s p)).val % 8 = p.val := by
  have h : (row t (at8 s p)).val = t.val * 256 + (s.val * 8 + p.val) := rfl
  have h' : (sq t s).val = t.val * 32 + s.val := rfl
  omega

omit A in
/-- A value at a sequence's row of the block, read at the sequence. -/
theorem at_eq (y : FVec Ideal S128x8x1024 .f32) (s : Fin 32) (p : Fin 8) (e : Fin 1024) :
    y (ix3 ⟨(row t (at8 s p)).val / 8, by omega⟩ ⟨(row t (at8 s p)).val % 8, by omega⟩ e) = y (ix3 (sq t s) p e) :=
  congrArg₂ (fun (b : Fin 128) (p : Fin 8) => y (ix3 b p e)) (Fin.ext (at_seq t s p).1) (Fin.ext (at_seq t s p).2)

/-- The decays of a sequence. -/
theorem av_blk (s : Fin 32) (e : Fin 1024) :
    av (gaB m c t) (k0_pay10 (F := Ideal) (iblk m c 9 t)) s e = fun p => da U (ix3 (sq t s) p e) := by
  funext p
  rw [av, log_blk m c t U A, da_apply]
  exact congrArg Ideal.exp (at_eq t (la U) s p e)

/-- The inputs of a sequence. -/
theorem bv_blk (s : Fin 32) (e : Fin 1024) :
    bv (cvB m c t) (gxB m c t) (gaB m c t) (k0_pay10 (F := Ideal) (iblk m c 9 t)) (iblk m c 3 t) s e = fun p => db U (ix3 (sq t s) p e) := by
  funext p
  rw [bv, av_blk m c t U A, log_blk m c t U A, gx_blk m c t U A, conv_blk m c t U A, h_blk, db_apply, new_apply, A.ph,
    at_eq t (la U) s p e, at_eq t (cx U) s p e, at_eq t (pre (wx U) (cx U) (bx U)) s p e]
  have h := at_seq t s p
  refine congrArg (fun z : EReal => _ + da U (ix3 (sq t s) p e) * z) (if_congr (by rw [h.2]) ?_ rfl)
  exact congrArg (fun b : Fin 128 => kh m c (ix2 b e)) (Fin.ext h.1)

/-- THE STATES OF A BLOCK are the reference's. -/
theorem state_blk (r : Fin 256) (e : Fin 1024) :
    st (iblk m c 0 t) (iblk m c 2 t) (iblk m c 3 t) (iblk m c 4 t) (iblk m c 5 t) (iblk m c 6 t) (iblk m c 7 t) (iblk m c 8 t) (iblk m c 9 t) (ix2 r e)
      = h1 U (ix3 ⟨(row t r).val / 8, by omega⟩ ⟨(row t r).val % 8, by omega⟩ e) := by
  have hq : (row t r).val = t.val * 256 + r.val := rfl
  have ht := tlt t
  refine (state_apply (cvB m c t) (gxB m c t) (gaB m c t) (k0_pay10 (F := Ideal) (iblk m c 9 t)) (iblk m c 3 t) r e fun p => ?_).trans ?_
  · rw [av_blk m c t U A]
    show ∃ x : ℝ, 0 ≤ x ∧ da U (ix3 (sq t ⟨r.val / 8, by omega⟩) p e) = x
    rw [da_apply, la_apply]
    exact decay_real _ _
  · rw [av_blk m c t U A, bv_blk m c t U A, ← h1_eq]
    refine congrArg₂ (fun (b : Fin 128) (p : Fin 8) => h1 U (ix3 b p e)) (Fin.ext ?_) (Fin.ext ?_)
    · show t.val * 32 + r.val / 8 = (row t r).val / 8
      omega
    · show r.val % 8 = (row t r).val % 8
      omega

end Cert.LruJoin

end
-- ==== Proof.LruTail.lean ====
/- The samples' convolution and recurrence: the result arrays, and the operations after the call. -/
module

public import proofs.«01_k».proof.Proof.LruBlocks
public import Idealize.ShloMosaic.Lib.Pipeline.FrameSuffix

@[expose] public section

set_option maxRecDepth 16384

noncomputable section

namespace Cert.LruTail
open Cert.Kernel5Ideal Cert.Kernel5Ideal.Gen Cert.LruJoin
open Idealize.ShloMosaic Idealize.ShloMosaic.TcCoe Idealize.SL.Sem Idealize.ShloMosaic.Pointwise
open Cert.Reference5Ideal.LruRef (ax ac full_apply)
open Cert.Reference5Ideal.LruScan (h1)

variable (m : (ℓ : Loc nD τ sig) → Buf (Elt Ideal) ℓ)

/-- The states times their factors, as rows of all sequences. -/
def scaled (h g : FVec Ideal S128x8x1024 .f32) : FVec Ideal S1024x1024 .bf16 :=
  shapeCast _ (truncf .bf16 (mulf h g) bitsLt_bf16_f32 : FVec Ideal S128x8x1024 .bf16) shapeCasts_S128x8x1024_S1024x1024

theorem scaled_apply (h g : FVec Ideal S128x8x1024 .f32) (q e : Fin 1024) : scaled h g (ix2 q e)
    = h (ix3 ⟨q.val / 8, by omega⟩ ⟨q.val % 8, by omega⟩ e) * g (ix3 ⟨q.val / 8, by omega⟩ ⟨q.val % 8, by omega⟩ e) := by
  pointwise [scaled]

theorem eta2 {a b : ℕ} (y : Shape.Idx ⟨2, ![a, b]⟩) : ∃ (i : Fin a) (j : Fin b), y = ix2 i j := ⟨y 0, y 1, by
  funext i
  match i with
  | ⟨0, _⟩ => rfl
  | ⟨1, _⟩ => rfl⟩

variable (c : Dev nD) (U : Valuation Cert.Reference5Ideal.τ Cert.Reference5Ideal.sig (Elt Ideal)) (A : Agree m c U)
include A

/-- The first result is the reference's states times their factors. -/
theorem result10 : (dats m 0 c).arrAt 10 cfg0.N = scaled (h1 U) (kg m c) := by
  refine (dats m 0 c).arrAt_eq_of_covers 10 _ (by decide +kernel) fun t _ y => ?_
  have ht := tlt t
  blk_simp
  rw [after0_10, out10_eq]
  obtain ⟨r, e, rfl⟩ : ∃ (r : Fin 256) (e : Fin 1024), y = ix2 r e := eta2 y
  have he : ((View.whole main_v45_0).slice (win0_10.rect t)).emb (ix2 r e) = ix2 (row t r) e := by
    unfold row
    blk_ext [idx t]
  rw [he]
  refine Eq.trans ?_ (scaled_apply _ _ _ _).symm
  exact congrArg₂ (fun a b : EReal => a * b) (state_blk m c t U A r e) (g_blk m c t r e)

/-- The second result of the call is the reference's states. -/
theorem result11 : (dats m 0 c).arrAt 11 cfg0.N = flat (h1 U) := by
  refine (dats m 0 c).arrAt_eq_of_covers 11 _ (by decide +kernel) fun t _ y => ?_
  have ht := tlt t
  blk_simp
  rw [after0_11, out11_eq]
  obtain ⟨r, e, rfl⟩ : ∃ (r : Fin 256) (e : Fin 1024), y = ix2 r e := eta2 y
  have he : ((View.whole main_v45_1).slice (win0_11.rect t)).emb (ix2 r e) = ix2 (row t r) e := by
    unfold row
    blk_ext [idx t]
  rw [he]
  exact (state_blk m c t U A r e).trans (flat_apply _ _ _).symm

omit A

/-! ## After the call -/

/-- The state after the last sample, under the layer's index. -/
def last (x : FVec Ideal S1024x1024 .f32) : FVec Ideal S1x128x1024 .f32 :=
  broadcastInDim S1x128x1024 ![1, 2] bcast_S128x1024_S1x128x1024_1_2
    (shapeCast _ (extractStridedSlice S128x1x1024 ![0, 7, 0] (shapeCast _ x shapeCasts_S1024x1024_S128x8x1024 : FVec Ideal S128x8x1024 .f32)
      slices_S128x8x1024_S128x1x1024_0_7_0) shapeCasts_S128x1x1024_S128x1024 : FVec Ideal S128x1024 .f32)

/-- The last three inputs of every sequence, under the layer's index. -/
def tail3 (a : FVec Ideal S128x3x1024 .f32) (x : FVec Ideal S128x8x1024 .f32) : FVec Ideal S1x128x3x1024 .f32 :=
  broadcastInDim S1x128x3x1024 ![1, 2, 3] bcast_S128x3x1024_S1x128x3x1024_1_2_3
    (extractStridedSlice S128x3x1024 ![0, 8, 0] (concatenate S128x11x1024 1 [⟨S128x3x1024, a⟩, ⟨S128x8x1024, x⟩]
      concatenates_S128x3x1024_S128x8x1024_S128x11x1024_d1) slices_S128x11x1024_S128x3x1024_0_8_0)

/-- Taking the rows apart by sequence undoes putting them together. -/
theorem unflat (x : FVec Ideal S128x8x1024 .f32) : (shapeCast _ (flat x) shapeCasts_S1024x1024_S128x8x1024 : FVec Ideal S128x8x1024 .f32) = x := by
  funext y
  obtain ⟨b, t, e, rfl⟩ : ∃ (b : Fin 128) (t : Fin 8) (e : Fin 1024), y = ix3 b t e := ⟨y 0, y 1, y 2, by
    funext i
    match i with
    | ⟨0, _⟩ => rfl
    | ⟨1, _⟩ => rfl
    | ⟨2, _⟩ => rfl⟩
  pointwise [flat]

/-- What the operations after the call leave in a buffer. -/
abbrev after (c : Dev nD) := Pipeline.afterTail₀ cfgs (dats (F := Ideal) m) 0 (V0 m) [hostOps1] c

theorem arrRef_injective : Function.Injective (Pipeline.arrRef spec0) := by decide

theorem after_h : after m c main_v52 = last ((dats (F := Ideal) m 0 c).arrAt 11 cfg0.N) := by
  unfold after Pipeline.afterTail₀
  rw [← Pipeline.withArrays_arr spec0 arrRef_injective c (V0 m c) (fun w => (dats (F := Ideal) m 0 c).arrAt w cfg0.N) 11]
  after_results_simp <;> rfl
theorem after_c : after m c main_v51 = tail3 (kc m c) (kx m c) := by
  have h2 := (Pipeline.withArrays_of_ne spec0 c (V0 m c) (fun w => (dats (F := Ideal) m 0 c).arrAt w cfg0.N) main_arg2
    (by exact (by decide : ∀ w, Pipeline.arrRef spec0 w ≠ main_arg2))).trans (V_main_arg2 m c)
  have h0 := (Pipeline.withArrays_of_ne spec0 c (V0 m c) (fun w => (dats (F := Ideal) m 0 c).arrAt w cfg0.N) main_arg0
    (by exact (by decide : ∀ w, Pipeline.arrRef spec0 w ≠ main_arg0))).trans (V_main_arg0 m c)
  unfold kc kx
  rw [← h2, ← h0]
  unfold after Pipeline.afterTail₀
  change StableHlo.after _ (Pipeline.withArrays spec0 c (V0 m c) (fun w => (dats (F := Ideal) m 0 c).arrAt w cfg0.N)) _ = _
  generalize Pipeline.withArrays spec0 c (V0 m c) (fun w => (dats (F := Ideal) m 0 c).arrAt w cfg0.N) = X
  change StableHlo.after hostOps1 X (Proc.devRef .tc main_v51) = _
  after_results_simp <;> rfl

/-- THE RUN: the three results, the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v45_0) = (dats (F := Ideal) m 0 c).arrAt 10 cfg0.N
      ∧ r.2.mem ((c.tc : Thread nD τ).loc main_v51) = tail3 (kc m c) (kx m c)
      ∧ r.2.mem ((c.tc : Thread nD τ).loc main_v52) = last ((dats (F := Ideal) m 0 c).arrAt 11 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      (h c).1 10,
      ((h c).2 main_v51 (Pipeline.mem_restRefs_of main_v51 (by decide) (by decide))).trans (after_c m c),
      ((h c).2 main_v52 (Pipeline.mem_restRefs_of main_v52 (by decide) (by decide))).trans (after_h m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans (V_main_arg4 m c)),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩) (run_main m ρ)

end Cert.LruTail

end
-- ==== Proof.LruClaims.lean ====
/- The claims about the samples' convolution and recurrence: the three frames, the value of its three results. -/
module

public import proofs.«01_k».proof.Defs
public import proofs.«01_k».proof.Proof.Gen.Kernel5.Frame
public import proofs.«01_k».proof.Proof.Gen.Kernel5Ideal.Frame
public import proofs.«01_k».proof.Proof.LruTail

@[expose] public section

noncomputable section

namespace Cert.LruClaims
open Idealize.ShloMosaic Idealize.SL.Sem

theorem frame_k : Cert.quiescent_Kernel5 (hKernel5 := Cert.Kernel5.Gen.facts) := fun m ρ _ => Cert.Kernel5.Gen.frame m ρ
theorem frame_ki : Cert.quiescent_Kernel5Ideal (hKernel5Ideal := Cert.Kernel5Ideal.Gen.facts) := fun m ρ _ => Cert.Kernel5Ideal.Gen.frame m ρ

/-- The reference's frame: its run read at the arguments; it declares no semaphore. -/
theorem frame_r : Cert.quiescent_Reference5Ideal (hReference5Ideal := Cert.Reference5Ideal.Gen.facts) := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

/-- No operation is replaced by the idealization. -/
theorem preserves : Cert.preserves_Kernel5_Kernel5Ideal := trivial

/-- The kernel's scaled states, its last three inputs and its last states are the reference's, of any arguments. -/
theorem algebraic : Cert.algebraic_Kernel5Ideal_Reference5Ideal (hKernel5Ideal := Cert.Kernel5Ideal.Gen.facts)
    (hReference5Ideal := Cert.Reference5Ideal.Gen.facts) := by
  intro m ρ m' ρ' _ hag
  refine ⟨fun c => (Cert.Kernel5Ideal.Gen.dats m 0 c).arrAt 10 Cert.Kernel5Ideal.cfg0.N,
    fun c => Cert.LruTail.tail3 (Cert.LruJoin.kc m c) (Cert.LruJoin.kx m c),
    fun c => Cert.LruTail.last ((Cert.Kernel5Ideal.Gen.dats m 0 c).arrAt 11 Cert.Kernel5Ideal.cfg0.N), Cert.LruTail.run m ρ, ?_⟩
  refine (θ_run Cert.Reference5Ideal.defs _ _).mono
    (fun _ h c => ⟨(h c).1.trans ?_, (h c).2.1.trans ?_, (h c).2.2.1.trans ?_, (h c).2.2.2⟩) (Cert.Reference5Ideal.Value.run (F := Ideal) m' ρ')
  all_goals
    obtain ⟨h0, h1, h2, h3, h4, h5, h6, h7, h8, h9, h10⟩ := hag c
    have A : Cert.LruJoin.Agree m c (StableHlo.launchContents m' c) := ⟨h0, h2, h3, h4, h5, h6, h7, h8, h9, h10⟩
  · refine Eq.trans ?_ (Cert.LruTail.result10 m c _ A).symm
    exact congrArg (Cert.LruTail.scaled _) h1
  · exact congrArg₂ Cert.LruTail.tail3 A.pc A.px
  · refine Eq.trans ?_ (congrArg Cert.LruTail.last (Cert.LruTail.result11 m c _ A)).symm
    rw [Cert.LruTail.last, Cert.LruTail.unflat]
    rfl

end Cert.LruClaims

end
-- ==== Proof.PromptMath.lean ====
/- The arithmetic of the prompts' linear recurrence: over any number of positions, by halves and by groups of eight. -/
module

public import proofs.«01_k».proof.Proof.LruMath

@[expose] public section

noncomputable section

open Idealize.ShloMosaic

namespace Cert.Prompt
open Cert.Lru

/-- The recurrence, position by position, from nothing. -/
def recur (a b : ℕ → EReal) : ℕ → EReal
  | 0 => b 0
  | n + 1 => a (n + 1) * recur a b n + b (n + 1)

/-- The decays are real numbers that are not negative. -/
def Decays (a : ℕ → EReal) : Prop := ∀ n, ∃ r : ℝ, 0 ≤ r ∧ a n = r

theorem Decays.dist {a : ℕ → EReal} (h : Decays a) (n : ℕ) (x y : EReal) : a n * (x + y) = a n * x + a n * y := by
  obtain ⟨r, hr, e⟩ := h n
  rw [e]; exact Cert.Lru.dist r hr x y

/-! ## By halves -/

/-- The decays of pairs of positions. -/
def pairA (a : ℕ → EReal) (i : ℕ) : EReal := a (2 * i) * a (2 * i + 1)
/-- The inputs of pairs of positions. -/
def pairB (a b : ℕ → EReal) (i : ℕ) : EReal := a (2 * i + 1) * b (2 * i) + b (2 * i + 1)

theorem Decays.pair {a : ℕ → EReal} (h : Decays a) : Decays (pairA a) := fun n => by
  obtain ⟨r, hr, e⟩ := h (2 * n)
  obtain ⟨s, hs, f⟩ := h (2 * n + 1)
  exact ⟨r * s, mul_nonneg hr hs, by unfold pairA; rw [e, f, EReal.coe_mul]⟩

/-- The recurrence over pairs is the recurrence at the pairs' ends. -/
theorem recur_pair {a b : ℕ → EReal} (h : Decays a) (n : ℕ) : recur (pairA a) (pairB a b) n = recur a b (2 * n + 1) := by
  induction n with
  | zero => rfl
  | succ n ih =>
    show pairA a (n + 1) * recur (pairA a) (pairB a b) n + pairB a b (n + 1) = a (2 * n + 3) * (a (2 * n + 2) * recur a b (2 * n + 1) + b (2 * n + 2)) + b (2 * n + 3)
    rw [ih, h.dist]
    show a (2 * n + 2) * a (2 * n + 3) * recur a b (2 * n + 1) + (a (2 * n + 3) * b (2 * n + 2) + b (2 * n + 3)) = _
    rw [← add_assoc, mul_comm (a (2 * n + 2)), mul_assoc]

/-- A sequence that is the recurrence over pairs at odd positions, and one step on from it at even ones, is the recurrence. -/
theorem recur_of_pairs {a b g l : ℕ → EReal} {m : ℕ} (h : Decays a) (hg : ∀ i, i < m → g i = recur (pairA a) (pairB a b) i)
    (hl : ∀ n, n < 2 * m → l n = if n % 2 = 1 then g (n / 2) else if n = 0 then b 0 else a n * g (n / 2 - 1) + b n)
    (n : ℕ) (hn : n < 2 * m) : l n = recur a b n := by
  rw [hl n hn]
  by_cases ho : n % 2 = 1
  · rw [if_pos ho, hg _ (by omega), recur_pair h]
    congr 1; omega
  · rw [if_neg ho]
    by_cases hz : n = 0
    · rw [if_pos hz, hz]; rfl
    · rw [if_neg hz, hg _ (by omega), recur_pair h]
      obtain ⟨k, rfl⟩ : ∃ k, n = k + 1 := ⟨n - 1, by omega⟩
      show _ = a (k + 1) * recur a b k + b (k + 1)
      congr 3; omega

/-! ## By groups of eight -/

/-- The product of a group's decays up to a position. -/
def prods (a : Fin 8 → EReal) : Fin 8 → EReal := growA 4 (growA 2 (growA 1 a))

theorem prods_zero (a : Fin 8 → EReal) : prods a 0 = a 0 := by simp [prods, growA]

theorem prods_succ (a : Fin 8 → EReal) (t : Fin 7) : prods a t.succ = a t.succ * prods a t.castSucc := by
  fin_cases t <;> simp [prods, growA] <;> simp only [mul_assoc]

theorem hs_succ (a b : Fin 8 → EReal) (t : Fin 7) : hs a b t.succ = a t.succ * hs a b t.castSucc + b t.succ := by
  fin_cases t <;> rfl

/-- A group's recurrence continued from the state `c` before it. -/
def cont (a b : Fin 8 → EReal) (c : EReal) (t : Fin 8) : EReal := prods a t * c + hs a b t

/-- It is the recurrence, where the state before the group is the recurrence's. -/
theorem cont_eq {a b : ℕ → EReal} (h : Decays a) (g : ℕ) (c : EReal) (hc : a (8 * g) * c + b (8 * g) = recur a b (8 * g)) (t : ℕ) (ht : t < 8) :
    cont (fun t => a (8 * g + t.val)) (fun t => b (8 * g + t.val)) c ⟨t, ht⟩ = recur a b (8 * g + t) := by
  induction t with
  | zero =>
    show prods _ 0 * c + b (8 * g) = recur a b (8 * g)
    rw [prods_zero]; exact hc
  | succ t ih =>
    have ih := ih (by omega)
    have hp := prods_succ (fun t => a (8 * g + t.val)) ⟨t, by omega⟩
    have hq := hs_succ (fun t => a (8 * g + t.val)) (fun t => b (8 * g + t.val)) ⟨t, by omega⟩
    show prods _ (Fin.succ ⟨t, by omega⟩) * c + hs _ _ (Fin.succ ⟨t, by omega⟩) = a (8 * g + t + 1) * recur a b (8 * g + t) + b (8 * g + t + 1)
    rw [hp, hq, ← ih]
    unfold cont
    rw [h.dist]
    rw [mul_assoc]
    exact (add_assoc _ _ _).symm

end Cert.Prompt

end
-- ==== Proof.PromptKern.lean ====
/- The body of the prompts' convolution and recurrence, its pure values read at an index. -/
module

public import proofs.«01_k».proof.Proof.PromptMath
public import proofs.«01_k».proof.Proof.LruKern
public import proofs.«01_k».proof.Proof.Gen.Kernel6Ideal.Frame
public import Idealize.ShloMosaic.Lib.Pipeline.Value

@[expose] public section

set_option maxRecDepth 16384

noncomputable section

namespace Cert.Kernel6Ideal.PromptKern
open Cert.Kernel6Ideal Cert.Kernel6Ideal.Gen Cert.Lru Cert.Prompt
open Idealize.ShloMosaic Idealize.ShloMosaic.TcCoe Idealize.SL.Sem Idealize.ShloMosaic.Pointwise
open Cert.Kernel5Ideal.LruKern (select_slt sel mul_sel)

/-! ## The convolution -/

/-- The rows of eight numbered. -/
def rows8 : IVec S8x1024 32 := iota .tc S8x1024 32 [0] iota_S8x1024_d0_w32

/-- A block moved down by `s` rows, the first rows taken from the eight before it. -/
def moved (s : BitVec 32) (x : FVec Ideal S256x1024 .f32) (p : FVec Ideal S8x1024 .f32) : FVec Ideal S256x1024 .f32 :=
  concatenate S256x1024 0 [⟨S8x1024, select (cmpi .slt rows8 (broadcast S8x1024 s)) (dynamicRotate 0 s none p rotates_S8x1024_d0)
      (extractStridedSlice S8x1024 ![0, 0] (dynamicRotate 0 s none x rotates_S256x1024_d0) slices_S256x1024_o0_0_S8x1024)⟩,
    ⟨S248x1024, extractStridedSlice S248x1024 ![8, 0] (dynamicRotate 0 s none x rotates_S256x1024_d0) slices_S256x1024_o8_0_S248x1024⟩]
    concatenates_S8x1024_S248x1024_S256x1024_d0

/-- The row `s` rows up, of the block or of the eight rows before it. -/
def up (s : ℕ) (x : FVec Ideal S256x1024 .f32) (p : FVec Ideal S8x1024 .f32) (r : Fin 256) (e : Fin 1024) : EReal :=
  if r.val < s then p (ix2 ⟨(r.val + 8 - s % 8) % 8, Nat.mod_lt _ (by norm_num)⟩ e) else x (ix2 ⟨(r.val + 256 - s % 256) % 256, Nat.mod_lt _ (by norm_num)⟩ e)

theorem moved_apply (s : ℕ) (hs : s = 1 ∨ s = 2 ∨ s = 3) (x : FVec Ideal S256x1024 .f32) (p : FVec Ideal S8x1024 .f32) (r : Fin 256) (e : Fin 1024) :
    moved (BitVec.ofNat 32 s) x p (ix2 r e) = up s x p r e := by
  have sl : ∀ (s : Fin 8) (h : r.val < 8) (x y : EReal), Scalar.select (IntOp.cmpi CmpIPredicate.slt (BitVec.ofNat 32 r.val) (BitVec.ofNat 32 s.val)) x y = if r.val < s.val then x else y :=
    fun s h x y => select_slt _ h s x y
  unfold up
  rcases hs with rfl | rfl | rfl
  · unfold moved rows8
    pointwise []
    by_cases h : r.val < 8
    · exact (dif_pos h).trans (sl 1 h _ _)
    · have hn : ¬ r.val < 1 := by omega
      refine (dif_neg h).trans (Eq.trans ?_ (if_neg hn).symm)
      exact congrArg x (congrArg (fun z => ix2 z e) (Fin.ext (by
        show (8 + (r.val - 8) + 256 - 1) % 256 = (r.val + 256 - 1) % 256
        omega)))
  · unfold moved rows8
    pointwise []
    by_cases h : r.val < 8
    · exact (dif_pos h).trans (sl 2 h _ _)
    · have hn : ¬ r.val < 2 := by omega
      refine (dif_neg h).trans (Eq.trans ?_ (if_neg hn).symm)
      exact congrArg x (congrArg (fun z => ix2 z e) (Fin.ext (by
        show (8 + (r.val - 8) + 256 - 2) % 256 = (r.val + 256 - 2) % 256
        omega)))
  · unfold moved rows8
    pointwise []
    by_cases h : r.val < 8
    · exact (dif_pos h).trans (sl 3 h _ _)
    · have hn : ¬ r.val < 3 := by omega
      refine (dif_neg h).trans (Eq.trans ?_ (if_neg hn).symm)
      exact congrArg x (congrArg (fun z => ix2 z e) (Fin.ext (by
        show (8 + (r.val - 8) + 256 - 3) % 256 = (r.val + 256 - 3) % 256
        omega)))

/-- The convolution of a block. -/
def xc (x : FVec Ideal S256x1024 .f32) (p : FVec Ideal S8x1024 .f32) (w3 b w2 w1 w0 : FVec Ideal S1x1024 .f32) : FVec Ideal S256x1024 .f32 :=
  k0_pay6 (F := Ideal) (k0_pay3 (F := Ideal) x) rows8 p (k0_pay4 (F := Ideal) x p w3 b w2) (k0_pay5 (F := Ideal) x p w1) w0

theorem xc_apply (x : FVec Ideal S256x1024 .f32) (p : FVec Ideal S8x1024 .f32) (w3 b w2 w1 w0 : FVec Ideal S1x1024 .f32) (r : Fin 256) (e : Fin 1024) :
    xc x p w3 b w2 w1 w0 (ix2 r e) = conv (up 3 x p r e) (up 2 x p r e) (up 1 x p r e) (x (ix2 r e))
      (w0 (ix2 0 e)) (w1 (ix2 0 e)) (w2 (ix2 0 e)) (w3 (ix2 0 e)) (b (ix2 0 e)) := by
  rw [← moved_apply 1 (by simp), ← moved_apply 2 (by simp), ← moved_apply 3 (by simp)]
  have h3 : k0_pay3 (F := Ideal) x = x := by
    unfold k0_pay3
    exact shapeCast_self _ _
  have h : xc x p w3 b w2 w1 w0 = addf (addf (addf (addf (mulf (k0_pay3 (F := Ideal) x) (broadcastTo S256x1024 w3 broadcasts_S1x1024_S256x1024))
      (broadcastTo S256x1024 (shapeCast S1x1024 b shapeCasts_S1x1024_S1x1024 : FVec Ideal S1x1024 .f32) broadcasts_S1x1024_S256x1024))
      (mulf (moved 1#32 (k0_pay3 (F := Ideal) x) p) (broadcastTo S256x1024 w2 broadcasts_S1x1024_S256x1024)))
      (mulf (moved 2#32 (k0_pay3 (F := Ideal) x) p) (broadcastTo S256x1024 w1 broadcasts_S1x1024_S256x1024)))
      (mulf (moved 3#32 (k0_pay3 (F := Ideal) x) p) (broadcastTo S256x1024 w0 broadcasts_S1x1024_S256x1024)) := rfl
  rw [h, h3]
  generalize moved 1#32 x p = m1
  generalize moved 2#32 x p = m2
  generalize moved 3#32 x p = m3
  pointwise [conv]

/-! ## The gates -/

section gates
variable (v4 : FVec Ideal S256x1024 .f32) (v5 : IVec S8x1024 32) (v6 : FVec Ideal S8x1024 .f32) (v25 v36 : FVec Ideal S256x1024 .f32)
  (v46 : FVec Ideal S1x1024 .f32) (W : FVec Ideal S1024x2048 .bf16) (v l : FVec Ideal S1x1024 .f32) (r : Fin 256) (e : Fin 1024)

/-- The product of the convolution with the two gates' weights. -/
theorem prod_apply (n : Fin 2048) : k0_pay7 (F := Ideal) v4 v5 v6 v25 v36 v46 W (ix2 r n)
    = ∑ k : Fin 1024, k0_pay6 (F := Ideal) v4 v5 v6 v25 v36 v46 (ix2 r k) * W (ix2 k n) := by
  unfold k0_pay7
  generalize k0_pay6 (F := Ideal) v4 v5 v6 v25 v36 v46 = X
  pointwise []

/-- The input gate. -/
theorem gate_x : k0_pay8 (F := Ideal) v4 v5 v6 v25 v36 v46 W v (ix2 r e)
    = Ideal.logistic ((∑ k : Fin 1024, k0_pay6 (F := Ideal) v4 v5 v6 v25 v36 v46 (ix2 r k) * W (ix2 k ⟨1024 + e.val, by omega⟩)) + v (ix2 0 e)) := by
  rw [← prod_apply]
  unfold k0_pay8
  generalize k0_pay7 (F := Ideal) v4 v5 v6 v25 v36 v46 W = X
  pointwise []

/-- The logarithm of a step's decay. -/
theorem log_apply : k0_pay9 (F := Ideal) v4 v5 v6 v25 v36 v46 W v l (ix2 r e)
    = Ideal.ofBits .f32 0x41000000#32 * Ideal.logistic ((∑ k : Fin 1024, k0_pay6 (F := Ideal) v4 v5 v6 v25 v36 v46 (ix2 r k) * W (ix2 k ⟨e.val, by omega⟩)) + v (ix2 0 e))
      * lsig (l (ix2 0 e)) := by
  rw [← prod_apply]
  unfold k0_pay9
  generalize k0_pay7 (F := Ideal) v4 v5 v6 v25 v36 v46 W = X
  pointwise [lsig]
  rfl

end gates

/-! ## Groups of eight rows -/

section steps
variable (X i L : FVec Ideal S256x1024 .f32)

/-- A group's row of the block. -/
def at8 (s : Fin 32) (t : Fin 8) : Fin 256 := ⟨s.val * 8 + t.val, by omega⟩

/-- The decays of a group. -/
def av (s : Fin 32) (e : Fin 1024) (t : Fin 8) : EReal := Ideal.exp (L (ix2 (at8 s t) e))

/-- The inputs of a group. -/
def bv (s : Fin 32) (e : Fin 1024) (t : Fin 8) : EReal := fac (L (ix2 (at8 s t) e)) * (i (ix2 (at8 s t) e) * X (ix2 (at8 s t) e))

/-- The decays over two steps. -/
theorem decay1_apply (s : Fin 32) (t : Fin 8) (e : Fin 1024) : k0_pay12 (F := Ideal) L (ix3 s t e) = growA 1 (av L s e) t := by
  unfold k0_pay12 k0_pay11 k0_pay10
  unfold growA av at8
  pointwise []
  rw [(sel t _ _).1]

/-- The decays over four steps. -/
theorem decay2_apply (s : Fin 32) (t : Fin 8) (e : Fin 1024) : k0_pay14 (F := Ideal) L (ix3 s t e) = growA 2 (growA 1 (av L s e)) t := by
  have h := fun t => decay1_apply L s t e
  unfold k0_pay14
  generalize growA 1 (av L s e) = a at h ⊢
  generalize k0_pay12 (F := Ideal) L = D at h ⊢
  unfold growA
  pointwise []
  rw [(sel t _ _).2.1]
  simp only [h]

/-- One doubling of the states. -/
def dbl (n : BitVec 32) (D S : FVec Ideal S32x8x1024 .f32) : FVec Ideal S32x8x1024 .f32 :=
  addf (mulf D (select (cmpi .slt (iota .tc S32x8x1024 32 [1] iota_S32x8x1024_d1_w32) (broadcast S32x8x1024 n))
    (broadcast S32x8x1024 (Scalar.ofBits .f32 0x00000000#32 : Ideal .f32)) (dynamicRotate 1 n none S rotates_S32x8x1024_d1))) S

/-- The inputs, grouped. -/
def inp : FVec Ideal S32x8x1024 .f32 :=
  shapeCast S32x8x1024 (mulf (sqrt (mulf (subf (broadcast S256x1024 (Scalar.ofBits .f32 0x00000000#32 : Ideal .f32)) (tanh L))
    (addf (mulf (k0_pay10 (F := Ideal) L) (k0_pay10 (F := Ideal) L)) (broadcast S256x1024 (Scalar.ofBits .f32 0x3F800000#32 : Ideal .f32))))) (mulf i X) : FVec Ideal S256x1024 .f32)
    shapeCasts_S256x1024_S32x8x1024

theorem inp_apply (s : Fin 32) (t : Fin 8) (e : Fin 1024) : inp X i L (ix3 s t e) = bv X i L s e t := by
  unfold inp k0_pay10 bv at8 fac
  pointwise []

theorem decay_apply (s : Fin 32) (t : Fin 8) (e : Fin 1024) : k0_pay11 (F := Ideal) L (ix3 s t e) = av L s e t := by
  unfold k0_pay11 k0_pay10 av at8
  pointwise []

theorem dbl1_apply (D S : FVec Ideal S32x8x1024 .f32) (a b : Fin 8 → EReal) (s : Fin 32) (t : Fin 8) (e : Fin 1024)
    (hD : ∀ t, D (ix3 s t e) = a t) (hS : ∀ t, S (ix3 s t e) = b t) : dbl 1#32 D S (ix3 s t e) = growB 1 a b t := by
  unfold dbl growB
  pointwise []
  rw [(sel t _ _).1]
  simp only [hD, hS]
  rw [mul_sel]

theorem dbl2_apply (D S : FVec Ideal S32x8x1024 .f32) (a b : Fin 8 → EReal) (s : Fin 32) (t : Fin 8) (e : Fin 1024)
    (hD : ∀ t, D (ix3 s t e) = a t) (hS : ∀ t, S (ix3 s t e) = b t) : dbl 2#32 D S (ix3 s t e) = growB 2 a b t := by
  unfold dbl growB
  pointwise []
  rw [(sel t _ _).2.1]
  simp only [hD, hS]
  rw [mul_sel]

/-- The states from four steps. -/
theorem state2_apply (s : Fin 32) (t : Fin 8) (e : Fin 1024) :
    k0_pay13 (F := Ideal) X i L (ix3 s t e) = growB 2 (growA 1 (av L s e)) (growB 1 (av L s e) (bv X i L s e)) t := by
  have h : k0_pay13 (F := Ideal) X i L = dbl 2#32 (k0_pay12 (F := Ideal) L) (dbl 1#32 (k0_pay11 (F := Ideal) L) (inp X i L)) := rfl
  rw [h]
  exact dbl2_apply _ _ _ _ s t e (fun t => decay1_apply L s t e) fun t =>
    dbl1_apply _ _ _ _ s t e (fun t => decay_apply L s t e) fun t => inp_apply X i L s t e

/-- The products of the decays of every group. -/
def A8 : FVec Ideal S256x1024 .f32 := k0_pay17 (F := Ideal) (k0_pay14 (F := Ideal) L) k0_pay15 (k0_pay16 (F := Ideal) L) (Scalar.ofBits .f32 0x3F800000#32)

/-- The states of every group from zero. -/
def B8 : FVec Ideal S256x1024 .f32 :=
  k0_pay18 (F := Ideal) (iota .tc S32x8x1024 32 [1] iota_S32x8x1024_d1_w32) (k0_pay13 (F := Ideal) X i L) (k0_pay14 (F := Ideal) L)

theorem A8_apply (s : Fin 32) (t : Fin 8) (e : Fin 1024) : A8 L (ix2 (at8 s t) e) = prods (av L s e) t := by
  have h := fun t => decay2_apply L s t e
  unfold A8 k0_pay17 k0_pay16 k0_pay15 prods
  generalize growA 2 (growA 1 (av L s e)) = a at h ⊢
  generalize k0_pay14 (F := Ideal) L = D at h ⊢
  unfold growA at8
  pointwise []
  rw [(sel t _ _).2.2]
  simp only [h]

theorem B8_apply (s : Fin 32) (t : Fin 8) (e : Fin 1024) (hd : ∀ t, ∃ x : ℝ, 0 ≤ x ∧ av L s e t = x) :
    B8 X i L (ix2 (at8 s t) e) = hs (av L s e) (bv X i L s e) t := by
  rw [← grow_eq _ _ hd]
  have h := fun t => decay2_apply L s t e
  have h' := fun t => state2_apply X i L s t e
  unfold B8 k0_pay18
  generalize growB 2 (growA 1 (av L s e)) (growB 1 (av L s e) (bv X i L s e)) = b at h' ⊢
  generalize growA 2 (growA 1 (av L s e)) = a at h ⊢
  generalize k0_pay14 (F := Ideal) L = D at h ⊢
  generalize k0_pay13 (F := Ideal) X i L = S at h' ⊢
  unfold growB at8
  pointwise []
  rw [(sel t _ _).2.2]
  simp only [h, h']
  rw [mul_sel]

end steps

/-! ## The carry from group to group -/

section groups
variable (A B : FVec Ideal S256x1024 .f32) (C : FVec Ideal S1x1024 .f32)

theorem slices8 (g : ℕ) : S256x1024.Slices ![8 * (g % 32), 0] S8x1024 := by
  have : g % 32 < 32 := Nat.mod_lt _ (by norm_num)
  generalize g % 32 = k at this ⊢
  revert this
  revert k
  decide

/-- A group's states, from the state before it. -/
def grp (c : FVec Ideal S1x1024 .f32) (g : ℕ) : FVec Ideal S8x1024 .f32 :=
  addf (mulf (extractStridedSlice S8x1024 ![8 * (g % 32), 0] A (slices8 g)) (broadcastTo S8x1024 c broadcasts_S1x1024_S8x1024))
    (extractStridedSlice S8x1024 ![8 * (g % 32), 0] B (slices8 g))

/-- The state before each group. -/
def car : ℕ → FVec Ideal S1x1024 .f32
  | 0 => C
  | g + 1 => extractStridedSlice S1x1024 ![7, 0] (grp A B (car g) g) slices_S8x1024_o7_0_S1x1024

/-- A group's states. -/
def hb (g : ℕ) : FVec Ideal S8x1024 .f32 := grp A B (car A B C g) g

theorem hb_apply (g : Fin 32) (t : Fin 8) (e : Fin 1024) :
    hb A B C g.val (ix2 t e) = A (ix2 (at8 g t) e) * car A B C g.val (ix2 0 e) + B (ix2 (at8 g t) e) := by
  have hg : g.val % 32 = g.val := Nat.mod_eq_of_lt g.isLt
  have ex (Y : FVec Ideal S256x1024 .f32) : extractStridedSlice S8x1024 ![8 * (g.val % 32), 0] Y (slices8 g.val) (ix2 t e) = Y (ix2 (at8 g t) e) := by
    refine extractStridedSlice_apply _ _ _ _ _ fun a => ?_
    match a with
    | ⟨0, _⟩ => show g.val * 8 + t.val = 8 * (g.val % 32) + t.val; omega
    | ⟨1, _⟩ => exact (Nat.zero_add _).symm
  have bc (c : FVec Ideal S1x1024 .f32) : broadcastTo S8x1024 c broadcasts_S1x1024_S8x1024 (ix2 t e) = c (ix2 0 e) := by
    pointwise []
  show _ * _ + _ = _
  rw [ex, ex, bc]

theorem car_succ (g : ℕ) (e : Fin 1024) : car A B C (g + 1) (ix2 0 e) = hb A B C g (ix2 7 e) := by
  show extractStridedSlice S1x1024 ![7, 0] (hb A B C g) slices_S8x1024_o7_0_S1x1024 (ix2 0 e) = _
  generalize hb A B C g = H
  pointwise []

/-- The groups side by side, times the gate: the block's output. -/
theorem out_apply (g : FVec Ideal S256x1024 .f32) (r : Fin 256) (e : Fin 1024) :
    k0_pay54 (F := Ideal) A B (hb A B C 0) (hb A B C 1) (hb A B C 2) (hb A B C 3) (hb A B C 4) (hb A B C 5) (hb A B C 6) (hb A B C 7) (hb A B C 8) (hb A B C 9) (hb A B C 10) (hb A B C 11) (hb A B C 12) (hb A B C 13) (hb A B C 14) (hb A B C 15) (hb A B C 16) (hb A B C 17) (hb A B C 18) (hb A B C 19) (hb A B C 20) (hb A B C 21) (hb A B C 22) (hb A B C 23) (hb A B C 24) (hb A B C 25) (hb A B C 26) (car A B C 27) g (ix2 r e)
      = hb A B C (r.val / 8) (ix2 ⟨r.val % 8, Nat.mod_lt _ (by norm_num)⟩ e) * g (ix2 r e) := by
  have h := concatenate_ofFn_apply (s₁ := S8x1024) (t := S256x1024) 0 (fun k : Fin 32 => hb A B C k.val)
    concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0
    rfl 8 rfl (ix2 r e) ⟨r.val / 8, by omega⟩ rfl (ix2 ⟨r.val % 8, Nat.mod_lt _ (by norm_num)⟩ e) rfl fun b hb => by
      match b with
      | ⟨0, _⟩ => exact absurd rfl hb
      | ⟨1, _⟩ => rfl
  refine Eq.trans ?_ (congrArg (fun z : EReal => z * g (ix2 r e)) h)
  have hg : (shapeCast S256x1024 g shapeCasts_S256x1024_S256x1024 : FVec Ideal S256x1024 .f32) = g := shapeCast_self _ _
  conv => rhs; rw [← hg]
  rfl

end groups
/-! The body as printed: its carries, and its groups. -/

section printed
variable (S D V : FVec Ideal S32x8x1024 .f32) (M : IVec S32x8x1024 1) (k : Ideal .f32) (C : FVec Ideal S1x1024 .f32) (A B : FVec Ideal S256x1024 .f32)
  (hA : A = k0_pay17 (F := Ideal) D M V k) (hB : B = k0_pay18 (F := Ideal) (iota .tc S32x8x1024 32 [1] iota_S32x8x1024_d1_w32) S D)

include hA hB in
theorem carry1 : k0_pay26 (F := Ideal) (iota .tc S32x8x1024 32 [1] iota_S32x8x1024_d1_w32) S D M V k C = car A B C 7 := by subst hA hB; rfl

theorem carry2 : k0_pay37 (F := Ideal) A B (car A B C 7) = car A B C 17 := rfl

theorem carry3 : k0_pay48 (F := Ideal) A B (car A B C 17) = car A B C 27 := rfl

theorem final_car : k0_pay53 (F := Ideal) A B (car A B C 27) = hb A B C 31 := rfl

include hA hB in
theorem final (c1 c2 c3 : FVec Ideal S1x1024 .f32) (h1 : c1 = k0_pay26 (F := Ideal) (iota .tc S32x8x1024 32 [1] iota_S32x8x1024_d1_w32) S D M V k C)
    (h2 : c2 = k0_pay37 (F := Ideal) A B c1) (h3 : c3 = k0_pay48 (F := Ideal) A B c2) : k0_pay53 (F := Ideal) A B c3 = hb A B C 31 := by
  rw [h3, h2, h1, carry1 S D V M k C A B hA hB, carry2, carry3, final_car]

include hA hB in
theorem next (c1 c2 c3 : FVec Ideal S1x1024 .f32) (h1 : c1 = k0_pay26 (F := Ideal) (iota .tc S32x8x1024 32 [1] iota_S32x8x1024_d1_w32) S D M V k C)
    (h2 : c2 = k0_pay37 (F := Ideal) A B c1) (h3 : c3 = k0_pay48 (F := Ideal) A B c2) (r : Fin 8) (e : Fin 1024) :
    k0_pay55 (F := Ideal) A B c3 (ix2 r e) = hb A B C 31 (ix2 7 e) := by
  rw [← final S D V M k C A B hA hB c1 c2 c3 h1 h2 h3]
  unfold k0_pay55
  generalize k0_pay53 (F := Ideal) A B c3 = H
  pointwise []

include hA hB in
theorem printed (g : FVec Ideal S256x1024 .f32) (c1 c2 c3 : FVec Ideal S1x1024 .f32) (h1 : c1 = k0_pay26 (F := Ideal) (iota .tc S32x8x1024 32 [1] iota_S32x8x1024_d1_w32) S D M V k C)
    (h2 : c2 = k0_pay37 (F := Ideal) A B c1) (h3 : c3 = k0_pay48 (F := Ideal) A B c2) (r : Fin 256) (e : Fin 1024) :
    k0_pay54 (F := Ideal) A B (k0_pay19 (F := Ideal) (iota .tc S32x8x1024 32 [1] iota_S32x8x1024_d1_w32) S D M V k C) (k0_pay20 (F := Ideal) (iota .tc S32x8x1024 32 [1] iota_S32x8x1024_d1_w32) S D M V k C) (k0_pay21 (F := Ideal) (iota .tc S32x8x1024 32 [1] iota_S32x8x1024_d1_w32) S D M V k C) (k0_pay22 (F := Ideal) (iota .tc S32x8x1024 32 [1] iota_S32x8x1024_d1_w32) S D M V k C) (k0_pay23 (F := Ideal) (iota .tc S32x8x1024 32 [1] iota_S32x8x1024_d1_w32) S D M V k C) (k0_pay24 (F := Ideal) (iota .tc S32x8x1024 32 [1] iota_S32x8x1024_d1_w32) S D M V k C) (k0_pay25 (F := Ideal) (iota .tc S32x8x1024 32 [1] iota_S32x8x1024_d1_w32) S D M V k C) (k0_pay27 (F := Ideal) A B c1) (k0_pay28 (F := Ideal) A B c1) (k0_pay29 (F := Ideal) A B c1) (k0_pay30 (F := Ideal) A B c1) (k0_pay31 (F := Ideal) A B c1) (k0_pay32 (F := Ideal) A B c1) (k0_pay33 (F := Ideal) A B c1) (k0_pay34 (F := Ideal) A B c1) (k0_pay35 (F := Ideal) A B c1) (k0_pay36 (F := Ideal) A B c1) (k0_pay38 (F := Ideal) A B c2) (k0_pay39 (F := Ideal) A B c2) (k0_pay40 (F := Ideal) A B c2) (k0_pay41 (F := Ideal) A B c2) (k0_pay42 (F := Ideal) A B c2) (k0_pay43 (F := Ideal) A B c2) (k0_pay44 (F := Ideal) A B c2) (k0_pay45 (F := Ideal) A B c2) (k0_pay46 (F := Ideal) A B c2) (k0_pay47 (F := Ideal) A B c2) c3 g (ix2 r e)
      = hb A B C (r.val / 8) (ix2 ⟨r.val % 8, Nat.mod_lt _ (by norm_num)⟩ e) * g (ix2 r e) := by
  rw [← out_apply]
  have h1' := h1.trans (carry1 S D V M k C A B hA hB)
  subst h1'
  have h2' := h2.trans (carry2 C A B)
  subst h2'
  have h3' := h3.trans (carry3 C A B)
  subst h3' hA hB
  rfl

end printed

end Cert.Kernel6Ideal.PromptKern

end
-- ==== Proof.PromptScan.lean ====
/- One level of an associative scan, at any length: its arrays read at a position. -/
module

public import proofs.«01_k».proof.Proof.PromptMath
public import Idealize.ShloMosaic.Lib.Pipeline.Value
public import Idealize.ShloMosaic.Lib.KernelVsHost

@[expose] public section

set_option maxRecDepth 16384

noncomputable section

namespace Cert.PromptScan
open Cert.Lru Cert.Prompt
open Idealize.ShloMosaic Idealize.ShloMosaic.TcCoe Idealize.SL.Sem Idealize.ShloMosaic.Pointwise

/-- Four sequences of `n` positions. -/
abbrev Sn (n : ℕ) : Shape := ⟨3, ![4, n, 1024]⟩
/-- No axes. -/
abbrev S0 : Shape := ⟨0, ![]⟩

/-- A channel of a sequence, as a function of the position. -/
def seq {n : ℕ} (A : FVec Ideal (Sn n) .f32) (b : Fin 4) (e : Fin 1024) (i : ℕ) : EReal :=
  if h : i < n then A (ix3 b ⟨i, h⟩ e) else 0

theorem seq_of {n : ℕ} (A : FVec Ideal (Sn n) .f32) (b : Fin 4) (e : Fin 1024) (i : Fin n) : seq A b e i.val = A (ix3 b i e) := dif_pos i.isLt

/-- Every second position, from `o` on. -/
theorem second_apply {n m o : ℕ} (A : FVec Ideal (Sn n) .f32) (h : (Sn n).SlicesBy (![0, o, 0] : Fin 3 → Nat) ![1, 2, 1] (Sn m))
    (b : Fin 4) (i : Fin m) (e : Fin 1024) (hi : o + 2 * i.val < n) :
    Host.slice (Sn m) ![0, o, 0] ![1, 2, 1] A h (ix3 b i e) = A (ix3 b ⟨o + 2 * i.val, hi⟩ e) := by
  rw [Host.slice_apply]
  refine congrArg A (funext fun a => Fin.ext ?_)
  match a with
  | ⟨0, _⟩ => show 0 + 1 * b.val = b.val; omega
  | ⟨1, _⟩ => rfl
  | ⟨2, _⟩ => show 0 + 1 * e.val = e.val; omega

/-- The first positions. -/
theorem first_apply {n m : ℕ} (A : FVec Ideal (Sn n) .f32) (h : (Sn n).Slices ![0, 0, 0] (Sn m)) (b : Fin 4) (i : Fin m) (e : Fin 1024) (hi : i.val < n) :
    extractStridedSlice (Sn m) ![0, 0, 0] A h (ix3 b i e) = A (ix3 b ⟨i.val, hi⟩ e) := by
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm

/-- The decays of pairs, as an array. -/
theorem pairA_eq {m n : ℕ} (hn : n = 2 * m) (A : FVec Ideal (Sn n) .f32) (h0 : (Sn n).SlicesBy (![0, 0, 0] : Fin 3 → Nat) ![1, 2, 1] (Sn m))
    (h1 : (Sn n).SlicesBy (![0, 1, 0] : Fin 3 → Nat) ![1, 2, 1] (Sn m)) (b : Fin 4) (e : Fin 1024) :
    seq (mulf (Host.slice (Sn m) ![0, 0, 0] ![1, 2, 1] A h0) (Host.slice (Sn m) ![0, 1, 0] ![1, 2, 1] A h1) : FVec Ideal (Sn m) .f32) b e = pairA (seq A b e) := by
  funext i
  unfold pairA
  by_cases hi : i < m
  · unfold seq
    rw [dif_pos hi, dif_pos (by omega), dif_pos (by omega)]
    show _ * _ = _
    rw [second_apply A h0 b ⟨i, hi⟩ e (by show 0 + 2 * i < n; omega), second_apply A h1 b ⟨i, hi⟩ e (by show 1 + 2 * i < n; omega)]
    congr 4
    · exact Nat.zero_add _
    · exact Nat.add_comm _ _
  · unfold seq
    rw [dif_neg hi, dif_neg (by omega), zero_mul]

/-- The inputs of pairs, as an array. -/
theorem pairB_eq {m n : ℕ} (hn : n = 2 * m) (A B : FVec Ideal (Sn n) .f32) (h0 : (Sn n).SlicesBy (![0, 0, 0] : Fin 3 → Nat) ![1, 2, 1] (Sn m))
    (h1 : (Sn n).SlicesBy (![0, 1, 0] : Fin 3 → Nat) ![1, 2, 1] (Sn m)) (b : Fin 4) (e : Fin 1024) :
    seq (addf (mulf (Host.slice (Sn m) ![0, 1, 0] ![1, 2, 1] A h1) (Host.slice (Sn m) ![0, 0, 0] ![1, 2, 1] B h0)) (Host.slice (Sn m) ![0, 1, 0] ![1, 2, 1] B h1) : FVec Ideal (Sn m) .f32) b e
      = pairB (seq A b e) (seq B b e) := by
  funext i
  unfold pairB
  by_cases hi : i < m
  · unfold seq
    rw [dif_pos hi, dif_pos (by omega), dif_pos (by omega), dif_pos (by omega)]
    show _ * _ + _ = _
    rw [second_apply B h0 b ⟨i, hi⟩ e (by show 0 + 2 * i < n; omega), second_apply A h1 b ⟨i, hi⟩ e (by show 1 + 2 * i < n; omega),
      second_apply B h1 b ⟨i, hi⟩ e (by show 1 + 2 * i < n; omega)]
    have e0 : (⟨0 + 2 * i, by omega⟩ : Fin n) = ⟨2 * i, by omega⟩ := Fin.ext (Nat.zero_add _)
    have e1 : (⟨1 + 2 * i, by omega⟩ : Fin n) = ⟨2 * i + 1, by omega⟩ := Fin.ext (Nat.add_comm _ _)
    exact congrArg₂ (fun p q : Fin n => A (ix3 b q e) * B (ix3 b p e) + B (ix3 b q e)) e0 e1
  · unfold seq
    rw [dif_neg hi, dif_neg (by omega), dif_neg (by omega), dif_neg (by omega), zero_mul, zero_add]

/-! ## Putting a level together -/

/-- An array spread to every second position, from `o` on, with `z` between. -/
theorem spread_apply {m n o p : ℕ} (x : FVec Ideal (Sn m) .f32) (z : FVec Ideal S0 .f32)
    (h : (Sn m).Pads (![0, o, 0] : Fin 3 → Nat) ![0, p, 0] ![0, 1, 0] (Sn n)) (hu : 0 < S0.numel) (b : Fin 4) (i : Fin n) (e : Fin 1024) :
    (∀ k : Fin m, i.val = o + 2 * k.val → pad (Sn n) ![0, o, 0] ![0, p, 0] ![0, 1, 0] x z h hu (ix3 b i e) = x (ix3 b k e))
    ∧ (i.val % 2 ≠ o % 2 → pad (Sn n) ![0, o, 0] ![0, p, 0] ![0, 1, 0] x z h hu (ix3 b i e) = z (Shape.Idx.first hu)) := by
  constructor
  · intro k hk
    refine pad_apply_of_inside _ _ _ x z h hu _ (ix3 b k e) fun a => ?_
    match a with
    | ⟨0, _⟩ => show b.val = 0 + b.val * (0 + 1); omega
    | ⟨1, _⟩ => show i.val = o + k.val * (1 + 1); omega
    | ⟨2, _⟩ => show e.val = 0 + e.val * (0 + 1); omega
  · intro hne
    refine pad_apply_of_not_inside _ _ _ x z h hu _ 1 fun hh => ?_
    have h1 : o ≤ i.val := hh.1
    have h2 : (i.val - o) % (1 + 1) = 0 := hh.2.1
    omega

/-- One level of the scan from the level of pairs `H`. -/
def level {n m k : ℕ} (A B : FVec Ideal (Sn n) .f32) (H : FVec Ideal (Sn m) .f32)
    (s1 : (Sn n).Slices ![0, 0, 0] (Sn 1)) (s2 : (Sn n).SlicesBy (![0, 2, 0] : Fin 3 → Nat) ![1, 2, 1] (Sn k)) (s3 : (Sn m).Slices ![0, 0, 0] (Sn k))
    (cc : Shape.Concatenates [Sn 1, Sn k] (Sn m) 1) (p0 : (Sn m).Pads (![0, 0, 0] : Fin 3 → Nat) ![0, 1, 0] ![0, 1, 0] (Sn n))
    (p1 : (Sn m).Pads (![0, 1, 0] : Fin 3 → Nat) ![0, 0, 0] ![0, 1, 0] (Sn n)) (hu : 0 < S0.numel) : FVec Ideal (Sn n) .f32 :=
  addf (pad (Sn n) ![0, 0, 0] ![0, 1, 0] ![0, 1, 0] (concatenate (Sn m) 1 [⟨Sn 1, extractStridedSlice (Sn 1) ![0, 0, 0] B s1⟩,
      ⟨Sn k, addf (mulf (Host.slice (Sn k) ![0, 2, 0] ![1, 2, 1] A s2) (extractStridedSlice (Sn k) ![0, 0, 0] H s3)) (Host.slice (Sn k) ![0, 2, 0] ![1, 2, 1] B s2)⟩] cc)
      (constant (F := Ideal) S0 .f32 0x00000000#32) p0 hu)
    (pad (Sn n) ![0, 1, 0] ![0, 0, 0] ![0, 1, 0] H (constant (F := Ideal) S0 .f32 0x00000000#32) p1 hu)

theorem zero_lit : (constant (F := Ideal) S0 .f32 0x00000000#32 : FVec Ideal S0 .f32) (Shape.Idx.first (by decide)) = 0 := by
  pointwise []

/-- A LEVEL OF THE SCAN is the recurrence, where the level of pairs is the recurrence over pairs. -/
theorem level_eq {n m k : ℕ} (hn : n = 2 * m) (hm : m = k + 1) (A B : FVec Ideal (Sn n) .f32) (H : FVec Ideal (Sn m) .f32) (s1 s2 s3 cc p0 p1 hu)
    (b : Fin 4) (e : Fin 1024) (hA : Decays (seq A b e))
    (hH : ∀ i, i < m → seq H b e i = recur (pairA (seq A b e)) (pairB (seq A b e) (seq B b e)) i) (i : ℕ) (hi : i < n) :
    seq (level (k := k) A B H s1 s2 s3 cc p0 p1 hu) b e i = recur (seq A b e) (seq B b e) i := by
  refine recur_of_pairs hA hH (fun i hi => ?_) i (by omega)
  have hi' : i < n := by omega
  have hl : seq (level (k := k) A B H s1 s2 s3 cc p0 p1 hu) b e i = level (k := k) A B H s1 s2 s3 cc p0 p1 hu (ix3 b ⟨i, hi'⟩ e) := dif_pos hi'
  rw [hl]
  unfold level
  show _ + _ = _
  by_cases ho : i % 2 = 1
  · rw [if_pos ho, (spread_apply _ _ p0 hu b ⟨i, hi'⟩ e).2 (by show i % 2 ≠ 0 % 2; omega),
      (spread_apply _ _ p1 hu b ⟨i, hi'⟩ e).1 ⟨i / 2, by omega⟩ (by show i = 1 + 2 * (i / 2); omega), ← seq_of H]
    exact (congrArg (· + _) zero_lit).trans (zero_add _)
  · rw [if_neg ho, (spread_apply _ _ p0 hu b ⟨i, hi'⟩ e).1 ⟨i / 2, by omega⟩ (by show i = 0 + 2 * (i / 2); omega),
      (spread_apply _ _ p1 hu b ⟨i, hi'⟩ e).2 (by show i % 2 ≠ 1 % 2; omega)]
    refine (congrArg (_ + ·) zero_lit).trans ((add_zero _).trans ?_)
    by_cases hz : i = 0
    · subst hz
      rw [if_pos rfl]
      refine (concatenate_pair_apply_left 1 _ _ cc _ rfl (ix3 b 0 e) fun a => ?_).trans ?_
      · match a with
        | ⟨0, _⟩ => rfl
        | ⟨1, _⟩ => rfl
        | ⟨2, _⟩ => rfl
      · rw [first_apply B s1 b 0 e hi']; exact (seq_of B b e ⟨0, hi'⟩).symm
    · rw [if_neg hz]
      refine (concatenate_pair_apply_right 1 _ _ cc _ rfl rfl (ix3 b ⟨i / 2 - 1, by omega⟩ e) (fun a ha => ?_) ?_).trans ?_
      · match a with
        | ⟨0, _⟩ => rfl
        | ⟨1, _⟩ => exact absurd rfl ha
        | ⟨2, _⟩ => rfl
      · show i / 2 - 1 + 1 = i / 2; omega
      · show _ * _ + _ = _
        rw [second_apply A s2 b _ e (by show 2 + 2 * (i / 2 - 1) < n; omega), second_apply B s2 b _ e (by show 2 + 2 * (i / 2 - 1) < n; omega),
          first_apply H s3 b _ e (by show i / 2 - 1 < m; omega), ← seq_of A, ← seq_of B, ← seq_of H]
        show seq A b e (2 + 2 * (i / 2 - 1)) * seq H b e (i / 2 - 1) + seq B b e (2 + 2 * (i / 2 - 1)) = _
        rw [show 2 + 2 * (i / 2 - 1) = i by omega]

/-- `H` is the recurrence of the decays `A` and inputs `B`, wherever the decays are real and not negative. -/
def Scans {n : ℕ} (A B H : FVec Ideal (Sn n) .f32) : Prop :=
  ∀ b e, Decays (seq A b e) → ∀ i, i < n → seq H b e i = recur (seq A b e) (seq B b e) i

/-- A single position is its own recurrence. -/
theorem scans_one (A B : FVec Ideal (Sn 1) .f32) : Scans A B B := fun b e _ i hi => by
  obtain rfl : i = 0 := by omega
  rfl

/-- From the level of pairs to the level. -/
theorem Scans.up {n m k : ℕ} (hn : n = 2 * m) (hm : m = k + 1) {A B L : FVec Ideal (Sn n) .f32} {A' B' H : FVec Ideal (Sn m) .f32}
    {h0 : (Sn n).SlicesBy (![0, 0, 0] : Fin 3 → Nat) ![1, 2, 1] (Sn m)} {h1 : (Sn n).SlicesBy (![0, 1, 0] : Fin 3 → Nat) ![1, 2, 1] (Sn m)}
    {s1 s2 s3 cc p0 p1 hu} (h : Scans A' B' H)
    (hA : A' = (mulf (Host.slice (Sn m) ![0, 0, 0] ![1, 2, 1] A h0) (Host.slice (Sn m) ![0, 1, 0] ![1, 2, 1] A h1) : FVec Ideal (Sn m) .f32))
    (hB : B' = (addf (mulf (Host.slice (Sn m) ![0, 1, 0] ![1, 2, 1] A h1) (Host.slice (Sn m) ![0, 0, 0] ![1, 2, 1] B h0)) (Host.slice (Sn m) ![0, 1, 0] ![1, 2, 1] B h1) : FVec Ideal (Sn m) .f32))
    (hL : L = level (k := k) A B H s1 s2 s3 cc p0 p1 hu) : Scans A B L := by
  intro b e hd i hi
  subst hL hA hB
  have h' := h b e
  rw [pairA_eq hn, pairB_eq hn] at h'
  exact level_eq hn hm A B H s1 s2 s3 cc p0 p1 hu b e hd (h' hd.pair) i hi

end Cert.PromptScan

end
-- ==== Proof.PromptRef.lean ====
/- The reference of the prompts' convolution and recurrence, its arrays read at an index. -/
module

public import proofs.«01_k».proof.Proof.PromptScan
public import proofs.«01_k».proof.Proof.LruRef
public import proofs.«01_k».proof.Proof.Gen.Reference6Ideal.Run
public import Idealize.ShloMosaic.Lib.Routing.OpsPair

@[expose] public section

set_option maxRecDepth 16384

noncomputable section

namespace Cert.Reference6Ideal.PromptRef
open Cert.Reference6Ideal Cert.Reference6Ideal.Gen Cert.Reference6Ideal.Value Cert.Lru Cert.Prompt Cert.PromptScan
open Idealize.ShloMosaic Idealize.ShloMosaic.TcCoe Idealize.SL.Sem Idealize.ShloMosaic.Pointwise
open Cert.Reference5Ideal.LruRef (fold_same)

variable (V0 : Valuation τ sig (Elt Ideal))

/-! ## The scan -/

/-- The decays. -/
def da : FVec Ideal S4x4096x1024 .f32 := res_main_v67 V0
/-- The inputs. -/
def db : FVec Ideal S4x4096x1024 .f32 := res_main_v79 V0
/-- The states. -/
def h1 : FVec Ideal S4x4096x1024 .f32 := res_main_v367 V0

/-- THE SCAN is the recurrence: one level after another, from the single position up. -/
theorem scan : Scans (n := 4096) (da V0) (db V0) (h1 V0) := by
  have l0 : Scans (n := 1) (res_main_v161 V0) (res_main_v163 V0) (res_main_v163 V0) := scans_one _ _
  have l1 : Scans (n := 2) (res_main_v154 V0) (res_main_v156 V0) (res_main_v180 V0) := Scans.up (m := 1) (k := 0) rfl rfl l0 rfl rfl rfl
  have l2 : Scans (n := 4) (res_main_v147 V0) (res_main_v149 V0) (res_main_v197 V0) := Scans.up (m := 2) (k := 1) rfl rfl l1 rfl rfl rfl
  have l3 : Scans (n := 8) (res_main_v140 V0) (res_main_v142 V0) (res_main_v214 V0) := Scans.up (m := 4) (k := 3) rfl rfl l2 rfl rfl rfl
  have l4 : Scans (n := 16) (res_main_v133 V0) (res_main_v135 V0) (res_main_v231 V0) := Scans.up (m := 8) (k := 7) rfl rfl l3 rfl rfl rfl
  have l5 : Scans (n := 32) (res_main_v126 V0) (res_main_v128 V0) (res_main_v248 V0) := Scans.up (m := 16) (k := 15) rfl rfl l4 rfl rfl rfl
  have l6 : Scans (n := 64) (res_main_v119 V0) (res_main_v121 V0) (res_main_v265 V0) := Scans.up (m := 32) (k := 31) rfl rfl l5 rfl rfl rfl
  have l7 : Scans (n := 128) (res_main_v112 V0) (res_main_v114 V0) (res_main_v282 V0) := Scans.up (m := 64) (k := 63) rfl rfl l6 rfl rfl rfl
  have l8 : Scans (n := 256) (res_main_v105 V0) (res_main_v107 V0) (res_main_v299 V0) := Scans.up (m := 128) (k := 127) rfl rfl l7 rfl rfl rfl
  have l9 : Scans (n := 512) (res_main_v98 V0) (res_main_v100 V0) (res_main_v316 V0) := Scans.up (m := 256) (k := 255) rfl rfl l8 rfl rfl rfl
  have l10 : Scans (n := 1024) (res_main_v91 V0) (res_main_v93 V0) (res_main_v333 V0) := Scans.up (m := 512) (k := 511) rfl rfl l9 rfl rfl rfl
  have l11 : Scans (n := 2048) (res_main_v84 V0) (res_main_v86 V0) (res_main_v350 V0) := Scans.up (m := 1024) (k := 1023) rfl rfl l10 rfl rfl rfl
  have l12 : Scans (n := 4096) (res_main_v67 V0) (res_main_v79 V0) (res_main_v367 V0) := Scans.up (m := 2048) (k := 2047) rfl rfl l11 rfl rfl rfl
  exact l12

/-! ## The reference's arrays -/

/-- The prompts' inputs. -/
def ax : FVec Ideal S4x4096x1024 .f32 := V0 (Proc.devRef .tc main_arg0)
/-- The taps. -/
def aw : FVec Ideal S4x1024 .f32 := V0 (Proc.devRef .tc main_arg2)
/-- The convolution's offset. -/
def ab : FVec Ideal S1024 .f32 := V0 (Proc.devRef .tc main_arg3)
/-- The weights and offset of the decay's gate. -/
def wa : FVec Ideal S16x64x64 .f32 := V0 (Proc.devRef .tc main_arg4)
def ba : FVec Ideal S1024 .f32 := V0 (Proc.devRef .tc main_arg5)
/-- The weights and offset of the input's gate. -/
def wx : FVec Ideal S16x64x64 .f32 := V0 (Proc.devRef .tc main_arg6)
def bx : FVec Ideal S1024 .f32 := V0 (Proc.devRef .tc main_arg7)
/-- The channels' parameter. -/
def al : FVec Ideal S1024 .f32 := V0 (Proc.devRef .tc main_arg8)

/-- A sequence's inputs after three zeros. -/
def full (x : FVec Ideal S4x4096x1024 .f32) (b : Fin 4) (j : Fin 4099) (e : Fin 1024) : EReal :=
  if h : j.val < 3 then 0 else x (ix3 b ⟨j.val - 3, by omega⟩ e)

theorem full_apply (b : Fin 4) (j : Fin 4099) (e : Fin 1024) :
    (res_main_v2 V0 : FVec Ideal S4x4099x1024 .f32) (ix3 b j e) = full (ax V0) b j e := by
  unfold res_main_v2
  change concatenate S4x4099x1024 1 [⟨S4x3x1024, broadcastInDim S4x3x1024 ![] bcast_S_S4x3x1024 (constant S_ .f32 0x00000000#32)⟩, ⟨S4x4096x1024, ax V0⟩] concatenates_S4x3x1024_S4x4096x1024_S4x4099x1024_d1 _ = _
  generalize ax V0 = x
  pointwise [full]

/-- The convolution. -/
def cx : FVec Ideal S4x4096x1024 .f32 := res_main_v34 V0

theorem cx_apply (b : Fin 4) (t : Fin 4096) (e : Fin 1024) :
    cx V0 (ix3 b t e) = conv (full (ax V0) b ⟨t.val, by omega⟩ e) (full (ax V0) b ⟨1 + t.val, by omega⟩ e)
      (full (ax V0) b ⟨2 + t.val, by omega⟩ e) (full (ax V0) b ⟨3 + t.val, by omega⟩ e)
      (aw V0 (ix2 0 e)) (aw V0 (ix2 1 e)) (aw V0 (ix2 2 e)) (aw V0 (ix2 3 e)) (ab V0 (ix1 e)) := by
  rw [← conv_eq]
  simp only [← full_apply]
  unfold cx res_main_v34
  generalize (res_main_v2 V0 : FVec Ideal S4x4099x1024 .f32) = f
  pointwise [aw, ab]

/-- A gate of the reference, before its sigmoid. -/
def pre (w : FVec Ideal S16x64x64 .f32) (y : FVec Ideal S4x4096x1024 .f32) (v : FVec Ideal S1024 .f32) : FVec Ideal S4x4096x1024 .f32 :=
  addf (shapeCast _ (transpose S4x4096x16x64 [2, 3, 0, 1] (Host.dotGeneral dot_S16x64x64_S4x4096x16x64_S16x64x4x4096_1_3_2_01_0_2 none w
    (shapeCast _ y shapeCasts_S4x4096x1024_S4x4096x16x64 : FVec Ideal S4x4096x16x64 .f32)) transposes_S16x64x4x4096_S4x4096x16x64_2_3_0_1) shapeCasts_S4x4096x16x64_S4x4096x1024)
    (broadcastInDim S4x4096x1024 ![0, 1, 2] bcast_S1x1x1024_S4x4096x1024_0_1_2 (broadcastInDim S1x1x1024 ![2] bcast_S1024_S1x1x1024_2 v))

/-- Its sigmoid. -/
def sgm (z : FVec Ideal S4x4096x1024 .f32) : FVec Ideal S4x4096x1024 .f32 :=
  Host.divf (broadcastInDim S4x4096x1024 ![] bcast_S_S4x4096x1024 (constant S_ .f32 0x3F800000#32))
    (addf (broadcastInDim S4x4096x1024 ![] bcast_S_S4x4096x1024 (constant S_ .f32 0x3F800000#32)) (Host.exp (Host.negf z)))

theorem pre_apply (w : FVec Ideal S16x64x64 .f32) (y : FVec Ideal S4x4096x1024 .f32) (v : FVec Ideal S1024 .f32) (b : Fin 4) (t : Fin 4096) (e : Fin 1024) :
    pre w y v (ix3 b t e) = (∑ j : Fin 64, y (ix3 b t ⟨64 * (e.val / 64) + j.val, by omega⟩) * w (ix3 ⟨e.val / 64, by omega⟩ j ⟨e.val % 64, by omega⟩)) + v (ix1 e) := by
  pointwise [pre]
  refine congrArg (· + v (ix1 e)) (Finset.sum_congr rfl fun j _ => ?_)
  rw [mul_comm]
  exact congrArg (fun k : Fin 1024 => y (ix3 b t k) * w (ix3 ⟨e.val / 64, by omega⟩ j ⟨e.val % 64, by omega⟩)) (Fin.ext (show e.val / 64 * 64 + j.val = 64 * (e.val / 64) + j.val by omega))

theorem sgm_apply (z : FVec Ideal S4x4096x1024 .f32) (b : Fin 4) (t : Fin 4096) (e : Fin 1024) :
    sgm z (ix3 b t e) = Ideal.logistic (z (ix3 b t e)) := by
  unfold Ideal.logistic
  pointwise [sgm]

/-- The zeros that the softplus compares with. -/
def zeros : FVec Ideal S1024 .f32 := broadcastInDim S1024 ![] bcast_S_S1024 (constant S_ .f32 0x00000000#32)

/-- The logarithm of the parameter's sigmoid, by the softplus. -/
def lam (l : FVec Ideal S1024 .f32) : FVec Ideal S1024 .f32 :=
  Host.negf (select (cmpf .une (subf (Host.negf l) zeros) (subf (Host.negf l) zeros)) (addf (Host.negf l) zeros)
    (addf (maximumf (Host.negf l) zeros) (Host.log1p (Host.exp (Host.negf (Host.absf (subf (Host.negf l) zeros)))))))

theorem lam_apply (l : FVec Ideal S1024 .f32) (e : Fin 1024) : lam l (ix1 e) = lsig (l (ix1 e)) := by
  rw [← lsig_eq]
  pointwise [lam, zeros]
  rw [if_neg (not_not.2 rfl)]
  rfl

/-- The decays' logarithms. -/
def la : FVec Ideal S4x4096x1024 .f32 := res_main_v66 V0

theorem la_apply (b : Fin 4) (t : Fin 4096) (e : Fin 1024) :
    la V0 (ix3 b t e) = logA (Ideal.logistic (pre (wa V0) (cx V0) (ba V0) (ix3 b t e))) (al V0 (ix1 e)) := by
  rw [← sgm_apply]
  unfold la res_main_v66 logA
  rw [← lam_apply]
  change mulf (mulf (broadcastInDim S4x4096x1024 ![] bcast_S_S4x4096x1024 (constant S_ .f32 0x41000000#32)) (sgm (pre (wa V0) (cx V0) (ba V0))))
    (broadcastInDim S4x4096x1024 ![0, 1, 2] bcast_S1x1x1024_S4x4096x1024_0_1_2 (broadcastInDim S1x1x1024 ![2] bcast_S1024_S1x1x1024_2 (lam (al V0)))) _ = _
  generalize sgm (pre (wa V0) (cx V0) (ba V0)) = r
  generalize lam (al V0) = l
  pointwise []

theorem da_apply (b : Fin 4) (t : Fin 4096) (e : Fin 1024) : da V0 (ix3 b t e) = Ideal.exp (la V0 (ix3 b t e)) := by
  unfold da res_main_v67 la
  generalize (res_main_v66 V0 : FVec Ideal S4x4096x1024 .f32) = l
  pointwise []

/-- The new inputs. -/
def new : FVec Ideal S4x4096x1024 .f32 :=
  mulf (Host.sqrt (Host.negf (Host.expm1 (mulf (broadcastInDim S4x4096x1024 ![] bcast_S_S4x4096x1024 (constant S_ .f32 0x40000000#32)) (la V0)))))
    (mulf (sgm (pre (wx V0) (cx V0) (bx V0))) (cx V0))

theorem new_apply (b : Fin 4) (t : Fin 4096) (e : Fin 1024) :
    new V0 (ix3 b t e) = fac (la V0 (ix3 b t e)) * (Ideal.logistic (pre (wx V0) (cx V0) (bx V0) (ix3 b t e)) * cx V0 (ix3 b t e)) := by
  rw [← sgm_apply]
  unfold new fac
  rw [rest_eq, ← two_lit]
  generalize sgm (pre (wx V0) (cx V0) (bx V0)) = r
  generalize cx V0 = y
  generalize la V0 = l
  pointwise [Ideal.expm1]

/-- Adding updates that are all zero changes nothing. -/
theorem add_zeros {s u w : Shape} {n : ℕ} (d : ScatterDims s u w) (x : FVec Ideal s .f32) (idx : IVec u n) (y : FVec Ideal w .f32) (hy : ∀ i, y i = 0) (i : s.Idx) :
    Host.scatter d (FloatOps.addf (F := Ideal) (φ := .f32)) x idx y i = x i := by
  rw [Routing.scatter_at]
  refine fold_same _ _ _ fun n _ a => ?_
  split
  · rw [hy]
    exact add_zero a
  · rfl

theorem db_apply (b : Fin 4) (t : Fin 4096) (e : Fin 1024) : db V0 (ix3 b t e) = new V0 (ix3 b t e) := by
  have h : db V0 = Host.scatter scatter_S4x4096x1024_S1_S4x1024_01_1_1_0 (FloatOps.addf (F := Ideal) (φ := .f32)) (new V0)
      (broadcastInDim S1 ![] bcast_S_S1 (constantI S_ 32 0#32))
      (mulf (shapeCast _ (extractStridedSlice S4x1x1024 ![0, 0, 0] (da V0) slices_S4x4096x1024_S4x1x1024_0_0_0) shapeCasts_S4x1x1024_S4x1024)
        (broadcastInDim S4x1024 ![] bcast_S_S4x1024 (constant S_ .f32 0x00000000#32))) := rfl
  rw [h]
  refine add_zeros _ _ _ _ (fun i => ?_) _
  generalize (shapeCast S4x1024 (extractStridedSlice S4x1x1024 ![0, 0, 0] (da V0) slices_S4x4096x1024_S4x1x1024_0_0_0) shapeCasts_S4x1x1024_S4x1024 : FVec Ideal S4x1024 .f32) = d
  have hz : (constant (F := Ideal) S_ .f32 0x00000000#32 : FVec Ideal S_ .f32) = fun _ => 0 := by
    funext j
    show Ideal.ofBits .f32 0x00000000#32 = 0
    simp [Ideal.ofBits, Ideal.ieee]
  rw [hz]
  exact mul_zero _

/-- A gate's sum, of a convolution's row. -/
theorem gate_eq (w : FVec Ideal S16x64x64 .f32) (y : FVec Ideal S4x4096x1024 .f32) (v : FVec Ideal S1024 .f32) (b : Fin 4) (t : Fin 4096) (e : Fin 1024) :
    Ideal.logistic (pre w y v (ix3 b t e)) = gate (fun k => y (ix3 b t k)) (fun h j k => w (ix3 h j k)) (v (ix1 e)) e := by
  rw [pre_apply]; rfl

/-- A sequence's decays are real and not negative. -/
theorem decays (b : Fin 4) (e : Fin 1024) : Decays (seq (n := 4096) (da V0) b e) := fun n => by
  by_cases h : n < 4096
  · have hs : seq (n := 4096) (da V0) b e n = da V0 (ix3 b ⟨n, h⟩ e) := dif_pos h
    rw [hs, da_apply, la_apply]
    exact decay_real _ _
  · exact ⟨0, le_refl _, dif_neg h⟩

/-- THE REFERENCE'S RECURRENCE, from its decays and inputs. -/
theorem h1_eq (b : Fin 4) (t : Fin 4096) (e : Fin 1024) :
    h1 V0 (ix3 b t e) = recur (seq (n := 4096) (da V0) b e) (seq (n := 4096) (db V0) b e) t.val :=
  (seq_of (n := 4096) (h1 V0) b e t).symm.trans (scan V0 b e (decays V0 b e) t.val t.isLt)

end Cert.Reference6Ideal.PromptRef

end
-- ==== Proof.PromptJoin.lean ====
/- The prompts' convolution and recurrence: the blocks that the grid's points read. -/
module

public import proofs.«01_k».proof.Proof.PromptKern
public import proofs.«01_k».proof.Proof.PromptRef

@[expose] public section

set_option maxRecDepth 16384

noncomputable section

namespace Cert.PromptJoin
open Cert.Kernel6Ideal Cert.Kernel6Ideal.Gen Cert.Kernel6Ideal.PromptKern Cert.Lru
open Idealize.ShloMosaic Idealize.ShloMosaic.TcCoe Idealize.SL.Sem Idealize.ShloMosaic.Pointwise
open Cert.Reference6Ideal.PromptRef (ax aw ab wa ba wx bx al full)

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val / 16, 0] :=
  (by decide +kernel : ∀ t : Fin grid0.N, _)

/-- The grid has 64 points. -/
theorem tlt (t : Fin cfg0.N) : t.val < 64 := lt_of_lt_of_eq t.isLt N_0

/-- The row of the arrays that row `r` of the block at point `t` is. -/
def row (t : Fin cfg0.N) (r : Fin 256) : Fin 16384 := ⟨t.val * 256 + r.val, by have := tlt t; omega⟩
/-- Its batch, and its position there. -/
def bat (t : Fin cfg0.N) : Fin 4 := ⟨t.val / 16, by have := tlt t; omega⟩
def pos (t : Fin cfg0.N) (r : Fin 256) : Fin 4096 := ⟨t.val % 16 * 256 + r.val, by omega⟩

/-- The prompts' inputs. -/
def kx (c : Dev nD) : FVec Ideal S4x4096x1024 .f32 := m ((c : Thread nD τ).loc main_arg0)
/-- The factors of the states. -/
def kg (c : Dev nD) : FVec Ideal S4x4096x1024 .f32 := m ((c : Thread nD τ).loc main_arg1)
/-- The taps and the convolution's offset. -/
def kw (c : Dev nD) : FVec Ideal S4x1024 .f32 := m ((c : Thread nD τ).loc main_arg2)
def kb (c : Dev nD) : FVec Ideal S1024 .f32 := m ((c : Thread nD τ).loc main_arg3)
/-- The weights and offset of the decay's gate. -/
def kwa (c : Dev nD) : FVec Ideal S16x64x64 .f32 := m ((c : Thread nD τ).loc main_arg4)
def kba (c : Dev nD) : FVec Ideal S1024 .f32 := m ((c : Thread nD τ).loc main_arg5)
/-- The weights and offset of the input's gate. -/
def kwx (c : Dev nD) : FVec Ideal S16x64x64 .f32 := m ((c : Thread nD τ).loc main_arg6)
def kbx (c : Dev nD) : FVec Ideal S1024 .f32 := m ((c : Thread nD τ).loc main_arg7)
/-- The channels' parameter. -/
def kl (c : Dev nD) : FVec Ideal S1024 .f32 := m ((c : Thread nD τ).loc main_arg8)

/-- The buffers the call meets are what the operations before it leave. -/
theorem V_eq (c : Dev nD) (b : Ref sig .tc) : V m c b = StableHlo.after hostOps0 (fun b => m (c, b)) (Proc.devRef .tc b) := rfl

/-- Rows of all sequences, one after another. -/
def flat (x : FVec Ideal S4x4096x1024 .f32) : FVec Ideal S16384x1024 .f32 := shapeCast _ x shapeCasts_S4x4096x1024_S16384x1024
/-- A vector as a row. -/
def line (x : FVec Ideal S1024 .f32) : FVec Ideal S1x1024 .f32 := shapeCast _ x shapeCasts_S1024_S1x1024
/-- The matrix that is one on the diagonal. -/
def eye : FVec Ideal S16x16 .f32 :=
  uitofp .f32 (cmpi .eq (addi (iotaInDim S16x16 32 0) (broadcastInDim S16x16 ![] bcast_S_S16x16 (constantI S_ 32 0#32))) (iotaInDim S16x16 32 1))
/-- A gate's weights as one matrix, a head's block in its place. -/
def blocks (w : FVec Ideal S16x64x64 .f32) : FVec Ideal S1024x1024 .f32 :=
  shapeCast _ (mulf (broadcastInDim S16x64x16x64 ![0, 1, 2, 3] bcast_S16x64x1x64_S16x64x16x64_0_1_2_3 (broadcastInDim S16x64x1x64 ![0, 1, 3] bcast_S16x64x64_S16x64x1x64_0_1_3 w))
    (broadcastInDim S16x64x16x64 ![0, 1, 2, 3] bcast_S16x1x16x1_S16x64x16x64_0_1_2_3 (broadcastInDim S16x1x16x1 ![0, 2] bcast_S16x16_S16x1x16x1_0_2 eye)) : FVec Ideal S16x64x16x64 .f32)
    shapeCasts_S16x64x16x64_S1024x1024

theorem V_x (c : Dev nD) : V m c main_v24 = flat (kx m c) := (V_eq m c _).trans (by after_results_simp <;> rfl)
theorem V_g (c : Dev nD) : V m c main_v25 = flat (kg m c) := (V_eq m c _).trans (by after_results_simp <;> rfl)
theorem V_b (c : Dev nD) : V m c main_v20 = line (kb m c) := (V_eq m c _).trans (by after_results_simp <;> rfl)
theorem V_ba (c : Dev nD) : V m c main_v21 = line (kba m c) := (V_eq m c _).trans (by after_results_simp <;> rfl)
theorem V_bx (c : Dev nD) : V m c main_v22 = line (kbx m c) := (V_eq m c _).trans (by after_results_simp <;> rfl)
theorem V_l (c : Dev nD) : V m c main_v23 = line (kl m c) := (V_eq m c _).trans (by after_results_simp <;> rfl)
theorem V_w (c : Dev nD) : V m c main_v19 = (truncf .bf16 (concatenate S1024x2048 1 [⟨S1024x1024, blocks (kwa m c)⟩, ⟨S1024x1024, blocks (kwx m c)⟩]
    concatenates_S1024x1024_S1024x1024_S1024x2048_d1 : FVec Ideal S1024x2048 .f32) bitsLt_bf16_f32 : FVec Ideal S1024x2048 .bf16) :=
  (V_eq m c _).trans (by after_results_simp <;> rfl)

theorem flat_apply (x : FVec Ideal S4x4096x1024 .f32) (q : Fin 16384) (k : Fin 1024) :
    flat x (ix2 q k) = x (ix3 ⟨q.val / 4096, by omega⟩ ⟨q.val % 4096, by omega⟩ k) := by
  pointwise [flat]
theorem at_row (y : FVec Ideal S4x4096x1024 .f32) (t : Fin cfg0.N) (r : Fin 256) (k : Fin 1024) :
    y (ix3 ⟨(row t r).val / 4096, by omega⟩ ⟨(row t r).val % 4096, by omega⟩ k) = y (ix3 (bat t) (pos t r) k) := by
  have ht := tlt t
  have h : (row t r).val = t.val * 256 + r.val := rfl
  exact congrArg₂ (fun (b : Fin 4) (p : Fin 4096) => y (ix3 b p k)) (Fin.ext (by show (row t r).val / 4096 = t.val / 16; omega))
    (Fin.ext (by show (row t r).val % 4096 = t.val % 16 * 256 + r.val; omega))
theorem flat_row (x : FVec Ideal S4x4096x1024 .f32) (t : Fin cfg0.N) (r : Fin 256) (k : Fin 1024) : flat x (ix2 (row t r) k) = x (ix3 (bat t) (pos t r) k) :=
  (flat_apply _ _ _).trans (at_row x t r k)
theorem line_apply (x : FVec Ideal S1024 .f32) (k : Fin 1024) : line x (ix2 0 k) = x (ix1 k) := by
  pointwise [line]
theorem same : ∀ h n : Fin 16, IntOp.cmpi CmpIPredicate.eq (IntOp.addi (BitVec.ofNat 32 h.val) 0#32) (BitVec.ofNat 32 n.val)
    = if h.val = n.val then 1#1 else 0#1 := by
  decide +kernel
theorem eye_apply (h n : Fin 16) : eye (ix2 h n) = if h.val = n.val then (1 : EReal) else 0 := by
  pointwise [eye]
  rw [same]
  split
  · show (((1#1).toNat : ℝ) : EReal) = 1
    simp
  · show (((0#1).toNat : ℝ) : EReal) = 0
    simp
theorem blocks_apply (w : FVec Ideal S16x64x64 .f32) (k n : Fin 1024) :
    blocks w (ix2 k n) = w (ix3 ⟨k.val / 64, by omega⟩ ⟨k.val % 64, by omega⟩ ⟨n.val % 64, by omega⟩) * if k.val / 64 = n.val / 64 then (1 : EReal) else 0 := by
  have h := eye_apply ⟨k.val / 64, by omega⟩ ⟨n.val / 64, by omega⟩
  dsimp only at h
  rw [← h]
  unfold blocks
  generalize eye = E
  pointwise []
/-- The two gates' columns. -/
theorem cols_apply (x y : FVec Ideal S1024x1024 .f32) (k n : Fin 1024) :
    let s : FVec Ideal S1024x2048 .f32 := concatenate S1024x2048 1 [⟨S1024x1024, x⟩, ⟨S1024x1024, y⟩] concatenates_S1024x1024_S1024x1024_S1024x2048_d1
    s (ix2 k ⟨n.val, by omega⟩) = x (ix2 k n) ∧ s (ix2 k ⟨1024 + n.val, by omega⟩) = y (ix2 k n) := by
  refine ⟨?_, ?_⟩
  · pointwise []
  · pointwise []

theorem x_blk (c : Dev nD) (t : Fin cfg0.N) (r : Fin 256) (k : Fin 1024) :
    (iblk m c 0 t : FVec Ideal S256x1024 .f32) (ix2 r k) = kx m c (ix3 (bat t) (pos t r) k) := by
  have := tlt t
  have he : ((View.whole main_v24).slice (win0_0.rect t)).emb (ix2 r k) = ix2 (row t r) k := by unfold row; blk_ext [idx t]
  show V m c main_v24 (((View.whole main_v24).slice (win0_0.rect t)).emb (ix2 r k)) = _
  rw [V_x, he]
  exact flat_row _ _ _ _

theorem g_blk (c : Dev nD) (t : Fin cfg0.N) (r : Fin 256) (k : Fin 1024) :
    (iblk m c 1 t : FVec Ideal S256x1024 .f32) (ix2 r k) = kg m c (ix3 (bat t) (pos t r) k) := by
  have := tlt t
  have he : ((View.whole main_v25).slice (win0_1.rect t)).emb (ix2 r k) = ix2 (row t r) k := by unfold row; blk_ext [idx t]
  show V m c main_v25 (((View.whole main_v25).slice (win0_1.rect t)).emb (ix2 r k)) = _
  rw [V_g, he]
  exact flat_row _ _ _ _
theorem tap_blk (c : Dev nD) (t : Fin cfg0.N) (j : Fin 4) (k : Fin 1024) : (iblk m c 2 t : FVec Ideal S4x1024 .f32) (ix2 j k) = kw m c (ix2 j k) := by
  have he : ((View.whole main_arg2).slice (win0_2.rect t)).emb (ix2 j k) = ix2 j k := by blk_ext [idx t]
  show V m c main_arg2 (((View.whole main_arg2).slice (win0_2.rect t)).emb (ix2 j k)) = _
  rw [he]
  exact congrFun (V_main_arg2 m c) _
theorem b_blk (c : Dev nD) (t : Fin cfg0.N) (k : Fin 1024) : (iblk m c 3 t : FVec Ideal S1x1024 .f32) (ix2 0 k) = kb m c (ix1 k) := by
  have he : ((View.whole main_v20).slice (win0_3.rect t)).emb (ix2 0 k) = ix2 0 k := by blk_ext [idx t]
  show V m c main_v20 (((View.whole main_v20).slice (win0_3.rect t)).emb (ix2 0 k)) = _
  rw [V_b, he]
  exact line_apply _ _
theorem ba_blk (c : Dev nD) (t : Fin cfg0.N) (k : Fin 1024) : (iblk m c 5 t : FVec Ideal S1x1024 .f32) (ix2 0 k) = kba m c (ix1 k) := by
  have he : ((View.whole main_v21).slice (win0_5.rect t)).emb (ix2 0 k) = ix2 0 k := by blk_ext [idx t]
  show V m c main_v21 (((View.whole main_v21).slice (win0_5.rect t)).emb (ix2 0 k)) = _
  rw [V_ba, he]
  exact line_apply _ _
theorem bx_blk (c : Dev nD) (t : Fin cfg0.N) (k : Fin 1024) : (iblk m c 6 t : FVec Ideal S1x1024 .f32) (ix2 0 k) = kbx m c (ix1 k) := by
  have he : ((View.whole main_v22).slice (win0_6.rect t)).emb (ix2 0 k) = ix2 0 k := by blk_ext [idx t]
  show V m c main_v22 (((View.whole main_v22).slice (win0_6.rect t)).emb (ix2 0 k)) = _
  rw [V_bx, he]
  exact line_apply _ _
theorem l_blk (c : Dev nD) (t : Fin cfg0.N) (k : Fin 1024) : (iblk m c 7 t : FVec Ideal S1x1024 .f32) (ix2 0 k) = kl m c (ix1 k) := by
  have he : ((View.whole main_v23).slice (win0_7.rect t)).emb (ix2 0 k) = ix2 0 k := by blk_ext [idx t]
  show V m c main_v23 (((View.whole main_v23).slice (win0_7.rect t)).emb (ix2 0 k)) = _
  rw [V_l, he]
  exact line_apply _ _
theorem w_blk (c : Dev nD) (t : Fin cfg0.N) (k : Fin 1024) (n : Fin 2048) :
    (iblk m c 4 t : FVec Ideal S1024x2048 .bf16) (ix2 k n)
      = (concatenate S1024x2048 1 [⟨S1024x1024, blocks (kwa m c)⟩, ⟨S1024x1024, blocks (kwx m c)⟩]
          concatenates_S1024x1024_S1024x1024_S1024x2048_d1 : FVec Ideal S1024x2048 .f32) (ix2 k n) := by
  have he : ((View.whole main_v19).slice (win0_4.rect t)).emb (ix2 k n) = ix2 k n := by blk_ext [idx t]
  show V m c main_v19 (((View.whole main_v19).slice (win0_4.rect t)).emb (ix2 k n)) = _
  rw [V_w, he]
  generalize (concatenate S1024x2048 1 _ _ : FVec Ideal S1024x2048 .f32) = s
  pointwise []
theorem wa_blk (c : Dev nD) (t : Fin cfg0.N) (k e : Fin 1024) : (iblk m c 4 t : FVec Ideal S1024x2048 .bf16) (ix2 k ⟨e.val, by omega⟩)
    = kwa m c (ix3 ⟨k.val / 64, by omega⟩ ⟨k.val % 64, by omega⟩ ⟨e.val % 64, by omega⟩) * if k.val / 64 = e.val / 64 then (1 : EReal) else 0 := by
  rw [w_blk]
  exact (cols_apply _ _ k e).1.trans (blocks_apply _ _ _)
theorem wx_blk (c : Dev nD) (t : Fin cfg0.N) (k e : Fin 1024) : (iblk m c 4 t : FVec Ideal S1024x2048 .bf16) (ix2 k ⟨1024 + e.val, by omega⟩)
    = kwx m c (ix3 ⟨k.val / 64, by omega⟩ ⟨k.val % 64, by omega⟩ ⟨e.val % 64, by omega⟩) * if k.val / 64 = e.val / 64 then (1 : EReal) else 0 := by
  rw [w_blk]
  exact (cols_apply _ _ k e).2.trans (blocks_apply _ _ _)

/-! ## The reference's arguments -/

/-- The reference's arguments are the kernel's. -/
structure Agree (c : Dev nD) (U : Valuation Cert.Reference6Ideal.τ Cert.Reference6Ideal.sig (Elt Ideal)) : Prop where
  px : ax U = kx m c
  pw : aw U = kw m c
  pb : ab U = kb m c
  pwa : wa U = kwa m c
  pba : ba U = kba m c
  pwx : wx U = kwx m c
  pbx : bx U = kbx m c
  pl : al U = kl m c

/-- A sequence's inputs after three zeros, at any position. -/
def fullN (x : FVec Ideal S4x4096x1024 .f32) (b : Fin 4) (n : ℕ) (e : Fin 1024) : EReal := if h : n < 4099 then full x b ⟨n, h⟩ e else 0

/-- The eight rows before a block, of which the body reads the last three. -/
def Before (c : Dev nD) (t : Fin cfg0.N) (p : FVec Ideal S8x1024 .f32) : Prop :=
  ∀ (q : Fin 8) (e : Fin 1024), 5 ≤ q.val → p (ix2 q e) = fullN (kx m c) (bat t) (t.val % 16 * 256 + q.val - 5) e

/-- An earlier input of a block's row is the reference's. -/
theorem up_blk (c : Dev nD) (t : Fin cfg0.N) (p : FVec Ideal S8x1024 .f32) (hp : Before m c t p) (s : ℕ) (hs : s < 4) (r : Fin 256) (e : Fin 1024) :
    up s (iblk m c 0 t) p r e = full (kx m c) (bat t) ⟨3 - s + (pos t r).val, by have := (pos t r).isLt; omega⟩ e := by
  have ht := tlt t
  have hq : (pos t r).val = t.val % 16 * 256 + r.val := rfl
  have hl := (pos t r).isLt
  unfold up
  by_cases h : r.val < s
  · have e1 : (r.val + 8 - s % 8) % 8 = r.val + 8 - s := by omega
    rw [if_pos h, hp _ e (by show 5 ≤ (r.val + 8 - s % 8) % 8; omega)]
    have e2 : t.val % 16 * 256 + (r.val + 8 - s % 8) % 8 - 5 = 3 - s + (pos t r).val := by omega
    unfold fullN
    rw [dif_pos (by show t.val % 16 * 256 + (r.val + 8 - s % 8) % 8 - 5 < 4099; omega)]
    exact congrArg (fun j : Fin 4099 => full (kx m c) (bat t) j e) (Fin.ext e2)
  · rw [if_neg h, x_blk]
    have hm : (r.val + 256 - s % 256) % 256 = r.val - s := by omega
    unfold full
    rw [dif_neg (by show ¬ 3 - s + (pos t r).val < 3; omega)]
    refine congrArg (fun q : Fin 4096 => kx m c (ix3 (bat t) q e)) (Fin.ext ?_)
    show t.val % 16 * 256 + (r.val + 256 - s % 256) % 256 = 3 - s + (pos t r).val - 3
    omega

end Cert.PromptJoin

end
-- ==== Proof.PromptZero.lean ====
/- The zeroed state, read back. -/
module

public import proofs.«01_k».proof.Proof.PromptMath
public import proofs.«01_k».proof.Proof.Gen.Kernel6Ideal.Frame
public import Idealize.ShloMosaic.Lib.Pipeline.Value

@[expose] public section

set_option maxRecDepth 16384

noncomputable section

namespace Cert.Kernel6Ideal.PromptPoint
open Cert.Kernel6Ideal Cert.Kernel6Ideal.Gen
open Idealize.ShloMosaic Idealize.ShloMosaic.TcCoe Idealize.SL.Sem Idealize.ShloMosaic.Pointwise

/-- A load of what one store of the whole left is a load of what was stored. -/
theorem readCov_whole {S : Shape} {e : EltTy} {κ : Kind} {sp : Space} (v : View sig κ sp S e) {off : Fin S.rank → ℕ} (inb : ∀ a, off a + S.size a ≤ S.size a)
    (w : S.Idx → Elt Ideal e) (h : ∀ a, off a = 0) (r : Rect S) :
    v.readCov (Val := Elt Ideal) [(⟨Rect.unit off S.size inb, w⟩ : View.Piece (Elt Ideal) S e)] r.toLoadRect = View.ld w r := by
  obtain rfl : off = fun _ => 0 := funext h
  rw [View.readCov_eq_canon_ld _ _ _ (fun y => ⟨_, List.mem_cons_self, by
    show y ∈ (Rect.whole S).set; rw [Rect.set_whole]; exact Finset.mem_univ y⟩), View.canon_cons_unit_lit' inb w [] (fun _ => rfl)]

/-- The state zeroed, read back. -/
def zero1 : FVec Ideal S1x1024 .f32 :=
  VS0_1.readCov (Val := Elt Ideal) [(⟨Rect.unit (s := S8x1024) ![0, 0] ![8, 1024] inb_S8x1024_S8x1024_0_0, k0_pay2 (F := Ideal)⟩ : View.Piece (Elt Ideal) S8x1024 .f32)]
    (Rect.unit (s := S8x1024) ![0, 0] ![1, 1024] inb_S8x1024_S1x1024_0_0).toLoadRect

theorem zero_first (e : Fin 1024) : zero1 (ix2 0 e) = 0 := by
  have h : zero1 = View.ld (Val := Elt Ideal) (e' := .f32) (S := S8x1024) (k0_pay2 (F := Ideal)) (Rect.unit (s := S8x1024) ![0, 0] ![1, 1024] inb_S8x1024_S1x1024_0_0) :=
    readCov_whole VS0_1 inb_S8x1024_S8x1024_0_0 _ (fun a => match a with | ⟨0, _⟩ => rfl | ⟨1, _⟩ => rfl) _
  have z (i : S8x1024.Idx) : k0_pay2 (F := Ideal) i = 0 := by
    unfold k0_pay2
    pointwise []
  rw [h]
  exact z _

end Cert.Kernel6Ideal.PromptPoint

end
-- ==== Proof.PromptPoint.lean ====
/- What each grid point of the prompts' convolution and recurrence leaves, from its blocks and what the point before left. -/
module

public import proofs.«01_k».proof.Proof.PromptKern
public import proofs.«01_k».proof.Proof.PromptZero
public import Idealize.ShloMosaic.Lib.Pipeline.ReadBack

@[expose] public section

set_option maxRecDepth 65536
set_option maxHeartbeats 1600000

noncomputable section

namespace Cert.Kernel6Ideal.PromptPoint
open Cert.Kernel6Ideal Cert.Kernel6Ideal.Gen Cert.Lru Cert.Prompt Cert.Kernel6Ideal.PromptKern
open Idealize.ShloMosaic Idealize.ShloMosaic.TcCoe Idealize.SL.Sem Idealize.ShloMosaic.Pointwise

section body
variable (x : FVec Ideal S256x1024 .f32) (w : FVec Ideal S4x1024 .f32) (b : FVec Ideal S1x1024 .f32) (W : FVec Ideal S1024x2048 .bf16)
  (ba bx l : FVec Ideal S1x1024 .f32) (p : FVec Ideal S8x1024 .f32) (C : FVec Ideal S1x1024 .f32)

/-- The convolution's coefficients, row by row. -/
def t0 : FVec Ideal S1x1024 .f32 := View.ld (Val := Elt Ideal) (e' := .f32) (S := S4x1024) w (Rect.unit (s := S4x1024) ![0, 0] ![1, 1024] inb_S4x1024_S1x1024_0_0)
def t1 : FVec Ideal S1x1024 .f32 := View.ld (Val := Elt Ideal) (e' := .f32) (S := S4x1024) w (Rect.unit (s := S4x1024) ![1, 0] ![1, 1024] inb_S4x1024_S1x1024_1_0)
def t2 : FVec Ideal S1x1024 .f32 := View.ld (Val := Elt Ideal) (e' := .f32) (S := S4x1024) w (Rect.unit (s := S4x1024) ![2, 0] ![1, 1024] inb_S4x1024_S1x1024_2_0)
def t3 : FVec Ideal S1x1024 .f32 := View.ld (Val := Elt Ideal) (e' := .f32) (S := S4x1024) w (Rect.unit (s := S4x1024) ![3, 0] ![1, 1024] inb_S4x1024_S1x1024_3_0)

/-- The convolution of the block. -/
def bX : FVec Ideal S256x1024 .f32 := xc x p (t3 w) b (t2 w) (t1 w) (t0 w)
/-- The input gate of the block. -/
def bI : FVec Ideal S256x1024 .f32 := k0_pay8 (F := Ideal) (k0_pay3 (F := Ideal) x) rows8 p (k0_pay4 (F := Ideal) x p (t3 w) b (t2 w)) (k0_pay5 (F := Ideal) x p (t1 w)) (t0 w) W bx
/-- The logarithms of the block's decays. -/
def bL : FVec Ideal S256x1024 .f32 := k0_pay9 (F := Ideal) (k0_pay3 (F := Ideal) x) rows8 p (k0_pay4 (F := Ideal) x p (t3 w) b (t2 w)) (k0_pay5 (F := Ideal) x p (t1 w)) (t0 w) W ba l
/-- The states of a group of the block. -/
def st (g : ℕ) : FVec Ideal S8x1024 .f32 := hb (A8 (bL x w b W ba l p)) (B8 (bX x w b p) (bI x w b W bx p) (bL x w b W ba l p)) C g

end body

variable (m : (ℓ : Loc nD τ sig) → Buf (Elt Ideal) ℓ) (c : Dev nD) (t : Fin cfg0.N)

/-- The states of a group at a point. -/
def stAt (p : FVec Ideal S8x1024 .f32) (C : FVec Ideal S1x1024 .f32) (g : ℕ) : FVec Ideal S8x1024 .f32 :=
  st (iblk m c 0 t) (iblk m c 2 t) (iblk m c 3 t) (iblk m c 4 t) (iblk m c 5 t) (iblk m c 6 t) (iblk m c 7 t) p C g

/-- What a point leaves, of the rows and state it began with. -/
structure Leaves (o : FVec Ideal S256x1024 .bf16 × FVec Ideal S8x1024 .f32 × FVec Ideal S8x1024 .f32 × FVec Ideal S8x1024 .f32) (p : FVec Ideal S8x1024 .f32) (C : FVec Ideal S1x1024 .f32) : Prop where
  out : ∀ r e, o.1 (ix2 r e) = stAt m c t p C (r.val / 8) (ix2 ⟨r.val % 8, Nat.mod_lt _ (by norm_num)⟩ e) * (iblk m c 1 t : FVec Ideal S256x1024 .f32) (ix2 r e)
  last : o.2.1 = stAt m c t p C 31
  rows : o.2.2.1 = k0_pay56 (F := Ideal) (k0_pay3 (F := Ideal) (iblk m c 0 t : FVec Ideal S256x1024 .f32))
  state : ∀ r e, o.2.2.2 (ix2 r e) = stAt m c t p C 31 (ix2 7 e)

/-- A batch's first point begins with zeros. -/
theorem leaves_A (h0 : t.val % 16 = 0) : Leaves m c t (outsAt0 m c t.val t.isLt) (k0_pay1 (F := Ideal)) zero1 := by
  rw [outsAt0_A m c t h0]
  refine ⟨fun r e => ?_, ?_, ?_, fun r e => ?_⟩
  · frame_out
    exact printed _ _ _ _ _ _ _ _ rfl rfl _ _ _ _ rfl rfl rfl r e
  · frame_out
    exact final _ _ _ _ _ _ _ _ rfl rfl _ _ _ rfl rfl rfl
  · frame_out
  · frame_out
    exact next _ _ _ _ _ _ _ _ rfl rfl _ _ _ rfl rfl rfl r e

/-- The state a point began with. -/
def row0 (h : FVec Ideal S8x1024 .f32) : FVec Ideal S1x1024 .f32 :=
  View.ld (Val := Elt Ideal) (e' := .f32) (S := S8x1024) h (Rect.unit (s := S8x1024) ![0, 0] ![1, 1024] inb_S8x1024_S1x1024_0_0)

theorem row0_apply (h : FVec Ideal S8x1024 .f32) (e : Fin 1024) : row0 h (ix2 0 e) = h (ix2 0 e) :=
  View.ld_unit_apply_of (Val := Elt Ideal) (e := .f32) h _ _ _ (ix2 0 e) (ix2 0 e) fun a => match a with
    | ⟨0, _⟩ => rfl
    | ⟨1, _⟩ => (Nat.zero_add _).symm

/-- Any other begins with what the one before left. -/
theorem leaves_B (h0 : ¬ t.val % 16 = 0) : Leaves m c t (outsAt0 m c t.val t.isLt)
    (outsAt0 m c (t.val - 1) (by have := t.isLt; omega)).2.2.1 (row0 (outsAt0 m c (t.val - 1) (by have := t.isLt; omega)).2.2.2) := by
  rw [outsAt0_B m c t h0]
  generalize outsAt0 m c (t.val - 1) _ = o
  refine ⟨fun r e => ?_, ?_, ?_, fun r e => ?_⟩
  · frame_out
    refine Eq.trans (printed _ _ _ _ _ _ _ _ rfl rfl _ _ _ _ rfl rfl rfl r e) ?_
    simp only [read_unread_whole]
    rfl
  · frame_out
    refine Eq.trans (final _ _ _ _ _ _ _ _ rfl rfl _ _ _ rfl rfl rfl) ?_
    simp only [read_unread_whole]
    rfl
  · frame_out
  · frame_out
    refine Eq.trans (next _ _ _ _ _ _ _ _ rfl rfl _ _ _ rfl rfl rfl r e) ?_
    simp only [read_unread_whole]
    rfl

end Cert.Kernel6Ideal.PromptPoint

end
-- ==== Proof.PromptLoop.lean ====
/- The prompts' convolution and recurrence: what every grid point leaves is the reference's, point by point. -/
module

public import proofs.«01_k».proof.Proof.PromptJoin
public import proofs.«01_k».proof.Proof.PromptPoint
public import proofs.«01_k».proof.Proof.LruBlocks

@[expose] public section

set_option maxRecDepth 16384

noncomputable section

namespace Cert.PromptLoop
open Cert.Kernel6Ideal Cert.Kernel6Ideal.Gen Cert.Kernel6Ideal.PromptKern Cert.Kernel6Ideal.PromptPoint Cert.PromptJoin Cert.Lru Cert.Prompt
open Cert.PromptScan (seq seq_of)
open Idealize.ShloMosaic Idealize.ShloMosaic.TcCoe Idealize.SL.Sem Idealize.ShloMosaic.Pointwise
open Cert.Reference6Ideal.PromptRef (full ax aw ab wa ba wx bx al cx cx_apply pre gate_eq la la_apply da da_apply db db_apply new_apply decays h1 h1_eq)

variable (m : (ℓ : Loc nD τ sig) → Buf (Elt Ideal) ℓ)

/-! ## The values of a block -/

section taps
variable (w : FVec Ideal S4x1024 .f32) (e : Fin 1024)

theorem t0_apply : t0 w (ix2 0 e) = w (ix2 0 e) :=
  View.ld_unit_apply_of (Val := Elt Ideal) (e := .f32) w _ _ _ (ix2 0 e) (ix2 0 e) fun a => match a with
    | ⟨0, _⟩ => rfl
    | ⟨1, _⟩ => (Nat.zero_add _).symm
theorem t1_apply : t1 w (ix2 0 e) = w (ix2 1 e) :=
  View.ld_unit_apply_of (Val := Elt Ideal) (e := .f32) w _ _ _ (ix2 0 e) (ix2 1 e) fun a => match a with
    | ⟨0, _⟩ => rfl
    | ⟨1, _⟩ => (Nat.zero_add _).symm
theorem t2_apply : t2 w (ix2 0 e) = w (ix2 2 e) :=
  View.ld_unit_apply_of (Val := Elt Ideal) (e := .f32) w _ _ _ (ix2 0 e) (ix2 2 e) fun a => match a with
    | ⟨0, _⟩ => rfl
    | ⟨1, _⟩ => (Nat.zero_add _).symm
theorem t3_apply : t3 w (ix2 0 e) = w (ix2 3 e) :=
  View.ld_unit_apply_of (Val := Elt Ideal) (e := .f32) w _ _ _ (ix2 0 e) (ix2 3 e) fun a => match a with
    | ⟨0, _⟩ => rfl
    | ⟨1, _⟩ => (Nat.zero_add _).symm

end taps

variable (c : Dev nD) (U : Valuation Cert.Reference6Ideal.τ Cert.Reference6Ideal.sig (Elt Ideal)) (A : Agree m c U) (t : Fin cfg0.N)
  (p : FVec Ideal S8x1024 .f32) (hp : Before m c t p)

/-- The convolution, the input gate and the decays' logarithms at a point. -/
def cvB : FVec Ideal S256x1024 .f32 := bX (iblk m c 0 t) (iblk m c 2 t) (iblk m c 3 t) p
def gxB : FVec Ideal S256x1024 .f32 := bI (iblk m c 0 t) (iblk m c 2 t) (iblk m c 3 t) (iblk m c 4 t) (iblk m c 6 t) p
def lgB : FVec Ideal S256x1024 .f32 := bL (iblk m c 0 t) (iblk m c 2 t) (iblk m c 3 t) (iblk m c 4 t) (iblk m c 5 t) (iblk m c 7 t) p

include A hp

/-- The convolution. -/
theorem conv_blk (r : Fin 256) (e : Fin 1024) : cvB m c t p (ix2 r e) = cx U (ix3 (bat t) (pos t r) e) := by
  rw [cx_apply, A.px, A.pw, A.pb]
  unfold cvB bX
  rw [xc_apply, up_blk m c t p hp 1 (by norm_num), up_blk m c t p hp 2 (by norm_num), up_blk m c t p hp 3 (by norm_num)]
  have e0 : (iblk m c 0 t : FVec Ideal S256x1024 .f32) (ix2 r e) = full (kx m c) (bat t) ⟨3 + (pos t r).val, by have := (pos t r).isLt; omega⟩ e := by
    rw [x_blk]
    unfold full
    rw [dif_neg (by show ¬ 3 + _ < 3; omega)]
    exact congrArg (fun q : Fin 4096 => kx m c (ix3 (bat t) q e)) (Fin.ext (by show (pos t r).val = 3 + (pos t r).val - 3; omega))
  rw [e0, b_blk, t0_apply, t1_apply, t2_apply, t3_apply, tap_blk, tap_blk, tap_blk, tap_blk]
  refine congrArg (fun j : Fin 4099 => conv (full (kx m c) (bat t) j e) _ _ _ _ _ _ _ _) (Fin.ext ?_)
  exact Nat.zero_add _

/-- The input's gate. -/
theorem gx_blk (r : Fin 256) (e : Fin 1024) : gxB m c t p (ix2 r e) = Ideal.logistic (pre (wx U) (cx U) (bx U) (ix3 (bat t) (pos t r) e)) := by
  rw [gate_eq, Cert.LruJoin.gate_long, A.pwx, A.pbx]
  unfold gxB bI
  rw [gate_x, bx_blk]
  refine congrArg (fun z : EReal => Ideal.logistic (z + kbx m c (ix1 e))) (Finset.sum_congr rfl fun k _ => ?_)
  rw [wx_blk]
  exact congrArg (· * _) (conv_blk m c U A t p hp r k)

/-- The decay's logarithm. -/
theorem log_blk (r : Fin 256) (e : Fin 1024) : lgB m c t p (ix2 r e) = la U (ix3 (bat t) (pos t r) e) := by
  rw [la_apply, gate_eq, Cert.LruJoin.gate_long, A.pwa, A.pba, A.pl]
  unfold lgB bL
  rw [log_apply, ba_blk, l_blk]
  refine congrArg (fun z : EReal => logA (Ideal.logistic (z + kba m c (ix1 e))) (kl m c (ix1 e))) (Finset.sum_congr rfl fun k _ => ?_)
  rw [wa_blk]
  exact congrArg (· * _) (conv_blk m c U A t p hp r k)

/-! ## The groups of a block -/

/-- A channel's decays and inputs. -/
def sa (U : Valuation Cert.Reference6Ideal.τ Cert.Reference6Ideal.sig (Elt Ideal)) (b : Fin 4) (e : Fin 1024) : ℕ → EReal := seq (n := 4096) (da U) b e
def sb (U : Valuation Cert.Reference6Ideal.τ Cert.Reference6Ideal.sig (Elt Ideal)) (b : Fin 4) (e : Fin 1024) : ℕ → EReal := seq (n := 4096) (db U) b e

omit A hp in
/-- The position of a group's row. -/
theorem pos8 (s : Fin 32) (q : Fin 8) : (pos t (at8 s q)).val = 8 * (t.val % 16 * 32 + s.val) + q.val := by
  show t.val % 16 * 256 + (s.val * 8 + q.val) = _
  omega

theorem av_blk (s : Fin 32) (e : Fin 1024) : av (lgB m c t p) s e = fun q => sa U (bat t) e (8 * (t.val % 16 * 32 + s.val) + q.val) := by
  funext q
  rw [av, log_blk m c U A t p hp, ← da_apply, ← pos8]
  exact (seq_of (n := 4096) (da U) (bat t) e _).symm

theorem bv_blk (s : Fin 32) (e : Fin 1024) :
    bv (cvB m c t p) (gxB m c t p) (lgB m c t p) s e = fun q => sb U (bat t) e (8 * (t.val % 16 * 32 + s.val) + q.val) := by
  funext q
  rw [bv, log_blk m c U A t p hp, gx_blk m c U A t p hp, conv_blk m c U A t p hp, ← new_apply, ← db_apply, ← pos8]
  exact (seq_of (n := 4096) (db U) (bat t) e _).symm

omit A hp

/-- The state before a position. -/
def before (a b : ℕ → EReal) (n : ℕ) : EReal := if n = 0 then 0 else recur a b (n - 1)

theorem before_step (a b : ℕ → EReal) (n : ℕ) : a n * before a b n + b n = recur a b n := by
  unfold before
  cases n with
  | zero => rw [if_pos rfl, mul_zero, zero_add]; rfl
  | succ n => rw [if_neg (Nat.succ_ne_zero n)]; rfl

include A hp

/-- A group's states, from the state before it. -/
theorem group (C : FVec Ideal S1x1024 .f32) (e : Fin 1024) (g : Fin 32)
    (hc : car (A8 (lgB m c t p)) (B8 (cvB m c t p) (gxB m c t p) (lgB m c t p)) C g.val (ix2 0 e)
      = before (sa U (bat t) e) (sb U (bat t) e) (8 * (t.val % 16 * 32 + g.val))) (q : Fin 8) :
    hb (A8 (lgB m c t p)) (B8 (cvB m c t p) (gxB m c t p) (lgB m c t p)) C g.val (ix2 q e)
      = recur (sa U (bat t) e) (sb U (bat t) e) (8 * (t.val % 16 * 32 + g.val) + q.val) := by
  have hd : Decays (sa U (bat t) e) := decays U (bat t) e
  rw [hb_apply, hc, A8_apply, B8_apply _ _ _ _ _ _ (fun q => by rw [av_blk m c U A t p hp]; exact hd _), av_blk m c U A t p hp, bv_blk m c U A t p hp]
  exact cont_eq hd _ _ (before_step _ _ _) q.val q.isLt

/-- THE STATES OF A BLOCK, from the state before it. -/
theorem groups (C : FVec Ideal S1x1024 .f32) (e : Fin 1024) (hC : C (ix2 0 e) = before (sa U (bat t) e) (sb U (bat t) e) (8 * (t.val % 16 * 32)))
    (g : ℕ) (hg : g < 32) : car (A8 (lgB m c t p)) (B8 (cvB m c t p) (gxB m c t p) (lgB m c t p)) C g (ix2 0 e)
      = before (sa U (bat t) e) (sb U (bat t) e) (8 * (t.val % 16 * 32 + g)) := by
  induction g with
  | zero => exact hC
  | succ g ih =>
    have h := group m c U A t p hp C e ⟨g, by omega⟩ (ih (by omega)) 7
    rw [car_succ]
    refine h.trans ?_
    unfold before
    rw [if_neg (by omega)]
    exact congrArg (recur _ _) (by show 8 * (t.val % 16 * 32 + g) + 7 = 8 * (t.val % 16 * 32 + (g + 1)) - 1; omega)

theorem stAt_eq (C : FVec Ideal S1x1024 .f32) (e : Fin 1024) (hC : C (ix2 0 e) = before (sa U (bat t) e) (sb U (bat t) e) (8 * (t.val % 16 * 32)))
    (g : Fin 32) (q : Fin 8) : stAt m c t p C g.val (ix2 q e) = h1 U (ix3 (bat t) (pos t (at8 g q)) e) := by
  rw [h1_eq, pos8]
  exact group m c U A t p hp C e g (groups m c U A t p hp C e hC g.val g.isLt) q

omit A hp

/-! ## Point by point -/

/-- What a point leaves is the reference's. -/
structure Good (o : FVec Ideal S256x1024 .bf16 × FVec Ideal S8x1024 .f32 × FVec Ideal S8x1024 .f32 × FVec Ideal S8x1024 .f32) : Prop where
  out : ∀ r e, o.1 (ix2 r e) = h1 U (ix3 (bat t) (pos t r) e) * kg m c (ix3 (bat t) (pos t r) e)
  last : ∀ q e, o.2.1 (ix2 q e) = h1 U (ix3 (bat t) (pos t (at8 31 q)) e)
  rows : ∀ (q : Fin 8) e, o.2.2.1 (ix2 q e) = kx m c (ix3 (bat t) (pos t ⟨248 + q.val, by omega⟩) e)
  state : ∀ r e, o.2.2.2 (ix2 r e) = h1 U (ix3 (bat t) (pos t 255) e)

theorem rows_apply (x : FVec Ideal S256x1024 .f32) (q : Fin 8) (e : Fin 1024) :
    k0_pay56 (F := Ideal) (k0_pay3 (F := Ideal) x) (ix2 q e) = x (ix2 ⟨248 + q.val, by omega⟩ e) := by
  have h3 : k0_pay3 (F := Ideal) x = x := by
    unfold k0_pay3
    exact shapeCast_self _ _
  rw [h3]
  unfold k0_pay56
  pointwise []

include A hp in
theorem good (C : FVec Ideal S1x1024 .f32) (hC : ∀ e, C (ix2 0 e) = before (sa U (bat t) e) (sb U (bat t) e) (8 * (t.val % 16 * 32)))
    (o : FVec Ideal S256x1024 .bf16 × FVec Ideal S8x1024 .f32 × FVec Ideal S8x1024 .f32 × FVec Ideal S8x1024 .f32) (h : Leaves m c t o p C) : Good m c U t o := by
  refine ⟨fun r e => ?_, fun q e => ?_, fun q e => ?_, fun r e => ?_⟩
  · rw [h.out, g_blk]
    refine congrArg (· * _) ((stAt_eq m c U A t p hp C e (hC e) ⟨r.val / 8, by omega⟩ ⟨r.val % 8, by omega⟩).trans ?_)
    refine congrArg (fun i : Fin 256 => h1 U (ix3 (bat t) (pos t i) e)) (Fin.ext ?_)
    show r.val / 8 * 8 + r.val % 8 = r.val
    omega
  · rw [h.last]
    exact stAt_eq m c U A t p hp C e (hC e) 31 q
  · rw [h.rows, rows_apply, x_blk]
  · rw [h.state]
    exact stAt_eq m c U A t p hp C e (hC e) 31 7

/-- The rows before a batch's first block are zeros. -/
theorem before_first (h0 : t.val % 16 = 0) : Before m c t (k0_pay1 (F := Ideal)) := fun q e hq => by
  have hz : k0_pay1 (F := Ideal) (ix2 q e) = 0 := by
    unfold k0_pay1
    pointwise []
  rw [hz]
  unfold fullN full
  rw [dif_pos (by omega), dif_pos (by show t.val % 16 * 256 + q.val - 5 < 3; omega)]

/-- The rows before any other block are the last of the one before. -/
theorem before_next (s : Fin cfg0.N) (hs : s.val + 1 = t.val) (h0 : ¬ t.val % 16 = 0) (y : FVec Ideal S8x1024 .f32)
    (h : ∀ (q : Fin 8) e, y (ix2 q e) = kx m c (ix3 (bat s) (pos s ⟨248 + q.val, by omega⟩) e)) : Before m c t y := fun q e hq => by
  have ht := tlt t
  rw [h]
  unfold fullN full
  rw [dif_pos (by omega), dif_neg (by show ¬ t.val % 16 * 256 + q.val - 5 < 3; omega)]
  refine congrArg₂ (fun (b : Fin 4) (i : Fin 4096) => kx m c (ix3 b i e)) (Fin.ext ?_) (Fin.ext ?_)
  · show s.val / 16 = t.val / 16; omega
  · show s.val % 16 * 256 + (248 + q.val) = t.val % 16 * 256 + q.val - 5 - 3; omega

include A in
/-- EVERY POINT leaves the reference's states. -/
theorem point (n : ℕ) : ∀ hn : n < cfg0.N, Good m c U ⟨n, hn⟩ (outsAt0 m c n hn) := by
  induction n with
  | zero =>
    intro hn
    refine good m c U A ⟨0, hn⟩ _ (before_first m c ⟨0, hn⟩ rfl) _ (fun e => ?_) _ (leaves_A m c ⟨0, hn⟩ rfl)
    rw [zero_first]
    exact (if_pos rfl).symm
  | succ n ih =>
    intro hn
    by_cases h0 : (n + 1) % 16 = 0
    · refine good m c U A ⟨n + 1, hn⟩ _ (before_first m c ⟨n + 1, hn⟩ h0) _ (fun e => ?_) _ (leaves_A m c ⟨n + 1, hn⟩ h0)
      rw [zero_first]
      exact (if_pos (by show 8 * ((n + 1) % 16 * 32) = 0; omega)).symm
    · have hn' : n < cfg0.N := by omega
      have G := ih hn'
      have hN := tlt ⟨n + 1, hn⟩
      have hv : (⟨n + 1, hn⟩ : Fin cfg0.N).val = n + 1 := rfl
      refine good m c U A ⟨n + 1, hn⟩ _ (before_next m c ⟨n + 1, hn⟩ ⟨n, hn'⟩ rfl h0 _ G.rows) _ (fun e => ?_) _ (leaves_B m c ⟨n + 1, hn⟩ h0)
      rw [row0_apply]
      refine (G.state 0 e).trans ?_
      have hb : bat ⟨n, hn'⟩ = bat ⟨n + 1, hn⟩ := Fin.ext (by show n / 16 = (n + 1) / 16; omega)
      rw [h1_eq, hb]
      unfold before
      rw [if_neg (by show ¬ 8 * ((n + 1) % 16 * 32) = 0; omega)]
      exact congrArg (recur _ _) (by show n % 16 * 256 + 255 = 8 * ((n + 1) % 16 * 32) - 1; omega)

end Cert.PromptLoop

end
-- ==== Proof.PromptTail.lean ====
/- The prompts' convolution and recurrence: the result arrays, and the operations after the call. -/
module

public import proofs.«01_k».proof.Proof.PromptLoop
public import proofs.«01_k».proof.Proof.LruTail
public import Idealize.ShloMosaic.Lib.Pipeline.FrameSuffix

@[expose] public section

set_option maxRecDepth 16384

noncomputable section

namespace Cert.PromptTail
open Cert.Kernel6Ideal Cert.Kernel6Ideal.Gen Cert.PromptJoin Cert.PromptLoop
open Idealize.ShloMosaic Idealize.ShloMosaic.TcCoe Idealize.SL.Sem Idealize.ShloMosaic.Pointwise
open Cert.Kernel6Ideal.PromptKern (at8)
open Cert.Reference6Ideal.PromptRef (h1)
open Cert.LruTail (eta2)

variable (m : (ℓ : Loc nD τ sig) → Buf (Elt Ideal) ℓ)

/-- The states times their factors, as rows of all sequences. -/
def scaled (h g : FVec Ideal S4x4096x1024 .f32) : FVec Ideal S16384x1024 .bf16 :=
  shapeCast _ (truncf .bf16 (mulf h g) bitsLt_bf16_f32 : FVec Ideal S4x4096x1024 .bf16) shapeCasts_S4x4096x1024_S16384x1024

theorem scaled_apply (h g : FVec Ideal S4x4096x1024 .f32) (q : Fin 16384) (e : Fin 1024) : scaled h g (ix2 q e)
    = h (ix3 ⟨q.val / 4096, by omega⟩ ⟨q.val % 4096, by omega⟩ e) * g (ix3 ⟨q.val / 4096, by omega⟩ ⟨q.val % 4096, by omega⟩ e) := by
  pointwise [scaled]

/-- The last eight states of every sequence, as rows of all sequences. -/
def ends (h : FVec Ideal S4x4096x1024 .f32) : FVec Ideal S32x1024 .f32 := fun y =>
  h (ix3 ⟨(y 0).val / 8, by have h : (y 0).val < 32 := (y 0).isLt; omega⟩ ⟨4088 + (y 0).val % 8, by omega⟩ (y 1))

variable (c : Dev nD) (U : Valuation Cert.Reference6Ideal.τ Cert.Reference6Ideal.sig (Elt Ideal)) (A : Agree m c U)
include A

/-- The first result is the reference's states times their factors. -/
theorem result8 : (dats m 0 c).arrAt 8 cfg0.N = scaled (h1 U) (kg m c) := by
  refine (dats m 0 c).arrAt_eq_of_covers 8 _ (by decide +kernel) fun t _ y => ?_
  have ht := tlt t
  blk_simp
  rw [after0_8]
  obtain ⟨r, e, rfl⟩ : ∃ (r : Fin 256) (e : Fin 1024), y = ix2 r e := eta2 y
  have he : ((View.whole main_v26_0).slice (win0_8.rect t)).emb (ix2 r e) = ix2 (row t r) e := by
    unfold row
    blk_ext [idx t]
  rw [he]
  refine ((point m c U A t.val t.isLt).out r e).trans ?_
  refine Eq.trans ?_ (scaled_apply _ _ _ _).symm
  exact congrArg₂ (fun a b : EReal => a * b) (at_row _ t r e).symm (at_row _ t r e).symm

/-- The second result of the call is the reference's last eight states of every sequence. -/
theorem result9 : (dats m 0 c).arrAt 9 cfg0.N = ends (h1 U) := by
  refine (dats m 0 c).arrAt_eq_of_covers 9 _ (by decide +kernel) fun t hf y => ?_
  have ht := tlt t
  have hf := (flush0_9 t).mp hf
  blk_simp
  rw [after0_9]
  obtain ⟨q, e, rfl⟩ : ∃ (q : Fin 8) (e : Fin 1024), y = ix2 q e := eta2 y
  have he : ((View.whole main_v26_1).slice (win0_9.rect t)).emb (ix2 q e) = ix2 (⟨t.val / 16 * 8 + q.val, by omega⟩ : Fin 32) e := by
    blk_ext [idx t]
  rw [he]
  refine ((point m c U A t.val t.isLt).last q e).trans ?_
  refine congrArg₂ (fun (b : Fin 4) (i : Fin 4096) => h1 U (ix3 b i e)) (Fin.ext ?_) (Fin.ext ?_)
  · show t.val / 16 = (t.val / 16 * 8 + q.val) / 8; omega
  · show t.val % 16 * 256 + (31 * 8 + q.val) = 4088 + (t.val / 16 * 8 + q.val) % 8; omega

omit A

/-! ## After the call -/

/-- The state after the last position, under the layer's index. -/
def last (x : FVec Ideal S32x1024 .f32) : FVec Ideal S1x4x1024 .f32 :=
  broadcastInDim S1x4x1024 ![1, 2] bcast_S4x1024_S1x4x1024_1_2
    (shapeCast _ (extractStridedSlice S4x1x1024 ![0, 7, 0] (shapeCast _ x shapeCasts_S32x1024_S4x8x1024 : FVec Ideal S4x8x1024 .f32)
      slices_S4x8x1024_S4x1x1024_0_7_0) shapeCasts_S4x1x1024_S4x1024 : FVec Ideal S4x1024 .f32)

/-- The last of the last eight states is the state at the last position. -/
theorem last_ends (h : FVec Ideal S4x4096x1024 .f32) (hs : S4x4096x1024.Slices ![0, 4095, 0] S4x1x1024) :
    last (ends h) = broadcastInDim S1x4x1024 ![1, 2] bcast_S4x1024_S1x4x1024_1_2
      (shapeCast _ (extractStridedSlice S4x1x1024 ![0, 4095, 0] h hs) shapeCasts_S4x1x1024_S4x1024 : FVec Ideal S4x1024 .f32) := by
  have key : (shapeCast _ (extractStridedSlice S4x1x1024 ![0, 7, 0] (shapeCast _ (ends h) shapeCasts_S32x1024_S4x8x1024 : FVec Ideal S4x8x1024 .f32)
      slices_S4x8x1024_S4x1x1024_0_7_0) shapeCasts_S4x1x1024_S4x1024 : FVec Ideal S4x1024 .f32)
      = (shapeCast _ (extractStridedSlice S4x1x1024 ![0, 4095, 0] h hs) shapeCasts_S4x1x1024_S4x1024 : FVec Ideal S4x1024 .f32) := by
    funext y
    obtain ⟨b, e, rfl⟩ : ∃ (b : Fin 4) (e : Fin 1024), y = ix2 b e := eta2 y
    have hE (q : Fin 32) (e : Fin 1024) : ends h (ix2 q e) = h (ix3 ⟨q.val / 8, by omega⟩ ⟨4088 + q.val % 8, by omega⟩ e) := rfl
    generalize ends h = E at hE ⊢
    pointwise [hE]
    refine congrArg₂ (fun (b : Fin 4) (i : Fin 4096) => h (ix3 b i e)) (Fin.ext ?_) (Fin.ext ?_)
    · show (b.val * 8 + 7) / 8 = b.val; omega
    · show 4088 + (b.val * 8 + 7) % 8 = 4095; omega
  unfold last
  rw [key]

/-- What the operations after the call leave in a buffer. -/
abbrev after (c : Dev nD) := Pipeline.afterTail₀ cfgs (dats (F := Ideal) m) 0 (V0 m) [hostOps1] c

theorem arrRef_injective : Function.Injective (Pipeline.arrRef spec0) := by decide

theorem after_h : after m c main_v30 = last ((dats (F := Ideal) m 0 c).arrAt 9 cfg0.N) := by
  unfold after Pipeline.afterTail₀
  rw [← Pipeline.withArrays_arr spec0 arrRef_injective c (V0 m c) (fun w => (dats (F := Ideal) m 0 c).arrAt w cfg0.N) 9]
  after_results_simp <;> rfl

/-- THE RUN: the two results, the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v26_0) = (dats (F := Ideal) m 0 c).arrAt 8 cfg0.N
      ∧ r.2.mem ((c.tc : Thread nD τ).loc main_v30) = last ((dats (F := Ideal) m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      (h c).1 8,
      ((h c).2 main_v30 (Pipeline.mem_restRefs_of main_v30 (by decide) (by decide))).trans (after_h m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans (V_main_arg2 m c)),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.PromptTail

end
-- ==== Proof.PromptClaims.lean ====
/- The claims about the prompts' convolution and recurrence: the three frames, the value of its two results. -/
module

public import proofs.«01_k».proof.Defs
public import proofs.«01_k».proof.Proof.Gen.Kernel6.Frame
public import proofs.«01_k».proof.Proof.Gen.Kernel6Ideal.Frame
public import proofs.«01_k».proof.Proof.PromptTail

@[expose] public section

noncomputable section

namespace Cert.PromptClaims
open Idealize.ShloMosaic Idealize.SL.Sem

theorem frame_k : Cert.quiescent_Kernel6 (hKernel6 := Cert.Kernel6.Gen.facts) := fun m ρ _ => Cert.Kernel6.Gen.frame m ρ
theorem frame_ki : Cert.quiescent_Kernel6Ideal (hKernel6Ideal := Cert.Kernel6Ideal.Gen.facts) := fun m ρ _ => Cert.Kernel6Ideal.Gen.frame m ρ

/-- The reference's frame: its run read at the arguments; it declares no semaphore. -/
theorem frame_r : Cert.quiescent_Reference6Ideal (hReference6Ideal := Cert.Reference6Ideal.Gen.facts) := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)

/-- No operation is replaced by the idealization. -/
theorem preserves : Cert.preserves_Kernel6_Kernel6Ideal := trivial

/-- The kernel's scaled states and its last states are the reference's, of any arguments. -/
theorem algebraic : Cert.algebraic_Kernel6Ideal_Reference6Ideal (hKernel6Ideal := Cert.Kernel6Ideal.Gen.facts)
    (hReference6Ideal := Cert.Reference6Ideal.Gen.facts) := by
  intro m ρ m' ρ' _ hag
  refine ⟨fun c => (Cert.Kernel6Ideal.Gen.dats m 0 c).arrAt 8 Cert.Kernel6Ideal.cfg0.N,
    fun c => Cert.PromptTail.last ((Cert.Kernel6Ideal.Gen.dats m 0 c).arrAt 9 Cert.Kernel6Ideal.cfg0.N), Cert.PromptTail.run m ρ, ?_⟩
  refine (θ_run Cert.Reference6Ideal.defs _ _).mono
    (fun _ h c => ⟨(h c).1.trans ?_, (h c).2.1.trans ?_, (h c).2.2⟩) (Cert.Reference6Ideal.Value.run (F := Ideal) m' ρ')
  all_goals
    obtain ⟨h0, h1, h2, h3, h4, h5, h6, h7, h8⟩ := hag c
    have A : Cert.PromptJoin.Agree m c (StableHlo.launchContents m' c) := ⟨h0, h2, h3, h4, h5, h6, h7, h8⟩
  · refine Eq.trans ?_ (Cert.PromptTail.result8 m c _ A).symm
    exact congrArg (Cert.PromptTail.scaled _) h1
  · refine Eq.trans ?_ (congrArg Cert.PromptTail.last (Cert.PromptTail.result9 m c _ A)).symm
    exact (Cert.PromptTail.last_ends _ _).symm

end Cert.PromptClaims

end
-- ==== Proof.lean ====
module

public import proofs.«01_k».proof.Defs
public import proofs.«01_k».proof.Proof.AttnClaims
public import proofs.«01_k».proof.Proof.InprojClaims
public import proofs.«01_k».proof.Proof.PostClaims
public import proofs.«01_k».proof.Proof.SampleClaims
public import proofs.«01_k».proof.Proof.LruClaims
public import proofs.«01_k».proof.Proof.PromptClaims
public import Idealize.ShloMosaic.Adequacy
public import Idealize.ShloMosaic.Init

@[expose] public section

noncomputable section

namespace Cert.Proof

/-- The claims of the prompts' attention, the input projection, the merge, the samples' attention, the samples' recurrence
and the prompts' recurrence. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite.facts, Cert.Pre_finite_weights.facts, Cert.Pre_finite_sample.facts,
    Cert.Attn.frame_k, Cert.Attn.frame_ki, Cert.Attn.frame_kip, Cert.Attn.frame_r, Cert.Attn.frame_rp,
    Cert.InprojClaims.frame_k, Cert.InprojClaims.frame_ki, Cert.InprojClaims.frame_kip, Cert.InprojClaims.frame_r, Cert.InprojClaims.frame_rp,
    Cert.PostClaims.frame_k, Cert.PostClaims.frame_ki, Cert.PostClaims.frame_r,
    Cert.SampleClaims.frame_k, Cert.SampleClaims.frame_ki, Cert.SampleClaims.frame_kip, Cert.SampleClaims.frame_r, Cert.SampleClaims.frame_rp,
    Cert.LruClaims.frame_k, Cert.LruClaims.frame_ki, Cert.LruClaims.frame_r,
    Cert.PromptClaims.frame_k, Cert.PromptClaims.frame_ki, Cert.PromptClaims.frame_r,
    Cert.Attn.preserves, Cert.Attn.algebraic, Cert.InprojClaims.preserves, Cert.InprojClaims.algebraic,
    Cert.PostClaims.preserves, Cert.PostClaims.algebraic,
    Cert.SampleClaims.preserves, Cert.SampleClaims.algebraic,
    Cert.LruClaims.preserves, Cert.LruClaims.algebraic,
    Cert.PromptClaims.preserves, Cert.PromptClaims.algebraic⟩

end Cert.Proof

end
